-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)) (v5 : (c : Dev Cert.KernelIdeal.nD) → Buf (Elt Ideal) ((c.tc : Thread Cert.KernelIdeal.nD Cert.KernelIdeal.τ).loc Cert.KernelIdeal.main_v35_5)) (v6 : (c : Dev Cert.KernelIdeal.nD) → Buf (Elt Ideal) ((c.tc : Thread Cert.KernelIdeal.nD Cert.KernelIdeal.τ).loc Cert.KernelIdeal.main_v35_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v35_0) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v35_1) i = v1 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v35_2) i = v2 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v35_3) i = v3 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v35_4) i = v4 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v35_5) i = v5 c i)
          ∧ (∀ i : (⟨3, ![2, 8, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.KernelIdeal.nD Cert.KernelIdeal.τ).loc Cert.KernelIdeal.main_v35_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v62) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v63) i = v1 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v64) i = v2 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v65) i = v3 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v66) i = v4 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v67) i = v5 c i)
          ∧ (∀ i : (⟨3, ![2, 8, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.ReferenceIdeal.nD Cert.ReferenceIdeal.τ).loc Cert.ReferenceIdeal.main_v68) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v46_0)) (v1 : (c : Dev Cert.Kernel2Ideal.nD) → Buf (Elt Ideal) ((c.tc : Thread Cert.Kernel2Ideal.nD Cert.Kernel2Ideal.τ).loc Cert.Kernel2Ideal.main_v46_1)) (v2 : (c : Dev Cert.Kernel2Ideal.nD) → Buf (Elt Ideal) ((c.tc : Thread Cert.Kernel2Ideal.nD Cert.Kernel2Ideal.τ).loc Cert.Kernel2Ideal.main_v46_2)) (v3 : (c : Dev Cert.Kernel2Ideal.nD) → Buf (Elt Ideal) ((c.tc : Thread Cert.Kernel2Ideal.nD Cert.Kernel2Ideal.τ).loc Cert.Kernel2Ideal.main_v46_3)) (v4 : (c : Dev Cert.Kernel2Ideal.nD) → Buf (Elt Ideal) ((c.tc : Thread Cert.Kernel2Ideal.nD Cert.Kernel2Ideal.τ).loc Cert.Kernel2Ideal.main_v46_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46_0) = v0 c
          ∧ r.2.mem ((c.tc : Thread Cert.Kernel2Ideal.nD Cert.Kernel2Ideal.τ).loc Cert.Kernel2Ideal.main_v46_1) = v1 c
          ∧ r.2.mem ((c.tc : Thread Cert.Kernel2Ideal.nD Cert.Kernel2Ideal.τ).loc Cert.Kernel2Ideal.main_v46_2) = v2 c
          ∧ r.2.mem ((c.tc : Thread Cert.Kernel2Ideal.nD Cert.Kernel2Ideal.τ).loc Cert.Kernel2Ideal.main_v46_3) = v3 c
          ∧ r.2.mem ((c.tc : Thread Cert.Kernel2Ideal.nD Cert.Kernel2Ideal.τ).loc Cert.Kernel2Ideal.main_v46_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_v94) = v1 c
          ∧ r.2.mem ((c.tc : Thread Cert.Reference2Ideal.nD Cert.Reference2Ideal.τ).loc Cert.Reference2Ideal.main_v95) = v2 c
          ∧ r.2.mem ((c.tc : Thread Cert.Reference2Ideal.nD Cert.Reference2Ideal.τ).loc Cert.Reference2Ideal.main_v96) = v3 c
          ∧ r.2.mem ((c.tc : Thread Cert.Reference2Ideal.nD Cert.Reference2Ideal.τ).loc Cert.Reference2Ideal.main_v98) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v70) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v34) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v11_0)) (v1 : (c : Dev Cert.Kernel9Ideal.nD) → Buf (Elt Ideal) ((c.tc : Thread Cert.Kernel9Ideal.nD Cert.Kernel9Ideal.τ).loc Cert.Kernel9Ideal.main_v11_1)) (v2 : (c : Dev Cert.Kernel9Ideal.nD) → Buf (Elt Ideal) ((c.tc : Thread Cert.Kernel9Ideal.nD Cert.Kernel9Ideal.τ).loc Cert.Kernel9Ideal.main_v11_2)) (v3 : (c : Dev Cert.Kernel9Ideal.nD) → Buf (Elt Ideal) ((c.tc : Thread Cert.Kernel9Ideal.nD Cert.Kernel9Ideal.τ).loc Cert.Kernel9Ideal.main_v11_3)) (v4 : (c : Dev Cert.Kernel9Ideal.nD) → Buf (Elt Ideal) ((c.tc : Thread Cert.Kernel9Ideal.nD Cert.Kernel9Ideal.τ).loc Cert.Kernel9Ideal.main_v11_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_0) = v0 c
          ∧ r.2.mem ((c.tc : Thread Cert.Kernel9Ideal.nD Cert.Kernel9Ideal.τ).loc Cert.Kernel9Ideal.main_v11_1) = v1 c
          ∧ r.2.mem ((c.tc : Thread Cert.Kernel9Ideal.nD Cert.Kernel9Ideal.τ).loc Cert.Kernel9Ideal.main_v11_2) = v2 c
          ∧ r.2.mem ((c.tc : Thread Cert.Kernel9Ideal.nD Cert.Kernel9Ideal.τ).loc Cert.Kernel9Ideal.main_v11_3) = v3 c
          ∧ r.2.mem ((c.tc : Thread Cert.Kernel9Ideal.nD Cert.Kernel9Ideal.τ).loc Cert.Kernel9Ideal.main_v11_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_v21) = v1 c
          ∧ r.2.mem ((c.tc : Thread Cert.Reference9Ideal.nD Cert.Reference9Ideal.τ).loc Cert.Reference9Ideal.main_v22) = v2 c
          ∧ r.2.mem ((c.tc : Thread Cert.Reference9Ideal.nD Cert.Reference9Ideal.τ).loc Cert.Reference9Ideal.main_v23) = v3 c
          ∧ r.2.mem ((c.tc : Thread Cert.Reference9Ideal.nD Cert.Reference9Ideal.τ).loc Cert.Reference9Ideal.main_v38) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)) (v2 : (c : Dev Cert.Kernel10Ideal.nD) → Buf (Elt Ideal) ((c.tc : Thread Cert.Kernel10Ideal.nD Cert.Kernel10Ideal.τ).loc Cert.Kernel10Ideal.main_v8_2)) (v3 : (c : Dev Cert.Kernel10Ideal.nD) → Buf (Elt Ideal) ((c.tc : Thread Cert.Kernel10Ideal.nD Cert.Kernel10Ideal.τ).loc Cert.Kernel10Ideal.main_v8_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_v8_2) = v2 c
          ∧ r.2.mem ((c.tc : Thread Cert.Kernel10Ideal.nD Cert.Kernel10Ideal.τ).loc Cert.Kernel10Ideal.main_v8_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_v38) = v2 c
          ∧ r.2.mem ((c.tc : Thread Cert.Reference10Ideal.nD Cert.Reference10Ideal.τ).loc Cert.Reference10Ideal.main_v44) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v26) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_v28) = v2 c
          ∧ r.2.mem ((c.tc : Thread Cert.Reference11Ideal.nD Cert.Reference11Ideal.τ).loc Cert.Reference11Ideal.main_v29) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v26) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v28) = v2 c
          ∧ r.2.mem ((c.tc : Thread Cert.Reference12Ideal.nD Cert.Reference12Ideal.τ).loc Cert.Reference12Ideal.main_v29) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v26) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v28) = v2 c
          ∧ r.2.mem ((c.tc : Thread Cert.Reference13Ideal.nD Cert.Reference13Ideal.τ).loc Cert.Reference13Ideal.main_v29) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)) (v3 : (c : Dev Cert.Kernel14Ideal.nD) → Buf (Elt Ideal) ((c.tc : Thread Cert.Kernel14Ideal.nD Cert.Kernel14Ideal.τ).loc Cert.Kernel14Ideal.main_v4_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_v4_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_v27) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg3) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite2 : Cert.Pre_finite2.Facts) (hPre_finite3 : Cert.Pre_finite3.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== On_written.lean ====
abbrev S8192x1024 : Shape := ⟨2, ![8192, 1024]⟩
abbrev S4x2x6144 : Shape := ⟨3, ![4, 2, 6144]⟩
abbrev S8192x2048 : Shape := ⟨2, ![8192, 2048]⟩
abbrev S1024x1024 : Shape := ⟨2, ![1024, 1024]⟩
abbrev S8192x6144 : Shape := ⟨2, ![8192, 6144]⟩
abbrev S_ : Shape := ⟨0, ![]⟩
abbrev S2x8x1024 : Shape := ⟨3, ![2, 8, 1024]⟩

class Facts : Prop where
  bcast_S_S8192x1024 : S_.BroadcastsInDim S8192x1024 (![] : Fin 0 → Fin S8192x1024.rank)
  bcast_S_S8192x6144 : S_.BroadcastsInDim S8192x6144 (![] : Fin 0 → Fin S8192x6144.rank)
  bcast_S_S2x8x1024 : S_.BroadcastsInDim S2x8x1024 (![] : Fin 0 → Fin S2x8x1024.rank)

variable [Facts]

def fn {F : FTy → Type} [FloatOps F] (main_arg0 : FVec F S8192x1024 .f32) (main_arg1 : FVec F S4x2x6144 .f32) (main_arg2 : FVec F S8192x1024 .f32) (main_arg3 : FVec F S8192x1024 .f32) (main_arg4 : FVec F S8192x2048 .f32) (main_arg5 : FVec F S1024x1024 .f32) (main_arg6 : FVec F S1024x1024 .f32) (main_arg7 : FVec F S1024x1024 .f32) : IVec S8192x1024 1 × IVec S8192x1024 1 × IVec S8192x1024 1 × IVec S8192x1024 1 × IVec S8192x1024 1 × IVec S8192x6144 1 × IVec S2x8x1024 1 :=
  let main_v0 : IVec S8192x6144 32 := iotaInDim S8192x6144 32 1
  let main_c : IVec S_ 1 := constantI S_ 1 1#1
  let main_v1 : IVec S8192x1024 1 := broadcastInDim S8192x1024 ![] bcast_S_S8192x1024 main_c
  let main_c_0 : IVec S_ 32 := constantI S_ 32 4096#32
  let main_v2 : IVec S8192x6144 32 := broadcastInDim S8192x6144 ![] bcast_S_S8192x6144 main_c_0
  let main_v3 : IVec S8192x6144 1 := cmpi .sge main_v0 main_v2
  let main_c_1 : IVec S_ 1 := constantI S_ 1 1#1
  let main_v4 : IVec S2x8x1024 1 := broadcastInDim S2x8x1024 ![] bcast_S_S2x8x1024 main_c_1
  (main_v1, main_v1, main_v1, main_v1, main_v1, main_v3, main_v4)
-- ==== Pre_finite2.lean ====
abbrev S8192x1024 : Shape := ⟨2, ![8192, 1024]⟩
abbrev S4x2x6144 : Shape := ⟨3, ![4, 2, 6144]⟩
abbrev S4x1024 : Shape := ⟨2, ![4, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x2x6144 : S_.BroadcastsInDim S4x2x6144 (![] : Fin 0 → Fin S4x2x6144.rank)
  reducesTo_S4x2x6144_S_d0_1_2 : S4x2x6144.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1024x4096 .f32) (main_arg5 : FVec F S4096x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S4x2x6144 .f32) (main_arg3 : FVec F S4x1024 .f32) (main_arg4 : FVec F S1024x4096 .f32) (main_arg5 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S4x2x6144 .f32 := Host.absf main_arg2
  let main_cst_2 : FVec F S_ .f32 := constant S_ .f32 0x7F800000#32
  let main_v10 : FVec F S4x2x6144 .f32 := broadcastInDim S4x2x6144 ![] bcast_S_S4x2x6144 main_cst_2
  let main_v11 : IVec S4x2x6144 1 := cmpf .olt main_v9 main_v10
  let main_c_3 : IVec S_ 1 := constantI S_ 1 1#1
  let main_v12 : IVec S_ 1 := (fun x v => Host.reduce IntOp.andi x v reducesTo_S4x2x6144_S_d0_1_2 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg4 main_arg5 main_v13 main_v16
-- ==== Pre_finite3.lean ====
abbrev S8192x6144 : Shape := ⟨2, ![8192, 6144]⟩
abbrev S8192x1024 : Shape := ⟨2, ![8192, 1024]⟩
abbrev S4x2x6144 : Shape := ⟨3, ![4, 2, 6144]⟩
abbrev S4x1024 : Shape := ⟨2, ![4, 1024]⟩
abbrev S1024x6144 : Shape := ⟨2, ![1024, 6144]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4x2x6144 : S_.BroadcastsInDim S4x2x6144 (![] : Fin 0 → Fin S4x2x6144.rank)
  reducesTo_S4x2x6144_S_d0_1_2 : S4x2x6144.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x6144 : S_.BroadcastsInDim S1024x6144 (![] : Fin 0 → Fin S1024x6144.rank)
  reducesTo_S1024x6144_S_d0_1 : S1024x6144.ReducesTo [0, 1] S_

variable [Facts]

def fn_part1 {F : FTy → Type} [FloatOps F] (main_arg4 : FVec F S4x1024 .f32) (main_arg5 : FVec F S1024x6144 .f32) (main_v13 : IVec S_ 1) (main_v16 : IVec S4x2x6144 1) : IVec S_ 1 :=
  let main_c_5 : IVec S_ 1 := constantI S_ 1 1#1
  let main_v17 : IVec S_ 1 := (fun x v => Host.reduce IntOp.andi x v reducesTo_S4x2x6144_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S1024x6144 .f32 := Host.absf main_arg5
  let main_cst_8 : FVec F S_ .f32 := constant S_ .f32 0x7F800000#32
  let main_v25 : FVec F S1024x6144 .f32 := broadcastInDim S1024x6144 ![] bcast_S_S1024x6144 main_cst_8
  let main_v26 : IVec S1024x6144 1 := cmpf .olt main_v24 main_v25
  let main_c_9 : IVec S_ 1 := constantI S_ 1 1#1
  let main_v27 : IVec S_ 1 := (fun x v => Host.reduce IntOp.andi x v reducesTo_S1024x6144_S_d0_1 h_S_) main_v26 main_c_9
  let main_v28 : IVec S_ 1 := andi main_v23 main_v27
  main_v28

def fn {F : FTy → Type} [FloatOps F] (main_arg0 : FVec F S8192x6144 .f32) (main_arg1 : FVec F S8192x1024 .f32) (main_arg2 : FVec F S8192x1024 .f32) (main_arg3 : FVec F S4x2x6144 .f32) (main_arg4 : FVec F S4x1024 .f32) (main_arg5 : FVec F S1024x6144 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x2x6144 .f32 := Host.absf main_arg3
  let main_cst_4 : FVec F S_ .f32 := constant S_ .f32 0x7F800000#32
  let main_v15 : FVec F S4x2x6144 .f32 := broadcastInDim S4x2x6144 ![] bcast_S_S4x2x6144 main_cst_4
  let main_v16 : IVec S4x2x6144 1 := cmpf .olt main_v14 main_v15
  fn_part1 (F := F) main_arg4 main_arg5 main_v13 main_v16
-- ==== Kernel.lean ====
abbrev S8192x1024 : Shape := ⟨2, ![8192, 1024]⟩
abbrev S4x2x6144 : Shape := ⟨3, ![4, 2, 6144]⟩
abbrev S8192x2048 : Shape := ⟨2, ![8192, 2048]⟩
abbrev S1024x1024 : Shape := ⟨2, ![1024, 1024]⟩
abbrev S_ : Shape := ⟨0, ![]⟩
abbrev S8192x4096 : Shape := ⟨2, ![8192, 4096]⟩
abbrev S8192x6144 : Shape := ⟨2, ![8192, 6144]⟩
abbrev S8x128 : Shape := ⟨2, ![8, 128]⟩
abbrev S4x2x6x1024 : Shape := ⟨4, ![4, 2, 6, 1024]⟩
abbrev S4x2x8x1024 : Shape := ⟨4, ![4, 2, 8, 1024]⟩
abbrev S4x256x1024 : Shape := ⟨3, ![4, 256, 1024]⟩
abbrev S2x8x1024 : Shape := ⟨3, ![2, 8, 1024]⟩
abbrev S512x1024 : Shape := ⟨2, ![512, 1024]⟩
abbrev S1x1x8x1024 : Shape := ⟨4, ![1, 1, 8, 1024]⟩
abbrev S512x2048 : Shape := ⟨2, ![512, 2048]⟩
abbrev S1x8x1024 : Shape := ⟨3, ![1, 8, 1024]⟩
abbrev S8x1024 : Shape := ⟨2, ![8, 1024]⟩
abbrev S1x1x1024 : Shape := ⟨3, ![1, 1, 1024]⟩
abbrev S1x1024 : Shape := ⟨2, ![1, 1024]⟩
abbrev S1024 : Shape := ⟨1, ![1024]⟩
abbrev S1x1x1x1024 : Shape := ⟨4, ![1, 1, 1, 1024]⟩

abbrev nBuf : Space → Nat
  | .hbm => 58
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S4x2x6144, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S8192x4096, .f32⟩
  | .hbm, ⟨10, _⟩ => ⟨S8192x6144, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8x128, .f32⟩
  | .hbm, ⟨37, _⟩ => ⟨S4x2x6x1024, .f32⟩
  | .hbm, ⟨38, _⟩ => ⟨S_, .i32⟩
  | .hbm, ⟨39, _⟩ => ⟨S_, .f32⟩
  | .hbm, ⟨40, _⟩ => ⟨S4x2x8x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x6144, .bf16⟩
  | .hbm, ⟨45, _⟩ => ⟨S1024x1024, .bf16⟩
  | .hbm, ⟨46, _⟩ => ⟨S4x256x1024, .bf16⟩
  | .hbm, ⟨47, _⟩ => ⟨S1024x1024, .bf16⟩
  | .hbm, ⟨48, _⟩ => ⟨S4x256x1024, .bf16⟩
  | .hbm, ⟨49, _⟩ => ⟨S1024x1024, .bf16⟩
  | .hbm, ⟨50, _⟩ => ⟨S4x256x1024, .bf16⟩
  | .hbm, ⟨51, _⟩ => ⟨S8192x1024, .bf16⟩
  | .hbm, ⟨52, _⟩ => ⟨S8192x1024, .bf16⟩
  | .hbm, ⟨53, _⟩ => ⟨S8192x1024, .bf16⟩
  | .hbm, ⟨54, _⟩ => ⟨S8192x1024, .bf16⟩
  | .hbm, ⟨55, _⟩ => ⟨S8192x1024, .bf16⟩
  | .hbm, ⟨56, _⟩ => ⟨S8192x6144, .bf16⟩
  | .hbm, ⟨57, _⟩ => ⟨S2x8x1024, .f32⟩
  | .local _ .vmem, ⟨0, _⟩ => ⟨S512x1024, .f32⟩
  | .local _ .vmem, ⟨1, _⟩ => ⟨S512x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S4x256x1024, .bf16⟩
  | .local _ .vmem, ⟨15, _⟩ => ⟨S4x256x1024, .bf16⟩
  | .local _ .vmem, ⟨16, _⟩ => ⟨S4x256x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x2048, .bf16⟩
  | .local _ .vmem, ⟨28, _⟩ => ⟨S512x2048, .bf16⟩
  | .local _ .vmem, ⟨29, _⟩ => ⟨S1x8x1024, .f32⟩
  | .local _ .vmem, ⟨30, _⟩ => ⟨S1x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35_0 : Ref sig .tc := ⟨.hbm, 51, rfl⟩
abbrev main_v35_1 : Ref sig .tc := ⟨.hbm, 52, rfl⟩
abbrev main_v35_2 : Ref sig .tc := ⟨.hbm, 53, rfl⟩
abbrev main_v35_3 : Ref sig .tc := ⟨.hbm, 54, rfl⟩
abbrev main_v35_4 : Ref sig .tc := ⟨.hbm, 55, rfl⟩
abbrev main_v35_5 : Ref sig .tc := ⟨.hbm, 56, rfl⟩
abbrev main_v35_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8192x1024 : Shape := ⟨2, ![8192, 1024]⟩
abbrev S4x2x6144 : Shape := ⟨3, ![4, 2, 6144]⟩
abbrev S8192x2048 : Shape := ⟨2, ![8192, 2048]⟩
abbrev S1024x1024 : Shape := ⟨2, ![1024, 1024]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S_ : Shape := ⟨0, ![]⟩
abbrev S2x4096x1024 : Shape := ⟨3, ![2, 4096, 1024]⟩
abbrev S2x1024 : Shape := ⟨2, ![2, 1024]⟩
abbrev S8192x6144 : Shape := ⟨2, ![8192, 6144]⟩
abbrev S2x8x1024 : Shape := ⟨3, ![2, 8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x6144, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x2x6144, .f32⟩
  | .hbm, ⟨9, _⟩ => ⟨S2x6144, .f32⟩
  | .hbm, ⟨10, _⟩ => ⟨S2x1x6144, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S2x4096x1024, .f32⟩
  | .hbm, ⟨56, _⟩ => ⟨S8192x1024, .f32⟩
  | .hbm, ⟨57, _⟩ => ⟨S2x4096x1024, .f32⟩
  | .hbm, ⟨58, _⟩ => ⟨S2x4096x1024, .f32⟩
  | .hbm, ⟨59, _⟩ => ⟨S2x4096x1024, .f32⟩
  | .hbm, ⟨60, _⟩ => ⟨S2x4096x1024, .f32⟩
  | .hbm, ⟨61, _⟩ => ⟨S_, .f32⟩
  | .hbm, ⟨62, _⟩ => ⟨S2x1024, .f32⟩
  | .hbm, ⟨63, _⟩ => ⟨S2x1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x2048, .f32⟩
  | .hbm, ⟨74, _⟩ => ⟨S_, .f32⟩
  | .hbm, ⟨75, _⟩ => ⟨S8192x2048, .f32⟩
  | .hbm, ⟨76, _⟩ => ⟨S8192x2048, .f32⟩
  | .hbm, ⟨77, _⟩ => ⟨S_, .i32⟩
  | .hbm, ⟨78, _⟩ => ⟨S_, .f32⟩
  | .hbm, ⟨79, _⟩ => ⟨S8192x6144, .f32⟩
  | .hbm, ⟨80, _⟩ => ⟨S8192x1024, .f32⟩
  | .hbm, ⟨81, _⟩ => ⟨S8192x1024, .f32⟩
  | .hbm, ⟨82, _⟩ => ⟨S8192x1024, .bf16⟩
  | .hbm, ⟨83, _⟩ => ⟨S8192x1024, .bf16⟩
  | .hbm, ⟨84, _⟩ => ⟨S8192x1024, .bf16⟩
  | .hbm, ⟨85, _⟩ => ⟨S8192x1024, .bf16⟩
  | .hbm, ⟨86, _⟩ => ⟨S8192x1024, .bf16⟩
  | .hbm, ⟨87, _⟩ => ⟨S8192x6144, .bf16⟩
  | .hbm, ⟨88, _⟩ => ⟨S_, .i32⟩
  | .hbm, ⟨89, _⟩ => ⟨S_, .f32⟩
  | .hbm, ⟨90, _⟩ => ⟨S2x8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_c : Ref sig .tc := ⟨.hbm, 77, rfl⟩
abbrev main_call0_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_9 : Ref sig .tc := ⟨.hbm, 88, rfl⟩
abbrev main_call1_v0 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Kernel2.lean ====
abbrev S8192x1024 : Shape := ⟨2, ![8192, 1024]⟩
abbrev S4x2x6144 : Shape := ⟨3, ![4, 2, 6144]⟩
abbrev S4x1024 : Shape := ⟨2, ![4, 1024]⟩
abbrev S1024x4096 : Shape := ⟨2, ![1024, 4096]⟩
abbrev S4096x1024 : Shape := ⟨2, ![4096, 1024]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S1x1024 : Shape := ⟨2, ![1, 1024]⟩
abbrev S1024 : Shape := ⟨1, ![1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x4096 : Shape := ⟨2, ![8192, 4096]⟩
abbrev S4x2x6x1024 : Shape := ⟨4, ![4, 2, 6, 1024]⟩
abbrev S4x2x8x1024 : Shape := ⟨4, ![4, 2, 8, 1024]⟩
abbrev S4x1x1024 : Shape := ⟨3, ![4, 1, 1024]⟩
abbrev S1024x4x1024 : Shape := ⟨3, ![1024, 4, 1024]⟩
abbrev S4x1024x1024 : Shape := ⟨3, ![4, 1024, 1024]⟩
abbrev S2x8x1024 : Shape := ⟨3, ![2, 8, 1024]⟩
abbrev S8x1024 : Shape := ⟨2, ![8, 1024]⟩
abbrev S512x1024 : Shape := ⟨2, ![512, 1024]⟩
abbrev S1x1x8x1024 : Shape := ⟨4, ![1, 1, 8, 1024]⟩
abbrev S512x4096 : Shape := ⟨2, ![512, 4096]⟩
abbrev S1x8x1024 : Shape := ⟨3, ![1, 8, 1024]⟩
abbrev S1x1x1x1024 : Shape := ⟨4, ![1, 1, 1, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 65
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x2x6144, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S1x2x6144, .f32⟩
  | .hbm, ⟨7, _⟩ => ⟨S2x6144, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S1x1024, .f32⟩
  | .hbm, ⟨16, _⟩ => ⟨S1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x1024, .f32⟩
  | .hbm, ⟨30, _⟩ => ⟨S2x4096x1024, .f32⟩
  | .hbm, ⟨31, _⟩ => ⟨S1x1x1024, .f32⟩
  | .hbm, ⟨32, _⟩ => ⟨S2x4096x1024, .f32⟩
  | .hbm, ⟨33, _⟩ => ⟨S2x4096x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S8192x1024, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x1024, .f32⟩
  | .hbm, ⟨48, _⟩ => ⟨S4x2x6x1024, .f32⟩
  | .hbm, ⟨49, _⟩ => ⟨S_, .i32⟩
  | .hbm, ⟨50, _⟩ => ⟨S_, .f32⟩
  | .hbm, ⟨51, _⟩ => ⟨S4x2x8x1024, .f32⟩
  | .hbm, ⟨52, _⟩ => ⟨S4x1x1024, .f32⟩
  | .hbm, ⟨53, _⟩ => ⟨S8192x1024, .bf16⟩
  | .hbm, ⟨54, _⟩ => ⟨S8192x4096, .bf16⟩
  | .hbm, ⟨55, _⟩ => ⟨S1024x4096, .bf16⟩
  | .hbm, ⟨56, _⟩ => ⟨S1024x4x1024, .bf16⟩
  | .hbm, ⟨57, _⟩ => ⟨S4x1024x1024, .bf16⟩
  | .hbm, ⟨58, _⟩ => ⟨S4096x1024, .bf16⟩
  | .hbm, ⟨59, _⟩ => ⟨S4x1024x1024, .bf16⟩
  | .hbm, ⟨60, _⟩ => ⟨S8192x1024, .bf16⟩
  | .hbm, ⟨61, _⟩ => ⟨S8192x4096, .bf16⟩
  | .hbm, ⟨62, _⟩ => ⟨S8192x1024, .f32⟩
  | .hbm, ⟨63, _⟩ => ⟨S2x8x1024, .f32⟩
  | .hbm, ⟨64, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | .local _ .vmem, ⟨11, _⟩ => ⟨S4x1024x1024, .bf16⟩
  | .local _ .vmem, ⟨12, _⟩ => ⟨S4x1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x4096, .bf16⟩
  | .local _ .vmem, ⟨16, _⟩ => ⟨S512x4096, .bf16⟩
  | .local _ .vmem, ⟨17, _⟩ => ⟨S512x1024, .f32⟩
  | .local _ .vmem, ⟨18, _⟩ => ⟨S512x1024, .f32⟩
  | .local _ .vmem, ⟨19, _⟩ => ⟨S1x8x1024, .f32⟩
  | .local _ .vmem, ⟨20, _⟩ => ⟨S1x8x1024, .f32⟩
  | .local _ .vmem, ⟨21, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_call1_v0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46_0 : Ref sig .tc := ⟨.hbm, 60, rfl⟩
abbrev main_v46_1 : Ref sig .tc := ⟨.hbm, 61, rfl⟩
abbrev main_v46_2 : Ref sig .tc := ⟨.hbm, 62, rfl⟩
abbrev main_v46_3 : Ref sig .tc := ⟨.hbm, 63, rfl⟩
abbrev main_v46_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S4x2x6144 : Shape := ⟨3, ![4, 2, 6144]⟩
abbrev S4x1024 : Shape := ⟨2, ![4, 1024]⟩
abbrev S1024x4096 : Shape := ⟨2, ![1024, 4096]⟩
abbrev S4096x1024 : Shape := ⟨2, ![4096, 1024]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S1x1024 : Shape := ⟨2, ![1, 1024]⟩
abbrev S1024 : Shape := ⟨1, ![1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x4096 : Shape := ⟨2, ![8192, 4096]⟩
abbrev S2x1024 : Shape := ⟨2, ![2, 1024]⟩
abbrev S2x3x1024 : Shape := ⟨3, ![2, 3, 1024]⟩
abbrev S2x8x1024 : Shape := ⟨3, ![2, 8, 1024]⟩
abbrev S8x1024 : Shape := ⟨2, ![8, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x2x6144, .f32⟩
  | .hbm, ⟨3, _⟩ => ⟨S4x1024, .f32⟩
  | .hbm, ⟨4, _⟩ => ⟨S1024x4096, .f32⟩
  | .hbm, ⟨5, _⟩ => ⟨S4096x1024, .f32⟩
  | .hbm, ⟨6, _⟩ => ⟨S1x2x6144, .f32⟩
  | .hbm, ⟨7, _⟩ => ⟨S2x6144, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S1x1024, .f32⟩
  | .hbm, ⟨16, _⟩ => ⟨S1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1024, .f32⟩
  | .hbm, ⟨34, _⟩ => ⟨S2x4096x1024, .f32⟩
  | .hbm, ⟨35, _⟩ => ⟨S1x1x1024, .f32⟩
  | .hbm, ⟨36, _⟩ => ⟨S2x4096x1024, .f32⟩
  | .hbm, ⟨37, _⟩ => ⟨S2x4096x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S8192x1024, .f32⟩
  | .hbm, ⟨46, _⟩ => ⟨S8192x4096, .f32⟩
  | .hbm, ⟨47, _⟩ => ⟨S_, .f32⟩
  | .hbm, ⟨48, _⟩ => ⟨S8192x4096, .f32⟩
  | .hbm, ⟨49, _⟩ => ⟨S8192x4096, .f32⟩
  | .hbm, ⟨50, _⟩ => ⟨S_, .f32⟩
  | .hbm, ⟨51, _⟩ => ⟨S8192x4096, .f32⟩
  | .hbm, ⟨52, _⟩ => ⟨S8192x4096, .i1⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S_, .f32⟩
  | .hbm, ⟨57, _⟩ => ⟨S8192x4096, .f32⟩
  | .hbm, ⟨58, _⟩ => ⟨S8192x4096, .f32⟩
  | .hbm, ⟨59, _⟩ => ⟨S8192x1024, .f32⟩
  | .hbm, ⟨60, _⟩ => ⟨S2x4096x1024, .f32⟩
  | .hbm, ⟨61, _⟩ => ⟨S2x4096x1024, .f32⟩
  | .hbm, ⟨62, _⟩ => ⟨S2x4096x1024, .f32⟩
  | .hbm, ⟨63, _⟩ => ⟨S2x4096x1024, .f32⟩
  | .hbm, ⟨64, _⟩ => ⟨S2x4096x1024, .f32⟩
  | .hbm, ⟨65, _⟩ => ⟨S8192x1024, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S2x4096x1024, .f32⟩
  | .hbm, ⟨70, _⟩ => ⟨S_, .f32⟩
  | .hbm, ⟨71, _⟩ => ⟨S2x1024, .f32⟩
  | .hbm, ⟨72, _⟩ => ⟨S2x1x1024, .f32⟩
  | .hbm, ⟨73, _⟩ => ⟨S8192x1024, .f32⟩
  | .hbm, ⟨74, _⟩ => ⟨S8192x1024, .f32⟩
  | .hbm, ⟨75, _⟩ => ⟨S8192x4096, .f32⟩
  | .hbm, ⟨76, _⟩ => ⟨S8192x4096, .f32⟩
  | .hbm, ⟨77, _⟩ => ⟨S_, .f32⟩
  | .hbm, ⟨78, _⟩ => ⟨S8192x4096, .f32⟩
  | .hbm, ⟨79, _⟩ => ⟨S8192x4096, .f32⟩
  | .hbm, ⟨80, _⟩ => ⟨S8192x1024, .f32⟩
  | .hbm, ⟨81, _⟩ => ⟨S2x4096x1024, .f32⟩
  | .hbm, ⟨82, _⟩ => ⟨S_, .f32⟩
  | .hbm, ⟨83, _⟩ => ⟨S2x1024, .f32⟩
  | .hbm, ⟨84, _⟩ => ⟨S2x1x1024, .f32⟩
  | .hbm, ⟨85, _⟩ => ⟨S2x4096x1024, .f32⟩
  | .hbm, ⟨86, _⟩ => ⟨S_, .f32⟩
  | .hbm, ⟨87, _⟩ => ⟨S2x1024, .f32⟩
  | .hbm, ⟨88, _⟩ => ⟨S2x1x1024, .f32⟩
  | .hbm, ⟨89, _⟩ => ⟨S2x4096x1024, .f32⟩
  | .hbm, ⟨90, _⟩ => ⟨S2x4096x1024, .f32⟩
  | .hbm, ⟨91, _⟩ => ⟨S2x4096x1024, .f32⟩
  | .hbm, ⟨92, _⟩ => ⟨S_, .f32⟩
  | .hbm, ⟨93, _⟩ => ⟨S1024, .f32⟩
  | .hbm, ⟨94, _⟩ => ⟨S1x1x1024, .f32⟩
  | .hbm, ⟨95, _⟩ => ⟨S2x4096x1024, .f32⟩
  | .hbm, ⟨96, _⟩ => ⟨S2x4096x1024, .f32⟩
  | .hbm, ⟨97, _⟩ => ⟨S_, .f32⟩
  | .hbm, ⟨98, _⟩ => ⟨S1024, .f32⟩
  | .hbm, ⟨99, _⟩ => ⟨S2x4096x1024, .f32⟩
  | .hbm, ⟨100, _⟩ => ⟨S_, .f32⟩
  | .hbm, ⟨101, _⟩ => ⟨S2x4096, .f32⟩
  | .hbm, ⟨102, _⟩ => ⟨S2x4096x1, .f32⟩
  | .hbm, ⟨103, _⟩ => ⟨S2x4096x1024, .f32⟩
  | .hbm, ⟨104, _⟩ => ⟨S2x4096x1024, .f32⟩
  | .hbm, ⟨105, _⟩ => ⟨S2x4096x1, .f32⟩
  | .hbm, ⟨106, _⟩ => ⟨S_, .f32⟩
  | .hbm, ⟨107, _⟩ => ⟨S2x4096x1, .f32⟩
  | .hbm, ⟨108, _⟩ => ⟨S2x4096x1, .f32⟩
  | .hbm, ⟨109, _⟩ => ⟨S_, .f32⟩
  | .hbm, ⟨110, _⟩ => ⟨S2x4096, .f32⟩
  | .hbm, ⟨111, _⟩ => ⟨S2x4096x1024, .f32⟩
  | .hbm, ⟨112, _⟩ => ⟨S2x4096x1024, .f32⟩
  | .hbm, ⟨113, _⟩ => ⟨S2x4096x1024, .f32⟩
  | .hbm, ⟨114, _⟩ => ⟨S2x4096x1024, .f32⟩
  | .hbm, ⟨115, _⟩ => ⟨S2x4096x1024, .f32⟩
  | .hbm, ⟨116, _⟩ => ⟨S8192x1024, .f32⟩
  | .hbm, ⟨117, _⟩ => ⟨S2x3x1024, .f32⟩
  | .hbm, ⟨118, _⟩ => ⟨S8192x1024, .bf16⟩
  | .hbm, ⟨119, _⟩ => ⟨S8192x4096, .bf16⟩
  | .hbm, ⟨120, _⟩ => ⟨S8192x1024, .f32⟩
  | .hbm, ⟨121, _⟩ => ⟨S_, .i32⟩
  | .hbm, ⟨122, _⟩ => ⟨S_, .f32⟩
  | .hbm, ⟨123, _⟩ => ⟨S2x8x1024, .f32⟩
  | .hbm, ⟨124, _⟩ => ⟨S1x1024, .f32⟩
  | .hbm, ⟨125, _⟩ => ⟨S_, .i32⟩
  | .hbm, ⟨126, _⟩ => ⟨S_, .f32⟩
  | .hbm, ⟨127, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_cst : Ref sig .tc := ⟨.hbm, 47, rfl⟩
abbrev main_call0_v0 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_cst_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_14 : Ref sig .tc := ⟨.hbm, 106, rfl⟩
abbrev main_v83 : Ref sig .tc := ⟨.hbm, 107, rfl⟩
abbrev main_v84 : Ref sig .tc := ⟨.hbm, 108, rfl⟩
abbrev main_cst_15 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_c : Ref sig .tc := ⟨.hbm, 121, rfl⟩
abbrev main_call1_v0 : Ref sig .tc := ⟨.hbm, 122, rfl⟩
abbrev main_v96 : Ref sig .tc := ⟨.hbm, 123, rfl⟩
abbrev main_v97 : Ref sig .tc := ⟨.hbm, 124, rfl⟩
abbrev main_c_16 : Ref sig .tc := ⟨.hbm, 125, rfl⟩
abbrev main_call2_v0 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== Kernel3.lean ====
abbrev S8192x6144 : Shape := ⟨2, ![8192, 6144]⟩
abbrev S8192x1024 : Shape := ⟨2, ![8192, 1024]⟩
abbrev S4x2x6144 : Shape := ⟨3, ![4, 2, 6144]⟩
abbrev S4x1024 : Shape := ⟨2, ![4, 1024]⟩
abbrev S1024x6144 : Shape := ⟨2, ![1024, 6144]⟩
abbrev S_ : Shape := ⟨0, ![]⟩
abbrev S8x128 : Shape := ⟨2, ![8, 128]⟩
abbrev S4x2x6x1024 : Shape := ⟨4, ![4, 2, 6, 1024]⟩
abbrev S4x2x8x1024 : Shape := ⟨4, ![4, 2, 8, 1024]⟩
abbrev S4x1x1024 : Shape := ⟨3, ![4, 1, 1024]⟩
abbrev S1024x4x1536 : Shape := ⟨3, ![1024, 4, 1536]⟩
abbrev S4x1024x1536 : Shape := ⟨3, ![4, 1024, 1536]⟩
abbrev S2x8x1024 : Shape := ⟨3, ![2, 8, 1024]⟩
abbrev S8x1024 : Shape := ⟨2, ![8, 1024]⟩
abbrev S512x6144 : Shape := ⟨2, ![512, 6144]⟩
abbrev S512x1024 : Shape := ⟨2, ![512, 1024]⟩
abbrev S1x1x8x1024 : Shape := ⟨4, ![1, 1, 8, 1024]⟩
abbrev S1x1x1024 : Shape := ⟨3, ![1, 1, 1024]⟩
abbrev S1x8x1024 : Shape := ⟨3, ![1, 8, 1024]⟩
abbrev S512x1536 : Shape := ⟨2, ![512, 1536]⟩
abbrev S1x1024x1536 : Shape := ⟨3, ![1, 1024, 1536]⟩
abbrev S1024x1536 : Shape := ⟨2, ![1024, 1536]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 15
  | .smem => 0
  | _ => 0

abbrev bufTy : (tb : Table) → Fin (tcTables nBuf tb) → BufTy
  | .hbm, ⟨0, _⟩ => ⟨S8192x6144, .f32⟩
  | .hbm, ⟨1, _⟩ => ⟨S8192x1024, .f32⟩
  | .hbm, ⟨2, _⟩ => ⟨S8192x1024, .f32⟩
  | .hbm, ⟨3, _⟩ => ⟨S4x2x6144, .f32⟩
  | .hbm, ⟨4, _⟩ => ⟨S4x1024, .f32⟩
  | .hbm, ⟨5, _⟩ => ⟨S1024x6144, .f32⟩
  | .hbm, ⟨6, _⟩ => ⟨S_, .f32⟩
  | .hbm, ⟨7, _⟩ => ⟨S8x128, .f32⟩
  | .hbm, ⟨8, _⟩ => ⟨S8192x6144, .bf16⟩
  | .hbm, ⟨9, _⟩ => ⟨S4x2x6x1024, .f32⟩
  | .hbm, ⟨10, _⟩ => ⟨S_, .i32⟩
  | .hbm, ⟨11, _⟩ => ⟨S_, .f32⟩
  | .hbm, ⟨12, _⟩ => ⟨S4x2x8x1024, .f32⟩
  | .hbm, ⟨13, _⟩ => ⟨S4x1x1024, .f32⟩
  | .hbm, ⟨14, _⟩ => ⟨S1024x6144, .bf16⟩
  | .hbm, ⟨15, _⟩ => ⟨S1024x4x1536, .bf16⟩
  | .hbm, ⟨16, _⟩ => ⟨S4x1024x1536, .bf16⟩
  | .hbm, ⟨17, _⟩ => ⟨S8192x1024, .f32⟩
  | .hbm, ⟨18, _⟩ => ⟨S2x8x1024, .f32⟩
  | .hbm, ⟨19, _⟩ => ⟨S8x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x8x1024, .f32⟩
  | .local _ .vmem, ⟨7, _⟩ => ⟨S1x1x8x1024, .f32⟩
  | .local _ .vmem, ⟨8, _⟩ => ⟨S1x1x1024, .f32⟩
  | .local _ .vmem, ⟨9, _⟩ => ⟨S4x1024x1536, .bf16⟩
  | .local _ .vmem, ⟨10, _⟩ => ⟨S512x1024, .f32⟩
  | .local _ .vmem, ⟨11, _⟩ => ⟨S512x1024, .f32⟩
  | .local _ .vmem, ⟨12, _⟩ => ⟨S1x8x1024, .f32⟩
  | .local _ .vmem, ⟨13, _⟩ => ⟨S1x8x1024, .f32⟩
  | .local _ .vmem, ⟨14, _⟩ => ⟨S8x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x6144 : Shape := ⟨2, ![8192, 6144]⟩
abbrev S8192x1024 : Shape := ⟨2, ![8192, 1024]⟩
abbrev S4x2x6144 : Shape := ⟨3, ![4, 2, 6144]⟩
abbrev S4x1024 : Shape := ⟨2, ![4, 1024]⟩
abbrev S1024x6144 : Shape := ⟨2, ![1024, 6144]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S1x1024 : Shape := ⟨2, ![1, 1024]⟩
abbrev S1024 : Shape := ⟨1, ![1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1024 : Shape := ⟨2, ![2, 1024]⟩
abbrev S2x2x1024 : Shape := ⟨3, ![2, 2, 1024]⟩
abbrev S2x8x1024 : Shape := ⟨3, ![2, 8, 1024]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x1024, .f32⟩
  | .hbm, ⟨2, _⟩ => ⟨S8192x1024, .f32⟩
  | .hbm, ⟨3, _⟩ => ⟨S4x2x6144, .f32⟩
  | .hbm, ⟨4, _⟩ => ⟨S4x1024, .f32⟩
  | .hbm, ⟨5, _⟩ => ⟨S1024x6144, .f32⟩
  | .hbm, ⟨6, _⟩ => ⟨S1x2x6144, .f32⟩
  | .hbm, ⟨7, _⟩ => ⟨S2x6144, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S1x1024, .f32⟩
  | .hbm, ⟨16, _⟩ => ⟨S1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1024, .f32⟩
  | .hbm, ⟨34, _⟩ => ⟨S2x4096x1024, .f32⟩
  | .hbm, ⟨35, _⟩ => ⟨S1x1x1024, .f32⟩
  | .hbm, ⟨36, _⟩ => ⟨S2x4096x1024, .f32⟩
  | .hbm, ⟨37, _⟩ => ⟨S2x4096x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S8192x1024, .f32⟩
  | .hbm, ⟨46, _⟩ => ⟨S8192x6144, .f32⟩
  | .hbm, ⟨47, _⟩ => ⟨S8192x1024, .f32⟩
  | .hbm, ⟨48, _⟩ => ⟨S2x4096x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x4096x1024, .f32⟩
  | .hbm, ⟨53, _⟩ => ⟨S_, .f32⟩
  | .hbm, ⟨54, _⟩ => ⟨S2x1024, .f32⟩
  | .hbm, ⟨55, _⟩ => ⟨S2x1x1024, .f32⟩
  | .hbm, ⟨56, _⟩ => ⟨S2x4096x1024, .f32⟩
  | .hbm, ⟨57, _⟩ => ⟨S2x4096x1024, .f32⟩
  | .hbm, ⟨58, _⟩ => ⟨S2x4096x1024, .f32⟩
  | .hbm, ⟨59, _⟩ => ⟨S_, .f32⟩
  | .hbm, ⟨60, _⟩ => ⟨S1024, .f32⟩
  | .hbm, ⟨61, _⟩ => ⟨S1x1x1024, .f32⟩
  | .hbm, ⟨62, _⟩ => ⟨S2x4096x1024, .f32⟩
  | .hbm, ⟨63, _⟩ => ⟨S2x4096x1024, .f32⟩
  | .hbm, ⟨64, _⟩ => ⟨S_, .f32⟩
  | .hbm, ⟨65, _⟩ => ⟨S1024, .f32⟩
  | .hbm, ⟨66, _⟩ => ⟨S2x4096x1024, .f32⟩
  | .hbm, ⟨67, _⟩ => ⟨S_, .f32⟩
  | .hbm, ⟨68, _⟩ => ⟨S2x4096, .f32⟩
  | .hbm, ⟨69, _⟩ => ⟨S2x4096x1, .f32⟩
  | .hbm, ⟨70, _⟩ => ⟨S2x4096x1024, .f32⟩
  | .hbm, ⟨71, _⟩ => ⟨S2x4096x1024, .f32⟩
  | .hbm, ⟨72, _⟩ => ⟨S2x4096x1, .f32⟩
  | .hbm, ⟨73, _⟩ => ⟨S_, .f32⟩
  | .hbm, ⟨74, _⟩ => ⟨S2x4096x1, .f32⟩
  | .hbm, ⟨75, _⟩ => ⟨S2x4096x1, .f32⟩
  | .hbm, ⟨76, _⟩ => ⟨S_, .f32⟩
  | .hbm, ⟨77, _⟩ => ⟨S2x4096, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S2x4096x1024, .f32⟩
  | .hbm, ⟨82, _⟩ => ⟨S2x4096x1024, .f32⟩
  | .hbm, ⟨83, _⟩ => ⟨S8192x1024, .f32⟩
  | .hbm, ⟨84, _⟩ => ⟨S2x2x1024, .f32⟩
  | .hbm, ⟨85, _⟩ => ⟨S8192x1024, .f32⟩
  | .hbm, ⟨86, _⟩ => ⟨S_, .i32⟩
  | .hbm, ⟨87, _⟩ => ⟨S_, .f32⟩
  | .hbm, ⟨88, _⟩ => ⟨S2x8x1024, .f32⟩
  | .hbm, ⟨89, _⟩ => ⟨S1x1024, .f32⟩
  | .hbm, ⟨90, _⟩ => ⟨S_, .i32⟩
  | .hbm, ⟨91, _⟩ => ⟨S_, .f32⟩
  | .hbm, ⟨92, _⟩ => ⟨S8x1024, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c : Ref sig .tc := ⟨.hbm, 86, rfl⟩
abbrev main_call0_v0 : Ref sig .tc := ⟨.hbm, 87, rfl⟩
abbrev main_v68 : Ref sig .tc := ⟨.hbm, 88, rfl⟩
abbrev main_v69 : Ref sig .tc := ⟨.hbm, 89, rfl⟩
abbrev main_c_11 : Ref sig .tc := ⟨.hbm, 90, rfl⟩
abbrev main_call1_v0 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | .hbm, ⟨12, _⟩ => ⟨S4x1024x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .bf16⟩
  | .hbm, ⟨3, _⟩ => ⟨S8192x6144, .bf16⟩
  | .hbm, ⟨4, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S6144x1024, .f32⟩
  | .hbm, ⟨6, _⟩ => ⟨S1024x6144, .f32⟩
  | .hbm, ⟨7, _⟩ => ⟨S1024x4x1536, .f32⟩
  | .hbm, ⟨8, _⟩ => ⟨S4x1024x1536, .f32⟩
  | .hbm, ⟨9, _⟩ => ⟨S4x1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S4x256x1024 : Shape := ⟨3, ![4, 256, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S4x256x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference7Ideal.lean ====
abbrev S8192x1024 : Shape := ⟨2, ![8192, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S4x2x6144 : Shape := ⟨3, ![4, 2, 6144]⟩
abbrev S4x1024 : Shape := ⟨2, ![4, 1024]⟩
abbrev S1024x6144 : Shape := ⟨2, ![1024, 6144]⟩
abbrev S4x2x6x1024 : Shape := ⟨4, ![4, 2, 6, 1024]⟩
abbrev S_ : Shape := ⟨0, ![]⟩
abbrev S4x2x8x1024 : Shape := ⟨4, ![4, 2, 8, 1024]⟩
abbrev S4x1x1024 : Shape := ⟨3, ![4, 1, 1024]⟩
abbrev S1024x4x1536 : Shape := ⟨3, ![1024, 4, 1536]⟩
abbrev S4x1024x1536 : Shape := ⟨3, ![4, 1024, 1536]⟩
abbrev S8192x6144 : Shape := ⟨2, ![8192, 6144]⟩
abbrev S512x1024 : Shape := ⟨2, ![512, 1024]⟩
abbrev S1x1x8x1024 : Shape := ⟨4, ![1, 1, 8, 1024]⟩
abbrev S1x1x1024 : Shape := ⟨3, ![1, 1, 1024]⟩
abbrev S512x6144 : Shape := ⟨2, ![512, 6144]⟩
abbrev S1x1024 : Shape := ⟨2, ![1, 1024]⟩
abbrev S1x1x1x1024 : Shape := ⟨4, ![1, 1, 1, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S4x2x6144, .f32⟩
  | .hbm, ⟨2, _⟩ => ⟨S4x1024, .f32⟩
  | .hbm, ⟨3, _⟩ => ⟨S1024x6144, .f32⟩
  | .hbm, ⟨4, _⟩ => ⟨S4x2x6x1024, .f32⟩
  | .hbm, ⟨5, _⟩ => ⟨S_, .i32⟩
  | .hbm, ⟨6, _⟩ => ⟨S_, .f32⟩
  | .hbm, ⟨7, _⟩ => ⟨S4x2x8x1024, .f32⟩
  | .hbm, ⟨8, _⟩ => ⟨S4x1x1024, .f32⟩
  | .hbm, ⟨9, _⟩ => ⟨S1024x6144, .bf16⟩
  | .hbm, ⟨10, _⟩ => ⟨S1024x4x1536, .bf16⟩
  | .hbm, ⟨11, _⟩ => ⟨S4x1024x1536, .bf16⟩
  | .hbm, ⟨12, _⟩ => ⟨S8192x1024, .bf16⟩
  | .hbm, ⟨13, _⟩ => ⟨S8192x6144, .bf16⟩
  | .local _ .vmem, ⟨0, _⟩ => ⟨S512x1024, .f32⟩
  | .local _ .vmem, ⟨1, _⟩ => ⟨S512x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1x1024, .f32⟩
  | .local _ .vmem, ⟨5, _⟩ => ⟨S4x1024x1536, .bf16⟩
  | .local _ .vmem, ⟨6, _⟩ => ⟨S512x1024, .bf16⟩
  | .local _ .vmem, ⟨7, _⟩ => ⟨S512x1024, .bf16⟩
  | .local _ .vmem, ⟨8, _⟩ => ⟨S512x6144, .bf16⟩
  | .local _ .vmem, ⟨9, _⟩ => ⟨S512x6144, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x1024 : Shape := ⟨2, ![8192, 1024]⟩
abbrev S4x2x6144 : Shape := ⟨3, ![4, 2, 6144]⟩
abbrev S4x1024 : Shape := ⟨2, ![4, 1024]⟩
abbrev S1024x6144 : Shape := ⟨2, ![1024, 6144]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S1x1024 : Shape := ⟨2, ![1, 1024]⟩
abbrev S1024 : Shape := ⟨1, ![1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x6144 : Shape := ⟨2, ![8192, 6144]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x6144, .f32⟩
  | .hbm, ⟨2, _⟩ => ⟨S4x1024, .f32⟩
  | .hbm, ⟨3, _⟩ => ⟨S1024x6144, .f32⟩
  | .hbm, ⟨4, _⟩ => ⟨S1x2x6144, .f32⟩
  | .hbm, ⟨5, _⟩ => ⟨S2x6144, .f32⟩
  | .hbm, ⟨6, _⟩ => ⟨S2x1x6144, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S1x1024, .f32⟩
  | .hbm, ⟨14, _⟩ => ⟨S1024, .f32⟩
  | .hbm, ⟨15, _⟩ => ⟨S2x4096x1024, .f32⟩
  | .hbm, ⟨16, _⟩ => ⟨S2x4096x1024, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x1024, .f32⟩
  | .hbm, ⟨28, _⟩ => ⟨S2x4096x1024, .f32⟩
  | .hbm, ⟨29, _⟩ => ⟨S1x1x1024, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S8192x1024, .f32⟩
  | .hbm, ⟨40, _⟩ => ⟨S8192x6144, .f32⟩
  | .hbm, ⟨41, _⟩ => ⟨S8192x1024, .bf16⟩
  | .hbm, ⟨42, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel9.lean ====
abbrev S8192x1024 : Shape := ⟨2, ![8192, 1024]⟩
abbrev S4x2x6144 : Shape := ⟨3, ![4, 2, 6144]⟩
abbrev S8192x6144 : Shape := ⟨2, ![8192, 6144]⟩
abbrev S1024x1024 : Shape := ⟨2, ![1024, 1024]⟩
abbrev S4x2x6x1024 : Shape := ⟨4, ![4, 2, 6, 1024]⟩
abbrev S_ : Shape := ⟨0, ![]⟩
abbrev S4x2x8x1024 : Shape := ⟨4, ![4, 2, 8, 1024]⟩
abbrev S4x256x1024 : Shape := ⟨3, ![4, 256, 1024]⟩
abbrev S512x1024 : Shape := ⟨2, ![512, 1024]⟩
abbrev S1x1x8x1024 : Shape := ⟨4, ![1, 1, 8, 1024]⟩
abbrev S1x1x1x1024 : Shape := ⟨4, ![1, 1, 1, 1024]⟩
abbrev S1x1024 : Shape := ⟨2, ![1, 1024]⟩

abbrev nBuf : Space → Nat
  | .hbm => 26
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S4x2x6144, .f32⟩
  | .hbm, ⟨2, _⟩ => ⟨S8192x6144, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x2x6x1024, .f32⟩
  | .hbm, ⟨9, _⟩ => ⟨S_, .i32⟩
  | .hbm, ⟨10, _⟩ => ⟨S_, .f32⟩
  | .hbm, ⟨11, _⟩ => ⟨S4x2x8x1024, .f32⟩
  | .hbm, ⟨12, _⟩ => ⟨S8192x6144, .bf16⟩
  | .hbm, ⟨13, _⟩ => ⟨S8192x1024, .bf16⟩
  | .hbm, ⟨14, _⟩ => ⟨S8192x1024, .bf16⟩
  | .hbm, ⟨15, _⟩ => ⟨S1024x1024, .bf16⟩
  | .hbm, ⟨16, _⟩ => ⟨S4x256x1024, .bf16⟩
  | .hbm, ⟨17, _⟩ => ⟨S1024x1024, .bf16⟩
  | .hbm, ⟨18, _⟩ => ⟨S4x256x1024, .bf16⟩
  | .hbm, ⟨19, _⟩ => ⟨S1024x1024, .bf16⟩
  | .hbm, ⟨20, _⟩ => ⟨S4x256x1024, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S4x256x1024, .bf16⟩
  | .local _ .vmem, ⟨13, _⟩ => ⟨S4x256x1024, .bf16⟩
  | .local _ .vmem, ⟨14, _⟩ => ⟨S4x256x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S8192x1024 : Shape := ⟨2, ![8192, 1024]⟩
abbrev S4x2x6144 : Shape := ⟨3, ![4, 2, 6144]⟩
abbrev S8192x6144 : Shape := ⟨2, ![8192, 6144]⟩
abbrev S1024x1024 : Shape := ⟨2, ![1024, 1024]⟩
abbrev S_ : Shape := ⟨0, ![]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S2x4096x1024 : Shape := ⟨3, ![2, 4096, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x6144, .f32⟩
  | .hbm, ⟨2, _⟩ => ⟨S8192x6144, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S8192x1024, .bf16⟩
  | .hbm, ⟨35, _⟩ => ⟨S8192x1024, .bf16⟩
  | .hbm, ⟨36, _⟩ => ⟨S1x2x6144, .f32⟩
  | .hbm, ⟨37, _⟩ => ⟨S2x6144, .f32⟩
  | .hbm, ⟨38, _⟩ => ⟨S2x1x6144, .f32⟩
  | .hbm, ⟨39, _⟩ => ⟨S2x1x1024, .f32⟩
  | .hbm, ⟨40, _⟩ => ⟨S2x1x1024, .f32⟩
  | .hbm, ⟨41, _⟩ => ⟨S2x1x1024, .f32⟩
  | .hbm, ⟨42, _⟩ => ⟨S2x1x1024, .f32⟩
  | .hbm, ⟨43, _⟩ => ⟨S2x1x1024, .f32⟩
  | .hbm, ⟨44, _⟩ => ⟨S2x1x1024, .f32⟩
  | .hbm, ⟨45, _⟩ => ⟨S2x4096x1024, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S2x4096x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel10.lean ====
abbrev S8192x1024 : Shape := ⟨2, ![8192, 1024]⟩
abbrev S4x2x6144 : Shape := ⟨3, ![4, 2, 6144]⟩
abbrev S4x1024 : Shape := ⟨2, ![4, 1024]⟩
abbrev S1024x4096 : Shape := ⟨2, ![1024, 4096]⟩
abbrev S4096x1024 : Shape := ⟨2, ![4096, 1024]⟩
abbrev S4x2x6x1024 : Shape := ⟨4, ![4, 2, 6, 1024]⟩
abbrev S_ : Shape := ⟨0, ![]⟩
abbrev S4x2x8x1024 : Shape := ⟨4, ![4, 2, 8, 1024]⟩
abbrev S4x1x1024 : Shape := ⟨3, ![4, 1, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S512x1024 : Shape := ⟨2, ![512, 1024]⟩
abbrev S1x1x8x1024 : Shape := ⟨4, ![1, 1, 8, 1024]⟩
abbrev S1x1x1024 : Shape := ⟨3, ![1, 1, 1024]⟩
abbrev S512x4096 : Shape := ⟨2, ![512, 4096]⟩
abbrev S1x1024 : Shape := ⟨2, ![1, 1024]⟩
abbrev S1x1x1x1024 : Shape := ⟨4, ![1, 1, 1, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S4x2x6144, .f32⟩
  | .hbm, ⟨2, _⟩ => ⟨S4x1024, .f32⟩
  | .hbm, ⟨3, _⟩ => ⟨S1024x4096, .f32⟩
  | .hbm, ⟨4, _⟩ => ⟨S4096x1024, .f32⟩
  | .hbm, ⟨5, _⟩ => ⟨S4x2x6x1024, .f32⟩
  | .hbm, ⟨6, _⟩ => ⟨S_, .i32⟩
  | .hbm, ⟨7, _⟩ => ⟨S_, .f32⟩
  | .hbm, ⟨8, _⟩ => ⟨S4x2x8x1024, .f32⟩
  | .hbm, ⟨9, _⟩ => ⟨S4x1x1024, .f32⟩
  | .hbm, ⟨10, _⟩ => ⟨S1024x4096, .bf16⟩
  | .hbm, ⟨11, _⟩ => ⟨S1024x4x1024, .bf16⟩
  | .hbm, ⟨12, _⟩ => ⟨S4x1024x1024, .bf16⟩
  | .hbm, ⟨13, _⟩ => ⟨S4096x1024, .bf16⟩
  | .hbm, ⟨14, _⟩ => ⟨S4x1024x1024, .bf16⟩
  | .hbm, ⟨15, _⟩ => ⟨S8192x1024, .bf16⟩
  | .hbm, ⟨16, _⟩ => ⟨S8192x4096, .bf16⟩
  | .hbm, ⟨17, _⟩ => ⟨S8192x1024, .bf16⟩
  | .hbm, ⟨18, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1x1024, .f32⟩
  | .local _ .vmem, ⟨5, _⟩ => ⟨S4x1024x1024, .bf16⟩
  | .local _ .vmem, ⟨6, _⟩ => ⟨S4x1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x1024 : Shape := ⟨2, ![8192, 1024]⟩
abbrev S4x2x6144 : Shape := ⟨3, ![4, 2, 6144]⟩
abbrev S4x1024 : Shape := ⟨2, ![4, 1024]⟩
abbrev S1024x4096 : Shape := ⟨2, ![1024, 4096]⟩
abbrev S4096x1024 : Shape := ⟨2, ![4096, 1024]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S1x1024 : Shape := ⟨2, ![1, 1024]⟩
abbrev S1024 : Shape := ⟨1, ![1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x4096 : Shape := ⟨2, ![8192, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x6144, .f32⟩
  | .hbm, ⟨2, _⟩ => ⟨S4x1024, .f32⟩
  | .hbm, ⟨3, _⟩ => ⟨S1024x4096, .f32⟩
  | .hbm, ⟨4, _⟩ => ⟨S4096x1024, .f32⟩
  | .hbm, ⟨5, _⟩ => ⟨S1x2x6144, .f32⟩
  | .hbm, ⟨6, _⟩ => ⟨S2x6144, .f32⟩
  | .hbm, ⟨7, _⟩ => ⟨S2x1x6144, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S1x1024, .f32⟩
  | .hbm, ⟨15, _⟩ => ⟨S1024, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S2x4096x1024, .f32⟩
  | .hbm, ⟨29, _⟩ => ⟨S2x4096x1024, .f32⟩
  | .hbm, ⟨30, _⟩ => ⟨S1x1x1024, .f32⟩
  | .hbm, ⟨31, _⟩ => ⟨S2x4096x1024, .f32⟩
  | .hbm, ⟨32, _⟩ => ⟨S2x4096x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S8192x1024, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S8192x1024, .f32⟩
  | .hbm, ⟨47, _⟩ => ⟨S8192x1024, .bf16⟩
  | .hbm, ⟨48, _⟩ => ⟨S8192x4096, .bf16⟩
  | .hbm, ⟨49, _⟩ => ⟨S8192x1024, .bf16⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_cst : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel11.lean ====
abbrev S4x1024x1536 : Shape := ⟨3, ![4, 1024, 1536]⟩
abbrev S4096x1536 : Shape := ⟨2, ![4096, 1536]⟩
abbrev S128x1536 : Shape := ⟨2, ![128, 1536]⟩

abbrev nBuf : Space → Nat
  | .hbm => 12
  | .vmem => 18
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | .local _ .vmem, ⟨17, _⟩ => ⟨S128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4x1024x1536 : Shape := ⟨3, ![4, 1024, 1536]⟩
abbrev S4096x1536 : Shape := ⟨2, ![4096, 1536]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S_, .f32⟩
  | .hbm, ⟨11, _⟩ => ⟨S4x1024x1536, .f32⟩
  | .hbm, ⟨12, _⟩ => ⟨S4x1024x1536, .f32⟩
  | .hbm, ⟨13, _⟩ => ⟨S4x1024x1536, .f32⟩
  | .hbm, ⟨14, _⟩ => ⟨S_, .f32⟩
  | .hbm, ⟨15, _⟩ => ⟨S4x1024x1536, .f32⟩
  | .hbm, ⟨16, _⟩ => ⟨S4x1024x1536, .f32⟩
  | .hbm, ⟨17, _⟩ => ⟨S4x1024x1536, .f32⟩
  | .hbm, ⟨18, _⟩ => ⟨S_, .f32⟩
  | .hbm, ⟨19, _⟩ => ⟨S4x1024x1536, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S_, .f32⟩
  | .hbm, ⟨26, _⟩ => ⟨S4x1024x1536, .f32⟩
  | .hbm, ⟨27, _⟩ => ⟨S4x1024x1536, .f32⟩
  | .hbm, ⟨28, _⟩ => ⟨S4x1024x1536, .f32⟩
  | .hbm, ⟨29, _⟩ => ⟨S_, .f32⟩
  | .hbm, ⟨30, _⟩ => ⟨S4x1024x1536, .f32⟩
  | .hbm, ⟨31, _⟩ => ⟨S4x1024x1536, .f32⟩
  | .hbm, ⟨32, _⟩ => ⟨S4x1024x1536, .f32⟩
  | .hbm, ⟨33, _⟩ => ⟨S_, .f32⟩
  | .hbm, ⟨34, _⟩ => ⟨S4x1024x1536, .f32⟩
  | .hbm, ⟨35, _⟩ => ⟨S4x1024x1536, .f32⟩
  | .hbm, ⟨36, _⟩ => ⟨S4x1024x1536, .f32⟩
  | .hbm, ⟨37, _⟩ => ⟨S_, .f32⟩
  | .hbm, ⟨38, _⟩ => ⟨S4x1024x1536, .f32⟩
  | .hbm, ⟨39, _⟩ => ⟨S4x1024x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel12.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4x1024x1024 : Shape := ⟨3, ![4, 1024, 1024]⟩
abbrev S4096x1024 : Shape := ⟨2, ![4096, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S_, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .hbm, ⟨14, _⟩ => ⟨S_, .f32⟩
  | .hbm, ⟨15, _⟩ => ⟨S4x1024x1024, .f32⟩
  | .hbm, ⟨16, _⟩ => ⟨S4x1024x1024, .f32⟩
  | .hbm, ⟨17, _⟩ => ⟨S4x1024x1024, .f32⟩
  | .hbm, ⟨18, _⟩ => ⟨S_, .f32⟩
  | .hbm, ⟨19, _⟩ => ⟨S4x1024x1024, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S_, .f32⟩
  | .hbm, ⟨26, _⟩ => ⟨S4x1024x1024, .f32⟩
  | .hbm, ⟨27, _⟩ => ⟨S4x1024x1024, .f32⟩
  | .hbm, ⟨28, _⟩ => ⟨S4x1024x1024, .f32⟩
  | .hbm, ⟨29, _⟩ => ⟨S_, .f32⟩
  | .hbm, ⟨30, _⟩ => ⟨S4x1024x1024, .f32⟩
  | .hbm, ⟨31, _⟩ => ⟨S4x1024x1024, .f32⟩
  | .hbm, ⟨32, _⟩ => ⟨S4x1024x1024, .f32⟩
  | .hbm, ⟨33, _⟩ => ⟨S_, .f32⟩
  | .hbm, ⟨34, _⟩ => ⟨S4x1024x1024, .f32⟩
  | .hbm, ⟨35, _⟩ => ⟨S4x1024x1024, .f32⟩
  | .hbm, ⟨36, _⟩ => ⟨S4x1024x1024, .f32⟩
  | .hbm, ⟨37, _⟩ => ⟨S_, .f32⟩
  | .hbm, ⟨38, _⟩ => ⟨S4x1024x1024, .f32⟩
  | .hbm, ⟨39, _⟩ => ⟨S4x1024x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel13.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 12
  | .vmem => 18
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4x256x1024 : Shape := ⟨3, ![4, 256, 1024]⟩
abbrev S1024x1024 : Shape := ⟨2, ![1024, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S_, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .hbm, ⟨14, _⟩ => ⟨S_, .f32⟩
  | .hbm, ⟨15, _⟩ => ⟨S4x256x1024, .f32⟩
  | .hbm, ⟨16, _⟩ => ⟨S4x256x1024, .f32⟩
  | .hbm, ⟨17, _⟩ => ⟨S4x256x1024, .f32⟩
  | .hbm, ⟨18, _⟩ => ⟨S_, .f32⟩
  | .hbm, ⟨19, _⟩ => ⟨S4x256x1024, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S_, .f32⟩
  | .hbm, ⟨26, _⟩ => ⟨S4x256x1024, .f32⟩
  | .hbm, ⟨27, _⟩ => ⟨S4x256x1024, .f32⟩
  | .hbm, ⟨28, _⟩ => ⟨S4x256x1024, .f32⟩
  | .hbm, ⟨29, _⟩ => ⟨S_, .f32⟩
  | .hbm, ⟨30, _⟩ => ⟨S4x256x1024, .f32⟩
  | .hbm, ⟨31, _⟩ => ⟨S4x256x1024, .f32⟩
  | .hbm, ⟨32, _⟩ => ⟨S4x256x1024, .f32⟩
  | .hbm, ⟨33, _⟩ => ⟨S_, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S_, .f32⟩
  | .hbm, ⟨38, _⟩ => ⟨S4x256x1024, .f32⟩
  | .hbm, ⟨39, _⟩ => ⟨S4x256x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel14.lean ====
abbrev S4x1024x1536 : Shape := ⟨3, ![4, 1024, 1536]⟩
abbrev S4096x1536 : Shape := ⟨2, ![4096, 1536]⟩
abbrev S128x1536 : Shape := ⟨2, ![128, 1536]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S4x1024x1536 : Shape := ⟨3, ![4, 1024, 1536]⟩
abbrev S_ : Shape := ⟨0, ![]⟩
abbrev S4096x1536 : Shape := ⟨2, ![4096, 1536]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel15.lean ====
abbrev S4800x128 : Shape := ⟨2, ![4800, 128]⟩
abbrev S1600x128 : Shape := ⟨2, ![1600, 128]⟩

abbrev nBuf : Space → Nat
  | .hbm => 8
  | .vmem => 16
  | .smem => 0
  | _ => 0

abbrev bufTy : (tb : Table) → Fin (tcTables nBuf tb) → BufTy
  | .hbm, ⟨0, _⟩ => ⟨S4800x128, .f32⟩
  | .hbm, ⟨1, _⟩ => ⟨S4800x128, .f32⟩
  | .hbm, ⟨2, _⟩ => ⟨S4800x128, .f32⟩
  | .hbm, ⟨3, _⟩ => ⟨S4800x128, .f32⟩
  | .hbm, ⟨4, _⟩ => ⟨S4800x128, .f32⟩
  | .hbm, ⟨5, _⟩ => ⟨S4800x128, .f32⟩
  | .hbm, ⟨6, _⟩ => ⟨S4800x128, .f32⟩
  | .hbm, ⟨7, _⟩ => ⟨S4800x128, .f32⟩
  | .local _ .vmem, ⟨0, _⟩ => ⟨S1600x128, .f32⟩
  | .local _ .vmem, ⟨1, _⟩ => ⟨S1600x128, .f32⟩
  | .local _ .vmem, ⟨2, _⟩ => ⟨S1600x128, .f32⟩
  | .local _ .vmem, ⟨3, _⟩ => ⟨S1600x128, .f32⟩
  | .local _ .vmem, ⟨4, _⟩ => ⟨S1600x128, .f32⟩
  | .local _ .vmem, ⟨5, _⟩ => ⟨S1600x128, .f32⟩
  | .local _ .vmem, ⟨6, _⟩ => ⟨S1600x128, .f32⟩
  | .local _ .vmem, ⟨7, _⟩ => ⟨S1600x128, .f32⟩
  | .local _ .vmem, ⟨8, _⟩ => ⟨S1600x128, .f32⟩
  | .local _ .vmem, ⟨9, _⟩ => ⟨S1600x128, .f32⟩
  | .local _ .vmem, ⟨10, _⟩ => ⟨S1600x128, .f32⟩
  | .local _ .vmem, ⟨11, _⟩ => ⟨S1600x128, .f32⟩
  | .local _ .vmem, ⟨12, _⟩ => ⟨S1600x128, .f32⟩
  | .local _ .vmem, ⟨13, _⟩ => ⟨S1600x128, .f32⟩
  | .local _ .vmem, ⟨14, _⟩ => ⟨S1600x128, .f32⟩
  | .local _ .vmem, ⟨15, _⟩ => ⟨S1600x128, .f32⟩
  | _, _ => ⟨S4800x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1600x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1600x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1600x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1600x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1600x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S4800x128 : Shape := ⟨2, ![4800, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4800x128, .f32⟩
  | .hbm, ⟨1, _⟩ => ⟨S4800x128, .f32⟩
  | .hbm, ⟨2, _⟩ => ⟨S4800x128, .f32⟩
  | .hbm, ⟨3, _⟩ => ⟨S4800x128, .f32⟩
  | .hbm, ⟨4, _⟩ => ⟨S_, .f32⟩
  | .hbm, ⟨5, _⟩ => ⟨S4800x128, .f32⟩
  | .hbm, ⟨6, _⟩ => ⟨S4800x128, .f32⟩
  | .hbm, ⟨7, _⟩ => ⟨S_, .f32⟩
  | .hbm, ⟨8, _⟩ => ⟨S4800x128, .f32⟩
  | .hbm, ⟨9, _⟩ => ⟨S4800x128, .f32⟩
  | .hbm, ⟨10, _⟩ => ⟨S4800x128, .f32⟩
  | .hbm, ⟨11, _⟩ => ⟨S_, .f32⟩
  | .hbm, ⟨12, _⟩ => ⟨S4800x128, .f32⟩
  | .hbm, ⟨13, _⟩ => ⟨S4800x128, .f32⟩
  | .hbm, ⟨14, _⟩ => ⟨S4800x128, .f32⟩
  | .hbm, ⟨15, _⟩ => ⟨S_, .f32⟩
  | .hbm, ⟨16, _⟩ => ⟨S4800x128, .f32⟩
  | .hbm, ⟨17, _⟩ => ⟨S4800x128, .f32⟩
  | .hbm, ⟨18, _⟩ => ⟨S4800x128, .f32⟩
  | .hbm, ⟨19, _⟩ => ⟨S_, .f32⟩
  | .hbm, ⟨20, _⟩ => ⟨S4800x128, .f32⟩
  | .hbm, ⟨21, _⟩ => ⟨S4800x128, .f32⟩
  | .hbm, ⟨22, _⟩ => ⟨S_, .f32⟩
  | .hbm, ⟨23, _⟩ => ⟨S4800x128, .f32⟩
  | .hbm, ⟨24, _⟩ => ⟨S4800x128, .f32⟩
  | .hbm, ⟨25, _⟩ => ⟨S4800x128, .f32⟩
  | .hbm, ⟨26, _⟩ => ⟨S_, .f32⟩
  | .hbm, ⟨27, _⟩ => ⟨S4800x128, .f32⟩
  | .hbm, ⟨28, _⟩ => ⟨S4800x128, .f32⟩
  | .hbm, ⟨29, _⟩ => ⟨S4800x128, .f32⟩
  | .hbm, ⟨30, _⟩ => ⟨S_, .f32⟩
  | .hbm, ⟨31, _⟩ => ⟨S4800x128, .f32⟩
  | .hbm, ⟨32, _⟩ => ⟨S4800x128, .f32⟩
  | .hbm, ⟨33, _⟩ => ⟨S4800x128, .f32⟩
  | .hbm, ⟨34, _⟩ => ⟨S_, .f32⟩
  | .hbm, ⟨35, _⟩ => ⟨S4800x128, .f32⟩
  | .hbm, ⟨36, _⟩ => ⟨S4800x128, .f32⟩
  | _, _ => ⟨S4800x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.SideFacts.lean ====
/-
  The shape relations which the mask and the two preconditions state.
-/
module

public import proofs.«01_k».proof.Defs

@[expose] public section

namespace Cert.SideFacts

open Idealize.ShloMosaic

instance onFacts : Cert.On_written.Facts := ⟨by decide, by decide, by decide⟩

instance finite2Facts : Cert.Pre_finite2.Facts :=
  ⟨by decide, by decide, by decide, by decide, by decide, by decide, by decide, by decide, by decide, by decide, by decide⟩

instance finite3Facts : Cert.Pre_finite3.Facts := by constructor <;> decide

end Cert.SideFacts
-- ==== Proof.RefFrames.lean ====
/-
  The references run on the host alone: they end, leave their arguments as they were, and use no semaphore.
-/
module

public import proofs.«01_k».proof.Defs
public import Idealize.ShloMosaic.Lib.Quiescent
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run

@[expose] public section

namespace Cert.RefFrames

open Idealize.ShloMosaic Idealize.SL.Sem

/-- The reference of program 1 ends with its arguments unchanged and every counter at zero. -/
theorem frame : Cert.quiescent_ReferenceIdeal := by
  intro m ρ _
  exact (θ_run Cert.ReferenceIdeal.defs _ _).mono (fun r h => ⟨fun c => (h c).2.2.2.2.2.2.2, sem_eq_zero_of_no_sems (by decide) r.2⟩)
    (Cert.ReferenceIdeal.Value.run m ρ)

/-- The reference of program 2 ends with its arguments unchanged and every counter at zero. -/
theorem frame2 : Cert.quiescent_Reference2Ideal := by
  intro m ρ _
  exact (θ_run Cert.Reference2Ideal.defs _ _).mono (fun r h => ⟨fun c => (h c).2.2.2.2.2, sem_eq_zero_of_no_sems (by decide) r.2⟩)
    (Cert.Reference2Ideal.Value.run m ρ)

/-- The reference of program 3 ends with its arguments unchanged and every counter at zero. -/
theorem frame3 : Cert.quiescent_Reference3Ideal := by
  intro m ρ _
  exact (θ_run Cert.Reference3Ideal.defs _ _).mono (fun r h => ⟨fun c => (h c).2.2.2, sem_eq_zero_of_no_sems (by decide) r.2⟩)
    (Cert.Reference3Ideal.Value.run m ρ)

/-- The reference of program 4 ends with its arguments unchanged and every counter at zero. -/
theorem frame4 : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run m ρ)

/-- The reference of program 5 ends with its arguments unchanged and every counter at zero. -/
theorem frame5 : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run m ρ)

/-- The reference of program 6 ends with its arguments unchanged and every counter at zero. -/
theorem frame6 : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run m ρ)

/-- The reference of program 7 ends with its arguments unchanged and every counter at zero. -/
theorem frame7 : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run m ρ)

/-- The reference of program 8 ends with its arguments unchanged and every counter at zero. -/
theorem frame8 : Cert.quiescent_Reference8Ideal := by
  intro m ρ _
  exact (θ_run Cert.Reference8Ideal.defs _ _).mono (fun r h => ⟨fun c => (h c).2.2, sem_eq_zero_of_no_sems (by decide) r.2⟩)
    (Cert.Reference8Ideal.Value.run m ρ)

/-- The reference of program 9 ends with its arguments unchanged and every counter at zero. -/
theorem frame9 : Cert.quiescent_Reference9Ideal := by
  intro m ρ _
  exact (θ_run Cert.Reference9Ideal.defs _ _).mono (fun r h => ⟨fun c => (h c).2.2.2.2.2, sem_eq_zero_of_no_sems (by decide) r.2⟩)
    (Cert.Reference9Ideal.Value.run m ρ)

/-- The reference of program 10 ends with its arguments unchanged and every counter at zero. -/
theorem frame10 : Cert.quiescent_Reference10Ideal := by
  intro m ρ _
  exact (θ_run Cert.Reference10Ideal.defs _ _).mono (fun r h => ⟨fun c => (h c).2.2.2.2, sem_eq_zero_of_no_sems (by decide) r.2⟩)
    (Cert.Reference10Ideal.Value.run m ρ)

/-- The reference of program 11 ends with its arguments unchanged and every counter at zero. -/
theorem frame11 : Cert.quiescent_Reference11Ideal := by
  intro m ρ _
  exact (θ_run Cert.Reference11Ideal.defs _ _).mono (fun r h => ⟨fun c => (h c).2.2.2.2, sem_eq_zero_of_no_sems (by decide) r.2⟩)
    (Cert.Reference11Ideal.Value.run m ρ)

/-- The reference of program 12 ends with its arguments unchanged and every counter at zero. -/
theorem frame12 : Cert.quiescent_Reference12Ideal := by
  intro m ρ _
  exact (θ_run Cert.Reference12Ideal.defs _ _).mono (fun r h => ⟨fun c => (h c).2.2.2.2, sem_eq_zero_of_no_sems (by decide) r.2⟩)
    (Cert.Reference12Ideal.Value.run m ρ)

/-- The reference of program 13 ends with its arguments unchanged and every counter at zero. -/
theorem frame13 : Cert.quiescent_Reference13Ideal := by
  intro m ρ _
  exact (θ_run Cert.Reference13Ideal.defs _ _).mono (fun r h => ⟨fun c => (h c).2.2.2.2, sem_eq_zero_of_no_sems (by decide) r.2⟩)
    (Cert.Reference13Ideal.Value.run m ρ)

/-- The reference of program 14 ends with its arguments unchanged and every counter at zero. -/
theorem frame14 : Cert.quiescent_Reference14Ideal := by
  intro m ρ _
  exact (θ_run Cert.Reference14Ideal.defs _ _).mono (fun r h => ⟨fun c => (h c).2.2.2.2, sem_eq_zero_of_no_sems (by decide) r.2⟩)
    (Cert.Reference14Ideal.Value.run m ρ)

/-- The reference of program 15 ends with its arguments unchanged and every counter at zero. -/
theorem frame15 : Cert.quiescent_Reference15Ideal := by
  intro m ρ _
  exact (θ_run Cert.Reference15Ideal.defs _ _).mono (fun r h => ⟨fun c => (h c).2.2.2.2, sem_eq_zero_of_no_sems (by decide) r.2⟩)
    (Cert.Reference15Ideal.Value.run m ρ)

end Cert.RefFrames
-- ==== Proof.Tools.lean ====
/-
  Shared reading lemmas, at the ideal instance: a one-axis product as a sum over its coordinate, a block of rows of a
  tall matrix, and the sum over a tall matrix's rows split into blocks.
-/
module

public import Idealize.ShloMosaic.Lib.Pipeline.Value
public import Idealize.ShloMosaic.Lib.ValueIdx
public import Idealize.ShloMosaic.PureOps.Ideal.Laws

@[expose] public section

noncomputable section

namespace Cert.Tools

open Idealize.ShloMosaic Idealize.ShloMosaic.ValueIdx

/-- A rank-2 index is determined by its coordinates' values. -/
theorem ix2_ext {n m : ℕ} {x y : (⟨2, ![n, m]⟩ : Shape).Idx} (h0 : (x 0).val = (y 0).val) (h1 : (x 1).val = (y 1).val) : x = y :=
  Shape.idx_ext₂ h0 h1

theorem ix3_ext {n m k : ℕ} {x y : (⟨3, ![n, m, k]⟩ : Shape).Idx} (h0 : (x 0).val = (y 0).val) (h1 : (x 1).val = (y 1).val)
    (h2 : (x 2).val = (y 2).val) : x = y := by
  funext a; match a with
  | ⟨0, _⟩ => exact Fin.ext h0
  | ⟨1, _⟩ => exact Fin.ext h1
  | ⟨2, _⟩ => exact Fin.ext h2

theorem ix4_ext {n m k l : ℕ} {x y : (⟨4, ![n, m, k, l]⟩ : Shape).Idx} (h0 : (x 0).val = (y 0).val) (h1 : (x 1).val = (y 1).val)
    (h2 : (x 2).val = (y 2).val) (h3 : (x 3).val = (y 3).val) : x = y := by
  funext a; match a with
  | ⟨0, _⟩ => exact Fin.ext h0
  | ⟨1, _⟩ => exact Fin.ext h1
  | ⟨2, _⟩ => exact Fin.ext h2
  | ⟨3, _⟩ => exact Fin.ext h3

/-- Rows `t * b … t * b + b - 1` of a matrix of `R` rows. -/
def blk {α : Type} {R b w : ℕ} (t : ℕ) (h : t * b + b ≤ R) (X : (⟨2, ![R, w]⟩ : Shape).Idx → α) :
    (⟨2, ![b, w]⟩ : Shape).Idx → α :=
  fun j => X (ix2 ⟨t * b + (j 0).val, by have := idx2_lt0 j; omega⟩ (j 1))

theorem blk_apply {α : Type} {R b w : ℕ} (t : ℕ) (h : t * b + b ≤ R) (X : (⟨2, ![R, w]⟩ : Shape).Idx → α) (r : Fin b) (c : Fin w) :
    blk t h X (ix2 r c) = X (ix2 ⟨t * b + r.val, by omega⟩ c) := rfl

/-- Two matrices with the same entries are the same. -/
theorem ext2 {α : Type} {n m : ℕ} {f g : (⟨2, ![n, m]⟩ : Shape).Idx → α} (H : ∀ r c, f (ix2 r c) = g (ix2 r c)) : f = g := by
  funext j; rw [eq_ix2 j]; exact H _ _

/-- One row, repeated down a matrix. -/
theorem bcast_row {α : Type} {b w : ℕ} (v : (⟨2, ![1, w]⟩ : Shape).Idx → α) (hb : (⟨2, ![1, w]⟩ : Shape).Broadcasts ⟨2, ![b, w]⟩)
    (r : Fin b) (c : Fin w) : broadcastTo ⟨2, ![b, w]⟩ v hb (ix2 r c) = v (ix2 0 c) :=
  broadcastTo_apply v hb (ix2 r c) (ix2 0 c) (fun a => match a with
    | ⟨0, _⟩ => rfl
    | ⟨1, _⟩ => by
      show c.val = if w = 1 then 0 else c.val
      split <;> omega)

/-- The column sums of a block. -/
theorem colsum_apply {φ : FTy} {b w : ℕ} (src : FVec Ideal ⟨2, ![b, w]⟩ φ) (acc : BitVec φ.bits)
    (h : (⟨2, ![b, w]⟩ : Shape).Reduces [0] ⟨1, ![w]⟩) (hφ : FKind.Formats φ) (hacc : acc = FKind.add.neutral φ hφ) (c : Fin w) :
    multiReduction .add [0] ⟨1, ![w]⟩ src acc h hφ hacc (ix1 c) = ∑ r : Fin b, src (ix2 r c) := by
  rw [Ideal.multiReduction_add_single]
  refine Finset.sum_congr rfl fun k _ => congrArg src ?_
  exact ix2_ext rfl rfl

/-- A product with one contracted axis, at an index: the sum over that axis's coordinate of the operands read where
    the caller says. -/
theorem matmul_sum {sl sr so : Shape} {φ₁ φ₂ : FTy} (d : DotDims sl sr so) (K : ℕ) (hr : d.contr.rank = 1)
    (hs : d.contr.size ⟨0, by omega⟩ = K) (L : FVec Ideal sl φ₁) (R : FVec Ideal sr φ₁) (acc : FVec Ideal so φ₂) (j : so.Idx)
    (li : Fin K → sl.Idx) (ri : Fin K → sr.Idx)
    (hl : ∀ q : d.contr.Idx, d.lhsIdx j q = li ((q ⟨0, by omega⟩).cast hs))
    (hrr : ∀ q : d.contr.Idx, d.rhsIdx j q = ri ((q ⟨0, by omega⟩).cast hs)) :
    matmul d none L R acc j = acc j + ∑ k : Fin K, L (li k) * R (ri k) := by
  simp only [matmul]
  rw [Ideal.matmul_apply, ← Equiv.sum_comp (contrEquiv1 d K hr hs).symm]
  congr 1
  refine Finset.sum_congr rfl fun k _ => ?_
  rw [hl, hrr]
  have e : (((contrEquiv1 d K hr hs).symm k) ⟨0, by omega⟩).cast hs = k := Fin.ext (contrEquiv1_symm_val d K hr hs k)
  rw [e]

/-- The rows of `n` blocks of `b` rows, summed block by block. -/
theorem sum_blocks {M : Type} [AddCommMonoid M] (n b : ℕ) (f : ℕ → M) :
    ∑ s ∈ Finset.range n, ∑ r ∈ Finset.range b, f (s * b + r) = ∑ k ∈ Finset.range (n * b), f k := by
  induction n with
  | zero => simp
  | succ n ih => rw [Finset.sum_range_succ, ih, Nat.succ_mul, Finset.sum_range_add]

end Cert.Tools
-- ==== Proof.MergeRef.lean ====
/-
  The reference of the gated merge's backward pass, read at an index: each stage a kernel's block is compared with, from
  the stages before it.
-/
module

public import proofs.«01_k».proof.Proof.Gen.ReferenceIdeal.Read
public import proofs.«01_k».proof.Proof.Tools

@[expose] public section

noncomputable section

namespace Cert.MergeRef

open Cert.ReferenceIdeal Cert.ReferenceIdeal.Gen Cert.ReferenceIdeal.Read Cert.Tools
open Idealize.ShloMosaic Idealize.ShloMosaic.ValueIdx

abbrev Arr (s : Shape) : Type := (⟨s, .f32⟩ : BufTy).Contents (Elt Ideal)

variable (x0 x2 x3 : Arr S8192x1024) (x1 : Arr S4x2x6144) (x4 : Arr S8192x2048) (x5 x6 x7 : Arr S1024x1024)

/-- The gate of the residual, at a token's sequence. -/
theorem gate_apply (i : S2x4096x1024.Idx) :
    val_main_v43 (F := Ideal) x1 i = x1 (ix3 0 ⟨(i 0).val, (i 0).isLt⟩ ⟨2048 + (i 2).val, by have : (i 2).val < 1024 := (i 2).isLt; omega⟩) := by
  simp only [val_main_v43_apply, val_main_v5_apply, val_main_v2_apply, val_main_v1_apply, val_main_v0_apply]
  congr 1
  apply ix3_ext
  · rfl
  · have h0 := (i 0).isLt
    have h2 := (i 2).isLt
    dsimp [idx_main_v0, idx_main_v1, idx_main_v2, idx_main_v5, idx_main_v43] at *
    omega
  · have h0 := (i 0).isLt
    have h2 := (i 2).isLt
    dsimp [idx_main_v0, idx_main_v1, idx_main_v2, idx_main_v5, idx_main_v43] at *
    omega

/-- The gradient of the sub-layer's output. -/
theorem do_apply (i : S8192x1024.Idx) :
    val_main_v48 (F := Ideal) x0 x1 i
      = x1 (ix3 0 ⟨(i 0).val / 4096, by have : (i 0).val < 8192 := (i 0).isLt; omega⟩
          ⟨2048 + (i 1).val, by have : (i 1).val < 1024 := (i 1).isLt; omega⟩) * x0 i := by
  simp only [val_main_v48_apply, val_main_v44_apply, gate_apply, val_main_v42_apply]
  have h0 : (i 0).val < 8192 := (i 0).isLt
  have h1 : (i 1).val < 1024 := (i 1).isLt
  show _ * _ = _ * _
  congr 2
  · apply ix3_ext
    · rfl
    · show ((i 0).val * 1024 + (i 1).val) / 4194304 = (i 0).val / 4096; omega
    · show 2048 + ((i 0).val * 1024 + (i 1).val) % 1024 = 2048 + (i 1).val; omega
  · apply ix2_ext <;> dsimp [idx_main_v42, idx_main_v48] at * <;> omega

end Cert.MergeRef
-- ==== Proof.MergePay.lean ====
/-
  The gated merge's backward kernel, one grid point: every value the body computes from its blocks is the point's block
  of rows of a stage of the reference.
-/
module

public import proofs.«01_k».proof.Proof.Gen.KernelIdeal.Skeleton
public import proofs.«01_k».proof.Proof.MergeRef

@[expose] public section

noncomputable section

namespace Cert.MergePay

open Cert.KernelIdeal Cert.KernelIdeal.Gen Cert.ReferenceIdeal.Read Cert.Tools Cert.MergeRef
open Idealize.ShloMosaic Idealize.ShloMosaic.ValueIdx

/-- The block product of the body, transposed on the right, at an index. -/
theorem mm_apply (a : FVec Ideal S512x1024 .bf16) (b : FVec Ideal S1024x1024 .bf16) (j : S512x1024.Idx) :
    matmul (F := Ideal) dot_S512x1024_S1024x1024_S512x1024_1_1_0_0_n_n none a b (constant S512x1024 .f32 0x00000000#32) j
      = ∑ k : Fin 1024, a (ix2 (j 0) k) * b (ix2 (j 1) k) := by
  rw [matmul_sum dot_S512x1024_S1024x1024_S512x1024_1_1_0_0_n_n 1024 rfl rfl a b _ j (fun k => ix2 (j 0) k) (fun k => ix2 (j 1) k)
    (fun q => ix2_ext rfl rfl) (fun q => ix2_ext rfl rfl)]
  rw [constant_apply, Ideal.ofBits_zero_f32, zero_add]

/-- The gates' columns of the projection, as the kernel reads them. -/
def gateA (x4 : Arr S8192x2048) : Arr S8192x1024 := fun i => x4 (ix2 (i 0) ⟨(i 1).val, by have := idx2_lt1 i; omega⟩)
def gateB (x4 : Arr S8192x2048) : Arr S8192x1024 := fun i => x4 (ix2 (i 0) ⟨1024 + (i 1).val, by have := idx2_lt1 i; omega⟩)

variable (x0 x2 x3 : Arr S8192x1024) (x1 : Arr S4x2x6144) (x4 : Arr S8192x2048) (x5 x6 x7 : Arr S1024x1024)
variable (t : ℕ) (h : t * 512 + 512 ≤ 8192)

/-- The gradient of the sub-layer's output. -/
theorem pay7 (v26 : Vec Ideal S1x1x1x1024 .f32)
    (hv : ∀ c : Fin 1024, v26 (ix4 0 0 0 c) = x1 (ix3 0 ⟨t * 512 / 4096, by omega⟩ ⟨2048 + c.val, by omega⟩)) :
    k0_pay7 (F := Ideal) (blk t h x0) v26 = blk t h (val_main_v48 (F := Ideal) x0 x1) := by
  refine ext2 fun r c => ?_
  show blk t h x0 (ix2 r c) * broadcastTo S512x1024 (shapeCast S1x1024 v26 shapeCasts_S1x1x1x1024_S1x1024) broadcasts_S1x1024_S512x1024 (ix2 r c)
    = blk t h (val_main_v48 (F := Ideal) x0 x1) (ix2 r c)
  rw [bcast_row, shapeCast_apply _ _ _ (ix4 0 0 0 c) (by simp [Shape.rowMajor_val_two, Shape.rowMajor_val_four]), hv, mul_comm, blk_apply, blk_apply,
    do_apply]
  congr 2
  apply ix3_ext
  · rfl
  · dsimp; omega
  · rfl

/-- A block of rows times a transposed weight, stacked in four, is the block of the whole product. -/
theorem mm_blk (X : Arr S8192x1024) (W : Arr S1024x1024) (hc : S1024x1024.ShapeCasts S4x256x1024) (j : S512x1024.Idx) :
    matmul (F := Ideal) dot_S512x1024_S1024x1024_S512x1024_1_1_0_0_n_n none (blk t h X : FVec Ideal S512x1024 .bf16)
        (shapeCast S1024x1024 (shapeCast S4x256x1024 (shapeCast S4x256x1024 W hc) shapeCasts_S4x256x1024_S4x256x1024)
          shapeCasts_S4x256x1024_S1024x1024 : FVec Ideal S1024x1024 .bf16) (constant S512x1024 .f32 0x00000000#32) j
      = ∑ k : Fin 1024, X (ix2 ⟨t * 512 + (j 0).val, by have := idx2_lt0 j; omega⟩ k) * W (ix2 (j 1) k) := by
  rw [shapeCast_self, shapeCast_shapeCast, mm_apply]
  rfl

/-- The gradient of the merged rows. -/
theorem pay8 (hc : S1024x1024.ShapeCasts S4x256x1024) :
    k0_pay8 (F := Ideal) (blk t h (val_main_v48 (F := Ideal) x0 x1)) (shapeCast S4x256x1024 x7 hc)
      = blk t h (val_main_v49 (F := Ideal) x0 x1 x7) := by
  funext j
  refine (mm_blk t h _ x7 hc j).trans ?_
  show _ = val_main_v49 (F := Ideal) x0 x1 x7 (ix2 _ _)
  rw [val_main_v49_apply]
  refine Finset.sum_congr rfl fun k _ => ?_
  congr 2 <;> exact ix2_ext rfl rfl

/-- The kernel's logistic is the reference's. -/
theorem pay9 : k0_pay9 (F := Ideal) (blk t h (gateA x4)) = blk t h (val_main_v18 (F := Ideal) x4) := by
  refine ext2 fun r c => ?_
  have e : k0_pay9 (F := Ideal) (blk t h (gateA x4)) (ix2 r c)
      = Ideal.div (Ideal.ofBits .f32 0x3F800000#32) (Ideal.ofBits .f32 0x3F800000#32
          + Ideal.exp (Ideal.ofBits .f32 0x00000000#32 - shapeCast S512x1024 (blk t h (gateA x4)) shapeCasts_S512x1024_S512x1024 (ix2 r c))) := rfl
  rw [e, shapeCast_self, Ideal.ofBits_zero_f32, zero_sub, blk_apply, blk_apply]
  simp only [val_main_v18_apply, val_main_v17_apply, val_main_v16_apply, val_main_v15_apply, val_main_v14_apply, val_main_v13_apply,
    val_main_v11_apply, val_main_cst_apply, val_main_cst_0_apply]
  show Ideal.div _ (_ + Ideal.exp (-x4 _)) = Ideal.div _ (_ + Ideal.exp (-x4 _))
  congr 5
  exact ix2_ext rfl rfl

theorem pay10 : k0_pay10 (F := Ideal) (blk t h (gateB x4)) = blk t h (val_main_v28 (F := Ideal) x4) := by
  refine ext2 fun r c => ?_
  have e : k0_pay10 (F := Ideal) (blk t h (gateB x4)) (ix2 r c)
      = Ideal.div (Ideal.ofBits .f32 0x3F800000#32) (Ideal.ofBits .f32 0x3F800000#32
          + Ideal.exp (Ideal.ofBits .f32 0x00000000#32 - shapeCast S512x1024 (blk t h (gateB x4)) shapeCasts_S512x1024_S512x1024 (ix2 r c))) := rfl
  rw [e, shapeCast_self, Ideal.ofBits_zero_f32, zero_sub, blk_apply, blk_apply]
  simp only [val_main_v28_apply, val_main_v27_apply, val_main_v26_apply, val_main_v25_apply, val_main_v24_apply, val_main_v23_apply,
    val_main_v12_apply, val_main_cst_2_apply, val_main_cst_3_apply]
  show Ideal.div _ (_ + Ideal.exp (-x4 _)) = Ideal.div _ (_ + Ideal.exp (-x4 _))
  congr 5
  exact ix2_ext rfl rfl

/-- The gradients of the two branches' projected rows. -/
theorem pay11 (hc : S1024x1024.ShapeCasts S4x256x1024) :
    k0_pay11 (F := Ideal) (blk t h (val_main_v48 (F := Ideal) x0 x1)) (shapeCast S4x256x1024 x7 hc) (blk t h (gateA x4))
      = blk t h (val_main_v53 (F := Ideal) x0 x1 x4 x7) := by
  refine ext2 fun r c => ?_
  show k0_pay8 (F := Ideal) _ _ (ix2 r c) * k0_pay9 (F := Ideal) _ (ix2 r c) = _
  rw [pay8, pay9, mul_comm]
  rfl

theorem pay12 (hc : S1024x1024.ShapeCasts S4x256x1024) :
    k0_pay12 (F := Ideal) (blk t h (val_main_v48 (F := Ideal) x0 x1)) (shapeCast S4x256x1024 x7 hc) (blk t h (gateB x4))
      = blk t h (val_main_v50 (F := Ideal) x0 x1 x4 x7) := by
  refine ext2 fun r c => ?_
  show k0_pay8 (F := Ideal) _ _ (ix2 r c) * k0_pay10 (F := Ideal) _ (ix2 r c) = _
  rw [pay8, pay10, mul_comm]
  rfl

/-- The gradients of the branches' own rows. -/
theorem pay3 (hc : S1024x1024.ShapeCasts S4x256x1024) :
    k0_pay3 (F := Ideal) (blk t h (val_main_v53 (F := Ideal) x0 x1 x4 x7)) (shapeCast S4x256x1024 x5 hc)
      = blk t h (val_main_v60 (F := Ideal) x0 x1 x4 x5 x7) := by
  refine ext2 fun r c => ?_
  refine (mm_blk t h _ x5 hc (ix2 r c)).trans ?_
  rw [blk_apply, val_main_v60_apply]
  refine Finset.sum_congr rfl fun k _ => ?_
  congr 2 <;> exact ix2_ext rfl rfl

theorem pay4 (hc : S1024x1024.ShapeCasts S4x256x1024) :
    k0_pay4 (F := Ideal) (blk t h (val_main_v50 (F := Ideal) x0 x1 x4 x7)) (shapeCast S4x256x1024 x6 hc)
      = blk t h (val_main_v61 (F := Ideal) x0 x1 x4 x6 x7) := by
  refine ext2 fun r c => ?_
  refine (mm_blk t h _ x6 hc (ix2 r c)).trans ?_
  rw [blk_apply, val_main_v61_apply]
  refine Finset.sum_congr rfl fun k _ => ?_
  congr 2 <;> exact ix2_ext rfl rfl

/-- The gradients of the two gates' columns. -/
theorem pay1 (hc : S1024x1024.ShapeCasts S4x256x1024) :
    k0_pay1 (F := Ideal) (k0_pay9 (blk t h (gateA x4)))
        (k0_pay13 (blk t h (val_main_v48 (F := Ideal) x0 x1)) (shapeCast S4x256x1024 x7 hc) (blk t h (gateA x4))
          (blk t h (val_main_v9 (F := Ideal) x2 x5))) k0_pay14
      = blk t h (val_main_v55 (F := Ideal) x0 x1 x2 x4 x5 x7) := by
  refine ext2 fun r c => ?_
  show k0_pay8 (F := Ideal) _ _ (ix2 r c) * shapeCast S512x1024 (blk t h (val_main_v9 (F := Ideal) x2 x5)) shapeCasts_S512x1024_S512x1024 (ix2 r c)
      * k0_pay9 (F := Ideal) _ (ix2 r c) * (Ideal.ofBits .f32 0x3F800000#32 - k0_pay9 (F := Ideal) _ (ix2 r c)) = _
  rw [pay8, pay9, shapeCast_self, mul_assoc]
  rfl

theorem pay2 (hc : S1024x1024.ShapeCasts S4x256x1024) :
    k0_pay2 (F := Ideal) (k0_pay8 (blk t h (val_main_v48 (F := Ideal) x0 x1)) (shapeCast S4x256x1024 x7 hc)) (k0_pay10 (blk t h (gateB x4)))
          (blk t h (val_main_v10 (F := Ideal) x3 x6))
      = blk t h (val_main_v52 (F := Ideal) x0 x1 x3 x4 x6 x7) := by
  refine ext2 fun r c => ?_
  show k0_pay8 (F := Ideal) _ _ (ix2 r c) * shapeCast S512x1024 (blk t h (val_main_v10 (F := Ideal) x3 x6)) shapeCasts_S512x1024_S512x1024 (ix2 r c)
      * k0_pay10 (F := Ideal) _ (ix2 r c) * (Ideal.ofBits .f32 0x3F800000#32 - k0_pay10 (F := Ideal) _ (ix2 r c)) = _
  rw [pay8, pay10, shapeCast_self, mul_assoc]
  rfl

/-- The gate's gradient row after a point: what it held, plus the block's column sums. -/
theorem pay6 (v14 : Vec Ideal S1x1x1024 .f32) (c : Fin 1024) :
    k0_pay6 (F := Ideal) (blk t h x0) v14 (blk t h (val_main_v34 (F := Ideal) x2 x3 x4 x5 x6 x7)) (ix3 0 0 c)
      = v14 (ix3 0 0 c) + ∑ r : Fin 512, x0 (ix2 ⟨t * 512 + r.val, by omega⟩ c)
          * val_main_v34 (F := Ideal) x2 x3 x4 x5 x6 x7 (ix2 ⟨t * 512 + r.val, by omega⟩ c) := by
  have e : k0_pay6 (F := Ideal) (blk t h x0) v14 (blk t h (val_main_v34 (F := Ideal) x2 x3 x4 x5 x6 x7))
      = shapeCast S1x1x1024 (addf (F := Ideal) (φ := .f32) (shapeCast S1x1024 v14 shapeCasts_S1x1x1024_S1x1024)
          (shapeCast S1x1024 (multiReduction (F := Ideal) (φ := .f32) .add [0] S1024 (mulf (F := Ideal) (φ := .f32) (blk t h x0)
              (shapeCast S512x1024 (blk t h (val_main_v34 (F := Ideal) x2 x3 x4 x5 x6 x7)) shapeCasts_S512x1024_S512x1024))
              0x00000000#32 reduces_S512x1024_S1024 (.inl rfl) rfl) shapeCasts_S1024_S1x1024)) shapeCasts_S1x1024_S1x1x1024 := rfl
  rw [e, shapeCast_apply _ _ _ (ix2 0 c) (by simp [Shape.rowMajor_val_two, Shape.rowMajor_val_three]), addf_apply,
    shapeCast_apply _ _ _ (ix3 0 0 c) (by simp [Shape.rowMajor_val_two, Shape.rowMajor_val_three]),
    shapeCast_apply _ _ _ (ix1 c) (by simp [Shape.rowMajor_val_two, Shape.rowMajor_val_one]), shapeCast_self]
  exact congrArg (v14 (ix3 0 0 c) + ·) (colsum_apply _ _ reduces_S512x1024_S1024 (.inl rfl) rfl c)

end Cert.MergePay
-- ==== Proof.MergeHost.lean ====
/-
  The arrays the merge's backward region finds: the arguments, and what the host lines before the region make of them
  (the saved forward values from the reference's own forward lines, the stacked weights, the padded modulation rows).
-/
module

public import proofs.«01_k».proof.Proof.Gen.KernelIdeal.Frame
public import proofs.«01_k».proof.Proof.MergePay
public import Idealize.ShloMosaic.Lib.KernelVsHost

@[expose] public section

noncomputable section

namespace Cert.MergeHost

open Cert.KernelIdeal Cert.KernelIdeal.Gen Cert.ReferenceIdeal.Read Cert.Tools Cert.MergeRef Cert.MergePay
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev A0 (c : Dev nD) : Arr S8192x1024 := m ((c : Thread nD τ).loc main_arg0)
abbrev A1 (c : Dev nD) : Arr S4x2x6144 := m ((c : Thread nD τ).loc main_arg1)
abbrev A2 (c : Dev nD) : Arr S8192x1024 := m ((c : Thread nD τ).loc main_arg2)
abbrev A3 (c : Dev nD) : Arr S8192x1024 := m ((c : Thread nD τ).loc main_arg3)
abbrev A4 (c : Dev nD) : Arr S8192x2048 := m ((c : Thread nD τ).loc main_arg4)
abbrev A5 (c : Dev nD) : Arr S1024x1024 := m ((c : Thread nD τ).loc main_arg5)
abbrev A6 (c : Dev nD) : Arr S1024x1024 := m ((c : Thread nD τ).loc main_arg6)
abbrev A7 (c : Dev nD) : Arr S1024x1024 := m ((c : Thread nD τ).loc main_arg7)

theorem V_o (c : Dev nD) : (V m c main_v25 : S8192x1024.Idx → EReal) = val_main_v34 (F := Ideal) (A2 m c) (A3 m c) (A4 m c) (A5 m c) (A6 m c) (A7 m c) := by
  unfold_abbrev_sides
  simp only [List.flatten_cons, List.flatten_nil, List.cons_append, List.nil_append, List.append_nil]
  after_results
  rfl

theorem V_ya (c : Dev nD) : (V m c main_v26 : S8192x1024.Idx → EReal) = val_main_v9 (F := Ideal) (A2 m c) (A5 m c) := by
  unfold_abbrev_sides
  simp only [List.flatten_cons, List.flatten_nil, List.cons_append, List.nil_append, List.append_nil]
  after_results
  rfl

theorem V_yb (c : Dev nD) : (V m c main_v27 : S8192x1024.Idx → EReal) = val_main_v10 (F := Ideal) (A3 m c) (A6 m c) := by
  unfold_abbrev_sides
  simp only [List.flatten_cons, List.flatten_nil, List.cons_append, List.nil_append, List.append_nil]
  after_results
  rfl

theorem V_wa (c : Dev nD) : (V m c main_v30 : S4x256x1024.Idx → EReal) = shapeCast S4x256x1024 (A5 m c) shapeCasts_S1024x1024_S4x256x1024 := by
  unfold_abbrev_sides
  simp only [List.flatten_cons, List.flatten_nil, List.cons_append, List.nil_append, List.append_nil]
  after_results
  rfl

theorem V_wb (c : Dev nD) : (V m c main_v32 : S4x256x1024.Idx → EReal) = shapeCast S4x256x1024 (A6 m c) shapeCasts_S1024x1024_S4x256x1024 := by
  unfold_abbrev_sides
  simp only [List.flatten_cons, List.flatten_nil, List.cons_append, List.nil_append, List.append_nil]
  after_results
  rfl

theorem V_wo (c : Dev nD) : (V m c main_v34 : S4x256x1024.Idx → EReal) = shapeCast S4x256x1024 (A7 m c) shapeCasts_S1024x1024_S4x256x1024 := by
  unfold_abbrev_sides
  simp only [List.flatten_cons, List.flatten_nil, List.cons_append, List.nil_append, List.append_nil]
  after_results
  rfl

/-- The projection's gate columns. -/
theorem V_proj (c : Dev nD) (r : Fin 8192) (q : Fin 6144) (hq : 4096 ≤ q.val) :
    (V m c main_v28 : S8192x6144.Idx → EReal) (ix2 r q) = A4 m c (ix2 r ⟨q.val - 4096, by omega⟩) := by
  have e : (V m c main_v28 : S8192x6144.Idx → EReal) = concatenate S8192x6144 1
        [⟨S8192x4096, broadcastInDim S8192x4096 ![] bcast_S_S8192x4096 (constant (F := Ideal) S_ FTy.f32 0#32)⟩, ⟨S8192x2048, A4 m c⟩]
        concatenates_S8192x4096_S8192x2048_S8192x6144_d1 := by
    unfold_abbrev_sides
    simp only [List.flatten_cons, List.flatten_nil, List.cons_append, List.nil_append, List.append_nil]
    after_results
    rfl
  rw [e]
  refine concatenate_pair_apply_right (s₁ := S8192x4096) (s₂ := S8192x2048) (1 : Fin 2) _ _ _ (ix2 r q) rfl rfl (ix2 r ⟨q.val - 4096, by omega⟩) ?_ ?_
  · intro b hb
    match b with
    | ⟨0, _⟩ => rfl
    | ⟨1, _⟩ => exact absurd rfl hb
  · show (q.val - 4096) + 4096 = q.val
    omega

/-- Row `r` of the padded modulation of layer `l`, sequence `b`. -/
theorem V_mod (c : Dev nD) (l : Fin 4) (b : Fin 2) (r : Fin 8) (q : Fin 1024) (hr : r.val < 6) :
    (V m c main_v24 : S4x2x8x1024.Idx → EReal) (ix4 l b r q) = A1 m c (ix3 l b ⟨r.val * 1024 + q.val, by omega⟩) := by
  have e : (V m c main_v24 : S4x2x8x1024.Idx → EReal) = pad S4x2x8x1024 ![0, 0, 0, 0] ![0, 0, 2, 0] ![0, 0, 0, 0]
        (shapeCast S4x2x6x1024 (A1 m c) shapeCasts_S4x2x6144_S4x2x6x1024) (sitofp (F := Ideal) FTy.f32 (constantI S_ 32 0#32))
        pads_S4x2x6x1024_S4x2x8x1024_000_000_020_000 h_S_ := by
    unfold_abbrev_sides
    simp only [List.flatten_cons, List.flatten_nil, List.cons_append, List.nil_append, List.append_nil]
    after_results
    rfl
  rw [e]
  refine (pad_apply_of_inside _ _ _ _ _ _ _ (ix4 l b r q) (ix4 l b (⟨r.val, hr⟩ : Fin 6) q) ?_).trans ?_
  · intro a
    match a with
    | ⟨0, _⟩ => show l.val = 0 + l.val * (0 + 1); omega
    | ⟨1, _⟩ => show b.val = 0 + b.val * (0 + 1); omega
    | ⟨2, _⟩ => show r.val = 0 + r.val * (0 + 1); omega
    | ⟨3, _⟩ => show q.val = 0 + q.val * (0 + 1); omega
  · refine shapeCast_apply _ _ _ (ix3 l b ⟨r.val * 1024 + q.val, by omega⟩) ?_
    rw [Shape.rowMajor_val_four, Shape.rowMajor_val_three]
    show (l.val * 2 + b.val) * 6144 + (r.val * 1024 + q.val) = ((l.val * 2 + b.val) * 6 + r.val) * 1024 + q.val
    omega

end Cert.MergeHost
-- ==== Proof.MergeRun.lean ====
/-
  The run of the merge's backward kernel: the block that each grid point writes to an output window is the point's block of
  rows of a stage of the reference.
-/
module

public import proofs.«01_k».proof.Proof.Gen.KernelIdeal.Value
public import proofs.«01_k».proof.Proof.MergeHost

@[expose] public section

noncomputable section

namespace Cert.MergeRun

open Cert.KernelIdeal Cert.KernelIdeal.Gen Cert.KernelIdeal.Value Cert.ReferenceIdeal.Read Cert.Tools Cert.MergeRef Cert.MergePay Cert.MergeHost
open Idealize.ShloMosaic Idealize.ShloMosaic.TcCoe Idealize.SL.Sem Idealize.ShloMosaic.ValueIdx

variable (m : (ℓ : Loc nD τ sig) → Buf (Elt Ideal) ℓ)

theorem tlt (t : Fin cfg0.N) : t.val < 16 := t.isLt
theorem tb (t : Fin cfg0.N) : t.val * 512 + 512 ≤ 8192 := by have := tlt t; omega

theorem idx0 : ∀ t : Fin cfg0.N, win0_0.index t (0 : Fin 2) = t.val ∧ win0_0.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)
theorem idx14 : ∀ t : Fin cfg0.N, win0_14.index t (0 : Fin 2) = t.val ∧ win0_14.index t (1 : Fin 2) = 0 := (by decide +kernel : ∀ t : Fin grid0.N, _)
theorem idx5 : ∀ t : Fin cfg0.N, win0_5.index t (0 : Fin 2) = t.val ∧ win0_5.index t (1 : Fin 2) = 4 := (by decide +kernel : ∀ t : Fin grid0.N, _)
theorem idx6 : ∀ t : Fin cfg0.N, win0_6.index t (0 : Fin 2) = t.val ∧ win0_6.index t (1 : Fin 2) = 5 := (by decide +kernel : ∀ t : Fin grid0.N, _)
theorem idx15 : ∀ t : Fin cfg0.N, win0_15.index t (0 : Fin 2) = t.val ∧ win0_15.index t (1 : Fin 2) = 2 := (by decide +kernel : ∀ t : Fin grid0.N, _)
theorem idx7 : ∀ t : Fin cfg0.N, win0_7.index t (0 : Fin 3) = 0 ∧ win0_7.index t (1 : Fin 3) = 0 ∧ win0_7.index t (2 : Fin 3) = 0 := (by decide +kernel : ∀ t : Fin grid0.N, _)
theorem idx8 : ∀ t : Fin cfg0.N, win0_8.index t (0 : Fin 3) = 0 ∧ win0_8.index t (1 : Fin 3) = 0 ∧ win0_8.index t (2 : Fin 3) = 0 := (by decide +kernel : ∀ t : Fin grid0.N, _)
theorem idx9 : ∀ t : Fin cfg0.N, win0_9.index t (0 : Fin 3) = 0 ∧ win0_9.index t (1 : Fin 3) = 0 ∧ win0_9.index t (2 : Fin 3) = 0 := (by decide +kernel : ∀ t : Fin grid0.N, _)
theorem idx1 : ∀ t : Fin cfg0.N, win0_1.index t (0 : Fin 4) = 0 ∧ win0_1.index t (1 : Fin 4) = t.val / 8 ∧ win0_1.index t (2 : Fin 4) = 0 ∧ win0_1.index t (3 : Fin 4) = 0 := (by decide +kernel : ∀ t : Fin grid0.N, _)
theorem idx16 : ∀ t : Fin cfg0.N, win0_16.index t (0 : Fin 3) = t.val / 8 ∧ win0_16.index t (1 : Fin 3) = 0 ∧ win0_16.index t (2 : Fin 3) = 0 := (by decide +kernel : ∀ t : Fin grid0.N, _)

/-- A block's index in its array. -/
theorem emb0 (t : Fin cfg0.N) (r : Fin 512) (q : Fin 1024) :
    ((cfg0.win 0).blk t).view.emb (ix2 r q : S512x1024.Idx) = (ix2 ⟨t.val * 512 + r.val, by have := tlt t; omega⟩ q : S8192x1024.Idx) := by
  obtain ⟨e0, e1⟩ := idx0 t
  refine ix2_ext ?_ ?_
  · show win0_0.index t (0 : Fin 2) * 512 + 1 * r.val = t.val * 512 + r.val; omega
  · show win0_0.index t (1 : Fin 2) * 1024 + 1 * q.val = q.val; omega
theorem emb2 (t : Fin cfg0.N) (r : Fin 512) (q : Fin 1024) :
    ((cfg0.win 2).blk t).view.emb (ix2 r q : S512x1024.Idx) = (ix2 ⟨t.val * 512 + r.val, by have := tlt t; omega⟩ q : S8192x1024.Idx) := by
  obtain ⟨e0, e1⟩ := idx2 t
  refine ix2_ext ?_ ?_
  · show win0_2.index t (0 : Fin 2) * 512 + 1 * r.val = t.val * 512 + r.val; omega
  · show win0_2.index t (1 : Fin 2) * 1024 + 1 * q.val = q.val; omega
theorem emb3 (t : Fin cfg0.N) (r : Fin 512) (q : Fin 1024) :
    ((cfg0.win 3).blk t).view.emb (ix2 r q : S512x1024.Idx) = (ix2 ⟨t.val * 512 + r.val, by have := tlt t; omega⟩ q : S8192x1024.Idx) := by
  obtain ⟨e0, e1⟩ := idx3 t
  refine ix2_ext ?_ ?_
  · show win0_3.index t (0 : Fin 2) * 512 + 1 * r.val = t.val * 512 + r.val; omega
  · show win0_3.index t (1 : Fin 2) * 1024 + 1 * q.val = q.val; omega
theorem emb4 (t : Fin cfg0.N) (r : Fin 512) (q : Fin 1024) :
    ((cfg0.win 4).blk t).view.emb (ix2 r q : S512x1024.Idx) = (ix2 ⟨t.val * 512 + r.val, by have := tlt t; omega⟩ q : S8192x1024.Idx) := by
  obtain ⟨e0, e1⟩ := idx4 t
  refine ix2_ext ?_ ?_
  · show win0_4.index t (0 : Fin 2) * 512 + 1 * r.val = t.val * 512 + r.val; omega
  · show win0_4.index t (1 : Fin 2) * 1024 + 1 * q.val = q.val; omega
theorem emb10 (t : Fin cfg0.N) (r : Fin 512) (q : Fin 1024) :
    ((cfg0.win 10).blk t).view.emb (ix2 r q : S512x1024.Idx) = (ix2 ⟨t.val * 512 + r.val, by have := tlt t; omega⟩ q : S8192x1024.Idx) := by
  obtain ⟨e0, e1⟩ := idx10 t
  refine ix2_ext ?_ ?_
  · show win0_10.index t (0 : Fin 2) * 512 + 1 * r.val = t.val * 512 + r.val; omega
  · show win0_10.index t (1 : Fin 2) * 1024 + 1 * q.val = q.val; omega
theorem emb11 (t : Fin cfg0.N) (r : Fin 512) (q : Fin 1024) :
    ((cfg0.win 11).blk t).view.emb (ix2 r q : S512x1024.Idx) = (ix2 ⟨t.val * 512 + r.val, by have := tlt t; omega⟩ q : S8192x1024.Idx) := by
  obtain ⟨e0, e1⟩ := idx11 t
  refine ix2_ext ?_ ?_
  · show win0_11.index t (0 : Fin 2) * 512 + 1 * r.val = t.val * 512 + r.val; omega
  · show win0_11.index t (1 : Fin 2) * 1024 + 1 * q.val = q.val; omega
theorem emb12 (t : Fin cfg0.N) (r : Fin 512) (q : Fin 1024) :
    ((cfg0.win 12).blk t).view.emb (ix2 r q : S512x1024.Idx) = (ix2 ⟨t.val * 512 + r.val, by have := tlt t; omega⟩ q : S8192x1024.Idx) := by
  obtain ⟨e0, e1⟩ := idx12 t
  refine ix2_ext ?_ ?_
  · show win0_12.index t (0 : Fin 2) * 512 + 1 * r.val = t.val * 512 + r.val; omega
  · show win0_12.index t (1 : Fin 2) * 1024 + 1 * q.val = q.val; omega
theorem emb13 (t : Fin cfg0.N) (r : Fin 512) (q : Fin 1024) :
    ((cfg0.win 13).blk t).view.emb (ix2 r q : S512x1024.Idx) = (ix2 ⟨t.val * 512 + r.val, by have := tlt t; omega⟩ q : S8192x1024.Idx) := by
  obtain ⟨e0, e1⟩ := idx13 t
  refine ix2_ext ?_ ?_
  · show win0_13.index t (0 : Fin 2) * 512 + 1 * r.val = t.val * 512 + r.val; omega
  · show win0_13.index t (1 : Fin 2) * 1024 + 1 * q.val = q.val; omega
theorem emb14 (t : Fin cfg0.N) (r : Fin 512) (q : Fin 1024) :
    ((cfg0.win 14).blk t).view.emb (ix2 r q : S512x1024.Idx) = (ix2 ⟨t.val * 512 + r.val, by have := tlt t; omega⟩ q : S8192x1024.Idx) := by
  obtain ⟨e0, e1⟩ := idx14 t
  refine ix2_ext ?_ ?_
  · show win0_14.index t (0 : Fin 2) * 512 + 1 * r.val = t.val * 512 + r.val; omega
  · show win0_14.index t (1 : Fin 2) * 1024 + 1 * q.val = q.val; omega
theorem emb5 (t : Fin cfg0.N) (r : Fin 512) (q : Fin 1024) :
    ((cfg0.win 5).blk t).view.emb (ix2 r q : S512x1024.Idx) = (ix2 ⟨t.val * 512 + r.val, by have := tlt t; omega⟩ ⟨4096 + q.val, by omega⟩ : S8192x6144.Idx) := by
  obtain ⟨e0, e1⟩ := idx5 t
  refine ix2_ext ?_ ?_
  · show win0_5.index t (0 : Fin 2) * 512 + 1 * r.val = t.val * 512 + r.val; omega
  · show win0_5.index t (1 : Fin 2) * 1024 + 1 * q.val = 4096 + q.val; omega
theorem emb6 (t : Fin cfg0.N) (r : Fin 512) (q : Fin 1024) :
    ((cfg0.win 6).blk t).view.emb (ix2 r q : S512x1024.Idx) = (ix2 ⟨t.val * 512 + r.val, by have := tlt t; omega⟩ ⟨5120 + q.val, by omega⟩ : S8192x6144.Idx) := by
  obtain ⟨e0, e1⟩ := idx6 t
  refine ix2_ext ?_ ?_
  · show win0_6.index t (0 : Fin 2) * 512 + 1 * r.val = t.val * 512 + r.val; omega
  · show win0_6.index t (1 : Fin 2) * 1024 + 1 * q.val = 5120 + q.val; omega
theorem emb15 (t : Fin cfg0.N) (r : Fin 512) (q : Fin 2048) :
    ((cfg0.win 15).blk t).view.emb (ix2 r q : S512x2048.Idx) = (ix2 ⟨t.val * 512 + r.val, by have := tlt t; omega⟩ ⟨4096 + q.val, by omega⟩ : S8192x6144.Idx) := by
  obtain ⟨e0, e1⟩ := idx15 t
  refine ix2_ext ?_ ?_
  · show win0_15.index t (0 : Fin 2) * 512 + 1 * r.val = t.val * 512 + r.val; omega
  · show win0_15.index t (1 : Fin 2) * 2048 + 1 * q.val = 4096 + q.val; omega
theorem emb7 (t : Fin cfg0.N) (j : S4x256x1024.Idx) : ((cfg0.win 7).blk t).view.emb j = j := by
  obtain ⟨e0, e1, e2⟩ := idx7 t
  refine ix3_ext ?_ ?_ ?_
  · show win0_7.index t (0 : Fin 3) * 4 + 1 * (j 0).val = (j 0).val; omega
  · show win0_7.index t (1 : Fin 3) * 256 + 1 * (j 1).val = (j 1).val; omega
  · show win0_7.index t (2 : Fin 3) * 1024 + 1 * (j 2).val = (j 2).val; omega
theorem emb8 (t : Fin cfg0.N) (j : S4x256x1024.Idx) : ((cfg0.win 8).blk t).view.emb j = j := by
  obtain ⟨e0, e1, e2⟩ := idx8 t
  refine ix3_ext ?_ ?_ ?_
  · show win0_8.index t (0 : Fin 3) * 4 + 1 * (j 0).val = (j 0).val; omega
  · show win0_8.index t (1 : Fin 3) * 256 + 1 * (j 1).val = (j 1).val; omega
  · show win0_8.index t (2 : Fin 3) * 1024 + 1 * (j 2).val = (j 2).val; omega
theorem emb9 (t : Fin cfg0.N) (j : S4x256x1024.Idx) : ((cfg0.win 9).blk t).view.emb j = j := by
  obtain ⟨e0, e1, e2⟩ := idx9 t
  refine ix3_ext ?_ ?_ ?_
  · show win0_9.index t (0 : Fin 3) * 4 + 1 * (j 0).val = (j 0).val; omega
  · show win0_9.index t (1 : Fin 3) * 256 + 1 * (j 1).val = (j 1).val; omega
  · show win0_9.index t (2 : Fin 3) * 1024 + 1 * (j 2).val = (j 2).val; omega
theorem emb1 (t : Fin cfg0.N) (r : Fin 8) (q : Fin 1024) :
    ((cfg0.win 1).blk t).view.emb (ix4 0 0 r q : S1x1x8x1024.Idx) = (ix4 0 ⟨t.val / 8, by have := tlt t; omega⟩ r q : S4x2x8x1024.Idx) := by
  obtain ⟨e0, e1, e2, e3⟩ := idx1 t
  refine ix4_ext ?_ ?_ ?_ ?_
  · show win0_1.index t (0 : Fin 4) * 1 + 1 * 0 = 0; omega
  · show win0_1.index t (1 : Fin 4) * 1 + 1 * 0 = t.val / 8; omega
  · show win0_1.index t (2 : Fin 4) * 8 + 1 * r.val = r.val; omega
  · show win0_1.index t (3 : Fin 4) * 1024 + 1 * q.val = q.val; omega
theorem emb16 (t : Fin cfg0.N) (r : Fin 8) (q : Fin 1024) :
    ((cfg0.win 16).blk t).view.emb (ix3 0 r q : S1x8x1024.Idx) = (ix3 ⟨t.val / 8, by have := tlt t; omega⟩ r q : S2x8x1024.Idx) := by
  obtain ⟨e0, e1, e2⟩ := idx16 t
  refine ix3_ext ?_ ?_ ?_
  · show win0_16.index t (0 : Fin 3) * 1 + 1 * 0 = t.val / 8; omega
  · show win0_16.index t (1 : Fin 3) * 8 + 1 * r.val = r.val; omega
  · show win0_16.index t (2 : Fin 3) * 1024 + 1 * q.val = q.val; omega

/-- The input blocks, in the reference's stages. -/
theorem iblk0_eq (c : Dev nD) (t : Fin cfg0.N) : iblk m c 0 t = blk t.val (tb t) (A0 m c) := by
  refine ext2 fun r q => ?_
  show V m c main_arg0 (((cfg0.win 0).blk t).view.emb (ix2 r q)) = _
  rw [emb0, V_main_arg0]; rfl
theorem iblk2_eq (c : Dev nD) (t : Fin cfg0.N) : iblk m c 2 t = blk t.val (tb t) (val_main_v34 (F := Ideal) (A2 m c) (A3 m c) (A4 m c) (A5 m c) (A6 m c) (A7 m c)) := by
  refine ext2 fun r q => ?_
  show V m c main_v25 (((cfg0.win 2).blk t).view.emb (ix2 r q)) = _
  rw [emb2, V_o]; rfl
theorem iblk3_eq (c : Dev nD) (t : Fin cfg0.N) : iblk m c 3 t = blk t.val (tb t) (val_main_v9 (F := Ideal) (A2 m c) (A5 m c)) := by
  refine ext2 fun r q => ?_
  show V m c main_v26 (((cfg0.win 3).blk t).view.emb (ix2 r q)) = _
  rw [emb3, V_ya]; rfl
theorem iblk4_eq (c : Dev nD) (t : Fin cfg0.N) : iblk m c 4 t = blk t.val (tb t) (val_main_v10 (F := Ideal) (A3 m c) (A6 m c)) := by
  refine ext2 fun r q => ?_
  show V m c main_v27 (((cfg0.win 4).blk t).view.emb (ix2 r q)) = _
  rw [emb4, V_yb]; rfl
theorem iblk5_eq (c : Dev nD) (t : Fin cfg0.N) : iblk m c 5 t = blk t.val (tb t) (gateA (A4 m c)) := by
  refine ext2 fun r q => ?_
  show V m c main_v28 (((cfg0.win 5).blk t).view.emb (ix2 r q)) = _
  rw [emb5]
  refine (V_proj m c _ _ (by dsimp; omega)).trans ?_
  exact congrArg (A4 m c) (ix2_ext rfl (by show 4096 + q.val - 4096 = q.val; omega))
theorem iblk6_eq (c : Dev nD) (t : Fin cfg0.N) : iblk m c 6 t = blk t.val (tb t) (gateB (A4 m c)) := by
  refine ext2 fun r q => ?_
  show V m c main_v28 (((cfg0.win 6).blk t).view.emb (ix2 r q)) = _
  rw [emb6]
  refine (V_proj m c _ _ (by dsimp; omega)).trans ?_
  exact congrArg (A4 m c) (ix2_ext rfl (by show 5120 + q.val - 4096 = 1024 + q.val; omega))
theorem iblk7_eq (c : Dev nD) (t : Fin cfg0.N) : iblk m c 7 t = shapeCast S4x256x1024 (A5 m c) shapeCasts_S1024x1024_S4x256x1024 := by
  funext j
  show V m c main_v30 (((cfg0.win 7).blk t).view.emb j) = _
  rw [emb7, V_wa]
theorem iblk8_eq (c : Dev nD) (t : Fin cfg0.N) : iblk m c 8 t = shapeCast S4x256x1024 (A6 m c) shapeCasts_S1024x1024_S4x256x1024 := by
  funext j
  show V m c main_v32 (((cfg0.win 8).blk t).view.emb j) = _
  rw [emb8, V_wb]
theorem iblk9_eq (c : Dev nD) (t : Fin cfg0.N) : iblk m c 9 t = shapeCast S4x256x1024 (A7 m c) shapeCasts_S1024x1024_S4x256x1024 := by
  funext j
  show V m c main_v34 (((cfg0.win 9).blk t).view.emb j) = _
  rw [emb9, V_wo]
theorem iblk1_apply (c : Dev nD) (t : Fin cfg0.N) (r : Fin 8) (q : Fin 1024) (hr : r.val < 6) :
    iblk m c 1 t (ix4 0 0 r q) = A1 m c (ix3 0 ⟨t.val / 8, by have := tlt t; omega⟩ ⟨r.val * 1024 + q.val, by omega⟩) := by
  show V m c main_v24 (((cfg0.win 1).blk t).view.emb (ix4 0 0 r q)) = _
  rw [emb1, V_mod m c _ _ _ _ hr]

theorem hz2 : (![0, 0] : Fin 2 → Nat) = fun _ => 0 := funext fun a => by fin_cases a <;> rfl
theorem hz3 : (![0, 0, 0] : Fin 3 → Nat) = fun _ => 0 := funext fun a => by fin_cases a <;> rfl

/-- The modulation's row that scales the gradient. -/
theorem row2 (c : Dev nD) (t : Fin cfg0.N) (q : Fin 1024) :
    View.ld (iblk m c 1 t) (Rect.unit (s := S1x1x8x1024) ![0, 0, 2, 0] S1x1x1x1024.size inb_S1x1x8x1024_S1x1x1x1024_0_0_2_0) (ix4 0 0 0 q)
      = A1 m c (ix3 0 ⟨t.val * 512 / 4096, by have := tlt t; omega⟩ ⟨2048 + q.val, by omega⟩) := by
  rw [View.ld_unit]
  refine Eq.trans (congrArg (iblk m c 1 t) (?_ : _ = ix4 0 0 (2 : Fin 8) q)) ?_
  · refine ix4_ext rfl rfl rfl ?_
    show 0 + q.val = q.val; omega
  · rw [iblk1_apply m c t 2 q (by decide)]
    congr 1
    exact ix3_ext rfl (by dsimp; omega) rfl

end Cert.MergeRun
-- ==== Proof.MergeOut.lean ====
/-
  The run of the merge's backward kernel: the block that each grid point writes to an output window is the point's block of
  rows of a stage of the reference.
-/
module

public import proofs.«01_k».proof.Proof.Gen.KernelIdeal.Value
public import proofs.«01_k».proof.Proof.MergeRun

@[expose] public section

noncomputable section

namespace Cert.MergeOut

open Cert.MergeRun Cert.KernelIdeal Cert.KernelIdeal.Gen Cert.KernelIdeal.Value Cert.ReferenceIdeal.Read Cert.Tools Cert.MergeRef Cert.MergePay Cert.MergeHost
open Idealize.ShloMosaic Idealize.ShloMosaic.TcCoe Idealize.SL.Sem Idealize.ShloMosaic.ValueIdx

variable (m : (ℓ : Loc nD τ sig) → Buf (Elt Ideal) ℓ)

theorem pay7t (c : Dev nD) (t : Fin cfg0.N) (inb : ∀ a, (![0, 0, 2, 0] : Fin 4 → Nat) a + (![1, 1, 1, 1024] : Fin 4 → Nat) a ≤ S1x1x8x1024.size a) :
    k0_pay7 (F := Ideal) (blk t.val (tb t) (A0 m c)) (View.ld (iblk m c 1 t) (Rect.unit ![0, 0, 2, 0] ![1, 1, 1, 1024] inb))
      = blk t.val (tb t) (val_main_v48 (F := Ideal) (A0 m c) (A1 m c)) := pay7 _ _ t.val (tb t) _ (row2 m c t)
theorem ld2 {e : EltTy} (X : S512x1024.Idx → Elt Ideal e) (inb : ∀ a, (![0, 0] : Fin 2 → Nat) a + (![512, 1024] : Fin 2 → Nat) a ≤ S512x1024.size a) :
    View.ld X (Rect.unit ![0, 0] ![512, 1024] inb) = X := View.ld_unit_zero (S := S512x1024) hz2 _ X
theorem ld3 {e : EltTy} (X : S4x256x1024.Idx → Elt Ideal e) (inb : ∀ a, (![0, 0, 0] : Fin 3 → Nat) a + (![4, 256, 1024] : Fin 3 → Nat) a ≤ S4x256x1024.size a) :
    View.ld X (Rect.unit ![0, 0, 0] ![4, 256, 1024] inb) = X := View.ld_unit_zero (S := S4x256x1024) hz3 _ X

/-- Window 10: what a point writes is its block of rows. -/
theorem flushed10_eq (c : Dev nD) (t : Fin cfg0.N) :
    (dats m 0 c).flushed 10 t = ((cfg0.win 10).blk t).view.read (Elt Ideal) (val_main_v48 (F := Ideal) (A0 m c) (A1 m c)) := by
  have cut : ∀ X : FVec Ideal S512x1024 .f32, X = blk t.val (tb t) (val_main_v48 (F := Ideal) (A0 m c) (A1 m c)) →
      (cfg0.win 10).cut (grid0.coords t) X = ((cfg0.win 10).blk t).view.read (Elt Ideal) (val_main_v48 (F := Ideal) (A0 m c) (A1 m c)) := by
    rintro X rfl
    refine ext2 fun r q => ?_
    show _ = (val_main_v48 (F := Ideal) (A0 m c) (A1 m c)) (((cfg0.win 10).blk t).view.emb (ix2 r q))
    rw [emb10]; rfl
  by_cases h0 : t.val % 8 = 0
  · rw [flushed10_A m c t h0]
    apply cut
    unfold out0_A_10
    rw [View.read_writes_junk_eq_canon]
    unfold kernelRun0_A
    dsimp only
    rw [View.canon_unit_zero hz2]
    unfold kernelRun0_A.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, pay7t m c t]
  · rw [flushed10_B m c t h0]
    apply cut
    unfold out0_B_10
    rw [View.read_writes_junk_eq_canon]
    unfold kernelRun0_B
    dsimp only
    rw [View.canon_unit_zero hz2]
    unfold kernelRun0_B.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, pay7t m c t]

theorem final10 (c : Dev nD) : (dats m 0 c).arrAt 10 cfg0.N = val_main_v48 (F := Ideal) (A0 m c) (A1 m c) :=
  (dats m 0 c).arrAt_eq_of_cover 10 _ (fun t _ => flushed10_eq m c t) fun i => by
    have hi : (i 0).val < 8192 := (i 0).isLt
    have hj : (i 1).val < 1024 := (i 1).isLt
    have e := (emb10 (⟨(i 0).val / 512, by show _ < 16; omega⟩ : Fin cfg0.N) (⟨(i 0).val % 512, Nat.mod_lt _ (by decide)⟩ : Fin 512) (⟨(i 1).val, hj⟩ : Fin 1024)).trans
      (show (ix2 (⟨(i 0).val / 512 * 512 + (i 0).val % 512, by omega⟩ : Fin 8192) (⟨(i 1).val, hj⟩ : Fin 1024) : S8192x1024.Idx) = i from ix2_ext (by show (i 0).val / 512 * 512 + (i 0).val % 512 = (i 0).val; omega) rfl)
    exact ⟨_, flush0_10 _, e ▸ View.emb_mem_set _ _⟩

/-- Window 11: what a point writes is its block of rows. -/
theorem flushed11_eq (c : Dev nD) (t : Fin cfg0.N) :
    (dats m 0 c).flushed 11 t = ((cfg0.win 11).blk t).view.read (Elt Ideal) (val_main_v53 (F := Ideal) (A0 m c) (A1 m c) (A4 m c) (A7 m c)) := by
  have cut : ∀ X : FVec Ideal S512x1024 .f32, X = blk t.val (tb t) (val_main_v53 (F := Ideal) (A0 m c) (A1 m c) (A4 m c) (A7 m c)) →
      (cfg0.win 11).cut (grid0.coords t) X = ((cfg0.win 11).blk t).view.read (Elt Ideal) (val_main_v53 (F := Ideal) (A0 m c) (A1 m c) (A4 m c) (A7 m c)) := by
    rintro X rfl
    refine ext2 fun r q => ?_
    show _ = (val_main_v53 (F := Ideal) (A0 m c) (A1 m c) (A4 m c) (A7 m c)) (((cfg0.win 11).blk t).view.emb (ix2 r q))
    rw [emb11]; rfl
  by_cases h0 : t.val % 8 = 0
  · rw [flushed11_A m c t h0]
    apply cut
    unfold out0_A_11
    rw [View.read_writes_junk_eq_canon]
    unfold kernelRun0_A
    dsimp only
    rw [View.canon_unit_zero hz2]
    unfold kernelRun0_A.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, iblk9_eq m c t, iblk5_eq m c t, pay7t m c t, pay11]
  · rw [flushed11_B m c t h0]
    apply cut
    unfold out0_B_11
    rw [View.read_writes_junk_eq_canon]
    unfold kernelRun0_B
    dsimp only
    rw [View.canon_unit_zero hz2]
    unfold kernelRun0_B.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, iblk9_eq m c t, iblk5_eq m c t, pay7t m c t, pay11]

theorem final11 (c : Dev nD) : (dats m 0 c).arrAt 11 cfg0.N = val_main_v53 (F := Ideal) (A0 m c) (A1 m c) (A4 m c) (A7 m c) :=
  (dats m 0 c).arrAt_eq_of_cover 11 _ (fun t _ => flushed11_eq m c t) fun i => by
    have hi : (i 0).val < 8192 := (i 0).isLt
    have hj : (i 1).val < 1024 := (i 1).isLt
    have e := (emb11 (⟨(i 0).val / 512, by show _ < 16; omega⟩ : Fin cfg0.N) (⟨(i 0).val % 512, Nat.mod_lt _ (by decide)⟩ : Fin 512) (⟨(i 1).val, hj⟩ : Fin 1024)).trans
      (show (ix2 (⟨(i 0).val / 512 * 512 + (i 0).val % 512, by omega⟩ : Fin 8192) (⟨(i 1).val, hj⟩ : Fin 1024) : S8192x1024.Idx) = i from ix2_ext (by show (i 0).val / 512 * 512 + (i 0).val % 512 = (i 0).val; omega) rfl)
    exact ⟨_, flush0_11 _, e ▸ View.emb_mem_set _ _⟩

/-- Window 12: what a point writes is its block of rows. -/
theorem flushed12_eq (c : Dev nD) (t : Fin cfg0.N) :
    (dats m 0 c).flushed 12 t = ((cfg0.win 12).blk t).view.read (Elt Ideal) (val_main_v50 (F := Ideal) (A0 m c) (A1 m c) (A4 m c) (A7 m c)) := by
  have cut : ∀ X : FVec Ideal S512x1024 .f32, X = blk t.val (tb t) (val_main_v50 (F := Ideal) (A0 m c) (A1 m c) (A4 m c) (A7 m c)) →
      (cfg0.win 12).cut (grid0.coords t) X = ((cfg0.win 12).blk t).view.read (Elt Ideal) (val_main_v50 (F := Ideal) (A0 m c) (A1 m c) (A4 m c) (A7 m c)) := by
    rintro X rfl
    refine ext2 fun r q => ?_
    show _ = (val_main_v50 (F := Ideal) (A0 m c) (A1 m c) (A4 m c) (A7 m c)) (((cfg0.win 12).blk t).view.emb (ix2 r q))
    rw [emb12]; rfl
  by_cases h0 : t.val % 8 = 0
  · rw [flushed12_A m c t h0]
    apply cut
    unfold out0_A_12
    rw [View.read_writes_junk_eq_canon]
    unfold kernelRun0_A
    dsimp only
    rw [View.canon_unit_zero hz2]
    unfold kernelRun0_A.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, iblk9_eq m c t, iblk6_eq m c t, pay7t m c t, pay12]
  · rw [flushed12_B m c t h0]
    apply cut
    unfold out0_B_12
    rw [View.read_writes_junk_eq_canon]
    unfold kernelRun0_B
    dsimp only
    rw [View.canon_unit_zero hz2]
    unfold kernelRun0_B.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, iblk9_eq m c t, iblk6_eq m c t, pay7t m c t, pay12]

theorem final12 (c : Dev nD) : (dats m 0 c).arrAt 12 cfg0.N = val_main_v50 (F := Ideal) (A0 m c) (A1 m c) (A4 m c) (A7 m c) :=
  (dats m 0 c).arrAt_eq_of_cover 12 _ (fun t _ => flushed12_eq m c t) fun i => by
    have hi : (i 0).val < 8192 := (i 0).isLt
    have hj : (i 1).val < 1024 := (i 1).isLt
    have e := (emb12 (⟨(i 0).val / 512, by show _ < 16; omega⟩ : Fin cfg0.N) (⟨(i 0).val % 512, Nat.mod_lt _ (by decide)⟩ : Fin 512) (⟨(i 1).val, hj⟩ : Fin 1024)).trans
      (show (ix2 (⟨(i 0).val / 512 * 512 + (i 0).val % 512, by omega⟩ : Fin 8192) (⟨(i 1).val, hj⟩ : Fin 1024) : S8192x1024.Idx) = i from ix2_ext (by show (i 0).val / 512 * 512 + (i 0).val % 512 = (i 0).val; omega) rfl)
    exact ⟨_, flush0_12 _, e ▸ View.emb_mem_set _ _⟩

/-- Window 13: what a point writes is its block of rows. -/
theorem flushed13_eq (c : Dev nD) (t : Fin cfg0.N) :
    (dats m 0 c).flushed 13 t = ((cfg0.win 13).blk t).view.read (Elt Ideal) (val_main_v60 (F := Ideal) (A0 m c) (A1 m c) (A4 m c) (A5 m c) (A7 m c)) := by
  have cut : ∀ X : FVec Ideal S512x1024 .f32, X = blk t.val (tb t) (val_main_v60 (F := Ideal) (A0 m c) (A1 m c) (A4 m c) (A5 m c) (A7 m c)) →
      (cfg0.win 13).cut (grid0.coords t) X = ((cfg0.win 13).blk t).view.read (Elt Ideal) (val_main_v60 (F := Ideal) (A0 m c) (A1 m c) (A4 m c) (A5 m c) (A7 m c)) := by
    rintro X rfl
    refine ext2 fun r q => ?_
    show _ = (val_main_v60 (F := Ideal) (A0 m c) (A1 m c) (A4 m c) (A5 m c) (A7 m c)) (((cfg0.win 13).blk t).view.emb (ix2 r q))
    rw [emb13]; rfl
  by_cases h0 : t.val % 8 = 0
  · rw [flushed13_A m c t h0]
    apply cut
    unfold out0_A_13
    rw [View.read_writes_junk_eq_canon]
    unfold kernelRun0_A
    dsimp only
    rw [View.canon_unit_zero hz2]
    unfold kernelRun0_A.sl.r_4 kernelRun0_A.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, iblk9_eq m c t, iblk5_eq m c t, iblk7_eq m c t, pay7t m c t, pay11, pay3]
  · rw [flushed13_B m c t h0]
    apply cut
    unfold out0_B_13
    rw [View.read_writes_junk_eq_canon]
    unfold kernelRun0_B
    dsimp only
    rw [View.canon_unit_zero hz2]
    unfold kernelRun0_B.sl.r_4 kernelRun0_B.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, iblk9_eq m c t, iblk5_eq m c t, iblk7_eq m c t, pay7t m c t, pay11, pay3]

theorem final13 (c : Dev nD) : (dats m 0 c).arrAt 13 cfg0.N = val_main_v60 (F := Ideal) (A0 m c) (A1 m c) (A4 m c) (A5 m c) (A7 m c) :=
  (dats m 0 c).arrAt_eq_of_cover 13 _ (fun t _ => flushed13_eq m c t) fun i => by
    have hi : (i 0).val < 8192 := (i 0).isLt
    have hj : (i 1).val < 1024 := (i 1).isLt
    have e := (emb13 (⟨(i 0).val / 512, by show _ < 16; omega⟩ : Fin cfg0.N) (⟨(i 0).val % 512, Nat.mod_lt _ (by decide)⟩ : Fin 512) (⟨(i 1).val, hj⟩ : Fin 1024)).trans
      (show (ix2 (⟨(i 0).val / 512 * 512 + (i 0).val % 512, by omega⟩ : Fin 8192) (⟨(i 1).val, hj⟩ : Fin 1024) : S8192x1024.Idx) = i from ix2_ext (by show (i 0).val / 512 * 512 + (i 0).val % 512 = (i 0).val; omega) rfl)
    exact ⟨_, flush0_13 _, e ▸ View.emb_mem_set _ _⟩

/-- Window 14: what a point writes is its block of rows. -/
theorem flushed14_eq (c : Dev nD) (t : Fin cfg0.N) :
    (dats m 0 c).flushed 14 t = ((cfg0.win 14).blk t).view.read (Elt Ideal) (val_main_v61 (F := Ideal) (A0 m c) (A1 m c) (A4 m c) (A6 m c) (A7 m c)) := by
  have cut : ∀ X : FVec Ideal S512x1024 .f32, X = blk t.val (tb t) (val_main_v61 (F := Ideal) (A0 m c) (A1 m c) (A4 m c) (A6 m c) (A7 m c)) →
      (cfg0.win 14).cut (grid0.coords t) X = ((cfg0.win 14).blk t).view.read (Elt Ideal) (val_main_v61 (F := Ideal) (A0 m c) (A1 m c) (A4 m c) (A6 m c) (A7 m c)) := by
    rintro X rfl
    refine ext2 fun r q => ?_
    show _ = (val_main_v61 (F := Ideal) (A0 m c) (A1 m c) (A4 m c) (A6 m c) (A7 m c)) (((cfg0.win 14).blk t).view.emb (ix2 r q))
    rw [emb14]; rfl
  by_cases h0 : t.val % 8 = 0
  · rw [flushed14_A m c t h0]
    apply cut
    unfold out0_A_14
    rw [View.read_writes_junk_eq_canon]
    unfold kernelRun0_A
    dsimp only
    rw [View.canon_unit_zero hz2]
    unfold kernelRun0_A.sl.r_5 kernelRun0_A.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, iblk9_eq m c t, iblk6_eq m c t, iblk8_eq m c t, pay7t m c t, pay12, pay4]
  · rw [flushed14_B m c t h0]
    apply cut
    unfold out0_B_14
    rw [View.read_writes_junk_eq_canon]
    unfold kernelRun0_B
    dsimp only
    rw [View.canon_unit_zero hz2]
    unfold kernelRun0_B.sl.r_5 kernelRun0_B.sl.r
    simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, ld2, ld3]
    rw [iblk0_eq m c t, iblk9_eq m c t, iblk6_eq m c t, iblk8_eq m c t, pay7t m c t, pay12, pay4]

theorem final14 (c : Dev nD) : (dats m 0 c).arrAt 14 cfg0.N = val_main_v61 (F := Ideal) (A0 m c) (A1 m c) (A4 m c) (A6 m c) (A7 m c) :=
  (dats m 0 c).arrAt_eq_of_cover 14 _ (fun t _ => flushed14_eq m c t) fun i => by
    have hi : (i 0).val < 8192 := (i 0).isLt
    have hj : (i 1).val < 1024 := (i 1).isLt
    have e := (emb14 (⟨(i 0).val / 512, by show _ < 16; omega⟩ : Fin cfg0.N) (⟨(i 0).val % 512, Nat.mod_lt _ (by decide)⟩ : Fin 512) (⟨(i 1).val, hj⟩ : Fin 1024)).trans
      (show (ix2 (⟨(i 0).val / 512 * 512 + (i 0).val % 512, by omega⟩ : Fin 8192) (⟨(i 1).val, hj⟩ : Fin 1024) : S8192x1024.Idx) = i from ix2_ext (by show (i 0).val / 512 * 512 + (i 0).val % 512 = (i 0).val; omega) rfl)
    exact ⟨_, flush0_14 _, e ▸ View.emb_mem_set _ _⟩

end Cert.MergeOut
-- ==== Proof.MergeSum.lean ====
/-
  The merge's backward kernel, the gates' columns of the projection's gradient and the modulation's gradient.
-/
module

public import proofs.«01_k».proof.Proof.MergeOut
public import Idealize.ShloMosaic.Lib.WritesUnit

@[expose] public section

noncomputable section

namespace Cert.MergeSum

open Cert.MergeRun Cert.MergeOut Cert.KernelIdeal Cert.KernelIdeal.Gen Cert.KernelIdeal.Value Cert.ReferenceIdeal.Read Cert.Tools Cert.MergeRef Cert.MergePay Cert.MergeHost
open Idealize.ShloMosaic Idealize.ShloMosaic.TcCoe Idealize.SL.Sem Idealize.ShloMosaic.ValueIdx

variable (m : (ℓ : Loc nD τ sig) → Buf (Elt Ideal) ℓ)

/-- The gradients of the two gates, side by side, in the columns that the projection's gradient gives them. -/
def gates (c : Dev nD) : Arr S8192x6144 := fun i =>
  if h : (i 1).val < 5120 then val_main_v55 (F := Ideal) (A0 m c) (A1 m c) (A2 m c) (A4 m c) (A5 m c) (A7 m c) (ix2 (i 0) ⟨(i 1).val - 4096, by omega⟩)
  else val_main_v52 (F := Ideal) (A0 m c) (A1 m c) (A3 m c) (A4 m c) (A6 m c) (A7 m c) (ix2 (i 0) ⟨(i 1).val - 5120, by have := idx2_lt1 i; omega⟩)

theorem flushed15_eq (c : Dev nD) (t : Fin cfg0.N) :
    (dats m 0 c).flushed 15 t = ((cfg0.win 15).blk t).view.read (Elt Ideal) (gates m c) := by
  have cut : ∀ X : FVec Ideal S512x2048 .f32,
      (∀ (r : Fin 512) (q : Fin 1024), X (ix2 r ⟨q.val, by omega⟩) = blk t.val (tb t) (val_main_v55 (F := Ideal) (A0 m c) (A1 m c) (A2 m c) (A4 m c) (A5 m c) (A7 m c)) (ix2 r q)) →
      (∀ (r : Fin 512) (q : Fin 1024), X (ix2 r ⟨1024 + q.val, by omega⟩) = blk t.val (tb t) (val_main_v52 (F := Ideal) (A0 m c) (A1 m c) (A3 m c) (A4 m c) (A6 m c) (A7 m c)) (ix2 r q)) →
      (cfg0.win 15).cut (grid0.coords t) X = ((cfg0.win 15).blk t).view.read (Elt Ideal) (gates m c) := by
    intro X ha hb
    refine ext2 fun r q => ?_
    show X (ix2 r q) = gates m c (((cfg0.win 15).blk t).view.emb (ix2 r q))
    rw [emb15]
    by_cases hq : q.val < 1024
    · refine (ha r ⟨q.val, hq⟩).trans ?_
      rw [blk_apply]
      refine Eq.trans ?_ (dif_pos (show 4096 + q.val < 5120 by omega)).symm
      exact congrArg (val_main_v55 (F := Ideal) (A0 m c) (A1 m c) (A2 m c) (A4 m c) (A5 m c) (A7 m c)) (ix2_ext rfl (by show q.val = 4096 + q.val - 4096; omega))
    · have eq : (ix2 r q : S512x2048.Idx) = ix2 r ⟨1024 + (q.val - 1024), by omega⟩ := ix2_ext rfl (by show q.val = 1024 + (q.val - 1024); omega)
      refine (congrArg X eq).trans ((hb r ⟨q.val - 1024, by omega⟩).trans ?_)
      rw [blk_apply]
      refine Eq.trans ?_ (dif_neg (show ¬ 4096 + q.val < 5120 by omega)).symm
      exact congrArg (val_main_v52 (F := Ideal) (A0 m c) (A1 m c) (A3 m c) (A4 m c) (A6 m c) (A7 m c)) <| ix2_ext rfl (by show q.val - 1024 = 4096 + q.val - 5120; omega)
  by_cases h0 : t.val % 8 = 0
  · rw [flushed15_A m c t h0]
    apply cut
    · intro r q
      unfold out0_A_15 kernelRun0_A
      dsimp only
      refine (View.read_writes_cons_unit_of_not_mem _ _ _ _ _ _ rfl (1 : Fin 2) (.inl (show q.val < 1024 from q.isLt))).trans ?_
      refine (View.read_writes_cons_unit_of_mem _ _ _ _ _ _ (ix2 r q) rfl ?_).trans ?_
      · intro a
        match a with
        | ⟨0, _⟩ => exact (Nat.zero_add _).symm
        | ⟨1, _⟩ => exact (Nat.zero_add _).symm
      unfold kernelRun0_A.sl.r_2 kernelRun0_A.sl.r_6 kernelRun0_A.sl.r
      simp only [View.readAt_eq_ld, (hs0_0 t).read_unread, (hs0_1 t).read_unread, (hs0_2 t).read_unread, (hs0_3 t).read_unread, (hs0_4 t).read_unread, (hs0_5 t).read_unread,
        (hs0_6 t).read_unread, (hs0_7 t).read_unread, (hs0_8 t).read_unread, (hs0_9 t).read_unread, ld2, ld3]
      rw [iblk0_eq m c t, iblk9_eq m c t, iblk5_eq m c t, iblk3_eq m c t, pay7t m c t, pay1]
    · intro r q
      unfold out0_A_15 kernelRun0_A
      dsimp only
      refine (View.read_writes_cons_unit_of_mem _ _ _ _ _ _ (ix2 r q) rfl ?_).trans ?_
      · intro a
        match a with
        | ⟨0, _⟩ => exact (Nat.zero_add _).symm
        | ⟨1, _⟩ => rfl
      unfold kernelRun0_A.sl.r_1 kernelRun0_A.sl.r_3 kernelRun0_A.sl.r
      simp only [View.readAt_eq_ld, (hs0_0 t).read_unread, (hs0_1 t).read_unread, (hs0_2 t).read_unread, (hs0_3 t).read_unread, (hs0_4 t).read_unread, (hs0_5 t).read_unread,
        (hs0_6 t).read_unread, (hs0_7 t).read_unread, (hs0_8 t).read_unread, (hs0_9 t).read_unread, ld2, ld3]
      rw [iblk0_eq m c t, iblk9_eq m c t, iblk6_eq m c t, iblk4_eq m c t, pay7t m c t, pay2]
  · rw [flushed15_B m c t h0]
    apply cut
    · intro r q
      unfold out0_B_15 kernelRun0_B
      dsimp only
      refine (View.read_writes_cons_unit_of_not_mem _ _ _ _ _ _ rfl (1 : Fin 2) (.inl (show q.val < 1024 from q.isLt))).trans ?_
      refine (View.read_writes_cons_unit_of_mem _ _ _ _ _ _ (ix2 r q) rfl ?_).trans ?_
      · intro a
        match a with
        | ⟨0, _⟩ => exact (Nat.zero_add _).symm
        | ⟨1, _⟩ => exact (Nat.zero_add _).symm
      unfold kernelRun0_B.sl.r_2 kernelRun0_B.sl.r_6 kernelRun0_B.sl.r
      simp only [View.readAt_eq_ld, (hs0_0 t).read_unread, (hs0_1 t).read_unread, (hs0_2 t).read_unread, (hs0_3 t).read_unread, (hs0_4 t).read_unread, (hs0_5 t).read_unread,
        (hs0_6 t).read_unread, (hs0_7 t).read_unread, (hs0_8 t).read_unread, (hs0_9 t).read_unread, ld2, ld3]
      rw [iblk0_eq m c t, iblk9_eq m c t, iblk5_eq m c t, iblk3_eq m c t, pay7t m c t, pay1]
    · intro r q
      unfold out0_B_15 kernelRun0_B
      dsimp only
      refine (View.read_writes_cons_unit_of_mem _ _ _ _ _ _ (ix2 r q) rfl ?_).trans ?_
      · intro a
        match a with
        | ⟨0, _⟩ => exact (Nat.zero_add _).symm
        | ⟨1, _⟩ => rfl
      unfold kernelRun0_B.sl.r_1 kernelRun0_B.sl.r_3 kernelRun0_B.sl.r
      simp only [View.readAt_eq_ld, (hs0_0 t).read_unread, (hs0_1 t).read_unread, (hs0_2 t).read_unread, (hs0_3 t).read_unread, (hs0_4 t).read_unread, (hs0_5 t).read_unread,
        (hs0_6 t).read_unread, (hs0_7 t).read_unread, (hs0_8 t).read_unread, (hs0_9 t).read_unread, ld2, ld3]
      rw [iblk0_eq m c t, iblk9_eq m c t, iblk6_eq m c t, iblk4_eq m c t, pay7t m c t, pay2]

/-- In the gates' columns the result is their gradient. -/
theorem final15 (c : Dev nD) (i : S8192x6144.Idx) (hc : 4096 ≤ (i 1).val) : (dats m 0 c).arrAt 15 cfg0.N i = gates m c i := by
  have hi : (i 0).val < 8192 := (i 0).isLt
  have hj : (i 1).val < 6144 := (i 1).isLt
  have e := (emb15 (⟨(i 0).val / 512, by show _ < 16; omega⟩ : Fin cfg0.N) (⟨(i 0).val % 512, Nat.mod_lt _ (by decide)⟩ : Fin 512) (⟨(i 1).val - 4096, by omega⟩ : Fin 2048)).trans
      (show (ix2 (⟨(i 0).val / 512 * 512 + (i 0).val % 512, by omega⟩ : Fin 8192) (⟨4096 + ((i 1).val - 4096), by omega⟩ : Fin 6144) : S8192x6144.Idx) = i from
        ix2_ext (by show (i 0).val / 512 * 512 + (i 0).val % 512 = (i 0).val; omega) (by show 4096 + ((i 1).val - 4096) = (i 1).val; omega))
  exact (dats m 0 c).arrAt_apply_of_mem 15 (gates m c) (fun t _ => flushed15_eq m c t) cfg0.N _ i (Fin.isLt _) (flush0_15 _) (e ▸ View.emb_mem_set _ _)

/-- One token's contribution to the gradient of the residual's gate. -/
def term (x0 o : Arr S8192x1024) (q : Fin 1024) (k : ℕ) : EReal := if h : k < 8192 then x0 (ix2 ⟨k, h⟩ q) * o (ix2 ⟨k, h⟩ q) else 0

theorem term_of (x0 o : Arr S8192x1024) (q : Fin 1024) (k : ℕ) (h : k < 8192) : term x0 o q k = x0 (ix2 ⟨k, h⟩ q) * o (ix2 ⟨k, h⟩ q) := by
  unfold term; rw [dif_pos h]

abbrev O (c : Dev nD) : Arr S8192x1024 := val_main_v34 (F := Ideal) (A2 m c) (A3 m c) (A4 m c) (A5 m c) (A6 m c) (A7 m c)

theorem pay6t (c : Dev nD) (t : Fin cfg0.N) (v14 : Vec Ideal S1x1x1024 .f32) (q : Fin 1024) :
    k0_pay6 (F := Ideal) (blk t.val (tb t) (A0 m c)) v14 (blk t.val (tb t) (O m c)) (ix3 0 0 q)
      = v14 (ix3 0 0 q) + ∑ r ∈ Finset.range 512, term (A0 m c) (O m c) q (t.val * 512 + r) := by
  rw [pay6, Finset.sum_range]
  refine congrArg (v14 (ix3 0 0 q) + ·) (Finset.sum_congr rfl fun r _ => ?_)
  exact (term_of _ _ _ _ (show t.val * 512 + r.val < 8192 by have := tb t; omega)).symm

/-- The eight rows that the kernel keeps of a sequence, when the rows of `n` tiles from tile `s` are summed. -/
def part (c : Dev nD) (s n : ℕ) (r : Fin 8) (q : Fin 1024) : EReal :=
  if r.val = 2 then ∑ a ∈ Finset.range n, ∑ b ∈ Finset.range 512, term (A0 m c) (O m c) q ((s + a) * 512 + b) else 0

theorem first_eq (c : Dev nD) (t : Fin cfg0.N) (h0 : t.val % 8 = 0) (r : Fin 8) (q : Fin 1024) :
    (outsAt0 m c t.val t.isLt).2.2.2.2.2.2 (ix3 0 r q : S1x8x1024.Idx) = part m c t.val 1 r q := by
  rw [outsAt0_A m c t h0]
  unfold out0_A_16 kernelRun0_A
  dsimp only
  unfold part
  by_cases hr : r.val = 2
  · rw [if_pos hr]
    refine (View.read_writes_cons_unit_of_mem _ _ _ _ _ _ (ix3 0 0 q) rfl ?_).trans ?_
    · intro a
      match a with
      | ⟨0, _⟩ => exact (Nat.zero_add _).symm
      | ⟨1, _⟩ => exact hr
      | ⟨2, _⟩ => exact (Nat.zero_add _).symm
    unfold kernelRun0_A.sl.v14 kernelRun0_A.sl.H16_1
    simp only [View.readAt_eq_ld, (hs0_0 t).read_unread, (hs0_2 t).read_unread, ld2]
    rw [iblk0_eq m c t, iblk2_eq m c t]
    refine (pay6t m c t _ q).trans ?_
    have z : ∀ B : LoadRect S1x8x1024, ∀ j, (ms0_16 t).view.readCov (Val := Elt Ideal) [⟨Rect.unit ![0, 0, 0] S1x8x1024.size inb_S1x8x1024_S1x8x1024_0_0_0, k0_pay5 (F := Ideal)⟩] B j = (0 : Elt Ideal .f32) := by
      intro B j
      rw [View.readCov_eq_canon']
      show View.canon (Val := Elt Ideal) [⟨Rect.unit ![0, 0, 0] S1x8x1024.size inb_S1x8x1024_S1x8x1024_0_0_0, k0_pay5 (F := Ideal)⟩] (B.idx j) = (0 : Elt Ideal .f32)
      rw [View.canon_unit_zero hz3]
      exact Ideal.ofBits_zero_f32
    rw [z, zero_add, Finset.sum_range_one]
    rfl
  · rw [if_neg hr]
    have hr' : r.val < 2 ∨ 2 + 1 ≤ r.val := by omega
    refine (View.read_writes_cons_unit_of_not_mem _ _ _ _ _ _ rfl (1 : Fin 3) hr').trans ?_
    unfold kernelRun0_A.sl.H16_1
    refine (View.read_writes_cons_unit_of_mem _ _ _ _ _ _ (ix3 0 r q) rfl ?_).trans ?_
    · intro a
      match a with
      | ⟨0, _⟩ => exact (Nat.zero_add _).symm
      | ⟨1, _⟩ => exact (Nat.zero_add _).symm
      | ⟨2, _⟩ => exact (Nat.zero_add _).symm
    exact Ideal.ofBits_zero_f32

theorem next_eq (c : Dev nD) (t : Fin cfg0.N) (h0 : ¬ t.val % 8 = 0) (s n : ℕ) (hs : s + n = t.val)
    (ih : ∀ (h : t.val - 1 < cfg0.N) (r : Fin 8) (q : Fin 1024), (outsAt0 m c (t.val - 1) h).2.2.2.2.2.2 (ix3 0 r q : S1x8x1024.Idx) = part m c s n r q) (r : Fin 8) (q : Fin 1024) :
    (outsAt0 m c t.val t.isLt).2.2.2.2.2.2 (ix3 0 r q : S1x8x1024.Idx) = part m c s (n + 1) r q := by
  rw [outsAt0_B m c t h0]
  unfold out0_B_16 kernelRun0_B
  dsimp only
  unfold part at ih ⊢
  by_cases hr : r.val = 2
  · rw [if_pos hr]
    refine (View.read_writes_cons_unit_of_mem _ _ _ _ _ _ (ix3 0 0 q) rfl ?_).trans ?_
    · intro a
      match a with
      | ⟨0, _⟩ => exact (Nat.zero_add _).symm
      | ⟨1, _⟩ => exact hr
      | ⟨2, _⟩ => exact (Nat.zero_add _).symm
    simp only [View.readAt_eq_ld, (hs0_0 t).read_unread, (hs0_2 t).read_unread, (hs0_16 t).read_unread, ld2]
    rw [iblk0_eq m c t, iblk2_eq m c t]
    refine (pay6t m c t _ q).trans ?_
    refine Eq.trans ?_ (Finset.sum_range_succ _ n).symm
    rw [hs]
    refine congrArg (· + _) ?_
    have e := ih (by have := t.isLt; omega) r q
    rw [if_pos hr] at e
    refine Eq.trans ?_ e
    rw [View.ld_unit]
    refine congrArg (outsAt0 m c (t.val - 1) _).2.2.2.2.2.2 (?_ : _ = (ix3 0 r q : S1x8x1024.Idx))
    exact ix3_ext rfl hr.symm (by show 0 + q.val = q.val; omega)
  · rw [if_neg hr]
    have hr' : r.val < 2 ∨ 2 + 1 ≤ r.val := by omega
    refine (View.read_writes_cons_unit_of_not_mem _ _ _ _ _ _ rfl (1 : Fin 3) hr').trans ?_
    rw [View.writes_nil, (hs0_16 t).read_unread]
    exact (ih (by have := t.isLt; omega) r q).trans (if_neg hr)

theorem sofar (c : Dev nD) (b : ℕ) (hb : b < 2) : ∀ (j : ℕ) (hj : j < 8) (h : b * 8 + j < cfg0.N) (r : Fin 8) (q : Fin 1024),
    (outsAt0 m c (b * 8 + j) h).2.2.2.2.2.2 (ix3 0 r q : S1x8x1024.Idx) = part m c (b * 8) (j + 1) r q
  | 0, _, h, r, q => first_eq m c ⟨b * 8, h⟩ (by show b * 8 % 8 = 0; omega) r q
  | j + 1, hj, h, r, q => next_eq m c ⟨b * 8 + (j + 1), h⟩ (by show ¬ (b * 8 + (j + 1)) % 8 = 0; omega) (b * 8) (j + 1) rfl
      (fun h' r q => sofar c b hb j (by omega) (by show _ < 16; omega) r q) r q

/-- The gradient of the gate, one sequence: the sum over the sequence's tokens. -/
def gateGrad (c : Dev nD) : Arr S2x8x1024 := fun i =>
  if (i 1).val = 2 then ∑ k ∈ Finset.range 4096, term (A0 m c) (O m c) ⟨(i 2).val, (i 2).isLt⟩ ((i 0).val * 4096 + k) else 0

theorem part_all (c : Dev nD) (b : Fin 2) (r : Fin 8) (q : Fin 1024) : part m c (b.val * 8) 8 r q = gateGrad m c (ix3 b r q) := by
  unfold part gateGrad
  refine if_congr Iff.rfl ?_ rfl
  refine Eq.trans ?_ (sum_blocks 8 512 fun k => term (A0 m c) (O m c) q (b.val * 4096 + k))
  refine Finset.sum_congr rfl fun a _ => Finset.sum_congr rfl fun k _ => ?_
  congr 1
  omega

theorem flushed16_eq (c : Dev nD) (t : Fin cfg0.N) (hf : (cfg0.win 16).flush t = true) :
    (dats m 0 c).flushed 16 t = ((cfg0.win 16).blk t).view.read (Elt Ideal) (gateGrad m c) := by
  have h7 := (flush0_16 t).mp hf
  have ht := tlt t
  rw [flushed16]
  funext j
  have hj : j = (ix3 0 (j 1) (j 2) : S1x8x1024.Idx) := ix3_ext (by have h : (j 0).val < 1 := (j 0).isLt; show (j 0).val = 0; omega) rfl rfl
  rw [hj]
  show (outsAt0 m c t.val t.isLt).2.2.2.2.2.2 (ix3 0 (j 1) (j 2) : S1x8x1024.Idx) = gateGrad m c (((cfg0.win 16).blk t).view.emb (ix3 0 (j 1) (j 2) : S1x8x1024.Idx))
  rw [emb16 t (j 1) (j 2)]
  refine Eq.trans ?_ (part_all m c ⟨t.val / 8, by omega⟩ (j 1) (j 2))
  have e := sofar m c (t.val / 8) (by omega) 7 (by omega) (by show _ < 16; omega) (j 1) (j 2)
  have ev : t.val / 8 * 8 + 7 = t.val := by omega
  simp only [ev] at e
  exact e

theorem final16 (c : Dev nD) : (dats m 0 c).arrAt 16 cfg0.N = gateGrad m c :=
  (dats m 0 c).arrAt_eq_of_cover 16 _ (fun t hf => flushed16_eq m c t hf) fun i => by
    have hi : (i 0).val < 2 := (i 0).isLt
    have e := (emb16 (⟨(i 0).val * 8 + 7, by show _ < 16; omega⟩ : Fin cfg0.N) (i 1) (i 2)).trans
      (show (ix3 (⟨((i 0).val * 8 + 7) / 8, by omega⟩ : Fin 2) (i 1) (i 2) : S2x8x1024.Idx) = i from
        ix3_ext (by show ((i 0).val * 8 + 7) / 8 = (i 0).val; omega) rfl rfl)
    exact ⟨_, (flush0_16 _).mpr (by show ((i 0).val * 8 + 7) % 8 = 7; omega), e ▸ View.emb_mem_set _ _⟩

/-- The reference's gate gradient is that sum. -/
theorem ref16_apply (c : Dev nD) (b : Fin 2) (r : Fin 8) (q : Fin 1024) :
    val_main_v68 (F := Ideal) (A0 m c) (A2 m c) (A3 m c) (A4 m c) (A5 m c) (A6 m c) (A7 m c) (ix3 b r q) = gateGrad m c (ix3 b r q) := by
  unfold val_main_v68 gateGrad
  by_cases hr : r.val = 2
  · refine Eq.trans ?_ (if_pos hr).symm
    refine (pad_apply_of_inside _ _ _ _ _ _ _ (ix3 b r q) (ix3 b (0 : Fin 1) q) ?_).trans ?_
    · intro a
      match a with
      | ⟨0, _⟩ => show b.val = 0 + b.val * (0 + 1); omega
      | ⟨1, _⟩ => show r.val = 2 + 0 * (0 + 1); omega
      | ⟨2, _⟩ => show q.val = 0 + q.val * (0 + 1); omega
    rw [val_main_v47_apply, val_main_v46_apply]
    refine (congrArg (· + _) (Ideal.ofBits_zero_f32 : _ = (0 : EReal))).trans ((zero_add _).trans ?_)
    rw [Finset.sum_range]
    refine Finset.sum_congr rfl fun k _ => ?_
    have hk := k.isLt
    rw [val_main_v45_apply, val_main_v42_apply, val_main_v37_apply]
    refine Eq.trans ?_ (term_of _ _ _ _ (show b.val * 4096 + k.val < 8192 by omega)).symm
    show A0 m c _ * O m c _ = A0 m c _ * O m c _
    refine congrArg₂ (· * ·) (congrArg (A0 m c) ?_) (congrArg (O m c) ?_) <;>
    · refine ix2_ext ?_ ?_
      · show ((((b.val * 1 + 0) * 1024 + q.val) / 1024 * 4096 + k.val) * 1024 + ((b.val * 1 + 0) * 1024 + q.val) % 1024) / 1024 = b.val * 4096 + k.val; omega
      · show ((((b.val * 1 + 0) * 1024 + q.val) / 1024 * 4096 + k.val) * 1024 + ((b.val * 1 + 0) * 1024 + q.val) % 1024) % 1024 = q.val; omega
  · refine Eq.trans ?_ (if_neg hr).symm
    refine (pad_apply_of_not_inside _ _ _ _ _ _ _ (ix3 b r q) (1 : Fin 3) ?_).trans ?_
    · show ¬(2 ≤ r.val ∧ (r.val - 2) % (0 + 1) = 0 ∧ (r.val - 2) / (0 + 1) < 1)
      omega
    · exact (show (((0#32 : BitVec 32).toInt : ℝ) : EReal) = 0 by simp)

theorem ref16 (c : Dev nD) : val_main_v68 (F := Ideal) (A0 m c) (A2 m c) (A3 m c) (A4 m c) (A5 m c) (A6 m c) (A7 m c) = gateGrad m c := by
  funext i
  have hi : i = (ix3 (i 0) (i 1) (i 2) : S2x8x1024.Idx) := ix3_ext rfl rfl rfl
  rw [hi]
  exact ref16_apply m c (i 0) (i 1) (i 2)

/-- The reference's gradient of the projection, in the gates' columns. -/
theorem ref15 (c : Dev nD) (r : Fin 8192) (q : Fin 6144) (hc : 4096 ≤ q.val) :
    val_main_v67 (F := Ideal) (A0 m c) (A1 m c) (A2 m c) (A3 m c) (A4 m c) (A5 m c) (A6 m c) (A7 m c) (ix2 r q) = gates m c (ix2 r q) := by
  rw [val_main_v67_apply]
  show val_main_v59 (F := Ideal) (A0 m c) (A1 m c) (A2 m c) (A3 m c) (A4 m c) (A5 m c) (A6 m c) (A7 m c) (ix2 r q) = _
  unfold val_main_v59
  refine (pad_apply_of_inside _ _ _ _ _ _ _ (ix2 r q) (ix2 r (⟨q.val - 4096, by omega⟩ : Fin 2048)) ?_).trans ?_
  · intro a
    match a with
    | ⟨0, _⟩ => show r.val = 0 + r.val * (0 + 1); omega
    | ⟨1, _⟩ => show q.val = 4096 + (q.val - 4096) * (0 + 1); omega
  rw [val_main_v58_apply]
  unfold val_main_v56 val_main_v57 gates
  by_cases h : q.val < 5120
  · refine Eq.trans ?_ (dif_pos h).symm
    refine (congrArg₂ (· + ·) ((pad_apply_of_not_inside _ _ _ _ _ _ _ _ (1 : Fin 2) ?_).trans (Ideal.ofBits_zero_f32 : _ = (0 : EReal)))
      (pad_apply_of_inside _ _ _ _ _ _ _ _ (ix2 r (⟨q.val - 4096, by omega⟩ : Fin 1024)) ?_)).trans (zero_add _)
    · show ¬(1024 ≤ q.val - 4096 ∧ (q.val - 4096 - 1024) % (0 + 1) = 0 ∧ (q.val - 4096 - 1024) / (0 + 1) < 1024)
      omega
    · intro a
      match a with
      | ⟨0, _⟩ => show r.val = 0 + r.val * (0 + 1); omega
      | ⟨1, _⟩ => show q.val - 4096 = 0 + (q.val - 4096) * (0 + 1); omega
  · refine Eq.trans ?_ (dif_neg h).symm
    refine (congrArg₂ (· + ·) (pad_apply_of_inside _ _ _ _ _ _ _ _ (ix2 r (⟨q.val - 5120, by omega⟩ : Fin 1024)) ?_)
      ((pad_apply_of_not_inside _ _ _ _ _ _ _ _ (1 : Fin 2) ?_).trans (Ideal.ofBits_zero_f32 : _ = (0 : EReal)))).trans (add_zero _)
    · intro a
      match a with
      | ⟨0, _⟩ => show r.val = 0 + r.val * (0 + 1); omega
      | ⟨1, _⟩ => show q.val - 4096 = 1024 + (q.val - 5120) * (0 + 1); omega
    · show ¬(0 ≤ q.val - 4096 ∧ (q.val - 4096 - 0) % (0 + 1) = 0 ∧ (q.val - 4096 - 0) / (0 + 1) < 1024)
      omega

end Cert.MergeSum
-- ==== Proof.MergeClaim.lean ====
/-
  The merge's backward kernel gives the reference's gradients.
-/
module

public import proofs.«01_k».proof.Defs
public import proofs.«01_k».proof.Proof.MergeSum
public import proofs.«01_k».proof.Proof.SideFacts

@[expose] public section

noncomputable section

namespace Cert.MergeClaim

open Cert.MergeSum Cert.MergeOut Cert.KernelIdeal Cert.KernelIdeal.Gen Cert.KernelIdeal.Value Cert.ReferenceIdeal.Read Cert.Tools Cert.MergeHost
open Idealize.ShloMosaic Idealize.ShloMosaic.TcCoe Idealize.SL.Sem Idealize.ShloMosaic.ValueIdx

/-- The mask's columns are the gates' columns. -/
theorem col_of_mask (q : ℕ) (hq : q < 6144) (h : IntOp.cmpi .sge (BitVec.ofNat 32 q) 4096#32 = 1#1) : 4096 ≤ q := by
  by_contra hc
  have e1 : (BitVec.ofNat 32 q).toInt = (q : ℤ) := by
    rw [BitVec.toInt_eq_toNat_of_lt] <;> rw [BitVec.toNat_ofNat, Nat.mod_eq_of_lt (by omega)]
    omega
  have e2 : (4096#32).toInt = 4096 := by decide
  have : IntOp.cmpi .sge (BitVec.ofNat 32 q) 4096#32 = 0#1 := by
    show BitVec.ofBool (BitVec.sle 4096#32 (BitVec.ofNat 32 q)) = 0#1
    have hf : BitVec.sle 4096#32 (BitVec.ofNat 32 q) = false := by
      rw [BitVec.sle_eq_decide, e1, e2, decide_eq_false_iff_not]
      omega
    rw [hf]
    rfl
  rw [this] at h
  exact absurd h (by decide)

set_option maxHeartbeats 4000000 in
/-- What the kernel writes is what the reference gives, where the mask is set. -/
theorem claim : Cert.algebraic_KernelIdeal_ReferenceIdeal_on_written := by
  intro m g m' g' _ hag
  refine ⟨fun c => (dats m 0 c).arrAt 10 cfg0.N, fun c => (dats m 0 c).arrAt 11 cfg0.N, fun c => (dats m 0 c).arrAt 12 cfg0.N, fun c => (dats m 0 c).arrAt 13 cfg0.N,
    fun c => (dats m 0 c).arrAt 14 cfg0.N, fun c => (dats m 0 c).arrAt 15 cfg0.N, fun c => (dats m 0 c).arrAt 16 cfg0.N, ?_, ?_⟩
  · refine (θ_run _ _ _).mono (fun r h c => ?_) (run_blocks m g)
    obtain ⟨h10, h11, h12, h13, h14, h15, h16, ha⟩ := h c
    exact ⟨fun i _ => congrFun h10 i, fun i _ => congrFun h11 i, fun i _ => congrFun h12 i, fun i _ => congrFun h13 i,
      fun i _ => congrFun h14 i, fun i _ => congrFun h15 i, fun i _ => congrFun h16 i, ha⟩
  · refine (θ_run _ _ _).mono (fun r h c => ?_) (Cert.ReferenceIdeal.Value.run m' g')
    obtain ⟨h62, h63, h64, h65, h66, h67, h68, ha⟩ := h c
    obtain ⟨e0, e1, e2, e3, e4, e5, e6, e7⟩ := hag c
    have f62 := (h62.trans (val_main_v62_eq (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1))))
    have f63 := (h63.trans (val_main_v63_eq (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg7))))
    have f64 := (h64.trans (val_main_v64_eq (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg7))))
    have f65 := (h65.trans (val_main_v65_eq (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg7))))
    have f66 := (h66.trans (val_main_v66_eq (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7))))
    have f67 := (h67.trans (val_main_v67_eq (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7))))
    have f68 := (h68.trans (val_main_v68_eq (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7))))
    rw [e0, e1] at f62
    rw [e0, e1, e4, e7] at f63 f64
    rw [e0, e1, e4, e5, e7] at f65
    rw [e0, e1, e4, e6, e7] at f66
    rw [e0, e1, e2, e3, e4, e5, e6, e7] at f67
    rw [e0, e2, e3, e4, e5, e6, e7] at f68
    refine ⟨fun i _ => congrFun (f62.trans (final10 m c).symm) i, fun i _ => congrFun (f63.trans (final11 m c).symm) i,
      fun i _ => congrFun (f64.trans (final12 m c).symm) i, fun i _ => congrFun (f65.trans (final13 m c).symm) i,
      fun i _ => congrFun (f66.trans (final14 m c).symm) i, fun i hi => ?_,
      fun i _ => congrFun ((f68.trans (ref16 m c)).trans (final16 m c).symm) i, ha⟩
    have hc : 4096 ≤ (i 1).val := col_of_mask (i 1).val (i 1).isLt hi
    refine (congrFun f67 i).trans (Eq.trans ?_ (final15 m c i hc).symm)
    have hx : i = ix2 (i 0) (i 1) := ix2_ext rfl rfl
    have := ref15 m c (i 0) (i 1) hc
    exact (congrArg _ hx).trans (this.trans (congrArg _ hx.symm))

end Cert.MergeClaim
-- ==== Proof.Reals.lean ====
/-
  Extended reals that are real numbers: closed under the sums and products that a backward pass takes, and there the
  distributive law and the derivative of the root-mean-square norm hold.
-/
module

public import Idealize.ShloMosaic.Lib.IdealHost
public import Idealize.ShloMosaic.Lib.ReduceAll
public import Mathlib.Tactic.Ring
public import Mathlib.Tactic.Positivity
public import Mathlib.Data.EReal.Operations

@[expose] public section

noncomputable section

namespace Cert.Reals

open Idealize.ShloMosaic

/-- An extended real that is a real number. -/
def Re (x : EReal) : Prop := ∃ r : ℝ, x = (r : EReal)

theorem re_coe (r : ℝ) : Re (r : EReal) := ⟨r, rfl⟩
theorem re_zero : Re 0 := ⟨0, rfl⟩
theorem re_one : Re 1 := ⟨1, rfl⟩
theorem re_add {x y : EReal} : Re x → Re y → Re (x + y)
  | ⟨a, ha⟩, ⟨b, hb⟩ => ⟨a + b, by rw [ha, hb, EReal.coe_add]⟩
theorem re_mul {x y : EReal} : Re x → Re y → Re (x * y)
  | ⟨a, ha⟩, ⟨b, hb⟩ => ⟨a * b, by rw [ha, hb, EReal.coe_mul]⟩
theorem re_max {x y : EReal} (hx : Re x) (hy : Re y) : Re (max x y) := by
  rcases le_total x y with h | h
  · rwa [max_eq_right h]
  · rwa [max_eq_left h]

/-- A sum of real numbers, taken in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem re_sum {ι : Type} (s : Finset ι) (f : ι → EReal) (h : ∀ i, Re (f i)) : Re (∑ i ∈ s, f i) := by
  choose r hr using h
  exact ⟨∑ i ∈ s, r i, by rw [← coe_sum]; exact Finset.sum_congr rfl fun i _ => hr i⟩

/-- A real factor goes into a sum of real numbers. -/
theorem mul_sum {ι : Type} (s : Finset ι) (a : EReal) (f : ι → EReal) (ha : Re a) (h : ∀ i, Re (f i)) :
    a * ∑ i ∈ s, f i = ∑ i ∈ s, a * f i := by
  obtain ⟨a, rfl⟩ := ha
  choose r hr using h
  simp only [hr, ← EReal.coe_mul, coe_sum, Finset.mul_sum]

/-- The words of the constants. -/
theorem ofBits_width : Ideal.ofBits .f32 0x44800000#32 = ((1024 : ℝ) : EReal) := by
  simp [Ideal.ofBits, Ideal.ieee]
  rw [← EReal.coe_mul]; norm_num
theorem ofBits_two : Ideal.ofBits .f32 0x40000000#32 = ((2 : ℝ) : EReal) := by
  simp [Ideal.ofBits, Ideal.ieee]
  rw [← EReal.coe_mul]; norm_num
theorem ofBits_neg_half : Ideal.ofBits .f32 0xBF000000#32 = ((-(1 / 2) : ℝ) : EReal) := by
  simp [Ideal.ofBits, Ideal.ieee]
  rw [← EReal.coe_mul]; norm_num
theorem ofBits_eps : ∃ e : ℝ, 0 < e ∧ Ideal.ofBits .f32 0x358637BD#32 = (e : EReal) := by
  refine ⟨8796093 * 2 ^ (-43 : ℤ), by norm_num, ?_⟩
  simp [Ideal.ofBits, Ideal.ieee]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_coe (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg ha.not_gt, if_neg ha.ne']

/-- The mean square of a row, with the norm's small constant. -/
def meanSq (x : Fin 1024 → EReal) : EReal :=
  Ideal.div (∑ k, x k * x k) (Ideal.ofBits .f32 0x44800000#32) + Ideal.ofBits .f32 0x358637BD#32

/-- The reciprocal root of the mean square. -/
def rms (x : Fin 1024 → EReal) : EReal := Ideal.rsqrt (meanSq x)

/-- The mean square of a real row is a positive real number. -/
theorem meanSq_pos (x : Fin 1024 → EReal) (hx : ∀ k, Re (x k)) : ∃ m : ℝ, 0 < m ∧ meanSq x = (m : EReal) := by
  choose r hr using hx
  obtain ⟨e, he, hb⟩ := ofBits_eps
  refine ⟨(∑ k, r k * r k) / 1024 + e, ?_, ?_⟩
  · have : 0 ≤ ∑ k, r k * r k := Finset.sum_nonneg fun k _ => mul_self_nonneg _
    positivity
  · unfold meanSq
    simp only [hr, ← EReal.coe_mul, coe_sum, hb, ofBits_width]
    rw [div_coe _ _ (by norm_num), ← EReal.coe_add]

theorem rms_re (x : Fin 1024 → EReal) (hx : ∀ k, Re (x k)) : Re (rms x) := by
  obtain ⟨m, hm, h⟩ := meanSq_pos x hx
  exact ⟨_, by rw [rms, h, rsqrt_coe m hm]⟩

/-- The norm's input gradient as the kernel takes it: the scaled gradient less its part along the normalised row. -/
def dnorm (x dh gs : Fin 1024 → EReal) (q : Fin 1024) : EReal :=
  rms x * (dh q * gs q - x q * rms x * Ideal.div (∑ k, dh k * gs k * (x k * rms x)) (Ideal.ofBits .f32 0x44800000#32))

/-- The same gradient from the derivative of the reciprocal root. -/
theorem dnorm_eq (x dh g s : Fin 1024 → EReal) (hx : ∀ k, Re (x k)) (hd : ∀ k, Re (dh k)) (hg : ∀ k, Re (g k)) (hs : ∀ k, Re (s k))
    (q : Fin 1024) :
    dh q * (1 + s q) * g q * rms x
        + x q * Ideal.div ((∑ k, x k * (dh k * (1 + s k) * g k)) * (Ideal.ofBits .f32 0xBF000000#32 * Ideal.div (rms x) (meanSq x)))
            (Ideal.ofBits .f32 0x44800000#32)
        + Ideal.div ((∑ k, x k * (dh k * (1 + s k) * g k)) * (Ideal.ofBits .f32 0xBF000000#32 * Ideal.div (rms x) (meanSq x)))
            (Ideal.ofBits .f32 0x44800000#32) * x q
      = dnorm x dh (fun k => g k * (1 + s k)) q := by
  obtain ⟨m, hm, hM⟩ := meanSq_pos x hx
  have hR : rms x = (((Real.sqrt m)⁻¹ : ℝ) : EReal) := by rw [rms, hM, rsqrt_coe m hm]
  unfold dnorm
  rw [hR, hM, ofBits_neg_half, ofBits_width]
  choose x' hx' using hx
  choose d' hd' using hd
  choose g' hg' using hg
  choose s' hs' using hs
  have h1 : (1 : EReal) = ((1 : ℝ) : EReal) := rfl
  simp only [hx', hd', hg', hs', h1, ← EReal.coe_add, ← EReal.coe_mul, coe_sum]
  rw [div_coe _ _ hm.ne']
  simp only [← EReal.coe_mul]
  rw [div_coe _ _ (by norm_num), div_coe _ _ (by norm_num)]
  simp only [← EReal.coe_mul, ← EReal.coe_add, ← EReal.coe_sub]
  rw [EReal.coe_eq_coe_iff]
  have hρ : (Real.sqrt m)⁻¹ / m = (Real.sqrt m)⁻¹ * (Real.sqrt m)⁻¹ * (Real.sqrt m)⁻¹ := by
    have : (Real.sqrt m)⁻¹ * (Real.sqrt m)⁻¹ = m⁻¹ := by rw [← mul_inv, Real.mul_self_sqrt hm.le]
    rw [this, div_eq_mul_inv, mul_comm]
  rw [hρ]
  generalize (Real.sqrt m)⁻¹ = ρ
  have hT : ∑ k, d' k * (g' k * (1 + s' k)) * (x' k * ρ) = ρ * ∑ k, x' k * (d' k * (1 + s' k) * g' k) := by
    rw [Finset.mul_sum]; exact Finset.sum_congr rfl fun k _ => by ring
  rw [hT]
  ring

/-- An entry whose size is below infinity is a real number. -/
theorem re_of_lt_inf (x : EReal) (h : max x (-x) < ⊤) : Re x := by
  induction x using EReal.rec with
  | bot => simp at h
  | coe r => exact ⟨r, rfl⟩
  | top => simp at h

end Cert.Reals
-- ==== Proof.NormSpec.lean ====
/-
  The backward pass of a modulated norm, as whole-array formulas: the gradient of the rows, and the gradients of the shift,
  the scale and the gain as sums over tiles of tokens.
-/
module

public import proofs.«01_k».proof.Proof.Tools
public import proofs.«01_k».proof.Proof.Reals

@[expose] public section

noncomputable section

namespace Cert.NormSpec

open Cert.Tools Cert.Reals
open Idealize.ShloMosaic Idealize.ShloMosaic.ValueIdx

abbrev M2 (n w : ℕ) := (⟨2, ![n, w]⟩ : Shape).Idx → EReal
abbrev M3 (l n w : ℕ) := (⟨3, ![l, n, w]⟩ : Shape).Idx → EReal

/-- One token's row. -/
def row {n w : ℕ} (X : M2 n w) (r : Fin n) : Fin w → EReal := fun k => X (ix2 r k)

/-- The sequence of a token. -/
def seqOf (n : Fin 8192) : Fin 2 := ⟨n.val / 4096, by omega⟩

/-- A layer's six modulation rows of a sequence, one of them from column `o`. -/
def modRow (mod : M3 4 2 6144) (o : ℕ) (ho : o + 1024 ≤ 6144) (b : Fin 2) (k : Fin 1024) : EReal := mod (ix3 0 b ⟨o + k.val, by omega⟩)

/-- The layer's gain. -/
def gn (gam : M2 4 1024) (k : Fin 1024) : EReal := gam (ix2 0 k)

/-- The normalised rows. -/
def nrm (X : M2 8192 1024) : M2 8192 1024 := fun i => X i * rms (row X (i 0))

/-- The product whose sums are the gradients of the gain and of the scale. -/
def hx (X H : M2 8192 1024) : M2 8192 1024 := fun i => H i * nrm X i

/-- The gradient of the rows: what comes in, plus the norm's own. -/
def dxs (X H D : M2 8192 1024) (mod : M3 4 2 6144) (gam : M2 4 1024) (o : ℕ) (ho : o + 1024 ≤ 6144) : M2 8192 1024 := fun i =>
  D i + dnorm (row X (i 0)) (row H (i 0)) (fun k => gn gam k * (1 + modRow mod o ho (seqOf (i 0)) k)) (i 1)

/-- One token's entry of a column. -/
def term (f : M2 8192 1024) (q : Fin 1024) (k : ℕ) : EReal := if h : k < 8192 then f (ix2 ⟨k, h⟩ q) else 0

theorem term_of (f : M2 8192 1024) (q : Fin 1024) (k : ℕ) (h : k < 8192) : term f q k = f (ix2 ⟨k, h⟩ q) := by
  unfold term; rw [dif_pos h]

/-- The column sum of a tile of 512 tokens. -/
def tile (f : M2 8192 1024) (q : Fin 1024) (t : ℕ) : EReal := ∑ b ∈ Finset.range 512, term f q (t * 512 + b)

theorem tile_eq (f : M2 8192 1024) (q : Fin 1024) (t : ℕ) (h : t * 512 + 512 ≤ 8192) :
    tile f q t = ∑ r : Fin 512, blk t h f (ix2 r q) := by
  unfold tile
  rw [Finset.sum_range]
  exact Finset.sum_congr rfl fun r _ => term_of f q _ (by omega)

/-- The tiles of a sequence are its tokens. -/
theorem seq_sum (f : M2 8192 1024) (q : Fin 1024) (b : ℕ) (hb : b < 2) :
    ∑ a ∈ Finset.range 8, tile f q (b * 8 + a) = ∑ k : Fin 4096, f (ix2 ⟨b * 4096 + k.val, by omega⟩ q) := by
  have e := sum_blocks 8 512 fun k => term f q (b * 4096 + k)
  rw [Finset.sum_range (n := 8 * 512)] at e
  refine Eq.trans ?_ (e.trans ?_)
  · refine Finset.sum_congr rfl fun a _ => Finset.sum_congr rfl fun k _ => ?_
    congr 1
    omega
  · exact Finset.sum_congr rfl fun k _ => term_of f q _ (by have := k.isLt; omega)

/-- The tokens of both sequences, tile by tile, each tile weighted by its sequence. -/
theorem all_sum (f : M2 8192 1024) (q : Fin 1024) (w : Fin 2 → EReal) (hw : ∀ b, Re (w b)) (hf : ∀ n, Re (f (ix2 n q))) :
    ∑ t ∈ Finset.range 16, w ⟨t / 8 % 2, Nat.mod_lt _ (by decide)⟩ * tile f q t
      = ∑ b : Fin 2, ∑ k : Fin 4096, w b * f (ix2 ⟨b.val * 4096 + k.val, by omega⟩ q) := by
  have hs : ∀ b : Fin 2, ∑ k : Fin 4096, w b * f (ix2 ⟨b.val * 4096 + k.val, by omega⟩ q)
      = ∑ a ∈ Finset.range 8, w b * tile f q (b.val * 8 + a) := by
    intro b
    rw [← Reals.mul_sum Finset.univ (w b) (fun k : Fin 4096 => f (ix2 ⟨b.val * 4096 + k.val, by omega⟩ q)) (hw b) (fun _ => hf _), ← seq_sum f q b.val b.isLt]
    exact Reals.mul_sum (Finset.range 8) (w b) _ (hw b) (fun a => re_sum _ _ fun k => by
      unfold term
      split
      · exact hf _
      · exact re_zero)
  simp only [hs]
  rw [Fin.sum_univ_two]
  have e : (16 : ℕ) = 8 + 8 := rfl
  rw [e, Finset.sum_range_add]
  refine congrArg₂ (· + ·) ?_ ?_
  · refine Finset.sum_congr rfl fun a ha => ?_
    have ha := Finset.mem_range.mp ha
    refine congrArg₂ (· * ·) (congrArg w (Fin.ext ?_)) (congrArg (tile f q) ?_)
    · show a / 8 % 2 = 0; omega
    · show a = 0 * 8 + a; omega
  · refine Finset.sum_congr rfl fun a ha => ?_
    have ha := Finset.mem_range.mp ha
    refine congrArg₂ (· * ·) (congrArg w (Fin.ext ?_)) (congrArg (tile f q) ?_)
    · show (8 + a) / 8 % 2 = 1; omega
    · show 8 + a = 1 * 8 + a; omega

/-- A sum over the first two axes of three. -/
theorem reduce2 {n0 n1 n2 : ℕ} (h : (⟨3, ![n0, n1, n2]⟩ : Shape).ReducesTo [0, 1] ⟨1, ![n2]⟩) (x : M3 n0 n1 n2) (init : EReal) (q : Fin n2) :
    Ideal.hostReduceAdd h x init (ix1 q) = init + ∑ b : Fin n0, ∑ k : Fin n1, x (ix3 b k q) := by
  unfold Ideal.hostReduceAdd
  refine congrArg (init + ·) ?_
  rw [← Fintype.sum_prod_type']
  refine Finset.sum_nbij' (fun i => ((i 0, i 1) : Fin n0 × Fin n1)) (fun p => ix3 p.1 p.2 q) ?_ ?_ ?_ ?_ ?_
  · intro i _; exact Finset.mem_univ _
  · intro p _
    rw [Finset.mem_filter]
    refine ⟨Finset.mem_univ _, ?_⟩
    funext a
    match a with
    | ⟨0, _⟩ => exact Fin.ext rfl
  · intro i hi
    rw [Finset.mem_filter] at hi
    refine ix3_ext rfl rfl ?_
    have := congrArg Fin.val (congrFun hi.2 0)
    exact this.symm
  · intro p _; rfl
  · intro i hi
    rw [Finset.mem_filter] at hi
    refine congrArg x (ix3_ext rfl rfl ?_)
    exact congrArg Fin.val (congrFun hi.2 0)

end Cert.NormSpec
-- ==== Proof.FfnHost.lean ====
/-
  The arrays the feed-forward's backward region finds: the arguments, and what the host lines before the region make of
  them (the saved forward values from the reference's own forward lines, the weights in quarters, the padded modulation
  rows).
-/
module

public import proofs.«01_k».proof.Proof.Gen.Kernel2Ideal.Frame
public import proofs.«01_k».proof.Proof.Gen.Reference2Ideal.Read
public import proofs.«01_k».proof.Proof.NormSpec
public import Idealize.ShloMosaic.Lib.KernelVsHost

@[expose] public section

noncomputable section

namespace Cert.FfnHost

open Cert.Kernel2Ideal Cert.Kernel2Ideal.Gen Cert.Reference2Ideal.Read Cert.Tools Cert.NormSpec
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev A0 (c : Dev nD) : Arr S8192x1024 := m ((c : Thread nD τ).loc main_arg0)
abbrev A1 (c : Dev nD) : Arr S8192x1024 := m ((c : Thread nD τ).loc main_arg1)
abbrev A2 (c : Dev nD) : Arr S4x2x6144 := m ((c : Thread nD τ).loc main_arg2)
abbrev A3 (c : Dev nD) : Arr S4x1024 := m ((c : Thread nD τ).loc main_arg3)
abbrev A4 (c : Dev nD) : Arr S1024x4096 := m ((c : Thread nD τ).loc main_arg4)
abbrev A5 (c : Dev nD) : Arr S4096x1024 := m ((c : Thread nD τ).loc main_arg5)

theorem V_o (c : Dev nD) : (V m c main_v39 : S8192x1024.Idx → EReal) = val_main_v43 (F := Ideal) (A1 m c) (A2 m c) (A3 m c) (A4 m c) (A5 m c) := by
  unfold_abbrev_sides
  simp only [List.flatten_cons, List.flatten_nil, List.cons_append, List.nil_append, List.append_nil]
  after_results
  rfl

theorem V_f (c : Dev nD) : (V m c main_v40 : S8192x4096.Idx → EReal) = val_main_v35 (F := Ideal) (A1 m c) (A2 m c) (A3 m c) (A4 m c) := by
  unfold_abbrev_sides
  simp only [List.flatten_cons, List.flatten_nil, List.cons_append, List.nil_append, List.append_nil]
  after_results
  rfl

theorem V_g (c : Dev nD) (l : Fin 4) (q : Fin 1024) : (V m c main_v38 : S4x1x1024.Idx → EReal) (ix3 l 0 q) = A3 m c (ix2 l q) := by
  have e : (V m c main_v38 : S4x1x1024.Idx → EReal) = broadcastInDim S4x1x1024 ![0, 2] bcast_S4x1024_S4x1x1024_0_2 (A3 m c) := by
    unfold_abbrev_sides
    simp only [List.flatten_cons, List.flatten_nil, List.cons_append, List.nil_append, List.append_nil]
    after_results
  rw [e]
  exact congrArg (A3 m c) (ix2_ext rfl rfl)

/-- Quarter `a` of the first weight's columns. -/
theorem V_w1 (c : Dev nD) (a : Fin 4) (r q : Fin 1024) :
    (V m c main_v43 : S4x1024x1024.Idx → EReal) (ix3 a r q) = A4 m c (ix2 r ⟨a.val * 1024 + q.val, by omega⟩) := by
  have e : (V m c main_v43 : S4x1024x1024.Idx → EReal) = transpose S4x1024x1024 [1, 0, 2] (shapeCast S1024x4x1024 (A4 m c) shapeCasts_S1024x4096_S1024x4x1024)
      transposes_S1024x4x1024_S4x1024x1024_1_0_2 := by
    unfold_abbrev_sides
    simp only [List.flatten_cons, List.flatten_nil, List.cons_append, List.nil_append, List.append_nil]
    after_results
    rfl
  rw [e]
  refine (congrArg (shapeCast S1024x4x1024 (A4 m c) shapeCasts_S1024x4096_S1024x4x1024) (?_ : _ = ix3 r a q)).trans ?_
  · exact ix3_ext rfl rfl rfl
  · refine shapeCast_apply _ _ _ (ix2 r ⟨a.val * 1024 + q.val, by omega⟩) ?_
    rw [Shape.rowMajor_val_two, Shape.rowMajor_val_three]
    show r.val * 4096 + (a.val * 1024 + q.val) = (r.val * 4 + a.val) * 1024 + q.val
    omega

/-- Quarter `a` of the second weight's rows. -/
theorem V_w2 (c : Dev nD) (a : Fin 4) (r q : Fin 1024) :
    (V m c main_v45 : S4x1024x1024.Idx → EReal) (ix3 a r q) = A5 m c (ix2 ⟨a.val * 1024 + r.val, by omega⟩ q) := by
  have e : (V m c main_v45 : S4x1024x1024.Idx → EReal) = shapeCast S4x1024x1024 (A5 m c) shapeCasts_S4096x1024_S4x1024x1024 := by
    unfold_abbrev_sides
    simp only [List.flatten_cons, List.flatten_nil, List.cons_append, List.nil_append, List.append_nil]
    after_results
    rfl
  rw [e]
  refine shapeCast_apply _ _ _ (ix2 ⟨a.val * 1024 + r.val, by omega⟩ q) ?_
  rw [Shape.rowMajor_val_two, Shape.rowMajor_val_three]
  rfl

/-- Row `r` of the padded modulation of layer `l`, sequence `b`. -/
theorem V_mod (c : Dev nD) (l : Fin 4) (b : Fin 2) (r : Fin 8) (q : Fin 1024) (hr : r.val < 6) :
    (V m c main_v37 : S4x2x8x1024.Idx → EReal) (ix4 l b r q) = A2 m c (ix3 l b ⟨r.val * 1024 + q.val, by omega⟩) := by
  have e : (V m c main_v37 : S4x2x8x1024.Idx → EReal) = pad S4x2x8x1024 ![0, 0, 0, 0] ![0, 0, 2, 0] ![0, 0, 0, 0]
        (shapeCast S4x2x6x1024 (A2 m c) shapeCasts_S4x2x6144_S4x2x6x1024) (sitofp (F := Ideal) FTy.f32 (constantI S_ 32 0#32))
        pads_S4x2x6x1024_S4x2x8x1024_000_000_020_000 h_S_ := by
    unfold_abbrev_sides
    simp only [List.flatten_cons, List.flatten_nil, List.cons_append, List.nil_append, List.append_nil]
    after_results
    rfl
  rw [e]
  refine (pad_apply_of_inside _ _ _ _ _ _ _ (ix4 l b r q) (ix4 l b (⟨r.val, hr⟩ : Fin 6) q) ?_).trans ?_
  · intro a
    match a with
    | ⟨0, _⟩ => show l.val = 0 + l.val * (0 + 1); omega
    | ⟨1, _⟩ => show b.val = 0 + b.val * (0 + 1); omega
    | ⟨2, _⟩ => show r.val = 0 + r.val * (0 + 1); omega
    | ⟨3, _⟩ => show q.val = 0 + q.val * (0 + 1); omega
  · refine shapeCast_apply _ _ _ (ix3 l b ⟨r.val * 1024 + q.val, by omega⟩) ?_
    rw [Shape.rowMajor_val_four, Shape.rowMajor_val_three]
    show (l.val * 2 + b.val) * 6144 + (r.val * 1024 + q.val) = ((l.val * 2 + b.val) * 6 + r.val) * 1024 + q.val
    omega

end Cert.FfnHost
-- ==== Proof.FfnPay.lean ====
/-
  The feed-forward's backward kernel, one grid point: every value the body computes from its blocks is the point's block of
  rows of a stage of the reference, or of the norm's formulas.
-/
module

public import proofs.«01_k».proof.Proof.Gen.Kernel2Ideal.Skeleton
public import proofs.«01_k».proof.Proof.FfnHost

@[expose] public section

noncomputable section

namespace Cert.FfnPay

open Cert.Kernel2Ideal Cert.Kernel2Ideal.Gen Cert.Reference2Ideal.Read Cert.Tools Cert.Reals Cert.NormSpec Cert.FfnHost
open Idealize.ShloMosaic Idealize.ShloMosaic.ValueIdx

/-- The block product of the body, transposed on the right, at an index. -/
theorem mm_apply (a : FVec Ideal S512x1024 .bf16) (b : FVec Ideal S1024x1024 .bf16) (j : S512x1024.Idx) :
    matmul (F := Ideal) dot_S512x1024_S1024x1024_S512x1024_1_1_0_0_n_n none a b (constant S512x1024 .f32 0x00000000#32) j
      = ∑ k : Fin 1024, a (ix2 (j 0) k) * b (ix2 (j 1) k) := by
  rw [matmul_sum dot_S512x1024_S1024x1024_S512x1024_1_1_0_0_n_n 1024 rfl rfl a b _ j (fun k => ix2 (j 0) k) (fun k => ix2 (j 1) k)
    (fun q => ix2_ext rfl rfl) (fun q => ix2_ext rfl rfl)]
  rw [constant_apply, Ideal.ofBits_zero_f32, zero_add]

/-- The block product of the body with one quarter of a weight. -/
abbrev mmT (u : FVec Ideal S512x1024 .bf16) (w : Vec Ideal S1x1024x1024 .bf16) : FVec Ideal S512x1024 .f32 :=
  matmul (F := Ideal) (φ₂ := .bf16) dot_S512x1024_S1024x1024_S512x1024_1_1_0_0_n_n none u (shapeCast S1024x1024 w shapeCasts_S1x1024x1024_S1024x1024)
    (constant S512x1024 .f32 0x00000000#32)

/-- Quarter `a` of the columns of a wide array. -/
def colq (a : ℕ) (ha : a < 4) (X : Arr S8192x4096) : Arr S8192x1024 := fun i => X (ix2 (i 0) ⟨a * 1024 + (i 1).val, by have := idx2_lt1 i; omega⟩)

variable (x0 x1 : Arr S8192x1024) (x2 : Arr S4x2x6144) (x3 : Arr S4x1024) (x4 : Arr S1024x4096) (x5 : Arr S4096x1024)

abbrev DO : Arr S8192x1024 := val_main_v56 (F := Ideal) x0 x2
abbrev DF : Arr S8192x4096 := val_main_v61 (F := Ideal) x0 x1 x2 x3 x4 x5
abbrev DH : Arr S8192x1024 := val_main_v62 (F := Ideal) x0 x1 x2 x3 x4 x5
abbrev FF : Arr S8192x4096 := val_main_v35 (F := Ideal) x1 x2 x3 x4
abbrev OO : Arr S8192x1024 := val_main_v43 (F := Ideal) x1 x2 x3 x4 x5

/-- The gradient of the sub-layer's output, read in the arguments. -/
theorem do_apply (i : S8192x1024.Idx) :
    DO x0 x2 i = x2 (ix3 0 ⟨(i 0).val / 4096, by have : (i 0).val < 8192 := (i 0).isLt; omega⟩
          ⟨5120 + (i 1).val, by have : (i 1).val < 1024 := (i 1).isLt; omega⟩) * x0 i := by
  have h0 : (i 0).val < 8192 := (i 0).isLt
  have h1 : (i 1).val < 1024 := (i 1).isLt
  show val_main_v56 (F := Ideal) x0 x2 i = _
  rw [val_main_v56_apply, val_main_v52_apply]
  refine congrArg₂ (· * ·) ?_ ?_
  · simp only [val_main_v51_apply, val_main_v8_apply, val_main_v2_apply, val_main_v1_apply, val_main_v0_apply]
    refine congrArg x2 (ix3_ext rfl ?_ ?_)
    · dsimp [idx_main_v0, idx_main_v1, idx_main_v2, idx_main_v8, idx_main_v51, idx_main_v56]; omega
    · dsimp [idx_main_v0, idx_main_v1, idx_main_v2, idx_main_v8, idx_main_v51, idx_main_v56]; omega
  · rw [val_main_v50_apply]
    refine congrArg x0 (ix2_ext ?_ ?_) <;> dsimp [idx_main_v50, idx_main_v56] <;> omega

/-- A sum over the hidden columns, quarter by quarter. -/
theorem quarters (f : Fin 4096 → EReal) :
    0 + (∑ k : Fin 1024, f ⟨0 * 1024 + k.val, by omega⟩) + (∑ k : Fin 1024, f ⟨1 * 1024 + k.val, by omega⟩)
      + (∑ k : Fin 1024, f ⟨2 * 1024 + k.val, by omega⟩) + (∑ k : Fin 1024, f ⟨3 * 1024 + k.val, by omega⟩) = ∑ k, f k := by
  have e := sum_blocks 4 1024 fun k => if hk : k < 4096 then f ⟨k, hk⟩ else 0
  rw [Finset.sum_range (n := 4 * 1024)] at e
  have e1 : ∀ a : ℕ, (ha : a < 4) → ∑ r ∈ Finset.range 1024, (if hk : a * 1024 + r < 4096 then f ⟨a * 1024 + r, hk⟩ else 0)
      = ∑ k : Fin 1024, f ⟨a * 1024 + k.val, by omega⟩ := by
    intro a ha
    rw [Finset.sum_range]
    exact Finset.sum_congr rfl fun k _ => dif_pos (by have := k.isLt; omega)
  have e2 : (∑ i : Fin (4 * 1024), if hk : i.val < 4096 then f ⟨i.val, hk⟩ else 0) = ∑ k : Fin 4096, f k :=
    Finset.sum_congr rfl fun k _ => dif_pos k.isLt
  rw [e2] at e
  rw [← e, Finset.sum_range_succ, Finset.sum_range_succ, Finset.sum_range_succ, Finset.sum_range_succ, Finset.sum_range_zero]
  rw [e1 0 (by decide), e1 1 (by decide), e1 2 (by decide), e1 3 (by decide)]

variable (t : ℕ) (h : t * 512 + 512 ≤ 8192)

theorem pay5 (v29 : Vec Ideal S1x1x1x1024 .f32)
    (hv : ∀ c : Fin 1024, v29 (ix4 0 0 0 c) = x2 (ix3 0 ⟨t * 512 / 4096, by omega⟩ ⟨5120 + c.val, by omega⟩)) :
    k0_pay5 (F := Ideal) (blk t h x0) (k0_pay4 v29) = blk t h (DO x0 x2) := by
  refine ext2 fun r c => ?_
  show blk t h x0 (ix2 r c) * broadcastTo S512x1024 (shapeCast S1x1024 v29 shapeCasts_S1x1x1x1024_S1x1024) broadcasts_S1x1024_S512x1024 (ix2 r c)
    = blk t h (DO x0 x2) (ix2 r c)
  rw [bcast_row, shapeCast_apply _ _ _ (ix4 0 0 0 c) (by simp [Shape.rowMajor_val_two, Shape.rowMajor_val_four]), hv, mul_comm, blk_apply t h x0, blk_apply t h (DO x0 x2),
    do_apply]
  exact congrArg (· * x0 (ix2 ⟨t * 512 + r.val, by omega⟩ c)) (congrArg x2 (ix3_ext rfl (by dsimp; omega) rfl))

/-- The gradient of the squared relu's output, one quarter of the columns. -/
theorem daq (a : ℕ) (ha : a < 4) (w : Vec Ideal S1x1024x1024 .bf16) (hw : ∀ r q : Fin 1024, w (ix3 0 r q) = x5 (ix2 ⟨a * 1024 + r.val, by omega⟩ q)) :
    mmT (blk t h (DO x0 x2)) w
      = blk t h (colq a ha (val_main_v58 (F := Ideal) x0 x2 x5)) := by
  refine ext2 fun r c => ?_
  refine (mm_apply _ _ _).trans ?_
  rw [blk_apply]
  show _ = val_main_v58 (F := Ideal) x0 x2 x5 (ix2 _ _)
  rw [val_main_v58_apply]
  refine Finset.sum_congr rfl fun k _ => congrArg₂ (· * ·) ?_ ?_
  · show DO x0 x2 _ = DO x0 x2 _
    exact congrArg _ (ix2_ext rfl rfl)
  · rw [shapeCast_apply _ _ _ (ix3 0 c k) (by simp [Shape.rowMajor_val_two, Shape.rowMajor_val_three])]
    refine (hw c k).trans (congrArg x5 (ix2_ext rfl rfl))

/-- The squared relu's derivative: twice the relu, which is already zero where the argument is not positive. -/
theorem df_eq (i : S8192x4096.Idx) :
    val_main_v58 (F := Ideal) x0 x2 x5 i * (Ideal.ofBits .f32 0x40000000#32 * max (FF x1 x2 x3 x4 i) (Ideal.ofBits .f32 0x00000000#32))
      = DF x0 x1 x2 x3 x4 x5 i := by
  show _ = val_main_v61 (F := Ideal) x0 x1 x2 x3 x4 x5 i
  rw [val_main_v61_apply, val_main_v38_apply, val_main_v59_apply, val_main_v42_apply, val_main_v36_apply]
  have e60 : val_main_v60 (F := Ideal) i = 0 := Ideal.ofBits_zero_f32
  have e41 : val_main_v41 (F := Ideal) i = Ideal.ofBits .f32 0x40000000#32 := rfl
  have e37 : val_main_v37 (F := Ideal) i = 0 := Ideal.ofBits_zero_f32
  have e0 : val_main_call0_v0 (F := Ideal) i = Ideal.ofBits .f32 0x00000000#32 := rfl
  rw [e60, e41, e37, e0, Ideal.ofBits_zero_f32]
  show _ * (_ * max (val_main_v35 (F := Ideal) x1 x2 x3 x4 i) 0) = _
  generalize val_main_v35 (F := Ideal) x1 x2 x3 x4 i = f
  generalize val_main_v58 (F := Ideal) x0 x2 x5 i = d
  show _ = Scalar.select (BitVec.ofBool (decide (0 < f))) (d * (Ideal.ofBits .f32 0x40000000#32 * max f 0)) 0
  by_cases hf : (0 : EReal) < f
  · rw [decide_eq_true hf]; rfl
  · rw [decide_eq_false hf, max_eq_right (not_lt.mp hf), mul_zero, mul_zero]; rfl

/-- One quarter of the gradient of the feed-forward's hidden rows. -/
theorem pay6 (v30 : FVec Ideal S1x1024 .f32) (hv : k0_pay5 (F := Ideal) (blk t h x0) v30 = blk t h (DO x0 x2))
    (w : Vec Ideal S1x1024x1024 .bf16) (hw : ∀ r q : Fin 1024, w (ix3 0 r q) = x5 (ix2 ⟨0 * 1024 + r.val, by omega⟩ q)) :
    k0_pay6 (F := Ideal) (blk t h x0) v30 w (blk t h (colq 0 (by decide) (FF x1 x2 x3 x4))) = blk t h (colq 0 (by decide) (DF x0 x1 x2 x3 x4 x5)) := by
  refine ext2 fun r c => ?_
  show mmT (k0_pay5 (F := Ideal) (blk t h x0) v30) w (ix2 r c)
      * (Ideal.ofBits .f32 0x40000000#32 * max (shapeCast S512x1024 (blk t h (colq 0 (by decide) (FF x1 x2 x3 x4))) shapeCasts_S512x1024_S512x1024 (ix2 r c)) (Ideal.ofBits .f32 0x00000000#32)) = _
  rw [hv, daq x0 x2 x5 t h 0 (by decide) w hw, shapeCast_self]
  exact df_eq x0 x1 x2 x3 x4 x5 _

theorem pay8 (v30 : FVec Ideal S1x1024 .f32) (hv : k0_pay5 (F := Ideal) (blk t h x0) v30 = blk t h (DO x0 x2))
    (w : Vec Ideal S1x1024x1024 .bf16) (hw : ∀ r q : Fin 1024, w (ix3 0 r q) = x5 (ix2 ⟨1 * 1024 + r.val, by omega⟩ q)) :
    k0_pay9 (F := Ideal) (k0_pay8 (F := Ideal) (blk t h x0) v30 w (blk t h (colq 1 (by decide) (FF x1 x2 x3 x4)))) = blk t h (colq 1 (by decide) (DF x0 x1 x2 x3 x4 x5)) := by
  refine ext2 fun r c => ?_
  show mmT (k0_pay5 (F := Ideal) (blk t h x0) v30) w (ix2 r c)
      * (Ideal.ofBits .f32 0x40000000#32 * max (shapeCast S512x1024 (blk t h (colq 1 (by decide) (FF x1 x2 x3 x4))) shapeCasts_S512x1024_S512x1024 (ix2 r c)) (Ideal.ofBits .f32 0x00000000#32)) = _
  rw [hv, daq x0 x2 x5 t h 1 (by decide) w hw, shapeCast_self]
  exact df_eq x0 x1 x2 x3 x4 x5 _

theorem pay10 (w : Vec Ideal S1x1024x1024 .bf16) (hw : ∀ r q : Fin 1024, w (ix3 0 r q) = x5 (ix2 ⟨2 * 1024 + r.val, by omega⟩ q)) :
    k0_pay10 (F := Ideal) (blk t h (DO x0 x2)) w (blk t h (colq 2 (by decide) (FF x1 x2 x3 x4))) = blk t h (colq 2 (by decide) (DF x0 x1 x2 x3 x4 x5)) := by
  refine ext2 fun r c => ?_
  show mmT (blk t h (DO x0 x2)) w (ix2 r c)
      * (Ideal.ofBits .f32 0x40000000#32 * max (shapeCast S512x1024 (blk t h (colq 2 (by decide) (FF x1 x2 x3 x4))) shapeCasts_S512x1024_S512x1024 (ix2 r c)) (Ideal.ofBits .f32 0x00000000#32)) = _
  rw [daq x0 x2 x5 t h 2 (by decide) w hw, shapeCast_self]
  exact df_eq x0 x1 x2 x3 x4 x5 _

theorem pay14 (w : Vec Ideal S1x1024x1024 .bf16) (hw : ∀ r q : Fin 1024, w (ix3 0 r q) = x5 (ix2 ⟨3 * 1024 + r.val, by omega⟩ q)) :
    k0_pay14 (F := Ideal) (k0_pay12 (F := Ideal) (blk t h (DO x0 x2)) w) (k0_pay13 (F := Ideal) (blk t h (colq 3 (by decide) (FF x1 x2 x3 x4)))) = blk t h (colq 3 (by decide) (DF x0 x1 x2 x3 x4 x5)) := by
  refine ext2 fun r c => ?_
  show mmT (blk t h (DO x0 x2)) w (ix2 r c)
      * (Ideal.ofBits .f32 0x40000000#32 * max (shapeCast S512x1024 (blk t h (colq 3 (by decide) (FF x1 x2 x3 x4))) shapeCasts_S512x1024_S512x1024 (ix2 r c)) (Ideal.ofBits .f32 0x00000000#32)) = _
  rw [daq x0 x2 x5 t h 3 (by decide) w hw, shapeCast_self]
  exact df_eq x0 x1 x2 x3 x4 x5 _

/-- A quarter's part of the gradient of the normed rows. -/
theorem dhq (a : ℕ) (ha : a < 4) (X : Arr S8192x4096) (w : Vec Ideal S1x1024x1024 .bf16)
    (hw : ∀ r q : Fin 1024, w (ix3 0 r q) = x4 (ix2 r ⟨a * 1024 + q.val, by omega⟩)) (r : Fin 512) (q : Fin 1024) :
    mmT (blk t h (colq a ha X)) w (ix2 r q)
      = ∑ k : Fin 1024, X (ix2 ⟨t * 512 + r.val, by omega⟩ ⟨a * 1024 + k.val, by omega⟩) * x4 (ix2 q ⟨a * 1024 + k.val, by omega⟩) := by
  refine (mm_apply _ _ _).trans ?_
  refine Finset.sum_congr rfl fun k _ => congrArg₂ (· * ·) rfl ?_
  rw [shapeCast_apply _ _ _ (ix3 0 q k) (by simp [Shape.rowMajor_val_two, Shape.rowMajor_val_three])]
  exact hw q k

/-- The gradient of the normed rows. -/
theorem pay15 (v30 : FVec Ideal S1x1024 .f32) (hv : k0_pay5 (F := Ideal) (blk t h x0) v30 = blk t h (DO x0 x2))
    (a0 a1 a2 a3 b0 b1 b2 b3 : Vec Ideal S1x1024x1024 .bf16)
    (ha0 : ∀ r q : Fin 1024, a0 (ix3 0 r q) = x4 (ix2 r ⟨0 * 1024 + q.val, by omega⟩))
    (ha1 : ∀ r q : Fin 1024, a1 (ix3 0 r q) = x4 (ix2 r ⟨1 * 1024 + q.val, by omega⟩))
    (ha2 : ∀ r q : Fin 1024, a2 (ix3 0 r q) = x4 (ix2 r ⟨2 * 1024 + q.val, by omega⟩))
    (ha3 : ∀ r q : Fin 1024, a3 (ix3 0 r q) = x4 (ix2 r ⟨3 * 1024 + q.val, by omega⟩))
    (hb0 : ∀ r q : Fin 1024, b0 (ix3 0 r q) = x5 (ix2 ⟨0 * 1024 + r.val, by omega⟩ q))
    (hb1 : ∀ r q : Fin 1024, b1 (ix3 0 r q) = x5 (ix2 ⟨1 * 1024 + r.val, by omega⟩ q))
    (hb2 : ∀ r q : Fin 1024, b2 (ix3 0 r q) = x5 (ix2 ⟨2 * 1024 + r.val, by omega⟩ q))
    (hb3 : ∀ r q : Fin 1024, b3 (ix3 0 r q) = x5 (ix2 ⟨3 * 1024 + r.val, by omega⟩ q)) :
    k0_pay15 (F := Ideal)
        (k0_pay11 (F := Ideal) (blk t h (DO x0 x2))
          (k0_pay7 (F := Ideal) (blk t h x0) v30 b0 (blk t h (colq 0 (by decide) (FF x1 x2 x3 x4))) a0)
          (k0_pay8 (F := Ideal) (blk t h x0) v30 b1 (blk t h (colq 1 (by decide) (FF x1 x2 x3 x4)))) a1 b2
          (blk t h (colq 2 (by decide) (FF x1 x2 x3 x4))) a2)
        (k0_pay12 (F := Ideal) (blk t h (DO x0 x2)) b3) (k0_pay13 (F := Ideal) (blk t h (colq 3 (by decide) (FF x1 x2 x3 x4)))) a3
      = blk t h (DH x0 x1 x2 x3 x4 x5) := by
  refine ext2 fun r q => ?_
  have e : ∀ (u0 u1 u2 u3 : FVec Ideal S512x1024 .bf16),
      (Ideal.ofBits .f32 0x00000000#32 + mmT u0 a0 (ix2 r q)
      + mmT u1 a1 (ix2 r q)
      + mmT u2 a2 (ix2 r q)
      + mmT u3 a3 (ix2 r q) : EReal)
      = 0 + mmT u0 a0 (ix2 r q)
      + mmT u1 a1 (ix2 r q)
      + mmT u2 a2 (ix2 r q)
      + mmT u3 a3 (ix2 r q) := by
    intro u0 u1 u2 u3; rw [Ideal.ofBits_zero_f32]
  refine (e (k0_pay6 (F := Ideal) (blk t h x0) v30 b0 (blk t h (colq 0 (by decide) (FF x1 x2 x3 x4))))
      (k0_pay9 (F := Ideal) (k0_pay8 (F := Ideal) (blk t h x0) v30 b1 (blk t h (colq 1 (by decide) (FF x1 x2 x3 x4)))))
      (k0_pay10 (F := Ideal) (blk t h (DO x0 x2)) b2 (blk t h (colq 2 (by decide) (FF x1 x2 x3 x4))))
      (k0_pay14 (F := Ideal) (k0_pay12 (F := Ideal) (blk t h (DO x0 x2)) b3) (k0_pay13 (F := Ideal) (blk t h (colq 3 (by decide) (FF x1 x2 x3 x4)))))).trans ?_
  rw [pay6 x0 x1 x2 x3 x4 x5 t h v30 hv b0 hb0, pay8 x0 x1 x2 x3 x4 x5 t h v30 hv b1 hb1, pay10 x0 x1 x2 x3 x4 x5 t h b2 hb2, pay14 x0 x1 x2 x3 x4 x5 t h b3 hb3,
    dhq x4 t h 0 _ _ _ ha0, dhq x4 t h 1 _ _ _ ha1, dhq x4 t h 2 _ _ _ ha2, dhq x4 t h 3 _ _ _ ha3]
  refine (quarters (fun k => DF x0 x1 x2 x3 x4 x5 (ix2 ⟨t * 512 + r.val, by omega⟩ k) * x4 (ix2 q k))).trans ?_
  rw [blk_apply]
  show _ = val_main_v62 (F := Ideal) x0 x1 x2 x3 x4 x5 _
  rw [val_main_v62_apply]
  refine Finset.sum_congr rfl fun k _ => congrArg₂ (· * ·) (congrArg (DF x0 x1 x2 x3 x4 x5) ?_) (congrArg x4 ?_) <;> exact ix2_ext rfl rfl

/-- The gate's gradient row after a point: what it held, plus the block's column sums. -/
theorem pay3 (v17 : Vec Ideal S1x1x1024 .f32) (c : Fin 1024) :
    k0_pay3 (F := Ideal) (blk t h x0) v17 (blk t h (OO x1 x2 x3 x4 x5)) (ix3 0 0 c)
      = v17 (ix3 0 0 c) + tile (fun i => x0 i * OO x1 x2 x3 x4 x5 i) c t := by
  have e : k0_pay3 (F := Ideal) (blk t h x0) v17 (blk t h (OO x1 x2 x3 x4 x5))
      = shapeCast S1x1x1024 (addf (F := Ideal) (φ := .f32) (shapeCast S1x1024 v17 shapeCasts_S1x1x1024_S1x1024)
          (shapeCast S1x1024 (multiReduction (F := Ideal) (φ := .f32) .add [0] S1024 (mulf (F := Ideal) (φ := .f32) (blk t h x0)
              (shapeCast S512x1024 (blk t h (OO x1 x2 x3 x4 x5)) shapeCasts_S512x1024_S512x1024))
              0x00000000#32 reduces_S512x1024_S1024 (.inl rfl) rfl) shapeCasts_S1024_S1x1024)) shapeCasts_S1x1024_S1x1x1024 := rfl
  rw [e, shapeCast_apply _ _ _ (ix2 0 c) (by simp [Shape.rowMajor_val_two, Shape.rowMajor_val_three]), addf_apply,
    shapeCast_apply _ _ _ (ix3 0 0 c) (by simp [Shape.rowMajor_val_two, Shape.rowMajor_val_three]),
    shapeCast_apply _ _ _ (ix1 c) (by simp [Shape.rowMajor_val_two, Shape.rowMajor_val_one]), shapeCast_self, tile_eq _ _ _ h]
  exact congrArg (v17 (ix3 0 0 c) + ·) (colsum_apply _ _ reduces_S512x1024_S1024 (.inl rfl) rfl c)

end Cert.FfnPay
-- ==== Proof.NormPay.lean ====
/-
  The backward pass of a modulated norm on one block of 512 tokens, as the two kernels write it: each value is the block of
  the whole-array formula.
-/
module

public import proofs.«01_k».proof.Proof.NormSpec

@[expose] public section

noncomputable section

namespace Cert.NormPay

open Cert.Tools Cert.Reals Cert.NormSpec
open Idealize.ShloMosaic Idealize.ShloMosaic.ValueIdx

abbrev SB : Shape := ⟨2, ![512, 1024]⟩
abbrev SC : Shape := ⟨2, ![512, 1]⟩
abbrev SR : Shape := ⟨2, ![1, 1024]⟩
abbrev SV : Shape := ⟨1, ![512]⟩
abbrev SW : Shape := ⟨1, ![1024]⟩
abbrev S3 : Shape := ⟨3, ![1, 1, 1024]⟩
abbrev S4 : Shape := ⟨4, ![1, 1, 1, 1024]⟩

theorem redRow : SB.Reduces [1] SV := by decide
theorem redCol : SB.Reduces [0] SW := by decide
theorem castCol : SV.ShapeCasts SC := by decide
theorem castRow : SW.ShapeCasts SR := by decide
theorem cast3 : S3.ShapeCasts SR := by decide
theorem cast3' : SR.ShapeCasts S3 := by decide
theorem cast4 : S4.ShapeCasts SR := by decide
theorem castSelf : SR.ShapeCasts SR := by decide
theorem bcCol : SC.Broadcasts SB := by decide
theorem bcRow : SR.Broadcasts SB := by decide

/-- One column, repeated along a matrix. -/
theorem bcast_col {α : Type} (v : SC.Idx → α) (r : Fin 512) (c : Fin 1024) : broadcastTo SB v bcCol (ix2 r c) = v (ix2 r 0) :=
  broadcastTo_apply v bcCol (ix2 r c) (ix2 r 0) (fun a => match a with
    | ⟨0, _⟩ => rfl
    | ⟨1, _⟩ => rfl)

theorem rowred_apply (src : FVec Ideal SB .f32) (acc : BitVec (FTy.f32).bits)
    (h : SB.Reduces [1] SV) (hφ : FKind.Formats .f32) (hacc : acc = FKind.add.neutral .f32 hφ) (r : Fin 512) :
    multiReduction .add [1] SV src acc h hφ hacc (ix1 r) = ∑ k : Fin 1024, src (ix2 r k) := by
  rw [Ideal.multiReduction_add_single]
  exact Finset.sum_congr rfl fun k _ => congrArg src (ix2_ext rfl rfl)

/-- The row sums of a block, as a column. -/
def rowSum (X : FVec Ideal SB .f32) : FVec Ideal SC .f32 :=
  shapeCast SC (multiReduction (F := Ideal) .add [1] SV X 0x00000000#32 redRow (.inl rfl) rfl) castCol

theorem rowSum_apply (X : FVec Ideal SB .f32) (r : Fin 512) : rowSum X (ix2 r 0) = ∑ k : Fin 1024, X (ix2 r k) := by
  unfold rowSum
  rw [shapeCast_apply _ _ _ (ix1 r) (by simp [Shape.rowMajor_val_two, Shape.rowMajor_val_one])]
  exact rowred_apply X _ redRow (.inl rfl) rfl r

/-- The column sums of a block, as a row. -/
def colSum (X : FVec Ideal SB .f32) : FVec Ideal SR .f32 :=
  shapeCast SR (multiReduction (F := Ideal) .add [0] SW X 0x00000000#32 redCol (.inl rfl) rfl) castRow

theorem colSum_apply (X : FVec Ideal SB .f32) (c : Fin 1024) : colSum X (ix2 0 c) = ∑ r : Fin 512, X (ix2 r c) := by
  unfold colSum
  rw [shapeCast_apply _ _ _ (ix1 c) (by simp [Shape.rowMajor_val_two, Shape.rowMajor_val_one])]
  exact colsum_apply _ _ redCol (.inl rfl) rfl c

/-- A column divided by the width. -/
def mean (X : FVec Ideal SB .f32) : FVec Ideal SC .f32 :=
  divf (F := Ideal) (φ := .f32) (rowSum X) (broadcast SC (Scalar.ofBits (F := Ideal) .f32 0x44800000#32))

/-- The reciprocal root of the mean square of each row. -/
def rmsB (X : FVec Ideal SB .f32) : FVec Ideal SC .f32 :=
  rsqrt (F := Ideal) (φ := .f32) (addf (F := Ideal) (φ := .f32) (mean (mulf (F := Ideal) (φ := .f32) X X))
    (broadcast SC (Scalar.ofBits (F := Ideal) .f32 0x358637BD#32)))

/-- The normalised rows of a block. -/
def nrmB (X : FVec Ideal SB .f32) : FVec Ideal SB .f32 := mulf (F := Ideal) (φ := .f32) X (broadcastTo SB (rmsB X) bcCol)

/-- The gradient times gain and scale, on a block. -/
def gsB (H : FVec Ideal SB .f32) (s : FVec Ideal SR .f32) (g : Vec Ideal S3 .f32) : FVec Ideal SB .f32 :=
  mulf (F := Ideal) (φ := .f32) H (broadcastTo SB (mulf (F := Ideal) (φ := .f32) (shapeCast SR g cast3)
    (addf (F := Ideal) (φ := .f32) (broadcast SR (Scalar.ofBits (F := Ideal) .f32 0x3F800000#32)) s)) bcRow)

/-- The gradient of the rows of a block. -/
def dxB (X H D : FVec Ideal SB .f32) (s : FVec Ideal SR .f32) (g : Vec Ideal S3 .f32) : FVec Ideal SB .f32 :=
  addf (F := Ideal) (φ := .f32) D (mulf (F := Ideal) (φ := .f32) (broadcastTo SB (rmsB X) bcCol)
    (subf (F := Ideal) (φ := .f32) (gsB H s g)
      (mulf (F := Ideal) (φ := .f32) (nrmB X) (broadcastTo SB (mean (mulf (F := Ideal) (φ := .f32) (gsB H s g) (nrmB X))) bcCol))))

variable (X H D : M2 8192 1024) (t : ℕ) (h : t * 512 + 512 ≤ 8192)

theorem rmsB_apply (r : Fin 512) : rmsB (blk t h X) (ix2 r 0) = rms (row X ⟨t * 512 + r.val, by omega⟩) := by
  show Ideal.rsqrt (Ideal.div (rowSum (mulf (F := Ideal) (φ := .f32) (blk t h X) (blk t h X)) (ix2 r 0)) (Ideal.ofBits .f32 0x44800000#32) + Ideal.ofBits .f32 0x358637BD#32) = _
  rw [rowSum_apply]
  rfl

theorem nrmB_eq : nrmB (blk t h X) = blk t h (nrm X) := by
  refine ext2 fun r c => ?_
  show blk t h X (ix2 r c) * broadcastTo SB (rmsB (blk t h X)) bcCol (ix2 r c) = _
  rw [bcast_col, rmsB_apply]
  rfl

variable (mod : M3 4 2 6144) (gam : M2 4 1024) (o : ℕ) (ho : o + 1024 ≤ 6144)

theorem gsB_apply (s : FVec Ideal SR .f32) (g : Vec Ideal S3 .f32)
    (hs : ∀ k : Fin 1024, s (ix2 0 k) = mod (ix3 0 ⟨t * 512 / 4096, by omega⟩ ⟨o + k.val, by omega⟩))
    (hg : ∀ k : Fin 1024, g (ix3 0 0 k) = gam (ix2 0 k)) (r : Fin 512) (c : Fin 1024) :
    gsB (blk t h H) s g (ix2 r c)
      = H (ix2 ⟨t * 512 + r.val, by omega⟩ c) * (gn gam c * (1 + modRow mod o ho (seqOf ⟨t * 512 + r.val, by omega⟩) c)) := by
  show blk t h H (ix2 r c) * broadcastTo SB _ bcRow (ix2 r c) = _
  rw [bcast_row]
  show _ * (shapeCast SR g cast3 (ix2 0 c) * (Ideal.ofBits .f32 0x3F800000#32 + s (ix2 0 c))) = _
  rw [shapeCast_apply _ _ _ (ix3 0 0 c) (by simp [Shape.rowMajor_val_two, Shape.rowMajor_val_three]), hg, hs, Ideal.ofBits_one_f32]
  refine congrArg₂ (· * ·) rfl (congrArg₂ (· * ·) rfl (congrArg₂ (· + ·) rfl (congrArg mod (ix3_ext rfl ?_ rfl))))
  show t * 512 / 4096 = (t * 512 + r.val) / 4096
  omega

theorem dxB_eq (s : FVec Ideal SR .f32) (g : Vec Ideal S3 .f32)
    (hs : ∀ k : Fin 1024, s (ix2 0 k) = mod (ix3 0 ⟨t * 512 / 4096, by omega⟩ ⟨o + k.val, by omega⟩))
    (hg : ∀ k : Fin 1024, g (ix3 0 0 k) = gam (ix2 0 k)) :
    dxB (blk t h X) (blk t h H) (blk t h D) s g = blk t h (dxs X H D mod gam o ho) := by
  refine ext2 fun r c => ?_
  show blk t h D (ix2 r c) + broadcastTo SB (rmsB (blk t h X)) bcCol (ix2 r c) * (gsB (blk t h H) s g (ix2 r c)
    - nrmB (blk t h X) (ix2 r c) * broadcastTo SB (mean (mulf (F := Ideal) (φ := .f32) (gsB (blk t h H) s g) (nrmB (blk t h X)))) bcCol (ix2 r c)) = _
  rw [bcast_col, bcast_col, rmsB_apply, gsB_apply H t h mod gam o ho s g hs hg, nrmB_eq]
  show _ + _ * (_ - _ * Ideal.div (rowSum (mulf (F := Ideal) (φ := .f32) (gsB (blk t h H) s g) (blk t h (nrm X))) (ix2 r 0)) (Ideal.ofBits .f32 0x44800000#32)) = _
  rw [rowSum_apply]
  have e : ∀ k : Fin 1024, (mulf (F := Ideal) (φ := .f32) (gsB (blk t h H) s g) (blk t h (nrm X)) : FVec Ideal SB .f32) (ix2 r k)
      = H (ix2 ⟨t * 512 + r.val, by omega⟩ k) * (gn gam k * (1 + modRow mod o ho (seqOf ⟨t * 512 + r.val, by omega⟩) k)) * nrm X (ix2 ⟨t * 512 + r.val, by omega⟩ k) := by
    intro k
    exact congrArg (· * blk t h (nrm X) (ix2 r k)) (gsB_apply H t h mod gam o ho s g hs hg r k)
  rw [Finset.sum_congr rfl fun k _ => e k]
  rfl

/-- The column sums of a block are the tile's. -/
theorem colSum_tile (f : M2 8192 1024) (c : Fin 1024) : colSum (blk t h f) (ix2 0 c) = tile f c t := by
  rw [colSum_apply, tile_eq _ _ _ h]

theorem colSum_hx (c : Fin 1024) :
    colSum (mulf (F := Ideal) (φ := .f32) (blk t h H) (blk t h (nrm X))) (ix2 0 c) = tile (hx X H) c t :=
  colSum_tile t h (hx X H) c

/-- A row held as a 1×1×1024 block, with something added. -/
theorem addRow (v : Vec Ideal S3 .f32) (w : FVec Ideal SR .f32) (c : Fin 1024) :
    shapeCast S3 (addf (F := Ideal) (φ := .f32) (shapeCast SR v cast3) w) cast3' (ix3 0 0 c) = v (ix3 0 0 c) + w (ix2 0 c) := by
  rw [shapeCast_apply _ _ _ (ix2 0 c) (by simp [Shape.rowMajor_val_two, Shape.rowMajor_val_three]), addf_apply,
    shapeCast_apply _ _ _ (ix3 0 0 c) (by simp [Shape.rowMajor_val_two, Shape.rowMajor_val_three])]

/-- A row read out of a 1×1×1024 block. -/
theorem row3 (v : Vec Ideal S3 .f32) (c : Fin 1024) : (shapeCast SR v cast3 : FVec Ideal SR .f32) (ix2 0 c) = v (ix3 0 0 c) :=
  shapeCast_apply _ _ _ (ix3 0 0 c) (by simp [Shape.rowMajor_val_two, Shape.rowMajor_val_three])

/-- A row read out of a 1×1×1×1024 block. -/
theorem row4 (v : Vec Ideal S4 .f32) (c : Fin 1024) : (shapeCast SR v cast4 : FVec Ideal SR .f32) (ix2 0 c) = v (ix4 0 0 0 c) :=
  shapeCast_apply _ _ _ (ix4 0 0 0 c) (by simp [Shape.rowMajor_val_two, Shape.rowMajor_val_four])

end Cert.NormPay
-- ==== Proof.FfnRun.lean ====
/-
  The run of the feed-forward's backward kernel: where each window's block lies in its array, and what the input blocks hold.
-/
module

public import proofs.«01_k».proof.Proof.Gen.Kernel2Ideal.Value
public import proofs.«01_k».proof.Proof.FfnPay
public import proofs.«01_k».proof.Proof.NormPay

@[expose] public section

noncomputable section

namespace Cert.FfnRun

open Cert.Kernel2Ideal Cert.Kernel2Ideal.Gen Cert.Kernel2Ideal.Value Cert.Reference2Ideal.Read Cert.Tools Cert.NormSpec Cert.FfnPay Cert.FfnHost
open Idealize.ShloMosaic Idealize.ShloMosaic.TcCoe Idealize.SL.Sem Idealize.ShloMosaic.ValueIdx

variable (m : (ℓ : Loc nD τ sig) → Buf (Elt Ideal) ℓ)

theorem tlt (t : Fin cfg0.N) : t.val < 16 := t.isLt
theorem tb (t : Fin cfg0.N) : t.val * 512 + 512 ≤ 8192 := by have := tlt t; omega

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)
theorem idx6 : ∀ t : Fin cfg0.N, win0_6.index t (0 : Fin 3) = 0 ∧ win0_6.index t (1 : Fin 3) = 0 ∧ win0_6.index t (2 : Fin 3) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 := (by decide +kernel : ∀ t : Fin grid0.N, _)
theorem idx3 : ∀ t : Fin cfg0.N, win0_3.index t (0 : Fin 3) = 0 ∧ win0_3.index t (1 : Fin 3) = 0 ∧ win0_3.index t (2 : Fin 3) = 0 := (by decide +kernel : ∀ t : Fin grid0.N, _)
theorem idx2 : ∀ t : Fin cfg0.N, win0_2.index t (0 : Fin 4) = 0 ∧ win0_2.index t (1 : Fin 4) = t.val / 8 ∧ win0_2.index t (2 : Fin 4) = 0 ∧ win0_2.index t (3 : Fin 4) = 0 := (by decide +kernel : ∀ t : Fin grid0.N, _)
theorem idx11 : ∀ t : Fin cfg0.N, win0_11.index t (0 : Fin 3) = t.val / 8 ∧ win0_11.index t (1 : Fin 3) = 0 ∧ win0_11.index t (2 : Fin 3) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)

/-- A block's index in its array. -/
theorem emb0 (t : Fin cfg0.N) (r : Fin 512) (q : Fin 1024) :
    ((cfg0.win 0).blk t).view.emb (ix2 r q : S512x1024.Idx) = (ix2 ⟨t.val * 512 + r.val, by have := tlt t; omega⟩ q : S8192x1024.Idx) := by
  obtain ⟨e0, e1⟩ := idx0 t
  refine ix2_ext ?_ ?_
  · show win0_0.index t (0 : Fin 2) * 512 + 1 * r.val = t.val * 512 + r.val; omega
  · show win0_0.index t (1 : Fin 2) * 1024 + 1 * q.val = q.val; omega
theorem emb1 (t : Fin cfg0.N) (r : Fin 512) (q : Fin 1024) :
    ((cfg0.win 1).blk t).view.emb (ix2 r q : S512x1024.Idx) = (ix2 ⟨t.val * 512 + r.val, by have := tlt t; omega⟩ q : S8192x1024.Idx) := by
  obtain ⟨e0, e1⟩ := idx1 t
  refine ix2_ext ?_ ?_
  · show win0_1.index t (0 : Fin 2) * 512 + 1 * r.val = t.val * 512 + r.val; omega
  · show win0_1.index t (1 : Fin 2) * 1024 + 1 * q.val = q.val; omega
theorem emb4 (t : Fin cfg0.N) (r : Fin 512) (q : Fin 1024) :
    ((cfg0.win 4).blk t).view.emb (ix2 r q : S512x1024.Idx) = (ix2 ⟨t.val * 512 + r.val, by have := tlt t; omega⟩ q : S8192x1024.Idx) := by
  obtain ⟨e0, e1⟩ := idx4 t
  refine ix2_ext ?_ ?_
  · show win0_4.index t (0 : Fin 2) * 512 + 1 * r.val = t.val * 512 + r.val; omega
  · show win0_4.index t (1 : Fin 2) * 1024 + 1 * q.val = q.val; omega
theorem emb8 (t : Fin cfg0.N) (r : Fin 512) (q : Fin 1024) :
    ((cfg0.win 8).blk t).view.emb (ix2 r q : S512x1024.Idx) = (ix2 ⟨t.val * 512 + r.val, by have := tlt t; omega⟩ q : S8192x1024.Idx) := by
  obtain ⟨e0, e1⟩ := idx8 t
  refine ix2_ext ?_ ?_
  · show win0_8.index t (0 : Fin 2) * 512 + 1 * r.val = t.val * 512 + r.val; omega
  · show win0_8.index t (1 : Fin 2) * 1024 + 1 * q.val = q.val; omega
theorem emb10 (t : Fin cfg0.N) (r : Fin 512) (q : Fin 1024) :
    ((cfg0.win 10).blk t).view.emb (ix2 r q : S512x1024.Idx) = (ix2 ⟨t.val * 512 + r.val, by have := tlt t; omega⟩ q : S8192x1024.Idx) := by
  obtain ⟨e0, e1⟩ := idx10 t
  refine ix2_ext ?_ ?_
  · show win0_10.index t (0 : Fin 2) * 512 + 1 * r.val = t.val * 512 + r.val; omega
  · show win0_10.index t (1 : Fin 2) * 1024 + 1 * q.val = q.val; omega
theorem emb5 (t : Fin cfg0.N) (r : Fin 512) (q : Fin 4096) :
    ((cfg0.win 5).blk t).view.emb (ix2 r q : S512x4096.Idx) = (ix2 ⟨t.val * 512 + r.val, by have := tlt t; omega⟩ q : S8192x4096.Idx) := by
  obtain ⟨e0, e1⟩ := idx5 t
  refine ix2_ext ?_ ?_
  · show win0_5.index t (0 : Fin 2) * 512 + 1 * r.val = t.val * 512 + r.val; omega
  · show win0_5.index t (1 : Fin 2) * 4096 + 1 * q.val = q.val; omega
theorem emb9 (t : Fin cfg0.N) (r : Fin 512) (q : Fin 4096) :
    ((cfg0.win 9).blk t).view.emb (ix2 r q : S512x4096.Idx) = (ix2 ⟨t.val * 512 + r.val, by have := tlt t; omega⟩ q : S8192x4096.Idx) := by
  obtain ⟨e0, e1⟩ := idx9 t
  refine ix2_ext ?_ ?_
  · show win0_9.index t (0 : Fin 2) * 512 + 1 * r.val = t.val * 512 + r.val; omega
  · show win0_9.index t (1 : Fin 2) * 4096 + 1 * q.val = q.val; omega
theorem emb6 (t : Fin cfg0.N) (j : S4x1024x1024.Idx) : ((cfg0.win 6).blk t).view.emb j = j := by
  obtain ⟨e0, e1, e2⟩ := idx6 t
  refine ix3_ext ?_ ?_ ?_
  · show win0_6.index t (0 : Fin 3) * 4 + 1 * (j 0).val = (j 0).val; omega
  · show win0_6.index t (1 : Fin 3) * 1024 + 1 * (j 1).val = (j 1).val; omega
  · show win0_6.index t (2 : Fin 3) * 1024 + 1 * (j 2).val = (j 2).val; omega
theorem emb7 (t : Fin cfg0.N) (j : S4x1024x1024.Idx) : ((cfg0.win 7).blk t).view.emb j = j := by
  obtain ⟨e0, e1, e2⟩ := idx7 t
  refine ix3_ext ?_ ?_ ?_
  · show win0_7.index t (0 : Fin 3) * 4 + 1 * (j 0).val = (j 0).val; omega
  · show win0_7.index t (1 : Fin 3) * 1024 + 1 * (j 1).val = (j 1).val; omega
  · show win0_7.index t (2 : Fin 3) * 1024 + 1 * (j 2).val = (j 2).val; omega
theorem emb3 (t : Fin cfg0.N) (q : Fin 1024) :
    ((cfg0.win 3).blk t).view.emb (ix3 0 0 q : S1x1x1024.Idx) = (ix3 0 0 q : S4x1x1024.Idx) := by
  obtain ⟨e0, e1, e2⟩ := idx3 t
  refine ix3_ext ?_ ?_ ?_
  · show win0_3.index t (0 : Fin 3) * 1 + 1 * 0 = 0; omega
  · show win0_3.index t (1 : Fin 3) * 1 + 1 * 0 = 0; omega
  · show win0_3.index t (2 : Fin 3) * 1024 + 1 * q.val = q.val; omega
theorem emb2 (t : Fin cfg0.N) (r : Fin 8) (q : Fin 1024) :
    ((cfg0.win 2).blk t).view.emb (ix4 0 0 r q : S1x1x8x1024.Idx) = (ix4 0 ⟨t.val / 8, by have := tlt t; omega⟩ r q : S4x2x8x1024.Idx) := by
  obtain ⟨e0, e1, e2, e3⟩ := idx2 t
  refine ix4_ext ?_ ?_ ?_ ?_
  · show win0_2.index t (0 : Fin 4) * 1 + 1 * 0 = 0; omega
  · show win0_2.index t (1 : Fin 4) * 1 + 1 * 0 = t.val / 8; omega
  · show win0_2.index t (2 : Fin 4) * 8 + 1 * r.val = r.val; omega
  · show win0_2.index t (3 : Fin 4) * 1024 + 1 * q.val = q.val; omega
theorem emb11 (t : Fin cfg0.N) (r : Fin 8) (q : Fin 1024) :
    ((cfg0.win 11).blk t).view.emb (ix3 0 r q : S1x8x1024.Idx) = (ix3 ⟨t.val / 8, by have := tlt t; omega⟩ r q : S2x8x1024.Idx) := by
  obtain ⟨e0, e1, e2⟩ := idx11 t
  refine ix3_ext ?_ ?_ ?_
  · show win0_11.index t (0 : Fin 3) * 1 + 1 * 0 = t.val / 8; omega
  · show win0_11.index t (1 : Fin 3) * 8 + 1 * r.val = r.val; omega
  · show win0_11.index t (2 : Fin 3) * 1024 + 1 * q.val = q.val; omega
theorem emb12 (t : Fin cfg0.N) (r : Fin 8) (q : Fin 1024) :
    ((cfg0.win 12).blk t).view.emb (ix2 r q : S8x1024.Idx) = (ix2 r q : S8x1024.Idx) := by
  obtain ⟨e0, e1⟩ := idx12 t
  refine ix2_ext ?_ ?_
  · show win0_12.index t (0 : Fin 2) * 8 + 1 * r.val = r.val; omega
  · show win0_12.index t (1 : Fin 2) * 1024 + 1 * q.val = q.val; omega

/-- The input blocks, in the reference's stages. -/
theorem iblk0_eq (c : Dev nD) (t : Fin cfg0.N) : iblk m c 0 t = blk t.val (tb t) (A0 m c) := by
  refine ext2 fun r q => ?_
  show V m c main_arg0 (((cfg0.win 0).blk t).view.emb (ix2 r q)) = _
  rw [emb0, V_main_arg0]; rfl
theorem iblk1_eq (c : Dev nD) (t : Fin cfg0.N) : iblk m c 1 t = blk t.val (tb t) (A1 m c) := by
  refine ext2 fun r q => ?_
  show V m c main_arg1 (((cfg0.win 1).blk t).view.emb (ix2 r q)) = _
  rw [emb1, V_main_arg1]; rfl
theorem iblk4_eq (c : Dev nD) (t : Fin cfg0.N) : iblk m c 4 t = blk t.val (tb t) (OO (A1 m c) (A2 m c) (A3 m c) (A4 m c) (A5 m c)) := by
  refine ext2 fun r q => ?_
  show V m c main_v39 (((cfg0.win 4).blk t).view.emb (ix2 r q)) = _
  rw [emb4, V_o]; rfl
theorem iblk5_eq (c : Dev nD) (t : Fin cfg0.N) : iblk m c 5 t = blk t.val (tb t) (FF (A1 m c) (A2 m c) (A3 m c) (A4 m c)) := by
  refine ext2 fun r q => ?_
  show V m c main_v40 (((cfg0.win 5).blk t).view.emb (ix2 r q)) = _
  rw [emb5, V_f]; rfl
theorem iblk2_apply (c : Dev nD) (t : Fin cfg0.N) (r : Fin 8) (q : Fin 1024) (hr : r.val < 6) :
    iblk m c 2 t (ix4 0 0 r q) = A2 m c (ix3 0 ⟨t.val / 8, by have := tlt t; omega⟩ ⟨r.val * 1024 + q.val, by omega⟩) := by
  show V m c main_v37 (((cfg0.win 2).blk t).view.emb (ix4 0 0 r q)) = _
  rw [emb2, V_mod m c _ _ _ _ hr]

theorem hz2 : (![0, 0] : Fin 2 → Nat) = fun _ => 0 := funext fun a => by fin_cases a <;> rfl
theorem hz3 : (![0, 0, 0] : Fin 3 → Nat) = fun _ => 0 := funext fun a => by fin_cases a <;> rfl

/-- One row of the modulation. -/
theorem mrow (k : ℕ) (hk : k < 6) (c : Dev nD) (t : Fin cfg0.N) (inb : ∀ a, (![0, 0, k, 0] : Fin 4 → Nat) a + (![1, 1, 1, 1024] : Fin 4 → Nat) a ≤ S1x1x8x1024.size a) (q : Fin 1024) :
    View.ld (iblk m c 2 t) (Rect.unit ![0, 0, k, 0] ![1, 1, 1, 1024] inb) (ix4 0 0 0 q)
      = A2 m c (ix3 0 ⟨t.val * 512 / 4096, by have := tlt t; omega⟩ ⟨k * 1024 + q.val, by omega⟩) := by
  refine (congrFun (View.ld_unit (S := S1x1x8x1024) _ _ _ inb) _).trans ?_
  refine Eq.trans (congrArg (iblk m c 2 t) (?_ : _ = ix4 0 0 (⟨k, by omega⟩ : Fin 8) q)) ?_
  · refine ix4_ext rfl rfl ?_ ?_
    · show k + 0 = k; omega
    · show 0 + q.val = q.val; omega
  · rw [iblk2_apply m c t ⟨k, by omega⟩ q hk]
    exact congrArg (A2 m c) (ix3_ext rfl (by dsimp; omega) rfl)

/-- The gain. -/
theorem grow (c : Dev nD) (t : Fin cfg0.N) (inb : ∀ a, (![0, 0, 0] : Fin 3 → Nat) a + (![1, 1, 1024] : Fin 3 → Nat) a ≤ S1x1x1024.size a) (q : Fin 1024) :
    View.ld (iblk m c 3 t) (Rect.unit ![0, 0, 0] ![1, 1, 1024] inb) (ix3 0 0 q) = A3 m c (ix2 0 q) := by
  refine (congrFun (View.ld_unit (S := S1x1x1024) _ _ _ inb) _).trans ?_
  refine Eq.trans (congrArg (iblk m c 3 t) (?_ : _ = ix3 0 0 q)) ?_
  · refine ix3_ext rfl rfl ?_
    show 0 + q.val = q.val; omega
  · show V m c main_v38 (((cfg0.win 3).blk t).view.emb (ix3 0 0 q)) = _
    rw [emb3, V_g]

/-- One quarter of a weight. -/
theorem w1q (a : ℕ) (ha : a < 4) (c : Dev nD) (t : Fin cfg0.N) (inb : ∀ i, (![a, 0, 0] : Fin 3 → Nat) i + (![1, 1024, 1024] : Fin 3 → Nat) i ≤ S4x1024x1024.size i) (r q : Fin 1024) :
    View.ld (iblk m c 6 t) (Rect.unit ![a, 0, 0] ![1, 1024, 1024] inb) (ix3 0 r q) = A4 m c (ix2 r ⟨a * 1024 + q.val, by omega⟩) := by
  refine (congrFun (View.ld_unit (S := S4x1024x1024) _ _ _ inb) _).trans ?_
  refine Eq.trans (congrArg (iblk m c 6 t) (?_ : _ = ix3 (⟨a, ha⟩ : Fin 4) r q)) ?_
  · refine ix3_ext ?_ ?_ ?_
    · show a + 0 = a; omega
    · show 0 + r.val = r.val; omega
    · show 0 + q.val = q.val; omega
  · show V m c main_v43 (((cfg0.win 6).blk t).view.emb _) = _
    rw [emb6, V_w1]

/-- One quarter of a weight. -/
theorem w2q (a : ℕ) (ha : a < 4) (c : Dev nD) (t : Fin cfg0.N) (inb : ∀ i, (![a, 0, 0] : Fin 3 → Nat) i + (![1, 1024, 1024] : Fin 3 → Nat) i ≤ S4x1024x1024.size i) (r q : Fin 1024) :
    View.ld (iblk m c 7 t) (Rect.unit ![a, 0, 0] ![1, 1024, 1024] inb) (ix3 0 r q) = A5 m c (ix2 ⟨a * 1024 + r.val, by omega⟩ q) := by
  refine (congrFun (View.ld_unit (S := S4x1024x1024) _ _ _ inb) _).trans ?_
  refine Eq.trans (congrArg (iblk m c 7 t) (?_ : _ = ix3 (⟨a, ha⟩ : Fin 4) r q)) ?_
  · refine ix3_ext ?_ ?_ ?_
    · show a + 0 = a; omega
    · show 0 + r.val = r.val; omega
    · show 0 + q.val = q.val; omega
  · show V m c main_v45 (((cfg0.win 7).blk t).view.emb _) = _
    rw [emb7, V_w2]

/-- One quarter of the hidden rows. -/
theorem fq (a o : ℕ) (ha : a < 4) (ho : o = a * 1024) (c : Dev nD) (t : Fin cfg0.N) (inb : ∀ i, (![0, o] : Fin 2 → Nat) i + (![512, 1024] : Fin 2 → Nat) i ≤ S512x4096.size i) :
    View.ld (iblk m c 5 t) (Rect.unit ![0, o] ![512, 1024] inb) = blk t.val (tb t) (colq a ha (FF (A1 m c) (A2 m c) (A3 m c) (A4 m c))) := by
  rw [iblk5_eq]
  refine ext2 fun r q => ?_
  refine (congrFun (View.ld_unit (S := S512x4096) _ _ _ inb) _).trans ?_
  refine congrArg (FF (A1 m c) (A2 m c) (A3 m c) (A4 m c)) (ix2_ext ?_ ?_)
  · show t.val * 512 + (0 + r.val) = t.val * 512 + r.val; omega
  · show o + q.val = a * 1024 + q.val; omega

end Cert.FfnRun
-- ==== Proof.FfnOut.lean ====
/-
  The feed-forward's backward kernel, point by point: what it writes to the windows that each point covers whole.
-/
module

public import proofs.«01_k».proof.Proof.FfnRun
public import Idealize.ShloMosaic.Lib.WritesUnit

@[expose] public section

noncomputable section

namespace Cert.FfnOut

open Cert.FfnRun Cert.Kernel2Ideal Cert.Kernel2Ideal.Gen Cert.Kernel2Ideal.Value Cert.Reference2Ideal.Read Cert.Tools Cert.NormSpec Cert.FfnPay Cert.FfnHost
open Idealize.ShloMosaic Idealize.ShloMosaic.TcCoe Idealize.SL.Sem Idealize.ShloMosaic.ValueIdx

section Tail

variable (X H D : Arr S8192x1024) (mod : Arr S4x2x6144) (gam : Arr S4x1024) (t : ℕ) (h : t * 512 + 512 ≤ 8192)

/-- The gradient of the rows. -/
theorem pay21 (v86 v89 v94 : FVec Ideal S512x1024 .f32) (v100 : Vec Ideal S1x1024x1024 .bf16) (v104 : Vec Ideal S1x1x1x1024 .f32) (v107 : Vec Ideal S1x1x1024 .f32)
    (hH : k0_pay15 (F := Ideal) v86 v89 v94 v100 = blk t h H)
    (hs : ∀ k : Fin 1024, v104 (ix4 0 0 0 k) = mod (ix3 0 ⟨t * 512 / 4096, by omega⟩ ⟨4 * 1024 + k.val, by omega⟩))
    (hg : ∀ k : Fin 1024, v107 (ix3 0 0 k) = gam (ix2 0 k)) :
    k0_pay21 (F := Ideal) (k0_pay17 (F := Ideal) (blk t h X)) (k0_pay19 (F := Ideal) v86 v89 v94 v100 v104 (blk t h X) v107) (blk t h D)
      = blk t h (dxs X H D mod gam 4096 (by decide)) := by
  have e : k0_pay21 (F := Ideal) (k0_pay17 (F := Ideal) (blk t h X)) (k0_pay19 (F := Ideal) v86 v89 v94 v100 v104 (blk t h X) v107) (blk t h D)
      = NormPay.dxB (blk t h X) (k0_pay15 (F := Ideal) v86 v89 v94 v100) (blk t h D) (k0_pay16 (F := Ideal) v104) v107 := rfl
  rw [e, hH]
  exact NormPay.dxB_eq X H D t h mod gam 4096 (by decide) _ _ (fun k => (NormPay.row4 v104 k).trans (hs k)) hg

/-- The shift's row after a point. -/
theorem pay22 (v : Vec Ideal S1x1x1024 .f32) (q : Fin 1024) : k0_pay22 (F := Ideal) (blk t h H) v (ix3 0 0 q) = v (ix3 0 0 q) + tile H q t := by
  have e : k0_pay22 (F := Ideal) (blk t h H) v
      = shapeCast NormPay.S3 (addf (F := Ideal) (φ := .f32) (shapeCast NormPay.SR v NormPay.cast3) (NormPay.colSum (blk t h H))) NormPay.cast3' := rfl
  rw [e]
  refine (NormPay.addRow v _ q).trans ?_
  rw [NormPay.colSum_tile]

/-- The scale's row after a point. -/
theorem pay23 (v g : Vec Ideal S1x1x1024 .f32) (hg : ∀ k : Fin 1024, g (ix3 0 0 k) = gam (ix2 0 k)) (q : Fin 1024) :
    k0_pay23 (F := Ideal) (blk t h H) (k0_pay18 (F := Ideal) (blk t h X)) v g (ix3 0 0 q) = v (ix3 0 0 q) + gn gam q * tile (hx X H) q t := by
  have e : k0_pay23 (F := Ideal) (blk t h H) (k0_pay18 (F := Ideal) (blk t h X)) v g
      = shapeCast NormPay.S3 (addf (F := Ideal) (φ := .f32) (shapeCast NormPay.SR v NormPay.cast3)
          (mulf (F := Ideal) (φ := .f32) (shapeCast NormPay.SR g NormPay.cast3)
            (NormPay.colSum (mulf (F := Ideal) (φ := .f32) (blk t h H) (NormPay.nrmB (blk t h X)))))) NormPay.cast3' := rfl
  rw [e]
  refine (NormPay.addRow v _ q).trans ?_
  rw [NormPay.nrmB_eq]
  refine congrArg (v (ix3 0 0 q) + ·) (congrArg₂ (· * ·) ((NormPay.row3 g q).trans (hg q)) (NormPay.colSum_hx X H t h q))

/-- The gain's row after a point. -/
theorem pay24 (v104 : Vec Ideal S1x1x1x1024 .f32) (v : Vec Ideal S1x1024 .f32)
    (hs : ∀ k : Fin 1024, v104 (ix4 0 0 0 k) = mod (ix3 0 ⟨t * 512 / 4096, by omega⟩ ⟨4 * 1024 + k.val, by omega⟩)) (q : Fin 1024) :
    k0_pay24 (F := Ideal) (blk t h H) (k0_pay16 (F := Ideal) v104) (k0_pay18 (F := Ideal) (blk t h X)) v (ix2 0 q)
      = v (ix2 0 q) + (1 + modRow mod 4096 (by decide) ⟨t * 512 / 4096, by omega⟩ q) * tile (hx X H) q t := by
  have e : k0_pay24 (F := Ideal) (blk t h H) (k0_pay16 (F := Ideal) v104) (k0_pay18 (F := Ideal) (blk t h X)) v
      = addf (F := Ideal) (φ := .f32) (shapeCast NormPay.SR v NormPay.castSelf) (mulf (F := Ideal) (φ := .f32)
          (addf (F := Ideal) (φ := .f32) (broadcast NormPay.SR (Scalar.ofBits (F := Ideal) .f32 0x3F800000#32)) (shapeCast NormPay.SR v104 NormPay.cast4))
          (NormPay.colSum (mulf (F := Ideal) (φ := .f32) (blk t h H) (NormPay.nrmB (blk t h X))))) := rfl
  rw [e, NormPay.nrmB_eq, shapeCast_self]
  refine congrArg (v (ix2 0 q) + ·) (congrArg₂ (· * ·) ?_ (NormPay.colSum_hx X H t h q))
  exact congrArg₂ (· + ·) Ideal.ofBits_one_f32 ((NormPay.row4 v104 q).trans (hs q))

end Tail

variable (m : (ℓ : Loc nD τ sig) → Buf (Elt Ideal) ℓ)

/-- The stages, in the arguments of a device. -/
abbrev DO' (c : Dev nD) : Arr S8192x1024 := DO (A0 m c) (A2 m c)
abbrev FF' (c : Dev nD) : Arr S8192x4096 := FF (A1 m c) (A2 m c) (A3 m c) (A4 m c)
abbrev OO' (c : Dev nD) : Arr S8192x1024 := OO (A1 m c) (A2 m c) (A3 m c) (A4 m c) (A5 m c)
abbrev DF' (c : Dev nD) : Arr S8192x4096 := DF (A0 m c) (A1 m c) (A2 m c) (A3 m c) (A4 m c) (A5 m c)
abbrev DH' (c : Dev nD) : Arr S8192x1024 := DH (A0 m c) (A1 m c) (A2 m c) (A3 m c) (A4 m c) (A5 m c)
abbrev DX' (c : Dev nD) : Arr S8192x1024 := dxs (A1 m c) (DH' m c) (A0 m c) (A2 m c) (A3 m c) 4096 (by decide)

theorem ld2 {e : EltTy} (X : S512x1024.Idx → Elt Ideal e) (inb : ∀ a, (![0, 0] : Fin 2 → Nat) a + (![512, 1024] : Fin 2 → Nat) a ≤ S512x1024.size a) :
    View.ld X (Rect.unit ![0, 0] ![512, 1024] inb) = X := View.ld_unit_zero (S := S512x1024) hz2 _ X

abbrev InbM (k : ℕ) := ∀ a, (![0, 0, k, 0] : Fin 4 → Nat) a + (![1, 1, 1, 1024] : Fin 4 → Nat) a ≤ S1x1x8x1024.size a
abbrev InbW (k : ℕ) := ∀ a, (![k, 0, 0] : Fin 3 → Nat) a + (![1, 1024, 1024] : Fin 3 → Nat) a ≤ S4x1024x1024.size a

theorem pay5t (c : Dev nD) (t : Fin cfg0.N) (inb : InbM 5) :
    k0_pay5 (F := Ideal) (blk t.val (tb t) (A0 m c)) (k0_pay4 (F := Ideal) (View.ld (iblk m c 2 t) (Rect.unit ![0, 0, 5, 0] ![1, 1, 1, 1024] inb)))
      = blk t.val (tb t) (DO' m c) := pay5 _ _ t.val (tb t) _ (mrow m 5 (by decide) c t inb)

theorem pay6t (c : Dev nD) (t : Fin cfg0.N) (i1 : InbM 5) (i2 : InbW 0) :
    k0_pay6 (F := Ideal) (blk t.val (tb t) (A0 m c)) (k0_pay4 (F := Ideal) (View.ld (iblk m c 2 t) (Rect.unit ![0, 0, 5, 0] ![1, 1, 1, 1024] i1)))
        (View.ld (iblk m c 7 t) (Rect.unit ![0, 0, 0] ![1, 1024, 1024] i2)) (blk t.val (tb t) (colq 0 (by decide) (FF' m c)))
      = blk t.val (tb t) (colq 0 (by decide) (DF' m c)) := pay6 _ _ _ _ _ _ t.val (tb t) _ (pay5t m c t i1) _ (w2q m 0 (by decide) c t i2)

theorem pay8t (c : Dev nD) (t : Fin cfg0.N) (i1 : InbM 5) (i2 : InbW 1) :
    k0_pay9 (F := Ideal) (k0_pay8 (F := Ideal) (blk t.val (tb t) (A0 m c)) (k0_pay4 (F := Ideal) (View.ld (iblk m c 2 t) (Rect.unit ![0, 0, 5, 0] ![1, 1, 1, 1024] i1)))
        (View.ld (iblk m c 7 t) (Rect.unit ![1, 0, 0] ![1, 1024, 1024] i2)) (blk t.val (tb t) (colq 1 (by decide) (FF' m c))))
      = blk t.val (tb t) (colq 1 (by decide) (DF' m c)) := pay8 _ _ _ _ _ _ t.val (tb t) _ (pay5t m c t i1) _ (w2q m 1 (by decide) c t i2)

theorem pay10t (c : Dev nD) (t : Fin cfg0.N) (i2 : InbW 2) :
    k0_pay10 (F := Ideal) (blk t.val (tb t) (DO' m c))
        (View.ld (iblk m c 7 t) (Rect.unit ![2, 0, 0] ![1, 1024, 1024] i2)) (blk t.val (tb t) (colq 2 (by decide) (FF' m c)))
      = blk t.val (tb t) (colq 2 (by decide) (DF' m c)) := pay10 _ _ _ _ _ _ t.val (tb t) _ (w2q m 2 (by decide) c t i2)

theorem pay14t (c : Dev nD) (t : Fin cfg0.N) (i2 : InbW 3) :
    k0_pay14 (F := Ideal) (k0_pay12 (F := Ideal) (blk t.val (tb t) (DO' m c)) (View.ld (iblk m c 7 t) (Rect.unit ![3, 0, 0] ![1, 1024, 1024] i2)))
        (k0_pay13 (F := Ideal) (blk t.val (tb t) (colq 3 (by decide) (FF' m c))))
      = blk t.val (tb t) (colq 3 (by decide) (DF' m c)) := pay14 _ _ _ _ _ _ t.val (tb t) _ (w2q m 3 (by decide) c t i2)

/-- The gradient of the normed rows, as the body of case A holds it. -/
theorem r8_A (c : Dev nD) (t : Fin cfg0.N) :
    kernelRun0_A.sl.r_8 (F := Ideal) c (ms0_0 t) (hs0_0 t) (ms0_2 t) (hs0_2 t) (ms0_5 t) (hs0_5 t) (ms0_6 t) (hs0_6 t) (ms0_7 t) (hs0_7 t) (iblk m c 0 t) (iblk m c 2 t) (iblk m c 5 t) (iblk m c 6 t) (iblk m c 7 t) = blk t.val (tb t) (DH' m c) := by
  unfold kernelRun0_A.sl.r_8 kernelRun0_A.sl.r_5 kernelRun0_A.sl.r_6 kernelRun0_A.sl.r_7 kernelRun0_A.sl.r_4 kernelRun0_A.sl.r_3 kernelRun0_A.sl.r_2 kernelRun0_A.sl.r_1 kernelRun0_A.sl.r
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
  rw [iblk0_eq m c t, fq m 0 0 (by decide) rfl c t, fq m 1 1024 (by decide) rfl c t, fq m 2 2048 (by decide) rfl c t, fq m 3 3072 (by decide) rfl c t, pay5t m c t, pay5t m c t]
  refine pay15 (A0 m c) (A1 m c) (A2 m c) (A3 m c) (A4 m c) (A5 m c) t.val (tb t) _ (pay5t m c t _) _ _ _ _ _ _ _ _ ?_ ?_ ?_ ?_ ?_ ?_ ?_ ?_
  · exact w1q m 0 (by decide) c t _
  · exact w1q m 1 (by decide) c t _
  · exact w1q m 2 (by decide) c t _
  · exact w1q m 3 (by decide) c t _
  · exact w2q m 0 (by decide) c t _
  · exact w2q m 1 (by decide) c t _
  · exact w2q m 2 (by decide) c t _
  · exact w2q m 3 (by decide) c t _

/-- The normed rows, as the body of case A holds them. -/
theorem r11_A (c : Dev nD) (t : Fin cfg0.N) :
    kernelRun0_A.sl.r_11 (F := Ideal) c (ms0_1 t) (hs0_1 t) (iblk m c 1 t) = k0_pay18 (F := Ideal) (blk t.val (tb t) (A1 m c)) := by
  unfold kernelRun0_A.sl.r_11
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
  rw [iblk1_eq m c t]

/-- The gradient of the normed rows, as the body of case B holds it. -/
theorem r8_B (c : Dev nD) (t : Fin cfg0.N) :
    kernelRun0_B.sl.r_8 (F := Ideal) c (ms0_0 t) (hs0_0 t) (ms0_2 t) (hs0_2 t) (ms0_5 t) (hs0_5 t) (ms0_6 t) (hs0_6 t) (ms0_7 t) (hs0_7 t) (iblk m c 0 t) (iblk m c 2 t) (iblk m c 5 t) (iblk m c 6 t) (iblk m c 7 t) = blk t.val (tb t) (DH' m c) := by
  unfold kernelRun0_B.sl.r_8 kernelRun0_B.sl.r_5 kernelRun0_B.sl.r_6 kernelRun0_B.sl.r_7 kernelRun0_B.sl.r_4 kernelRun0_B.sl.r_3 kernelRun0_B.sl.r_2 kernelRun0_B.sl.r_1 kernelRun0_B.sl.r
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
  rw [iblk0_eq m c t, fq m 0 0 (by decide) rfl c t, fq m 1 1024 (by decide) rfl c t, fq m 2 2048 (by decide) rfl c t, fq m 3 3072 (by decide) rfl c t, pay5t m c t, pay5t m c t]
  refine pay15 (A0 m c) (A1 m c) (A2 m c) (A3 m c) (A4 m c) (A5 m c) t.val (tb t) _ (pay5t m c t _) _ _ _ _ _ _ _ _ ?_ ?_ ?_ ?_ ?_ ?_ ?_ ?_
  · exact w1q m 0 (by decide) c t _
  · exact w1q m 1 (by decide) c t _
  · exact w1q m 2 (by decide) c t _
  · exact w1q m 3 (by decide) c t _
  · exact w2q m 0 (by decide) c t _
  · exact w2q m 1 (by decide) c t _
  · exact w2q m 2 (by decide) c t _
  · exact w2q m 3 (by decide) c t _

/-- The normed rows, as the body of case B holds them. -/
theorem r11_B (c : Dev nD) (t : Fin cfg0.N) :
    kernelRun0_B.sl.r_11 (F := Ideal) c (ms0_1 t) (hs0_1 t) (iblk m c 1 t) = k0_pay18 (F := Ideal) (blk t.val (tb t) (A1 m c)) := by
  unfold kernelRun0_B.sl.r_11
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
  rw [iblk1_eq m c t]

/-- The gradient of the normed rows, as the body of case C holds it. -/
theorem r8_C (c : Dev nD) (t : Fin cfg0.N) :
    kernelRun0_C.sl.r_8 (F := Ideal) c (ms0_0 t) (hs0_0 t) (ms0_2 t) (hs0_2 t) (ms0_5 t) (hs0_5 t) (ms0_6 t) (hs0_6 t) (ms0_7 t) (hs0_7 t) (iblk m c 0 t) (iblk m c 2 t) (iblk m c 5 t) (iblk m c 6 t) (iblk m c 7 t) = blk t.val (tb t) (DH' m c) := by
  unfold kernelRun0_C.sl.r_8 kernelRun0_C.sl.r_5 kernelRun0_C.sl.r_6 kernelRun0_C.sl.r_7 kernelRun0_C.sl.r_4 kernelRun0_C.sl.r_3 kernelRun0_C.sl.r_2 kernelRun0_C.sl.r_1 kernelRun0_C.sl.r
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
  rw [iblk0_eq m c t, fq m 0 0 (by decide) rfl c t, fq m 1 1024 (by decide) rfl c t, fq m 2 2048 (by decide) rfl c t, fq m 3 3072 (by decide) rfl c t, pay5t m c t, pay5t m c t]
  refine pay15 (A0 m c) (A1 m c) (A2 m c) (A3 m c) (A4 m c) (A5 m c) t.val (tb t) _ (pay5t m c t _) _ _ _ _ _ _ _ _ ?_ ?_ ?_ ?_ ?_ ?_ ?_ ?_
  · exact w1q m 0 (by decide) c t _
  · exact w1q m 1 (by decide) c t _
  · exact w1q m 2 (by decide) c t _
  · exact w1q m 3 (by decide) c t _
  · exact w2q m 0 (by decide) c t _
  · exact w2q m 1 (by decide) c t _
  · exact w2q m 2 (by decide) c t _
  · exact w2q m 3 (by decide) c t _

/-- The normed rows, as the body of case C holds them. -/
theorem r11_C (c : Dev nD) (t : Fin cfg0.N) :
    kernelRun0_C.sl.r_11 (F := Ideal) c (ms0_1 t) (hs0_1 t) (iblk m c 1 t) = k0_pay18 (F := Ideal) (blk t.val (tb t) (A1 m c)) := by
  unfold kernelRun0_C.sl.r_11
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
  rw [iblk1_eq m c t]

/-- Window 8: what a point writes is its block of rows. -/
theorem flushed8_eq (c : Dev nD) (t : Fin cfg0.N) :
    (dats m 0 c).flushed 8 t = ((cfg0.win 8).blk t).view.read (Elt Ideal) (DO' m c) := by
  have cut : ∀ X : FVec Ideal S512x1024 .f32, X = blk t.val (tb t) (DO' m c) →
      (cfg0.win 8).cut (grid0.coords t) X = ((cfg0.win 8).blk t).view.read (Elt Ideal) (DO' m c) := by
    rintro X rfl
    refine ext2 fun r q => ?_
    show _ = (DO' m c) (((cfg0.win 8).blk t).view.emb (ix2 r q))
    rw [emb8]; rfl
  by_cases h1 : t.val % 8 = 0
  · by_cases h0 : t.val % 16 = 0
    · rw [flushed8_A m c t h0 h1]
      apply cut
      unfold out0_A_8
      rw [View.read_writes_junk_eq_canon]
      unfold kernelRun0_A
      dsimp only
      rw [View.canon_unit_zero hz2]
      unfold kernelRun0_A.sl.r_1 kernelRun0_A.sl.r
      simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
      rw [iblk0_eq m c t]
      exact pay5t m c t _
    · rw [flushed8_C m c t h0 h1]
      apply cut
      unfold out0_C_8
      rw [View.read_writes_junk_eq_canon]
      unfold kernelRun0_C
      dsimp only
      rw [View.canon_unit_zero hz2]
      unfold kernelRun0_C.sl.r_1 kernelRun0_C.sl.r
      simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
      rw [iblk0_eq m c t]
      exact pay5t m c t _
  · have h0 : ¬ t.val % 16 = 0 := by omega
    rw [flushed8_B m c t h0 h1]
    apply cut
    unfold out0_B_8
    rw [View.read_writes_junk_eq_canon]
    unfold kernelRun0_B
    dsimp only
    rw [View.canon_unit_zero hz2]
    unfold kernelRun0_B.sl.r_1 kernelRun0_B.sl.r
    simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
    rw [iblk0_eq m c t]
    exact pay5t m c t _

theorem final8 (c : Dev nD) : (dats m 0 c).arrAt 8 cfg0.N = DO' m c :=
  (dats m 0 c).arrAt_eq_of_cover 8 _ (fun t _ => flushed8_eq m c t) fun i => by
    have hi : (i 0).val < 8192 := (i 0).isLt
    have hj : (i 1).val < 1024 := (i 1).isLt
    have e := (emb8 (⟨(i 0).val / 512, by show _ < 16; omega⟩ : Fin cfg0.N) (⟨(i 0).val % 512, Nat.mod_lt _ (by decide)⟩ : Fin 512) (⟨(i 1).val, hj⟩ : Fin 1024)).trans
      (show (ix2 (⟨(i 0).val / 512 * 512 + (i 0).val % 512, by omega⟩ : Fin 8192) (⟨(i 1).val, hj⟩ : Fin 1024) : S8192x1024.Idx) = i from ix2_ext (by show (i 0).val / 512 * 512 + (i 0).val % 512 = (i 0).val; omega) rfl)
    exact ⟨_, flush0_8 _, e ▸ View.emb_mem_set _ _⟩

/-- Window 10: what a point writes is its block of rows. -/
theorem flushed10_eq (c : Dev nD) (t : Fin cfg0.N) :
    (dats m 0 c).flushed 10 t = ((cfg0.win 10).blk t).view.read (Elt Ideal) (DX' m c) := by
  have cut : ∀ X : FVec Ideal S512x1024 .f32, X = blk t.val (tb t) (DX' m c) →
      (cfg0.win 10).cut (grid0.coords t) X = ((cfg0.win 10).blk t).view.read (Elt Ideal) (DX' m c) := by
    rintro X rfl
    refine ext2 fun r q => ?_
    show _ = (DX' m c) (((cfg0.win 10).blk t).view.emb (ix2 r q))
    rw [emb10]; rfl
  by_cases h1 : t.val % 8 = 0
  · by_cases h0 : t.val % 16 = 0
    · rw [flushed10_A m c t h0 h1]
      apply cut
      unfold out0_A_10
      rw [View.read_writes_junk_eq_canon]
      unfold kernelRun0_A
      dsimp only
      rw [View.canon_unit_zero hz2]
      have e8 := r8_A m c t
      unfold kernelRun0_A.sl.r_8 at e8
      unfold kernelRun0_A.sl.r_12 kernelRun0_A.sl.r_10
      simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2] at e8 ⊢
      rw [iblk0_eq m c t, iblk1_eq m c t]
      rw [iblk0_eq m c t] at e8
      exact pay21 _ _ _ _ _ t.val (tb t) _ _ _ _ _ _ e8 (mrow m 4 (by decide) c t _) (grow m c t _)
    · rw [flushed10_C m c t h0 h1]
      apply cut
      unfold out0_C_10
      rw [View.read_writes_junk_eq_canon]
      unfold kernelRun0_C
      dsimp only
      rw [View.canon_unit_zero hz2]
      have e8 := r8_C m c t
      unfold kernelRun0_C.sl.r_8 at e8
      unfold kernelRun0_C.sl.r_12 kernelRun0_C.sl.r_10
      simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2] at e8 ⊢
      rw [iblk0_eq m c t, iblk1_eq m c t]
      rw [iblk0_eq m c t] at e8
      exact pay21 _ _ _ _ _ t.val (tb t) _ _ _ _ _ _ e8 (mrow m 4 (by decide) c t _) (grow m c t _)
  · have h0 : ¬ t.val % 16 = 0 := by omega
    rw [flushed10_B m c t h0 h1]
    apply cut
    unfold out0_B_10
    rw [View.read_writes_junk_eq_canon]
    unfold kernelRun0_B
    dsimp only
    rw [View.canon_unit_zero hz2]
    have e8 := r8_B m c t
    unfold kernelRun0_B.sl.r_8 at e8
    unfold kernelRun0_B.sl.r_12 kernelRun0_B.sl.r_10
    simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2] at e8 ⊢
    rw [iblk0_eq m c t, iblk1_eq m c t]
    rw [iblk0_eq m c t] at e8
    exact pay21 _ _ _ _ _ t.val (tb t) _ _ _ _ _ _ e8 (mrow m 4 (by decide) c t _) (grow m c t _)

theorem final10 (c : Dev nD) : (dats m 0 c).arrAt 10 cfg0.N = DX' m c :=
  (dats m 0 c).arrAt_eq_of_cover 10 _ (fun t _ => flushed10_eq m c t) fun i => by
    have hi : (i 0).val < 8192 := (i 0).isLt
    have hj : (i 1).val < 1024 := (i 1).isLt
    have e := (emb10 (⟨(i 0).val / 512, by show _ < 16; omega⟩ : Fin cfg0.N) (⟨(i 0).val % 512, Nat.mod_lt _ (by decide)⟩ : Fin 512) (⟨(i 1).val, hj⟩ : Fin 1024)).trans
      (show (ix2 (⟨(i 0).val / 512 * 512 + (i 0).val % 512, by omega⟩ : Fin 8192) (⟨(i 1).val, hj⟩ : Fin 1024) : S8192x1024.Idx) = i from ix2_ext (by show (i 0).val / 512 * 512 + (i 0).val % 512 = (i 0).val; omega) rfl)
    exact ⟨_, flush0_10 _, e ▸ View.emb_mem_set _ _⟩

/-- Four column stores fill a block of the hidden rows. -/
theorem four (t : ℕ) (h : t * 512 + 512 ≤ 8192) (X : Arr S8192x4096) (f : _) (r : Fin 512) (q : Fin 4096)
    (i0 : ∀ a, (![0, 0] : Fin 2 → Nat) a + S512x1024.size a ≤ S512x4096.size a) (i1 : ∀ a, (![0, 1024] : Fin 2 → Nat) a + S512x1024.size a ≤ S512x4096.size a)
    (i2 : ∀ a, (![0, 2048] : Fin 2 → Nat) a + S512x1024.size a ≤ S512x4096.size a) (i3 : ∀ a, (![0, 3072] : Fin 2 → Nat) a + S512x1024.size a ≤ S512x4096.size a)
    (w0 w1 w2 w3 : FVec Ideal S512x1024 .bf16) (e0 : w0 = blk t h (colq 0 (by decide) X)) (e1 : w1 = blk t h (colq 1 (by decide) X))
    (e2 : w2 = blk t h (colq 2 (by decide) X)) (e3 : w3 = blk t h (colq 3 (by decide) X)) :
    VO0_9.read (Elt Ideal) (VO0_9.writes (Elt Ideal) f
      [(⟨Rect.unit ![0, 3072] S512x1024.size i3, w3⟩ : View.Piece (Elt Ideal) S512x4096 .bf16), ⟨Rect.unit ![0, 2048] S512x1024.size i2, w2⟩, ⟨Rect.unit ![0, 1024] S512x1024.size i1, w1⟩, ⟨Rect.unit ![0, 0] S512x1024.size i0, w0⟩]) (ix2 r q)
      = blk t h X (ix2 r q) := by
  have key : ∀ (a : ℕ) (ha : a < 4) (w : FVec Ideal S512x1024 .bf16) (hw : w = blk t h (colq a ha X)) (hq : a * 1024 ≤ q.val) (hq' : q.val < a * 1024 + 1024),
      w (ix2 r (⟨q.val - a * 1024, by omega⟩ : Fin 1024)) = blk t h X (ix2 r q) := by
    rintro a ha w rfl hq hq'
    refine congrArg X (ix2_ext rfl ?_)
    show a * 1024 + (q.val - a * 1024) = q.val; omega
  by_cases h3 : 3072 ≤ q.val
  · refine (View.read_writes_cons_unit_of_mem _ _ _ _ _ _ (ix2 r (⟨q.val - 3 * 1024, by omega⟩ : Fin 1024)) rfl ?_).trans (key 3 (by decide) _ e3 (by omega) (by omega))
    intro a
    match a with
    | ⟨0, _⟩ => exact (Nat.zero_add _).symm
    | ⟨1, _⟩ => show q.val = 3072 + (q.val - 3 * 1024); omega
  refine (View.read_writes_cons_unit_of_not_mem _ _ _ _ _ _ rfl (1 : Fin 2) (.inl (show q.val < 3072 by omega))).trans ?_
  by_cases h2 : 2048 ≤ q.val
  · refine (View.read_writes_cons_unit_of_mem _ _ _ _ _ _ (ix2 r (⟨q.val - 2 * 1024, by omega⟩ : Fin 1024)) rfl ?_).trans (key 2 (by decide) _ e2 (by omega) (by omega))
    intro a
    match a with
    | ⟨0, _⟩ => exact (Nat.zero_add _).symm
    | ⟨1, _⟩ => show q.val = 2048 + (q.val - 2 * 1024); omega
  refine (View.read_writes_cons_unit_of_not_mem _ _ _ _ _ _ rfl (1 : Fin 2) (.inl (show q.val < 2048 by omega))).trans ?_
  by_cases h1 : 1024 ≤ q.val
  · refine (View.read_writes_cons_unit_of_mem _ _ _ _ _ _ (ix2 r (⟨q.val - 1 * 1024, by omega⟩ : Fin 1024)) rfl ?_).trans (key 1 (by decide) _ e1 (by omega) (by omega))
    intro a
    match a with
    | ⟨0, _⟩ => exact (Nat.zero_add _).symm
    | ⟨1, _⟩ => show q.val = 1024 + (q.val - 1 * 1024); omega
  refine (View.read_writes_cons_unit_of_not_mem _ _ _ _ _ _ rfl (1 : Fin 2) (.inl (show q.val < 1024 by omega))).trans ?_
  refine (View.read_writes_cons_unit_of_mem _ _ _ _ _ _ (ix2 r (⟨q.val - 0 * 1024, by omega⟩ : Fin 1024)) rfl ?_).trans (key 0 (by decide) _ e0 (by omega) (by omega))
  intro a
  match a with
  | ⟨0, _⟩ => exact (Nat.zero_add _).symm
  | ⟨1, _⟩ => show q.val = 0 + (q.val - 0 * 1024); omega

/-- Window 9: what a point writes is its block of rows. -/
theorem flushed9_eq (c : Dev nD) (t : Fin cfg0.N) :
    (dats m 0 c).flushed 9 t = ((cfg0.win 9).blk t).view.read (Elt Ideal) (DF' m c) := by
  have cut : ∀ X : FVec Ideal S512x4096 .f32, X = blk t.val (tb t) (DF' m c) →
      (cfg0.win 9).cut (grid0.coords t) X = ((cfg0.win 9).blk t).view.read (Elt Ideal) (DF' m c) := by
    rintro X rfl
    refine ext2 fun r q => ?_
    show _ = (DF' m c) (((cfg0.win 9).blk t).view.emb (ix2 r q))
    rw [emb9]; rfl
  by_cases h1 : t.val % 8 = 0
  · by_cases h0 : t.val % 16 = 0
    · rw [flushed9_A m c t h0 h1]
      apply cut
      unfold out0_A_9 kernelRun0_A
      dsimp only
      refine ext2 fun r q => ?_
      refine four t.val (tb t) (DF' m c) _ r q _ _ _ _ _ _ _ _ ?_ ?_ ?_ ?_
      · unfold kernelRun0_A.sl.r_1 kernelRun0_A.sl.r
        simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
        rw [iblk0_eq m c t, fq m 0 0 (by decide) rfl c t]
        exact pay6t m c t _ _
      · unfold kernelRun0_A.sl.r_4 kernelRun0_A.sl.r_1 kernelRun0_A.sl.r
        simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
        rw [iblk0_eq m c t, fq m 1 1024 (by decide) rfl c t]
        exact pay8t m c t _ _
      · unfold kernelRun0_A.sl.r_2 kernelRun0_A.sl.r_1 kernelRun0_A.sl.r
        simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
        rw [iblk0_eq m c t, fq m 2 2048 (by decide) rfl c t, pay5t m c t]
        exact pay10t m c t _
      · unfold kernelRun0_A.sl.r_6 kernelRun0_A.sl.r_7 kernelRun0_A.sl.r_2 kernelRun0_A.sl.r_1 kernelRun0_A.sl.r
        simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
        rw [iblk0_eq m c t, fq m 3 3072 (by decide) rfl c t, pay5t m c t]
        exact pay14t m c t _
    · rw [flushed9_C m c t h0 h1]
      apply cut
      unfold out0_C_9 kernelRun0_C
      dsimp only
      refine ext2 fun r q => ?_
      refine four t.val (tb t) (DF' m c) _ r q _ _ _ _ _ _ _ _ ?_ ?_ ?_ ?_
      · unfold kernelRun0_C.sl.r_1 kernelRun0_C.sl.r
        simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
        rw [iblk0_eq m c t, fq m 0 0 (by decide) rfl c t]
        exact pay6t m c t _ _
      · unfold kernelRun0_C.sl.r_4 kernelRun0_C.sl.r_1 kernelRun0_C.sl.r
        simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
        rw [iblk0_eq m c t, fq m 1 1024 (by decide) rfl c t]
        exact pay8t m c t _ _
      · unfold kernelRun0_C.sl.r_2 kernelRun0_C.sl.r_1 kernelRun0_C.sl.r
        simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
        rw [iblk0_eq m c t, fq m 2 2048 (by decide) rfl c t, pay5t m c t]
        exact pay10t m c t _
      · unfold kernelRun0_C.sl.r_6 kernelRun0_C.sl.r_7 kernelRun0_C.sl.r_2 kernelRun0_C.sl.r_1 kernelRun0_C.sl.r
        simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
        rw [iblk0_eq m c t, fq m 3 3072 (by decide) rfl c t, pay5t m c t]
        exact pay14t m c t _
  · have h0 : ¬ t.val % 16 = 0 := by omega
    rw [flushed9_B m c t h0 h1]
    apply cut
    unfold out0_B_9 kernelRun0_B
    dsimp only
    refine ext2 fun r q => ?_
    refine four t.val (tb t) (DF' m c) _ r q _ _ _ _ _ _ _ _ ?_ ?_ ?_ ?_
    · unfold kernelRun0_B.sl.r_1 kernelRun0_B.sl.r
      simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
      rw [iblk0_eq m c t, fq m 0 0 (by decide) rfl c t]
      exact pay6t m c t _ _
    · unfold kernelRun0_B.sl.r_4 kernelRun0_B.sl.r_1 kernelRun0_B.sl.r
      simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
      rw [iblk0_eq m c t, fq m 1 1024 (by decide) rfl c t]
      exact pay8t m c t _ _
    · unfold kernelRun0_B.sl.r_2 kernelRun0_B.sl.r_1 kernelRun0_B.sl.r
      simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
      rw [iblk0_eq m c t, fq m 2 2048 (by decide) rfl c t, pay5t m c t]
      exact pay10t m c t _
    · unfold kernelRun0_B.sl.r_6 kernelRun0_B.sl.r_7 kernelRun0_B.sl.r_2 kernelRun0_B.sl.r_1 kernelRun0_B.sl.r
      simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, ld2]
      rw [iblk0_eq m c t, fq m 3 3072 (by decide) rfl c t, pay5t m c t]
      exact pay14t m c t _

theorem final9 (c : Dev nD) : (dats m 0 c).arrAt 9 cfg0.N = DF' m c :=
  (dats m 0 c).arrAt_eq_of_cover 9 _ (fun t _ => flushed9_eq m c t) fun i => by
    have hi : (i 0).val < 8192 := (i 0).isLt
    have hj : (i 1).val < 4096 := (i 1).isLt
    have e := (emb9 (⟨(i 0).val / 512, by show _ < 16; omega⟩ : Fin cfg0.N) (⟨(i 0).val % 512, Nat.mod_lt _ (by decide)⟩ : Fin 512) (⟨(i 1).val, hj⟩ : Fin 4096)).trans
      (show (ix2 (⟨(i 0).val / 512 * 512 + (i 0).val % 512, by omega⟩ : Fin 8192) (⟨(i 1).val, hj⟩ : Fin 4096) : S8192x4096.Idx) = i from ix2_ext (by show (i 0).val / 512 * 512 + (i 0).val % 512 = (i 0).val; omega) rfl)
    exact ⟨_, flush0_9 _, e ▸ View.emb_mem_set _ _⟩

end Cert.FfnOut
-- ==== Proof.FfnSum.lean ====
/-
  The feed-forward's backward kernel, the sums over tokens: the modulation's gradient and the norm weight's gradient.
-/
module

public import proofs.«01_k».proof.Proof.FfnOut
public import Idealize.ShloMosaic.Lib.WritesUnit

@[expose] public section

noncomputable section

namespace Cert.FfnSum

open Cert.FfnRun Cert.FfnOut Cert.Kernel2Ideal Cert.Kernel2Ideal.Gen Cert.Kernel2Ideal.Value Cert.Reference2Ideal.Read Cert.Tools Cert.NormSpec Cert.FfnPay Cert.FfnHost
open Idealize.ShloMosaic Idealize.ShloMosaic.TcCoe Idealize.SL.Sem Idealize.ShloMosaic.ValueIdx

section Rows

variable (v : View sig .tc .vmem S1x8x1024 .f32) (f : v.ty.Contents (Elt Ideal)) (o : ℕ) (i : ∀ a, (![0, o, 0] : Fin 3 → ℕ) a + (![1, 1, 1024] : Fin 3 → ℕ) a ≤ S1x8x1024.size a)
  (w : S1x1x1024.Idx → Elt Ideal .f32) (L : List (View.Piece (Elt Ideal) S1x8x1024 .f32)) (r : Fin 8) (q : Fin 1024)

/-- The row that was written last. -/
theorem hit (h : r.val = o) : v.read (Elt Ideal) (v.writes (Elt Ideal) f (⟨Rect.unit ![0, o, 0] ![1, 1, 1024] i, w⟩ :: L)) (ix3 0 r q) = w (ix3 0 0 q) := by
  refine (View.read_writes_cons_unit_of_mem _ _ _ _ _ _ (ix3 0 0 q) rfl ?_).trans rfl
  intro a
  match a with
  | ⟨0, _⟩ => exact (Nat.zero_add _).symm
  | ⟨1, _⟩ => exact h
  | ⟨2, _⟩ => exact (Nat.zero_add _).symm

/-- Any other row. -/
theorem skip (h : r.val ≠ o) :
    v.read (Elt Ideal) (v.writes (Elt Ideal) f (⟨Rect.unit ![0, o, 0] ![1, 1, 1024] i, w⟩ :: L)) (ix3 0 r q) = v.read (Elt Ideal) (v.writes (Elt Ideal) f L) (ix3 0 r q) := by
  have h' : r.val < o ∨ o + 1 ≤ r.val := by omega
  exact View.read_writes_cons_unit_of_not_mem _ _ _ _ _ _ rfl (1 : Fin 3) h'

/-- A row that a load finds in the writes made so far. -/
theorem cov (ho : o < 8) : v.readCov L (Rect.unit (s := S1x8x1024) ![0, o, 0] ![1, 1, 1024] i).toLoadRect (ix3 0 0 q : S1x1x1024.Idx)
    = VO0_11.read (Elt Ideal) (VO0_11.writes (Elt Ideal) VO0_11.junk L) (ix3 0 ⟨o, ho⟩ q) := by
  rw [View.readCov_eq_canon', View.read_writes_junk_eq_canon]
  exact congrArg (View.canon L) (ix3_ext rfl (by show o + 0 = o; omega) (by show 0 + 1 * q.val = q.val; omega))

/-- A row that a load finds in a buffer. -/
theorem held (ho : o < 8) (X : S1x8x1024.Idx → Elt Ideal .f32) : View.ld X (Rect.unit (s := S1x8x1024) ![0, o, 0] ![1, 1, 1024] i) (ix3 0 0 q : S1x1x1024.Idx) = X (ix3 0 ⟨o, ho⟩ q) := by
  refine (congrFun (View.ld_unit (S := S1x8x1024) X _ _ i) _).trans ?_
  exact congrArg X (ix3_ext rfl (by show o + 0 = o; omega) (by show 0 + q.val = q.val; omega))

/-- The rows start at zero. -/
theorem zero11 (i : ∀ a, (![0, 0, 0] : Fin 3 → ℕ) a + S1x8x1024.size a ≤ S1x8x1024.size a) :
    v.read (Elt Ideal) (v.writes (Elt Ideal) f [⟨Rect.unit ![0, 0, 0] S1x8x1024.size i, k0_pay2 (F := Ideal)⟩]) (ix3 0 r q) = (0 : EReal) := by
  refine (View.read_writes_cons_unit_of_mem _ _ _ _ _ _ (ix3 0 r q) rfl ?_).trans ?_
  · intro a
    match a with
    | ⟨0, _⟩ => exact (Nat.zero_add _).symm
    | ⟨1, _⟩ => exact (Nat.zero_add _).symm
    | ⟨2, _⟩ => exact (Nat.zero_add _).symm
  exact Ideal.ofBits_zero_f32

end Rows

variable (m : (ℓ : Loc nD τ sig) → Buf (Elt Ideal) ℓ)

/-- What tile `t` adds to row `r` of its sequence's modulation gradient. -/
def contrib (c : Dev nD) (r : Fin 8) (q : Fin 1024) (t : ℕ) : EReal :=
  if r.val = 5 then tile (fun i => A0 m c i * OO' m c i) q t
  else if r.val = 3 then tile (DH' m c) q t
  else if r.val = 4 then gn (A3 m c) q * tile (hx (A1 m c) (DH' m c)) q t else 0

/-- The rows of a sequence after `n` tiles from tile `s`. -/
def part (c : Dev nD) (s n : ℕ) (r : Fin 8) (q : Fin 1024) : EReal := ∑ a ∈ Finset.range n, contrib m c r q (s + a)

/-- What three rows written over others come to, when each adds a tile's contribution. -/
theorem rows (v : View sig .tc .vmem S1x8x1024 .f32) (f : v.ty.Contents (Elt Ideal)) (L : List (View.Piece (Elt Ideal) S1x8x1024 .f32)) (i4 i3 i5)
    (w4 w3 w5 : S1x1x1024.Idx → Elt Ideal .f32) (c : Dev nD) (t : ℕ) (r : Fin 8) (q : Fin 1024) (base : Fin 8 → EReal)
    (h4 : w4 (ix3 0 0 q) = base 4 + gn (A3 m c) q * tile (hx (A1 m c) (DH' m c)) q t)
    (h3 : w3 (ix3 0 0 q) = base 3 + tile (DH' m c) q t)
    (h5 : w5 (ix3 0 0 q) = base 5 + tile (fun i => A0 m c i * OO' m c i) q t)
    (hb : v.read (Elt Ideal) (v.writes (Elt Ideal) f L) (ix3 0 r q) = base r) :
    v.read (Elt Ideal) (v.writes (Elt Ideal) f (⟨Rect.unit ![0, 4, 0] ![1, 1, 1024] i4, w4⟩ :: ⟨Rect.unit ![0, 3, 0] ![1, 1, 1024] i3, w3⟩ ::
      ⟨Rect.unit ![0, 5, 0] ![1, 1, 1024] i5, w5⟩ :: L)) (ix3 0 r q) = base r + contrib m c r q t := by
  unfold contrib
  by_cases r4 : r.val = 4
  · rw [hit _ _ _ _ _ _ r q r4, if_neg (by omega), if_neg (by omega), if_pos r4, h4]
    rw [show r = 4 from Fin.ext r4]
  rw [skip _ _ _ _ _ _ r q r4]
  by_cases r3 : r.val = 3
  · rw [hit _ _ _ _ _ _ r q r3, if_neg (by omega), if_pos r3, h3]
    rw [show r = 3 from Fin.ext r3]
  rw [skip _ _ _ _ _ _ r q r3]
  by_cases r5 : r.val = 5
  · rw [hit _ _ _ _ _ _ r q r5, if_pos r5, h5]
    rw [show r = 5 from Fin.ext r5]
  rw [skip _ _ _ _ _ _ r q r5, if_neg r5, if_neg r3, if_neg r4, hb]
  exact (add_zero _).symm

theorem pay3t (c : Dev nD) (t : Fin cfg0.N) (v17 : Vec Ideal S1x1x1024 .f32) (q : Fin 1024) (b : EReal) (hv : v17 (ix3 0 0 q) = b) :
    k0_pay3 (F := Ideal) (blk t.val (tb t) (A0 m c)) v17 (blk t.val (tb t) (OO' m c)) (ix3 0 0 q) = b + tile (fun i => A0 m c i * OO' m c i) q t.val :=
  (pay3 (A0 m c) (A1 m c) (A2 m c) (A3 m c) (A4 m c) (A5 m c) t.val (tb t) v17 q).trans (congrArg (· + _) hv)

/-- A sequence's first tile. -/
theorem first_A (c : Dev nD) (t : Fin cfg0.N) (h0 : t.val % 16 = 0) (h1 : t.val % 8 = 0) (r : Fin 8) (q : Fin 1024) :
    (outsAt0 m c t.val t.isLt).2.2.2.1 (ix3 0 r q : S1x8x1024.Idx) = 0 + contrib m c r q t.val := by
  rw [outsAt0_A m c t h0 h1]
  unfold out0_A_11 kernelRun0_A
  dsimp only
  unfold kernelRun0_A.sl.H11_3 kernelRun0_A.sl.H11_2 kernelRun0_A.sl.H11_1
  refine rows m _ _ _ _ _ _ _ _ _ c t.val r q (fun _ => 0) ?_ ?_ ?_ ?_
  · rw [r8_A m c t, r11_A m c t]
    simp only [View.readAt_eq_ld, (hs0_3 t).read_unread]
    refine (pay23 (A1 m c) (DH' m c) (A3 m c) t.val (tb t) _ _ (grow m c t _) q).trans (congrArg (· + _) ?_)
    unfold kernelRun0_A.sl.v148 kernelRun0_A.sl.H11_3 kernelRun0_A.sl.H11_2 kernelRun0_A.sl.H11_1
    refine (cov _ _ _ _ q (by decide)).trans ?_
    refine (skip _ _ _ _ _ _ _ q (by decide)).trans ((skip _ _ _ _ _ _ _ q (by decide)).trans (zero11 _ _ _ q _))
  · rw [r8_A m c t]
    refine (pay22 (DH' m c) t.val (tb t) _ q).trans (congrArg (· + _) ?_)
    unfold kernelRun0_A.sl.v142 kernelRun0_A.sl.H11_2 kernelRun0_A.sl.H11_1
    refine (cov _ _ _ _ q (by decide)).trans ?_
    refine (skip _ _ _ _ _ _ _ q (by decide)).trans (zero11 _ _ _ q _)
  · simp only [View.readAt_eq_ld, (hs0_0 t).read_unread, (hs0_4 t).read_unread, ld2]
    rw [iblk0_eq m c t, iblk4_eq m c t]
    refine pay3t m c t _ q _ ?_
    unfold kernelRun0_A.sl.v17 kernelRun0_A.sl.H11_1
    exact (cov _ _ _ _ q (by decide)).trans (zero11 _ _ _ q _)
  · exact zero11 _ _ _ q _

/-- A sequence's first tile. -/
theorem first_C (c : Dev nD) (t : Fin cfg0.N) (h0 : ¬ t.val % 16 = 0) (h1 : t.val % 8 = 0) (r : Fin 8) (q : Fin 1024) :
    (outsAt0 m c t.val t.isLt).2.2.2.1 (ix3 0 r q : S1x8x1024.Idx) = 0 + contrib m c r q t.val := by
  rw [outsAt0_C m c t h0 h1]
  unfold out0_C_11 kernelRun0_C
  dsimp only
  unfold kernelRun0_C.sl.H11_3 kernelRun0_C.sl.H11_2 kernelRun0_C.sl.H11_1
  refine rows m _ _ _ _ _ _ _ _ _ c t.val r q (fun _ => 0) ?_ ?_ ?_ ?_
  · rw [r8_C m c t, r11_C m c t]
    simp only [View.readAt_eq_ld, (hs0_3 t).read_unread]
    refine (pay23 (A1 m c) (DH' m c) (A3 m c) t.val (tb t) _ _ (grow m c t _) q).trans (congrArg (· + _) ?_)
    unfold kernelRun0_C.sl.v148 kernelRun0_C.sl.H11_3 kernelRun0_C.sl.H11_2 kernelRun0_C.sl.H11_1
    refine (cov _ _ _ _ q (by decide)).trans ?_
    refine (skip _ _ _ _ _ _ _ q (by decide)).trans ((skip _ _ _ _ _ _ _ q (by decide)).trans (zero11 _ _ _ q _))
  · rw [r8_C m c t]
    refine (pay22 (DH' m c) t.val (tb t) _ q).trans (congrArg (· + _) ?_)
    unfold kernelRun0_C.sl.v142 kernelRun0_C.sl.H11_2 kernelRun0_C.sl.H11_1
    refine (cov _ _ _ _ q (by decide)).trans ?_
    refine (skip _ _ _ _ _ _ _ q (by decide)).trans (zero11 _ _ _ q _)
  · simp only [View.readAt_eq_ld, (hs0_0 t).read_unread, (hs0_4 t).read_unread, ld2]
    rw [iblk0_eq m c t, iblk4_eq m c t]
    refine pay3t m c t _ q _ ?_
    unfold kernelRun0_C.sl.v17 kernelRun0_C.sl.H11_1
    exact (cov _ _ _ _ q (by decide)).trans (zero11 _ _ _ q _)
  · exact zero11 _ _ _ q _

theorem next_B (c : Dev nD) (t : Fin cfg0.N) (h0 : ¬ t.val % 16 = 0) (h1 : ¬ t.val % 8 = 0) (r : Fin 8) (q : Fin 1024) :
    (outsAt0 m c t.val t.isLt).2.2.2.1 (ix3 0 r q : S1x8x1024.Idx)
      = (outsAt0 m c (t.val - 1) (Nat.lt_of_le_of_lt (Nat.sub_le _ _) t.isLt)).2.2.2.1 (ix3 0 r q : S1x8x1024.Idx) + contrib m c r q t.val := by
  rw [outsAt0_B m c t h0 h1]
  unfold out0_B_11 kernelRun0_B
  dsimp only
  refine rows m _ _ _ _ _ _ _ _ _ c t.val r q (fun r => (outsAt0 m c (t.val - 1) (Nat.lt_of_le_of_lt (Nat.sub_le _ _) t.isLt)).2.2.2.1 (ix3 0 r q : S1x8x1024.Idx)) ?_ ?_ ?_ ?_
  · rw [r8_B m c t, r11_B m c t]
    simp only [View.readAt_eq_ld, (hs0_3 t).read_unread]
    refine (pay23 (A1 m c) (DH' m c) (A3 m c) t.val (tb t) _ _ (grow m c t _) q).trans (congrArg (· + _) ?_)
    unfold kernelRun0_B.sl.v148
    rw [View.readAt_eq_ld, (hs0_11 t).read_unread]
    exact held _ _ q (by decide) _
  · rw [r8_B m c t]
    refine (pay22 (DH' m c) t.val (tb t) _ q).trans (congrArg (· + _) ?_)
    unfold kernelRun0_B.sl.v142
    rw [View.readAt_eq_ld, (hs0_11 t).read_unread]
    exact held _ _ q (by decide) _
  · simp only [View.readAt_eq_ld, (hs0_0 t).read_unread, (hs0_4 t).read_unread, (hs0_11 t).read_unread, ld2]
    rw [iblk0_eq m c t, iblk4_eq m c t]
    exact pay3t m c t _ q _ (held _ _ q (by decide) _)
  · rw [View.writes_nil, (hs0_11 t).read_unread]

theorem sofar (c : Dev nD) (b : ℕ) (hb : b < 2) (r : Fin 8) (q : Fin 1024) : ∀ (j : ℕ) (hj : j < 8) (h : b * 8 + j < cfg0.N),
    (outsAt0 m c (b * 8 + j) h).2.2.2.1 (ix3 0 r q : S1x8x1024.Idx) = part m c (b * 8) (j + 1) r q
  | 0, _, h => by
    refine Eq.trans ?_ ((zero_add _).trans (Finset.sum_range_one (fun a => contrib m c r q (b * 8 + a))).symm)
    by_cases h0 : b * 8 % 16 = 0
    · exact first_A m c ⟨b * 8, h⟩ h0 (by show b * 8 % 8 = 0; omega) r q
    · exact first_C m c ⟨b * 8, h⟩ h0 (by show b * 8 % 8 = 0; omega) r q
  | j + 1, hj, h => by
    refine (next_B m c ⟨b * 8 + (j + 1), h⟩ (by show ¬ (b * 8 + (j + 1)) % 16 = 0; omega) (by show ¬ (b * 8 + (j + 1)) % 8 = 0; omega) r q).trans ?_
    refine Eq.trans ?_ (Finset.sum_range_succ _ (j + 1)).symm
    exact congrArg (· + _) (sofar c b hb r q j (by omega) (by show _ < 16; omega))

/-- The gradient of the modulation, one sequence: the sums over the sequence's tokens. -/
def modGrad (c : Dev nD) : Arr S2x8x1024 := fun i => ∑ a ∈ Finset.range 8, contrib m c ⟨(i 1).val, (i 1).isLt⟩ ⟨(i 2).val, (i 2).isLt⟩ ((i 0).val * 8 + a)

theorem flushed11_eq (c : Dev nD) (t : Fin cfg0.N) (hf : (cfg0.win 11).flush t = true) :
    (dats m 0 c).flushed 11 t = ((cfg0.win 11).blk t).view.read (Elt Ideal) (modGrad m c) := by
  have h7 := (flush0_11 t).mp hf
  have ht := tlt t
  rw [flushed11]
  funext j
  have hj : j = (ix3 0 (j 1) (j 2) : S1x8x1024.Idx) := ix3_ext (by have h : (j 0).val < 1 := (j 0).isLt; show (j 0).val = 0; omega) rfl rfl
  rw [hj]
  show (outsAt0 m c t.val t.isLt).2.2.2.1 (ix3 0 (j 1) (j 2) : S1x8x1024.Idx) = modGrad m c (((cfg0.win 11).blk t).view.emb (ix3 0 (j 1) (j 2) : S1x8x1024.Idx))
  rw [emb11 t (j 1) (j 2)]
  have e := sofar m c (t.val / 8) (by omega) (j 1) (j 2) 7 (by omega) (by show _ < 16; omega)
  have ev : t.val / 8 * 8 + 7 = t.val := by omega
  simp only [ev] at e
  exact e

theorem final11 (c : Dev nD) : (dats m 0 c).arrAt 11 cfg0.N = modGrad m c :=
  (dats m 0 c).arrAt_eq_of_cover 11 _ (fun t hf => flushed11_eq m c t hf) fun i => by
    have hi : (i 0).val < 2 := (i 0).isLt
    have e := (emb11 (⟨(i 0).val * 8 + 7, by show _ < 16; omega⟩ : Fin cfg0.N) (i 1) (i 2)).trans
      (show (ix3 (⟨((i 0).val * 8 + 7) / 8, by omega⟩ : Fin 2) (i 1) (i 2) : S2x8x1024.Idx) = i from
        ix3_ext (by show ((i 0).val * 8 + 7) / 8 = (i 0).val; omega) rfl rfl)
    exact ⟨_, (flush0_11 _).mpr (by show ((i 0).val * 8 + 7) % 8 = 7; omega), e ▸ View.emb_mem_set _ _⟩

section Weight

variable (v : View sig .tc .vmem S8x1024 .f32) (f : v.ty.Contents (Elt Ideal)) (i : ∀ a, (![0, 0] : Fin 2 → ℕ) a + (![1, 1024] : Fin 2 → ℕ) a ≤ S8x1024.size a)
  (w : S1x1024.Idx → Elt Ideal .f32) (L : List (View.Piece (Elt Ideal) S8x1024 .f32)) (r : Fin 8) (q : Fin 1024)

theorem hitW (h : r.val = 0) : v.read (Elt Ideal) (v.writes (Elt Ideal) f (⟨Rect.unit ![0, 0] ![1, 1024] i, w⟩ :: L)) (ix2 r q) = w (ix2 0 q) := by
  refine (View.read_writes_cons_unit_of_mem _ _ _ _ _ _ (ix2 0 q) rfl ?_).trans rfl
  intro a
  match a with
  | ⟨0, _⟩ => exact h
  | ⟨1, _⟩ => exact (Nat.zero_add _).symm

theorem skipW (h : ¬ r.val = 0) :
    v.read (Elt Ideal) (v.writes (Elt Ideal) f (⟨Rect.unit ![0, 0] ![1, 1024] i, w⟩ :: L)) (ix2 r q) = v.read (Elt Ideal) (v.writes (Elt Ideal) f L) (ix2 r q) := by
  have h' : r.val < 0 ∨ 0 + 1 ≤ r.val := by omega
  exact View.read_writes_cons_unit_of_not_mem _ _ _ _ _ _ rfl (0 : Fin 2) h'

theorem covW : v.readCov L (Rect.unit (s := S8x1024) ![0, 0] ![1, 1024] i).toLoadRect (ix2 0 q : S1x1024.Idx)
    = VO0_12.read (Elt Ideal) (VO0_12.writes (Elt Ideal) VO0_12.junk L) (ix2 0 q) := by
  rw [View.readCov_eq_canon', View.read_writes_junk_eq_canon]
  exact congrArg (View.canon L) (ix2_ext rfl (by show 0 + 1 * q.val = q.val; omega))

theorem heldW (X : S8x1024.Idx → Elt Ideal .f32) : View.ld X (Rect.unit (s := S8x1024) ![0, 0] ![1, 1024] i) (ix2 0 q : S1x1024.Idx) = X (ix2 0 q) := by
  refine (congrFun (View.ld_unit (S := S8x1024) X _ _ i) _).trans ?_
  exact congrArg X (ix2_ext rfl (by show 0 + q.val = q.val; omega))

theorem zeroW (i : ∀ a, (![0, 0] : Fin 2 → ℕ) a + S8x1024.size a ≤ S8x1024.size a) :
    v.read (Elt Ideal) (v.writes (Elt Ideal) f [⟨Rect.unit ![0, 0] S8x1024.size i, k0_pay1 (F := Ideal)⟩]) (ix2 r q) = (0 : EReal) := by
  refine (View.read_writes_cons_unit_of_mem _ _ _ _ _ _ (ix2 r q) rfl ?_).trans ?_
  · intro a
    match a with
    | ⟨0, _⟩ => exact (Nat.zero_add _).symm
    | ⟨1, _⟩ => exact (Nat.zero_add _).symm
  exact Ideal.ofBits_zero_f32

end Weight

/-- What tile `t` adds to the norm weight's gradient. -/
def contribW (c : Dev nD) (r : Fin 8) (q : Fin 1024) (t : ℕ) : EReal :=
  if r.val = 0 then (1 + modRow (A2 m c) 4096 (by decide) ⟨t / 8 % 2, Nat.mod_lt _ (by decide)⟩ q) * tile (hx (A1 m c) (DH' m c)) q t else 0

theorem rowW (v : View sig .tc .vmem S8x1024 .f32) (f : v.ty.Contents (Elt Ideal)) (L : List (View.Piece (Elt Ideal) S8x1024 .f32)) (i)
    (w : S1x1024.Idx → Elt Ideal .f32) (c : Dev nD) (t : ℕ) (ht : t < 16) (r : Fin 8) (q : Fin 1024) (base : Fin 8 → EReal)
    (hw : w (ix2 0 q) = base 0 + (1 + modRow (A2 m c) 4096 (by decide) ⟨t * 512 / 4096, by omega⟩ q) * tile (hx (A1 m c) (DH' m c)) q t)
    (hb : v.read (Elt Ideal) (v.writes (Elt Ideal) f L) (ix2 r q) = base r) :
    v.read (Elt Ideal) (v.writes (Elt Ideal) f (⟨Rect.unit ![0, 0] ![1, 1024] i, w⟩ :: L)) (ix2 r q) = base r + contribW m c r q t := by
  unfold contribW
  by_cases r0 : r.val = 0
  · rw [hitW _ _ _ _ _ r q r0, if_pos r0, hw]
    have e : (⟨t * 512 / 4096, by omega⟩ : Fin 2) = ⟨t / 8 % 2, Nat.mod_lt _ (by decide)⟩ := Fin.ext (by show t * 512 / 4096 = t / 8 % 2; omega)
    rw [show r = 0 from Fin.ext r0, e]
  · rw [skipW _ _ _ _ _ r q r0, if_neg r0, hb]
    exact (add_zero _).symm

theorem firstW (c : Dev nD) (t : Fin cfg0.N) (h0 : t.val % 16 = 0) (h1 : t.val % 8 = 0) (r : Fin 8) (q : Fin 1024) :
    (outsAt0 m c t.val t.isLt).2.2.2.2 (ix2 r q : S8x1024.Idx) = 0 + contribW m c r q t.val := by
  rw [outsAt0_A m c t h0 h1]
  unfold out0_A_12 kernelRun0_A
  dsimp only
  unfold kernelRun0_A.sl.H12_1
  refine rowW m _ _ _ _ _ c t.val t.isLt r q (fun _ => 0) ?_ ?_
  · unfold kernelRun0_A.sl.r_13 kernelRun0_A.sl.r_9
    rw [r8_A m c t, r11_A m c t]
    simp only [View.readAt_eq_ld, (hs0_2 t).read_unread, (hs0_12 t).read_unread]
    refine (pay24 (A1 m c) (DH' m c) (A2 m c) t.val (tb t) _ _ (mrow m 4 (by decide) c t _) q).trans (congrArg (· + _) ?_)
    unfold kernelRun0_A.sl.v157 kernelRun0_A.sl.H12_1
    exact (covW _ _ _ q).trans (zeroW _ _ _ q _)
  · exact zeroW _ _ _ q _

theorem nextW_B (c : Dev nD) (t : Fin cfg0.N) (h0 : ¬ t.val % 16 = 0) (h1 : ¬ t.val % 8 = 0) (r : Fin 8) (q : Fin 1024) :
    (outsAt0 m c t.val t.isLt).2.2.2.2 (ix2 r q : S8x1024.Idx)
      = (outsAt0 m c (t.val - 1) (Nat.lt_of_le_of_lt (Nat.sub_le _ _) t.isLt)).2.2.2.2 (ix2 r q : S8x1024.Idx) + contribW m c r q t.val := by
  rw [outsAt0_B m c t h0 h1]
  unfold out0_B_12 kernelRun0_B
  dsimp only
  refine rowW m _ _ _ _ _ c t.val t.isLt r q (fun r => (outsAt0 m c (t.val - 1) (Nat.lt_of_le_of_lt (Nat.sub_le _ _) t.isLt)).2.2.2.2 (ix2 r q : S8x1024.Idx)) ?_ ?_
  · unfold kernelRun0_B.sl.r_13 kernelRun0_B.sl.r_9
    rw [r8_B m c t, r11_B m c t]
    simp only [View.readAt_eq_ld, (hs0_2 t).read_unread, (hs0_12 t).read_unread]
    refine (pay24 (A1 m c) (DH' m c) (A2 m c) t.val (tb t) _ _ (mrow m 4 (by decide) c t _) q).trans (congrArg (· + _) ?_)
    exact heldW _ q _
  · rw [View.writes_nil, (hs0_12 t).read_unread]

theorem nextW_C (c : Dev nD) (t : Fin cfg0.N) (h0 : ¬ t.val % 16 = 0) (h1 : t.val % 8 = 0) (r : Fin 8) (q : Fin 1024) :
    (outsAt0 m c t.val t.isLt).2.2.2.2 (ix2 r q : S8x1024.Idx)
      = (outsAt0 m c (t.val - 1) (Nat.lt_of_le_of_lt (Nat.sub_le _ _) t.isLt)).2.2.2.2 (ix2 r q : S8x1024.Idx) + contribW m c r q t.val := by
  rw [outsAt0_C m c t h0 h1]
  unfold out0_C_12 kernelRun0_C
  dsimp only
  refine rowW m _ _ _ _ _ c t.val t.isLt r q (fun r => (outsAt0 m c (t.val - 1) (Nat.lt_of_le_of_lt (Nat.sub_le _ _) t.isLt)).2.2.2.2 (ix2 r q : S8x1024.Idx)) ?_ ?_
  · unfold kernelRun0_C.sl.r_13 kernelRun0_C.sl.r_9
    rw [r8_C m c t, r11_C m c t]
    simp only [View.readAt_eq_ld, (hs0_2 t).read_unread, (hs0_12 t).read_unread]
    refine (pay24 (A1 m c) (DH' m c) (A2 m c) t.val (tb t) _ _ (mrow m 4 (by decide) c t _) q).trans (congrArg (· + _) ?_)
    exact heldW _ q _
  · rw [View.writes_nil, (hs0_12 t).read_unread]

theorem sofarW (c : Dev nD) (r : Fin 8) (q : Fin 1024) : ∀ (j : ℕ) (h : j < cfg0.N),
    (outsAt0 m c j h).2.2.2.2 (ix2 r q : S8x1024.Idx) = ∑ a ∈ Finset.range (j + 1), contribW m c r q a
  | 0, h => (firstW m c ⟨0, h⟩ rfl rfl r q).trans ((zero_add _).trans (Finset.sum_range_one _).symm)
  | j + 1, h => by
    have hj : j + 1 < 16 := h
    refine Eq.trans ?_ (Finset.sum_range_succ _ (j + 1)).symm
    refine Eq.trans ?_ (congrArg (· + _) (sofarW c r q j (by show j < 16; omega)))
    by_cases h1 : (j + 1) % 8 = 0
    · exact nextW_C m c ⟨j + 1, h⟩ (by show ¬ (j + 1) % 16 = 0; omega) h1 r q
    · exact nextW_B m c ⟨j + 1, h⟩ (by show ¬ (j + 1) % 16 = 0; omega) h1 r q

/-- The gradient of the norm's weight. -/
def gamGrad (c : Dev nD) : Arr S8x1024 := fun i => ∑ a ∈ Finset.range 16, contribW m c ⟨(i 0).val, (i 0).isLt⟩ ⟨(i 1).val, (i 1).isLt⟩ a

theorem flushed12_eq (c : Dev nD) (t : Fin cfg0.N) (hf : (cfg0.win 12).flush t = true) :
    (dats m 0 c).flushed 12 t = ((cfg0.win 12).blk t).view.read (Elt Ideal) (gamGrad m c) := by
  have h7 := (flush0_12 t).mp hf
  have ht := tlt t
  rw [flushed12]
  refine ext2 fun r q => ?_
  show (outsAt0 m c t.val t.isLt).2.2.2.2 (ix2 r q : S8x1024.Idx) = gamGrad m c (((cfg0.win 12).blk t).view.emb (ix2 r q : S8x1024.Idx))
  rw [emb12 t r q]
  have e := sofarW m c r q 15 (by decide)
  have ev : t.val = 15 := by omega
  simp only [← ev] at e
  refine e.trans ?_
  rw [ev]
  rfl

theorem final12 (c : Dev nD) : (dats m 0 c).arrAt 12 cfg0.N = gamGrad m c :=
  (dats m 0 c).arrAt_eq_of_cover 12 _ (fun t hf => flushed12_eq m c t hf) fun i => by
    have e := (emb12 (⟨15, by decide⟩ : Fin cfg0.N) (i 0) (i 1)).trans (show (ix2 (i 0) (i 1) : S8x1024.Idx) = i from ix2_ext rfl rfl)
    exact ⟨_, (flush0_12 _).mpr rfl, e ▸ View.emb_mem_set _ _⟩

end Cert.FfnSum
-- ==== Proof.FfnRef.lean ====
/-
  What the reference of the feed-forward's backward pass comes to, over the reals.
-/
module

public import proofs.«01_k».proof.Proof.FfnPay
public import proofs.«01_k».proof.Proof.NormSpec
public import Idealize.ShloMosaic.Lib.IdealHost
public import Idealize.ShloMosaic.Lib.KernelVsHost
public import Idealize.ShloMosaic.Lib.Pipeline.ValueKit.Tiles

@[expose] public section

noncomputable section

namespace Cert.FfnRef

open Cert.Reference2Ideal Cert.Reference2Ideal.Gen Cert.Reference2Ideal.Read Cert.Tools Cert.Reals Cert.NormSpec Cert.FfnPay Cert.FfnHost
open Idealize.ShloMosaic Idealize.ShloMosaic.ValueIdx

/-- The token at a place of a sequence. -/
abbrev tok (b : Fin 2) (k : Fin 4096) : Fin 8192 := ⟨b.val * 4096 + k.val, by omega⟩

theorem mulr {a b c : EReal} (h : b = c) : a * b = a * c := congrArg (a * ·) h

theorem ix1_ext {n : ℕ} {x y : (⟨1, ![n]⟩ : Shape).Idx} (h : (x 0).val = (y 0).val) : x = y := by
  funext a
  match a with
  | ⟨0, _⟩ => exact Fin.ext h

theorem tile_re (f : Arr S8192x1024) (q : Fin 1024) (t : ℕ) (hf : ∀ i, Re (f i)) : Re (tile f q t) :=
  re_sum _ _ fun k => by
    unfold term
    split
    · exact hf _
    · exact re_zero

variable (x0 : Arr S8192x1024) (x1 : Arr S8192x1024) (x2 : Arr S4x2x6144) (x3 : Arr S4x1024) (x4 : Arr S1024x4096) (x5 : Arr S4096x1024)

/-- The gradient of the normed rows. -/
abbrev HH : Arr S8192x1024 := val_main_v62 (F := Ideal) x0 x1 x2 x3 x4 x5

theorem x3d (b : Fin 2) (k : Fin 4096) (q : Fin 1024) : val_main_v11 (F := Ideal) x1 (ix3 b k q) = x1 (ix2 (tok b k) q) := by
  rw [val_main_v11_apply]
  exact congrArg (x1) (ix2_ext (by show ((b.val * 4096 + k.val) * 1024 + q.val) / 1024 = b.val * 4096 + k.val; omega)
    (by show ((b.val * 4096 + k.val) * 1024 + q.val) % 1024 = q.val; omega))

theorem h3d (b : Fin 2) (k : Fin 4096) (q : Fin 1024) : val_main_v63 (F := Ideal) x0 x1 x2 x3 x4 x5 (ix3 b k q) = HH x0 x1 x2 x3 x4 x5 (ix2 (tok b k) q) := by
  rw [val_main_v63_apply]
  exact congrArg (HH x0 x1 x2 x3 x4 x5) (ix2_ext (by show ((b.val * 4096 + k.val) * 1024 + q.val) / 1024 = b.val * 4096 + k.val; omega)
    (by show ((b.val * 4096 + k.val) * 1024 + q.val) % 1024 = q.val; omega))

theorem ms (b : Fin 2) (k : Fin 4096) : val_main_v18 (F := Ideal) x1 (ix3 b k 0) = meanSq (row x1 (tok b k)) := by
  rw [val_main_v18_apply, val_main_v16_apply, val_main_v14_apply, val_main_v13_apply, val_main_v15_apply, val_main_v17_apply]
  show Ideal.div (Ideal.ofBits .f32 0x00000000#32 + ∑ j : Fin 1024, _) (Ideal.ofBits .f32 0x44800000#32) + Ideal.ofBits .f32 0x358637BD#32 = _
  unfold meanSq
  rw [Ideal.ofBits_zero_f32, zero_add]
  refine congrArg (fun z => Ideal.div z (Ideal.ofBits .f32 0x44800000#32) + Ideal.ofBits .f32 0x358637BD#32) (Finset.sum_congr rfl fun j _ => ?_)
  have e := x3d x1 b k j
  exact (congrArg (val_main_v12 (F := Ideal) x1) (ix3_ext rfl rfl rfl : _ = ix3 b k j)).trans (congrArg₂ (· * ·) e e)

theorem rs (b : Fin 2) (k : Fin 4096) : val_main_v19 (F := Ideal) x1 (ix3 b k 0) = rms (row x1 (tok b k)) := by
  rw [val_main_v19_apply, ms]
  rfl

theorem rs3 (b : Fin 2) (k : Fin 4096) : val_main_v22 (F := Ideal) x1 (ix3 b k 0) = Ideal.ofBits .f32 0xBF000000#32 * Ideal.div (rms (row x1 (tok b k))) (meanSq (row x1 (tok b k))) := by
  rw [val_main_v22_apply, val_main_v20_apply, rs, ms]
  rfl

/-- The normalised rows. -/
theorem xn (b : Fin 2) (k : Fin 4096) (q : Fin 1024) : val_main_v24 (F := Ideal) x1 (ix3 b k q) = nrm x1 (ix2 (tok b k) q) := by
  rw [val_main_v24_apply, val_main_v23_apply, x3d]
  refine mulr ?_
  exact (congrArg (val_main_v19 (F := Ideal) x1) (ix3_ext rfl rfl rfl : idx_main_v23 (ix3 b k q) = (ix3 b k 0 : S2x4096x1.Idx))).trans (rs x1 b k)

/-- The gain. -/
theorem gain (a b : Fin 1) (q : Fin 1024) : val_main_v25 (F := Ideal) x3 (ix3 a b q) = gn x3 q := by
  rw [val_main_v25_apply, val_main_v10_apply, val_main_v9_apply]
  exact congrArg x3 (ix2_ext rfl (by show q.val % 1024 = q.val; omega))

/-- The scale's row, one added. -/
theorem scale (b : Fin 2) (a : Fin 1) (q : Fin 1024) : val_main_v29 (F := Ideal) x2 (ix3 b a q) = 1 + modRow x2 4096 (by decide) b q := by
  rw [val_main_v29_apply, val_main_v7_apply, val_main_v2_apply, val_main_v1_apply, val_main_v0_apply]
  refine congrArg₂ (· + ·) (Ideal.ofBits_one_f32 : _ = (1 : EReal)) (congrArg x2 (ix3_ext rfl ?_ ?_))
  · show (b.val * 6144 + (4096 + q.val)) / 6144 % 2 = b.val; omega
  · show (b.val * 6144 + (4096 + q.val)) % 6144 = 4096 + q.val; omega

/-- The normed rows before the scale. -/
theorem xg (b : Fin 2) (k : Fin 4096) (q : Fin 1024) : val_main_v27 (F := Ideal) x1 x3 (ix3 b k q) = nrm x1 (ix2 (tok b k) q) * gn x3 q := by
  rw [val_main_v27_apply, val_main_v26_apply, xn]
  refine mulr ?_
  exact (congrArg (val_main_v25 (F := Ideal) x3) (ix3_ext rfl rfl rfl : _ = ix3 0 0 q)).trans (gain x3 0 0 q)

theorem hs (b : Fin 2) (k : Fin 4096) (q : Fin 1024) :
    val_main_v70 (F := Ideal) x0 x1 x2 x3 x4 x5 (ix3 b k q) = HH x0 x1 x2 x3 x4 x5 (ix2 (tok b k) q) * (1 + modRow x2 4096 (by decide) b q) := by
  rw [val_main_v70_apply, val_main_v69_apply, h3d]
  refine mulr ?_
  exact (congrArg (val_main_v29 (F := Ideal) x2) (ix3_ext rfl rfl rfl : _ = ix3 b 0 q)).trans (scale x2 b 0 q)

theorem hsg (b : Fin 2) (k : Fin 4096) (q : Fin 1024) :
    val_main_v75 (F := Ideal) x0 x1 x2 x3 x4 x5 (ix3 b k q) = HH x0 x1 x2 x3 x4 x5 (ix2 (tok b k) q) * (1 + modRow x2 4096 (by decide) b q) * gn x3 q := by
  rw [val_main_v75_apply, val_main_v74_apply, hs]
  refine mulr ?_
  exact (congrArg (val_main_v25 (F := Ideal) x3) (ix3_ext rfl rfl rfl : _ = ix3 0 0 q)).trans (gain x3 0 0 q)

/-- The sum along a row. -/
theorem dot (b : Fin 2) (k : Fin 4096) :
    val_main_v79 (F := Ideal) x0 x1 x2 x3 x4 x5 (ix3 b k 0) = ∑ j, row x1 (tok b k) j * (row (HH x0 x1 x2 x3 x4 x5) (tok b k) j * (1 + modRow x2 4096 (by decide) b j) * gn x3 j) := by
  rw [val_main_v79_apply, val_main_v78_apply]
  refine (congrArg (· + _) (Ideal.ofBits_zero_f32 : _ = (0 : EReal))).trans ((zero_add _).trans ?_)
  refine Finset.sum_congr rfl fun j _ => ?_
  refine (congrArg (val_main_v77 (F := Ideal) x0 x1 x2 x3 x4 x5) (?_ : _ = ix3 b k j)).trans ?_
  · refine ix3_ext ?_ ?_ rfl
    · show ((b.val * 4096 + k.val) * 1 + 0) / 4096 = b.val; omega
    · show ((b.val * 4096 + k.val) * 1 + 0) % 4096 = k.val; omega
  rw [val_main_v77_apply, x3d, hsg]
  rfl

theorem mid (b : Fin 2) (k : Fin 4096) (q : Fin 1024) :
    val_main_v86 (F := Ideal) x0 x1 x2 x3 x4 x5 (ix3 b k q) = Ideal.div ((∑ j, row x1 (tok b k) j * (row (HH x0 x1 x2 x3 x4 x5) (tok b k) j * (1 + modRow x2 4096 (by decide) b j) * gn x3 j))
        * (Ideal.ofBits .f32 0xBF000000#32 * Ideal.div (rms (row x1 (tok b k))) (meanSq (row x1 (tok b k))))) (Ideal.ofBits .f32 0x44800000#32) := by
  rw [val_main_v86_apply, val_main_v85_apply]
  refine (congrArg (· + _) (Ideal.ofBits_zero_f32 : _ = (0 : EReal))).trans ((zero_add _).trans ?_)
  rw [Fin.sum_univ_one]
  refine (congrArg (val_main_v84 (F := Ideal) x0 x1 x2 x3 x4 x5) (ix3_ext rfl rfl rfl : idx_main_v85 (idx_main_v86 (ix3 b k q)) 0 = (ix3 b k 0 : S2x4096x1.Idx))).trans ?_
  rw [val_main_v84_apply, val_main_v82_apply, dot, rs3]
  rfl

/-- The norm's gradient of a row. -/
theorem dn (hX : ∀ i, Re (x1 i)) (hH : ∀ i, Re (HH x0 x1 x2 x3 x4 x5 i)) (hG : ∀ i, Re (x3 i)) (hM : ∀ i, Re (x2 i)) (b : Fin 2) (k : Fin 4096) (q : Fin 1024) :
    val_main_v90 (F := Ideal) x0 x1 x2 x3 x4 x5 (ix3 b k q)
      = dnorm (row x1 (tok b k)) (row (HH x0 x1 x2 x3 x4 x5) (tok b k)) (fun j => gn x3 j * (1 + modRow x2 4096 (by decide) b j)) q := by
  rw [val_main_v90_apply, val_main_v88_apply, val_main_v89_apply, val_main_v87_apply, val_main_v81_apply, val_main_v80_apply, mid, hsg, x3d]
  have e : val_main_v19 (F := Ideal) x1 (ix3 b k 0) = rms (row x1 (tok b k)) := rs x1 b k
  rw [(ix3_ext rfl rfl rfl : idx_main_v80 (ix3 b k q) = ix3 b k 0), e]
  exact dnorm_eq (row x1 (tok b k)) (row (HH x0 x1 x2 x3 x4 x5) (tok b k)) (fun j => gn x3 j) (fun j => modRow x2 4096 (by decide) b j) (fun _ => hX _) (fun _ => hH _)
    (fun _ => hG _) (fun _ => hM _) q

/-- The rows' gradient. -/
theorem ref_dx (hX : ∀ i, Re (x1 i)) (hH : ∀ i, Re (HH x0 x1 x2 x3 x4 x5 i)) (hG : ∀ i, Re (x3 i)) (hM : ∀ i, Re (x2 i)) :
    val_main_v95 (F := Ideal) x0 x1 x2 x3 x4 x5 = dxs x1 (HH x0 x1 x2 x3 x4 x5) x0 x2 x3 4096 (by decide) := by
  refine ext2 fun r q => ?_
  have hr := r.isLt
  rw [val_main_v95_apply]
  refine congrArg₂ (· + ·) ?_ ?_
  · rw [val_main_v57_apply, val_main_v50_apply]
    refine congrArg x0 (ix2_ext ?_ ?_)
    · show (((r.val * 1024 + q.val) / 4194304 * 4096 + (r.val * 1024 + q.val) / 1024 % 4096) * 1024 + (r.val * 1024 + q.val) % 1024) / 1024 = r.val; omega
    · show (((r.val * 1024 + q.val) / 4194304 * 4096 + (r.val * 1024 + q.val) / 1024 % 4096) * 1024 + (r.val * 1024 + q.val) % 1024) % 1024 = q.val; omega
  · rw [val_main_v91_apply]
    have ei : (idx_main_v91 (ix2 r q) : S2x4096x1024.Idx) = ix3 (⟨r.val / 4096, by omega⟩ : Fin 2) (⟨r.val % 4096, Nat.mod_lt _ (by decide)⟩ : Fin 4096) q := by
      refine ix3_ext ?_ ?_ ?_
      · show (r.val * 1024 + q.val) / 4194304 = r.val / 4096; omega
      · show (r.val * 1024 + q.val) / 1024 % 4096 = r.val % 4096; omega
      · show (r.val * 1024 + q.val) % 1024 = q.val; omega
    rw [ei]
    refine (dn x0 x1 x2 x3 x4 x5 hX hH hG hM _ _ q).trans ?_
    have et : tok (⟨r.val / 4096, by omega⟩ : Fin 2) (⟨r.val % 4096, Nat.mod_lt _ (by decide)⟩ : Fin 4096) = r := Fin.ext (by show r.val / 4096 * 4096 + r.val % 4096 = r.val; omega)
    rw [et]
    rfl

/-- The shift's gradient. -/
theorem sum_sh (b : Fin 2) (q : Fin 1024) : val_main_v65 (F := Ideal) x0 x1 x2 x3 x4 x5 (ix3 b 0 q) = ∑ a ∈ Finset.range 8, tile (HH x0 x1 x2 x3 x4 x5) q (b.val * 8 + a) := by
  rw [val_main_v65_apply, val_main_v64_apply, seq_sum _ q b.val b.isLt]
  refine (congrArg (· + _) (Ideal.ofBits_zero_f32 : _ = (0 : EReal))).trans ((zero_add _).trans ?_)
  refine Finset.sum_congr rfl fun k _ => ?_
  refine (congrArg (val_main_v63 (F := Ideal) x0 x1 x2 x3 x4 x5) (?_ : _ = ix3 b k q)).trans (h3d x0 x1 x2 x3 x4 x5 b k q)
  refine ix3_ext ?_ rfl ?_
  · show ((b.val * 1 + 0) * 1024 + q.val) / 1024 = b.val; omega
  · show ((b.val * 1 + 0) * 1024 + q.val) % 1024 = q.val; omega

theorem nrm_re (hX : ∀ i, Re (x1 i)) (i : S8192x1024.Idx) : Re (nrm x1 i) := re_mul (hX i) (rms_re _ fun _ => hX _)

theorem hx_re (hX : ∀ i, Re (x1 i)) (hH : ∀ i, Re (HH x0 x1 x2 x3 x4 x5 i)) (i : S8192x1024.Idx) : Re (hx x1 (HH x0 x1 x2 x3 x4 x5) i) := re_mul (hH i) (nrm_re x1 hX i)

/-- The scale's gradient. -/
theorem sum_sc (hX : ∀ i, Re (x1 i)) (hH : ∀ i, Re (HH x0 x1 x2 x3 x4 x5 i)) (hG : ∀ i, Re (x3 i)) (b : Fin 2) (q : Fin 1024) :
    val_main_v68 (F := Ideal) x0 x1 x2 x3 x4 x5 (ix3 b 0 q) = ∑ a ∈ Finset.range 8, gn x3 q * tile (hx x1 (HH x0 x1 x2 x3 x4 x5)) q (b.val * 8 + a) := by
  rw [val_main_v68_apply, val_main_v67_apply, ← Reals.mul_sum (Finset.range 8) (gn x3 q) (fun a => tile (hx x1 (HH x0 x1 x2 x3 x4 x5)) q (b.val * 8 + a)) (hG _) (fun a => tile_re _ q _ (hx_re x0 x1 x2 x3 x4 x5 hX hH)), seq_sum _ q b.val b.isLt,
    Reals.mul_sum Finset.univ (gn x3 q) (fun k : Fin 4096 => hx x1 (HH x0 x1 x2 x3 x4 x5) (ix2 ⟨b.val * 4096 + k.val, by omega⟩ q)) (hG _) (fun k => hx_re x0 x1 x2 x3 x4 x5 hX hH _)]
  refine (congrArg (· + _) (Ideal.ofBits_zero_f32 : _ = (0 : EReal))).trans ((zero_add _).trans ?_)
  refine Finset.sum_congr rfl fun k _ => ?_
  refine (congrArg (val_main_v66 (F := Ideal) x0 x1 x2 x3 x4 x5) (?_ : _ = ix3 b k q)).trans ?_
  · refine ix3_ext ?_ rfl ?_
    · show ((b.val * 1 + 0) * 1024 + q.val) / 1024 = b.val; omega
    · show ((b.val * 1 + 0) * 1024 + q.val) % 1024 = q.val; omega
  rw [val_main_v66_apply, xg, h3d]
  show nrm x1 _ * gn x3 q * HH x0 x1 x2 x3 x4 x5 _ = gn x3 q * (HH x0 x1 x2 x3 x4 x5 _ * nrm x1 _)
  rw [mul_comm (nrm x1 _) (gn x3 q), mul_assoc, mul_comm (nrm x1 _)]

/-- The gain's gradient. -/
theorem sum_g (hX : ∀ i, Re (x1 i)) (hH : ∀ i, Re (HH x0 x1 x2 x3 x4 x5 i)) (hM : ∀ i, Re (x2 i)) (q : Fin 1024) :
    val_main_v97 (F := Ideal) x0 x1 x2 x3 x4 x5 (ix2 0 q) = ∑ t ∈ Finset.range 16, (1 + modRow x2 4096 (by decide) ⟨t / 8 % 2, Nat.mod_lt _ (by decide)⟩ q) * tile (hx x1 (HH x0 x1 x2 x3 x4 x5)) q t := by
  rw [all_sum (hx x1 (HH x0 x1 x2 x3 x4 x5)) q (fun b => 1 + modRow x2 4096 (by decide) b q) (fun _ => re_add re_one (hM _)) (fun _ => hx_re x0 x1 x2 x3 x4 x5 hX hH _), val_main_v97_apply]
  refine (congrArg (val_main_v76 (F := Ideal) x0 x1 x2 x3 x4 x5) (ix1_ext rfl : idx_main_v97 (ix2 0 q) = ix1 q)).trans ?_
  unfold val_main_v76
  refine (reduce2 _ _ _ q).trans ?_
  refine (congrArg (· + _) (Ideal.ofBits_zero_f32 : _ = (0 : EReal))).trans ((zero_add _).trans ?_)
  rw [Fin.sum_univ_one, Fin.sum_univ_one, val_main_v73_apply]
  refine (congrArg (val_main_v72 (F := Ideal) x0 x1 x2 x3 x4 x5) (ix1_ext (by show (0 * 1 + 0) * 1024 + q.val = q.val; omega) : _ = ix1 q)).trans ?_
  unfold val_main_v72
  refine (reduce2 _ _ _ q).trans ?_
  refine (congrArg (· + _) (Ideal.ofBits_zero_f32 : _ = (0 : EReal))).trans ((zero_add _).trans ?_)
  refine Finset.sum_congr rfl fun b _ => Finset.sum_congr rfl fun k _ => ?_
  rw [val_main_v71_apply, xn, hs]
  show nrm x1 _ * (HH x0 x1 x2 x3 x4 x5 _ * _) = _ * (HH x0 x1 x2 x3 x4 x5 _ * nrm x1 _)
  rw [← mul_assoc, mul_comm, mul_comm (nrm x1 _)]

/-- The gate's gradient. -/
theorem sum_gt (b : Fin 2) (q : Fin 1024) :
    val_main_v55 (F := Ideal) x0 x1 x2 x3 x4 x5 (ix3 b 0 q) = ∑ a ∈ Finset.range 8, tile (fun i => x0 i * val_main_v43 (F := Ideal) x1 x2 x3 x4 x5 i) q (b.val * 8 + a) := by
  rw [val_main_v55_apply, val_main_v54_apply, seq_sum _ q b.val b.isLt]
  refine (congrArg (· + _) (Ideal.ofBits_zero_f32 : _ = (0 : EReal))).trans ((zero_add _).trans ?_)
  refine Finset.sum_congr rfl fun k _ => ?_
  have hk := k.isLt
  rw [val_main_v53_apply, val_main_v50_apply, val_main_v45_apply]
  refine congrArg₂ (· * ·) (congrArg x0 ?_) (congrArg (val_main_v43 (F := Ideal) x1 x2 x3 x4 x5) ?_) <;>
  · refine ix2_ext ?_ ?_
    · show ((((b.val * 1 + 0) * 1024 + q.val) / 1024 * 4096 + k.val) * 1024 + ((b.val * 1 + 0) * 1024 + q.val) % 1024) / 1024 = b.val * 4096 + k.val; omega
    · show ((((b.val * 1 + 0) * 1024 + q.val) / 1024 * 4096 + k.val) * 1024 + ((b.val * 1 + 0) * 1024 + q.val) % 1024) % 1024 = q.val; omega

/-- A piece of extent one of a concatenation along the middle axis. -/
theorem piece_at (n : ℕ) (f : S2x1x1024.Idx → EReal) (b : Fin 2) (j : Fin n) (q : Fin 1024) (w : EReal) (p : ℕ) (h : j.val = p → f (ix3 b 0 q) = w) :
    PieceAt (t := (⟨3, ![2, n, 1024]⟩ : Shape)) 1 (ix3 b j q) w S2x1x1024 f p := fun hp _ i h0 hb => by
  refine Eq.trans (congrArg f (ix3_ext ?_ ?_ ?_)) (h hp)
  · exact hb (0 : Fin 3) (fun h => absurd (congrArg Fin.val h) (show ¬ (0 : ℕ) = 1 by decide))
  · exact h0
  · exact hb (2 : Fin 3) (fun h => absurd (congrArg Fin.val h) (show ¬ (2 : ℕ) = 1 by decide))

/-- The modulation's gradient. -/
theorem ref_mod (hX : ∀ i, Re (x1 i)) (hH : ∀ i, Re (HH x0 x1 x2 x3 x4 x5 i)) (hG : ∀ i, Re (x3 i)) (b : Fin 2) (r : Fin 8) (q : Fin 1024) :
    val_main_v96 (F := Ideal) x0 x1 x2 x3 x4 x5 (ix3 b r q) = ∑ a ∈ Finset.range 8, (if r.val = 5 then tile (fun i => x0 i * val_main_v43 (F := Ideal) x1 x2 x3 x4 x5 i) q (b.val * 8 + a) else if r.val = 3 then tile (HH x0 x1 x2 x3 x4 x5) q (b.val * 8 + a) else if r.val = 4 then gn x3 q * tile (hx x1 (HH x0 x1 x2 x3 x4 x5)) q (b.val * 8 + a) else 0) := by
  unfold val_main_v96
  by_cases h5 : r.val = 5
  · refine (pad_apply_of_inside _ _ _ _ _ _ _ (ix3 b r q) (ix3 b (2 : Fin 3) q) ?_).trans ?_
    · intro a
      match a with
      | ⟨0, _⟩ => show b.val = 0 + b.val * (0 + 1); omega
      | ⟨1, _⟩ => show r.val = 3 + 2 * (0 + 1); omega
      | ⟨2, _⟩ => show q.val = 0 + q.val * (0 + 1); omega
    unfold val_main_v92
    refine (concatenate_unit_eq (t := S2x3x1024) (1 : Fin 3) _ _ _ (val_main_v55 (F := Ideal) x0 x1 x2 x3 x4 x5 (ix3 b 0 q)) (by rfl) (concatAt_cons _ _ _ _ (piece_at 3 _ b _ q _ 0 (fun h => absurd h (by decide))) (concatAt_cons _ _ _ _ (piece_at 3 _ b _ q _ 1 (fun h => absurd h (by decide))) (concatAt_cons _ _ _ _ (piece_at 3 _ b _ q _ 2 (fun h => rfl)) (concatAt_nil _ _ _ _))))).trans ?_
    rw [sum_gt x0 x1 x2 x3 x4 x5 b q]
    exact Finset.sum_congr rfl fun a _ => by rw [if_pos h5]
  by_cases h3 : r.val = 3
  · refine (pad_apply_of_inside _ _ _ _ _ _ _ (ix3 b r q) (ix3 b (0 : Fin 3) q) ?_).trans ?_
    · intro a
      match a with
      | ⟨0, _⟩ => show b.val = 0 + b.val * (0 + 1); omega
      | ⟨1, _⟩ => show r.val = 3 + 0 * (0 + 1); omega
      | ⟨2, _⟩ => show q.val = 0 + q.val * (0 + 1); omega
    unfold val_main_v92
    refine (concatenate_unit_eq (t := S2x3x1024) (1 : Fin 3) _ _ _ (val_main_v65 (F := Ideal) x0 x1 x2 x3 x4 x5 (ix3 b 0 q)) (by rfl) (concatAt_cons _ _ _ _ (piece_at 3 _ b _ q _ 0 (fun h => rfl)) (concatAt_cons _ _ _ _ (piece_at 3 _ b _ q _ 1 (fun h => absurd h (by decide))) (concatAt_cons _ _ _ _ (piece_at 3 _ b _ q _ 2 (fun h => absurd h (by decide))) (concatAt_nil _ _ _ _))))).trans ?_
    rw [sum_sh x0 x1 x2 x3 x4 x5 b q]
    exact Finset.sum_congr rfl fun a _ => by rw [if_neg (by omega), if_pos h3]
  by_cases h4 : r.val = 4
  · refine (pad_apply_of_inside _ _ _ _ _ _ _ (ix3 b r q) (ix3 b (1 : Fin 3) q) ?_).trans ?_
    · intro a
      match a with
      | ⟨0, _⟩ => show b.val = 0 + b.val * (0 + 1); omega
      | ⟨1, _⟩ => show r.val = 3 + 1 * (0 + 1); omega
      | ⟨2, _⟩ => show q.val = 0 + q.val * (0 + 1); omega
    unfold val_main_v92
    refine (concatenate_unit_eq (t := S2x3x1024) (1 : Fin 3) _ _ _ (val_main_v68 (F := Ideal) x0 x1 x2 x3 x4 x5 (ix3 b 0 q)) (by rfl) (concatAt_cons _ _ _ _ (piece_at 3 _ b _ q _ 0 (fun h => absurd h (by decide))) (concatAt_cons _ _ _ _ (piece_at 3 _ b _ q _ 1 (fun h => rfl)) (concatAt_cons _ _ _ _ (piece_at 3 _ b _ q _ 2 (fun h => absurd h (by decide))) (concatAt_nil _ _ _ _))))).trans ?_
    rw [sum_sc x0 x1 x2 x3 x4 x5 hX hH hG b q]
    exact Finset.sum_congr rfl fun a _ => by rw [if_neg (by omega), if_neg (by omega), if_pos h4]
  refine (pad_apply_of_not_inside _ _ _ _ _ _ _ (ix3 b r q) (1 : Fin 3) ?_).trans ?_
  · show ¬(3 ≤ r.val ∧ (r.val - 3) % (0 + 1) = 0 ∧ (r.val - 3) / (0 + 1) < 3)
    omega
  · refine (show (((0#32 : BitVec 32).toInt : ℝ) : EReal) = 0 by simp).trans ?_
    refine (Finset.sum_eq_zero fun a _ => ?_).symm
    rw [if_neg h5, if_neg h3, if_neg h4]

/-- The gain's gradient, in its padded form. -/
theorem ref_g (hX : ∀ i, Re (x1 i)) (hH : ∀ i, Re (HH x0 x1 x2 x3 x4 x5 i)) (hM : ∀ i, Re (x2 i)) (r : Fin 8) (q : Fin 1024) :
    val_main_v98 (F := Ideal) x0 x1 x2 x3 x4 x5 (ix2 r q) = ∑ t ∈ Finset.range 16,
      (if r.val = 0 then (1 + modRow x2 4096 (by decide) ⟨t / 8 % 2, Nat.mod_lt _ (by decide)⟩ q) * tile (hx x1 (HH x0 x1 x2 x3 x4 x5)) q t else 0) := by
  unfold val_main_v98
  by_cases h0 : r.val = 0
  · refine (pad_apply_of_inside _ _ _ _ _ _ _ (ix2 r q) (ix2 (0 : Fin 1) q) ?_).trans ?_
    · intro a
      match a with
      | ⟨0, _⟩ => show r.val = 0 + 0 * (0 + 1); omega
      | ⟨1, _⟩ => show q.val = 0 + q.val * (0 + 1); omega
    rw [sum_g x0 x1 x2 x3 x4 x5 hX hH hM q]
    exact Finset.sum_congr rfl fun t _ => (if_pos h0).symm
  · refine (pad_apply_of_not_inside _ _ _ _ _ _ _ (ix2 r q) (0 : Fin 2) ?_).trans ?_
    · show ¬(0 ≤ r.val ∧ (r.val - 0) % (0 + 1) = 0 ∧ (r.val - 0) / (0 + 1) < 1)
      omega
    · refine (show (((0#32 : BitVec 32).toInt : ℝ) : EReal) = 0 by simp).trans ?_
      exact (Finset.sum_eq_zero fun t _ => if_neg h0).symm

/-- The normed rows are real. -/
theorem rows_re (hX : ∀ i, Re (x1 i)) (hM : ∀ i, Re (x2 i)) (hG : ∀ i, Re (x3 i)) (i : S2x4096x1024.Idx) : Re (val_main_v33 (F := Ideal) x1 x2 x3 i) := by
  obtain ⟨b, k, q, rfl⟩ : ∃ (b : Fin 2) (k : Fin 4096) (q : Fin 1024), i = ix3 b k q := ⟨i 0, i 1, i 2, ix3_ext rfl rfl rfl⟩
  rw [val_main_v33_apply, val_main_v31_apply, val_main_v30_apply, val_main_v32_apply, xg]
  refine re_add (re_mul (re_mul (nrm_re x1 hX _) (hG _)) ?_) ?_
  · rw [(ix3_ext rfl rfl rfl : idx_main_v30 (ix3 b k q) = ix3 b 0 q), scale]
    exact re_add re_one (hM _)
  · rw [val_main_v6_apply, val_main_v2_apply, val_main_v1_apply, val_main_v0_apply]
    exact hM _

theorem f_re (hX : ∀ i, Re (x1 i)) (hM : ∀ i, Re (x2 i)) (hG : ∀ i, Re (x3 i)) (h4 : ∀ i, Re (x4 i)) (i : S8192x4096.Idx) : Re (FF x1 x2 x3 x4 i) := by
  show Re (val_main_v35 (F := Ideal) x1 x2 x3 x4 i)
  rw [val_main_v35_apply]
  refine re_sum _ _ fun k => re_mul ?_ (h4 _)
  rw [val_main_v34_apply]
  exact rows_re x1 x2 x3 hX hM hG _

/-- The gradient of the normed rows is real. -/
theorem h_re (h0 : ∀ i, Re (x0 i)) (hX : ∀ i, Re (x1 i)) (hM : ∀ i, Re (x2 i)) (hG : ∀ i, Re (x3 i)) (h4 : ∀ i, Re (x4 i)) (h5 : ∀ i, Re (x5 i)) (i : S8192x1024.Idx) :
    Re (HH x0 x1 x2 x3 x4 x5 i) := by
  show Re (val_main_v62 (F := Ideal) x0 x1 x2 x3 x4 x5 i)
  rw [val_main_v62_apply]
  refine re_sum _ _ fun k => re_mul ?_ (h4 _)
  have e := df_eq x0 x1 x2 x3 x4 x5 (lidx_main_v62 i k)
  refine (show Re (DF x0 x1 x2 x3 x4 x5 (lidx_main_v62 i k)) from ?_)
  rw [← e, ofBits_two, Ideal.ofBits_zero_f32]
  refine re_mul ?_ (re_mul (re_coe _) (re_max (f_re x1 x2 x3 x4 hX hM hG h4 _) re_zero))
  rw [val_main_v58_apply]
  refine re_sum _ _ fun k => re_mul ?_ (h5 _)
  refine (show Re (DO x0 x2 _) from ?_)
  rw [do_apply]
  exact re_mul (hM _) (h0 _)

end Cert.FfnRef
-- ==== Proof.FfnClaim.lean ====
/-
  The feed-forward's backward kernel gives the reference's gradients.
-/
module

public import proofs.«01_k».proof.Defs
public import proofs.«01_k».proof.Proof.FfnSum
public import proofs.«01_k».proof.Proof.FfnRef
public import proofs.«01_k».proof.Proof.SideFacts
import Idealize.ShloMosaic.Lib.ReduceAll

@[expose] public section

noncomputable section

namespace Cert.FfnClaim

open Cert.FfnSum Cert.FfnOut Cert.FfnRun Cert.Kernel2Ideal Cert.Kernel2Ideal.Gen Cert.Kernel2Ideal.Value Cert.Reference2Ideal.Read Cert.Tools Cert.FfnHost Cert.FfnPay Cert.NormSpec Cert.Reals
open Idealize.ShloMosaic Idealize.ShloMosaic.TcCoe Idealize.SL.Sem Idealize.ShloMosaic.ValueIdx

/-- The word of infinity. -/
theorem ofBits_inf : Ideal.ofBits .f32 0x7F800000#32 = (⊤ : EReal) := by
  simp [Ideal.ofBits, Ideal.ieee]

/-- An element whose absolute value is below infinity is real. -/
theorem re_of_cmp (x : EReal) (h : Ideal.cmp .olt (max x (-x)) (Ideal.ofBits .f32 0x7F800000#32) = 1#1) : Re x := by
  refine re_of_lt_inf x ?_
  rw [ofBits_inf] at h
  by_contra hc
  have : Ideal.cmp .olt (max x (-x)) ⊤ = 0#1 := by
    show BitVec.ofBool (decide (max x (-x) < ⊤)) = 0#1
    rw [decide_eq_false hc]
    rfl
  rw [this] at h
  exact absurd h (by decide)

instance : Subsingleton Cert.Pre_finite2.S_.Idx := ⟨fun a b => funext fun k => k.elim0⟩

/-- What the finiteness condition says of each argument. -/
theorem finite_args (x0 x1 : Arr S8192x1024) (x2 : Arr S4x2x6144) (x3 : Arr S4x1024) (x4 : Arr S1024x4096) (x5 : Arr S4096x1024)
    (h : Cert.Pre_finite2.fn (F := Ideal) x0 x1 x2 x3 x4 x5 = fun _ => 1#1) :
    (∀ i, Re (x0 i)) ∧ (∀ i, Re (x1 i)) ∧ (∀ i, Re (x2 i)) ∧ (∀ i, Re (x3 i)) ∧ (∀ i, Re (x4 i)) ∧ (∀ i, Re (x5 i)) := by
  have h0 := congrFun h (fun k => k.elim0)
  obtain ⟨h0, p5⟩ := IntOp.andi_eq_one.1 h0
  obtain ⟨h0, p4⟩ := IntOp.andi_eq_one.1 h0
  obtain ⟨h0, p3⟩ := IntOp.andi_eq_one.1 h0
  obtain ⟨h0, p2⟩ := IntOp.andi_eq_one.1 h0
  obtain ⟨p0, p1⟩ := IntOp.andi_eq_one.1 h0
  exact ⟨fun i => re_of_cmp _ (Host.reduce_andi_all _ _ _ _ _ p0 i), fun i => re_of_cmp _ (Host.reduce_andi_all _ _ _ _ _ p1 i),
    fun i => re_of_cmp _ (Host.reduce_andi_all _ _ _ _ _ p2 i), fun i => re_of_cmp _ (Host.reduce_andi_all _ _ _ _ _ p3 i),
    fun i => re_of_cmp _ (Host.reduce_andi_all _ _ _ _ _ p4 i), fun i => re_of_cmp _ (Host.reduce_andi_all _ _ _ _ _ p5 i)⟩

/-- The scale and shift gradients are the reference's. -/
theorem mod_eq (m : (ℓ : Loc nD τ sig) → Buf (Elt Ideal) ℓ) (c : Dev nD) (hX : ∀ i, Re (A1 m c i)) (hH : ∀ i, Re (Cert.FfnRef.HH (A0 m c) (A1 m c) (A2 m c) (A3 m c) (A4 m c) (A5 m c) i))
    (hG : ∀ i, Re (A3 m c i)) :
    val_main_v96 (F := Ideal) (A0 m c) (A1 m c) (A2 m c) (A3 m c) (A4 m c) (A5 m c) = modGrad m c := by
  funext i
  have hi : i = ix3 (i 0) (i 1) (i 2) := ix3_ext rfl rfl rfl
  exact (congrArg _ hi).trans (Cert.FfnRef.ref_mod _ _ _ _ _ _ hX hH hG (i 0) (i 1) (i 2))

/-- The norm gain's gradient is the reference's. -/
theorem gam_eq (m : (ℓ : Loc nD τ sig) → Buf (Elt Ideal) ℓ) (c : Dev nD) (hX : ∀ i, Re (A1 m c i)) (hH : ∀ i, Re (Cert.FfnRef.HH (A0 m c) (A1 m c) (A2 m c) (A3 m c) (A4 m c) (A5 m c) i))
    (hM : ∀ i, Re (A2 m c i)) :
    val_main_v98 (F := Ideal) (A0 m c) (A1 m c) (A2 m c) (A3 m c) (A4 m c) (A5 m c) = gamGrad m c := by
  funext i
  have hi : i = ix2 (i 0) (i 1) := ix2_ext rfl rfl
  exact (congrArg _ hi).trans (Cert.FfnRef.ref_g _ _ _ _ _ _ hX hH hM (i 0) (i 1))

set_option maxHeartbeats 4000000 in
/-- On finite arguments, what the kernel writes is what the reference gives. -/
theorem claim : Cert.algebraic_Kernel2Ideal_Reference2Ideal_pre_finite2 := by
  intro m g m' g' hpre hag
  refine ⟨fun c => (dats m 0 c).arrAt 8 cfg0.N, fun c => (dats m 0 c).arrAt 9 cfg0.N, fun c => (dats m 0 c).arrAt 10 cfg0.N, fun c => (dats m 0 c).arrAt 11 cfg0.N,
    fun c => (dats m 0 c).arrAt 12 cfg0.N, ?_, ?_⟩
  · refine (θ_run _ _ _).mono (fun r h c => ?_) (run_blocks m g)
    obtain ⟨h8, h9, h10, h11, h12, ha⟩ := h c
    exact ⟨h8, h9, h10, h11, h12, ha⟩
  · refine (θ_run _ _ _).mono (fun r h c => ?_) (Cert.Reference2Ideal.Value.run m' g')
    obtain ⟨h93, h94, h95, h96, h98, ha⟩ := h c
    obtain ⟨e0, e1, e2, e3, e4, e5⟩ := hag c
    obtain ⟨r0, r1, r2, r3, r4, r5⟩ := finite_args (A0 m c) (A1 m c) (A2 m c) (A3 m c) (A4 m c) (A5 m c) (hpre c)
    have hH := Cert.FfnRef.h_re (A0 m c) (A1 m c) (A2 m c) (A3 m c) (A4 m c) (A5 m c) r0 r1 r2 r3 r4 r5
    have f93 := (h93.trans (val_main_v93_eq (m' ((c : Thread Cert.Reference2Ideal.nD Cert.Reference2Ideal.τ).loc Cert.Reference2Ideal.main_arg0)) (m' ((c : Thread Cert.Reference2Ideal.nD Cert.Reference2Ideal.τ).loc Cert.Reference2Ideal.main_arg2))))
    have f94 := h94.trans (val_main_v94_eq m' c)
    have f95 := h95.trans (val_main_v95_eq m' c)
    have f96 := h96.trans (val_main_v96_eq m' c)
    have f98 := h98.trans (val_main_v98_eq m' c)
    rw [e0, e2] at f93
    rw [e0, e1, e2, e3, e4, e5] at f94 f95 f96 f98
    exact ⟨f93.trans (final8 m c).symm, f94.trans (final9 m c).symm,
      (f95.trans (Cert.FfnRef.ref_dx _ _ _ _ _ _ r1 hH r3 r2)).trans (final10 m c).symm,
      (f96.trans (mod_eq m c r1 hH r3)).trans (final11 m c).symm,
      (f98.trans (gam_eq m c r1 hH r2)).trans (final12 m c).symm, ha⟩

end Cert.FfnClaim
-- ==== Proof.InProjHost.lean ====
/-
  The arrays the input projection's backward region finds: the arguments, and what the host lines before the region make of
  them (the weight in quarters, the padded modulation rows).
-/
module

public import proofs.«01_k».proof.Proof.Gen.Kernel3Ideal.Frame
public import proofs.«01_k».proof.Proof.Gen.Reference3Ideal.Read
public import proofs.«01_k».proof.Proof.NormSpec
public import Idealize.ShloMosaic.Lib.KernelVsHost

@[expose] public section

noncomputable section

namespace Cert.InProjHost

open Cert.Kernel3Ideal Cert.Kernel3Ideal.Gen Cert.Reference3Ideal.Read Cert.Tools Cert.NormSpec
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev A0 (c : Dev nD) : Arr S8192x6144 := m ((c : Thread nD τ).loc main_arg0)
abbrev A1 (c : Dev nD) : Arr S8192x1024 := m ((c : Thread nD τ).loc main_arg1)
abbrev A2 (c : Dev nD) : Arr S8192x1024 := m ((c : Thread nD τ).loc main_arg2)
abbrev A3 (c : Dev nD) : Arr S4x2x6144 := m ((c : Thread nD τ).loc main_arg3)
abbrev A4 (c : Dev nD) : Arr S4x1024 := m ((c : Thread nD τ).loc main_arg4)
abbrev A5 (c : Dev nD) : Arr S1024x6144 := m ((c : Thread nD τ).loc main_arg5)

theorem V_dp (c : Dev nD) : (V m c main_v1 : S8192x6144.Idx → EReal) = A0 m c := by
  unfold_abbrev_sides
  simp only [List.flatten_cons, List.flatten_nil, List.cons_append, List.nil_append, List.append_nil]
  after_results
  rfl

theorem V_g (c : Dev nD) (l : Fin 4) (q : Fin 1024) : (V m c main_v4 : S4x1x1024.Idx → EReal) (ix3 l 0 q) = A4 m c (ix2 l q) := by
  have e : (V m c main_v4 : S4x1x1024.Idx → EReal) = broadcastInDim S4x1x1024 ![0, 2] bcast_S4x1024_S4x1x1024_0_2 (A4 m c) := by
    unfold_abbrev_sides
    simp only [List.flatten_cons, List.flatten_nil, List.cons_append, List.nil_append, List.append_nil]
    after_results
  rw [e]
  exact congrArg (A4 m c) (ix2_ext rfl rfl)

/-- Quarter `a` of the weight's columns. -/
theorem V_w (c : Dev nD) (a : Fin 4) (r : Fin 1024) (q : Fin 1536) :
    (V m c main_v7 : S4x1024x1536.Idx → EReal) (ix3 a r q) = A5 m c (ix2 r ⟨a.val * 1536 + q.val, by omega⟩) := by
  have e : (V m c main_v7 : S4x1024x1536.Idx → EReal) = transpose S4x1024x1536 [1, 0, 2] (shapeCast S1024x4x1536 (A5 m c) shapeCasts_S1024x6144_S1024x4x1536)
      transposes_S1024x4x1536_S4x1024x1536_1_0_2 := by
    unfold_abbrev_sides
    simp only [List.flatten_cons, List.flatten_nil, List.cons_append, List.nil_append, List.append_nil]
    after_results
    rfl
  rw [e]
  refine (congrArg (shapeCast S1024x4x1536 (A5 m c) shapeCasts_S1024x6144_S1024x4x1536) (?_ : _ = ix3 r a q)).trans ?_
  · exact ix3_ext rfl rfl rfl
  · refine shapeCast_apply _ _ _ (ix2 r ⟨a.val * 1536 + q.val, by omega⟩) ?_
    rw [Shape.rowMajor_val_two, Shape.rowMajor_val_three]
    show r.val * 6144 + (a.val * 1536 + q.val) = (r.val * 4 + a.val) * 1536 + q.val
    omega

/-- Row `r` of the padded modulation of layer `l`, sequence `b`. -/
theorem V_mod (c : Dev nD) (l : Fin 4) (b : Fin 2) (r : Fin 8) (q : Fin 1024) (hr : r.val < 6) :
    (V m c main_v3 : S4x2x8x1024.Idx → EReal) (ix4 l b r q) = A3 m c (ix3 l b ⟨r.val * 1024 + q.val, by omega⟩) := by
  have e : (V m c main_v3 : S4x2x8x1024.Idx → EReal) = pad S4x2x8x1024 ![0, 0, 0, 0] ![0, 0, 2, 0] ![0, 0, 0, 0]
        (shapeCast S4x2x6x1024 (A3 m c) shapeCasts_S4x2x6144_S4x2x6x1024) (sitofp (F := Ideal) FTy.f32 (constantI S_ 32 0#32))
        pads_S4x2x6x1024_S4x2x8x1024_000_000_020_000 h_S_ := by
    unfold_abbrev_sides
    simp only [List.flatten_cons, List.flatten_nil, List.cons_append, List.nil_append, List.append_nil]
    after_results
    rfl
  rw [e]
  refine (pad_apply_of_inside _ _ _ _ _ _ _ (ix4 l b r q) (ix4 l b (⟨r.val, hr⟩ : Fin 6) q) ?_).trans ?_
  · intro a
    match a with
    | ⟨0, _⟩ => show l.val = 0 + l.val * (0 + 1); omega
    | ⟨1, _⟩ => show b.val = 0 + b.val * (0 + 1); omega
    | ⟨2, _⟩ => show r.val = 0 + r.val * (0 + 1); omega
    | ⟨3, _⟩ => show q.val = 0 + q.val * (0 + 1); omega
  · refine shapeCast_apply _ _ _ (ix3 l b ⟨r.val * 1024 + q.val, by omega⟩) ?_
    rw [Shape.rowMajor_val_four, Shape.rowMajor_val_three]
    show (l.val * 2 + b.val) * 6144 + (r.val * 1024 + q.val) = ((l.val * 2 + b.val) * 6 + r.val) * 1024 + q.val
    omega

end Cert.InProjHost
-- ==== Proof.InProjPay.lean ====
/-
  The input projection's backward kernel, one grid point: the gradient of the normed rows the body sums from four quarters
  is the point's block of rows of the reference's product.
-/
module

public import proofs.«01_k».proof.Proof.Gen.Kernel3Ideal.Skeleton
public import proofs.«01_k».proof.Proof.InProjHost

@[expose] public section

noncomputable section

namespace Cert.InProjPay

open Cert.Kernel3Ideal Cert.Kernel3Ideal.Gen Cert.Reference3Ideal.Read Cert.Tools Cert.Reals Cert.NormSpec Cert.InProjHost
open Idealize.ShloMosaic Idealize.ShloMosaic.ValueIdx

/-- The block product of the body, transposed on the right, at an index. -/
theorem mm_apply (a : FVec Ideal S512x1536 .bf16) (b : FVec Ideal S1024x1536 .bf16) (j : S512x1024.Idx) :
    matmul (F := Ideal) dot_S512x1536_S1024x1536_S512x1024_1_1_0_0_n_n none a b (constant S512x1024 .f32 0x00000000#32) j
      = ∑ k : Fin 1536, a (ix2 (j 0) k) * b (ix2 (j 1) k) := by
  rw [matmul_sum dot_S512x1536_S1024x1536_S512x1024_1_1_0_0_n_n 1536 rfl rfl a b _ j (fun k => ix2 (j 0) k) (fun k => ix2 (j 1) k)
    (fun q => ix2_ext rfl rfl) (fun q => ix2_ext rfl rfl)]
  rw [constant_apply, Ideal.ofBits_zero_f32, zero_add]

/-- The block product of the body with one quarter of the weight. -/
abbrev mmT (u : Vec Ideal S512x1536 .bf16) (w : Vec Ideal S1x1024x1536 .bf16) : FVec Ideal S512x1024 .f32 :=
  matmul (F := Ideal) (φ₁ := .bf16) (φ₂ := .bf16) dot_S512x1536_S1024x1536_S512x1024_1_1_0_0_n_n none (shapeCast S512x1536 u shapeCasts_S512x1536_S512x1536)
    (shapeCast S1024x1536 w shapeCasts_S1x1024x1536_S1024x1536) (constant S512x1024 .f32 0x00000000#32)

/-- Quarter `a` of the columns of a wide array. -/
def colq (a : ℕ) (ha : a < 4) (X : Arr S8192x6144) : (⟨2, ![8192, 1536]⟩ : Shape).Idx → EReal :=
  fun i => X (ix2 (i 0) ⟨a * 1536 + (i 1).val, by have := idx2_lt1 i; omega⟩)

variable (x0 : Arr S8192x6144) (x5 : Arr S1024x6144)

abbrev DH : Arr S8192x1024 := val_main_v36 (F := Ideal) x0 x5

/-- A sum over the projected columns, quarter by quarter. -/
theorem quarters (f : Fin 6144 → EReal) :
    0 + (∑ k : Fin 1536, f ⟨0 * 1536 + k.val, by omega⟩) + (∑ k : Fin 1536, f ⟨1 * 1536 + k.val, by omega⟩)
      + (∑ k : Fin 1536, f ⟨2 * 1536 + k.val, by omega⟩) + (∑ k : Fin 1536, f ⟨3 * 1536 + k.val, by omega⟩) = ∑ k, f k := by
  have e := sum_blocks 4 1536 fun k => if hk : k < 6144 then f ⟨k, hk⟩ else 0
  rw [Finset.sum_range (n := 4 * 1536)] at e
  have e1 : ∀ a : ℕ, (ha : a < 4) → ∑ r ∈ Finset.range 1536, (if hk : a * 1536 + r < 6144 then f ⟨a * 1536 + r, hk⟩ else 0)
      = ∑ k : Fin 1536, f ⟨a * 1536 + k.val, by omega⟩ := by
    intro a ha
    rw [Finset.sum_range]
    exact Finset.sum_congr rfl fun k _ => dif_pos (by have := k.isLt; omega)
  have e2 : (∑ i : Fin (4 * 1536), if hk : i.val < 6144 then f ⟨i.val, hk⟩ else 0) = ∑ k : Fin 6144, f k :=
    Finset.sum_congr rfl fun k _ => dif_pos k.isLt
  rw [e2] at e
  rw [← e, Finset.sum_range_succ, Finset.sum_range_succ, Finset.sum_range_succ, Finset.sum_range_succ, Finset.sum_range_zero]
  rw [e1 0 (by decide), e1 1 (by decide), e1 2 (by decide), e1 3 (by decide)]

variable (t : ℕ) (h : t * 512 + 512 ≤ 8192)

/-- A quarter's part of the gradient of the normed rows. -/
theorem dhq (a : ℕ) (ha : a < 4) (w : Vec Ideal S1x1024x1536 .bf16)
    (hw : ∀ (r : Fin 1024) (q : Fin 1536), w (ix3 0 r q) = x5 (ix2 r ⟨a * 1536 + q.val, by omega⟩)) (r : Fin 512) (q : Fin 1024) :
    mmT (blk t h (colq a ha x0)) w (ix2 r q)
      = ∑ k : Fin 1536, x0 (ix2 ⟨t * 512 + r.val, by omega⟩ ⟨a * 1536 + k.val, by omega⟩) * x5 (ix2 q ⟨a * 1536 + k.val, by omega⟩) := by
  refine (mm_apply _ _ _).trans ?_
  refine Finset.sum_congr rfl fun k _ => congrArg₂ (· * ·) ?_ ?_
  · rw [shapeCast_self]; rfl
  · rw [shapeCast_apply _ _ _ (ix3 0 q k) (by simp [Shape.rowMajor_val_two, Shape.rowMajor_val_three])]
    exact hw q k

/-- The gradient of the normed rows. -/
theorem pay5 (a0 a1 a2 a3 : Vec Ideal S1x1024x1536 .bf16)
    (ha0 : ∀ (r : Fin 1024) (q : Fin 1536), a0 (ix3 0 r q) = x5 (ix2 r ⟨0 * 1536 + q.val, by omega⟩))
    (ha1 : ∀ (r : Fin 1024) (q : Fin 1536), a1 (ix3 0 r q) = x5 (ix2 r ⟨1 * 1536 + q.val, by omega⟩))
    (ha2 : ∀ (r : Fin 1024) (q : Fin 1536), a2 (ix3 0 r q) = x5 (ix2 r ⟨2 * 1536 + q.val, by omega⟩))
    (ha3 : ∀ (r : Fin 1024) (q : Fin 1536), a3 (ix3 0 r q) = x5 (ix2 r ⟨3 * 1536 + q.val, by omega⟩)) :
    k0_pay5 (F := Ideal) (k0_pay3 (F := Ideal) (blk t h (colq 0 (by decide) x0)) a0 (blk t h (colq 1 (by decide) x0)) a1)
        (k0_pay4 (F := Ideal) (blk t h (colq 2 (by decide) x0))) a2 (blk t h (colq 3 (by decide) x0)) a3
      = blk t h (DH x0 x5) := by
  refine ext2 fun r q => ?_
  have e : ∀ (u0 u1 u2 u3 : Vec Ideal S512x1536 .bf16),
      (Ideal.ofBits .f32 0x00000000#32 + mmT u0 a0 (ix2 r q) + mmT u1 a1 (ix2 r q) + mmT u2 a2 (ix2 r q) + mmT u3 a3 (ix2 r q) : EReal)
      = 0 + mmT u0 a0 (ix2 r q) + mmT u1 a1 (ix2 r q) + mmT u2 a2 (ix2 r q) + mmT u3 a3 (ix2 r q) := by
    intro u0 u1 u2 u3; rw [Ideal.ofBits_zero_f32]
  refine (e (blk t h (colq 0 (by decide) x0)) (blk t h (colq 1 (by decide) x0)) (blk t h (colq 2 (by decide) x0)) (blk t h (colq 3 (by decide) x0))).trans ?_
  rw [dhq x0 x5 t h 0 _ _ ha0, dhq x0 x5 t h 1 _ _ ha1, dhq x0 x5 t h 2 _ _ ha2, dhq x0 x5 t h 3 _ _ ha3]
  refine (quarters (fun k => x0 (ix2 ⟨t * 512 + r.val, by omega⟩ k) * x5 (ix2 q k))).trans ?_
  rw [blk_apply]
  show _ = val_main_v36 (F := Ideal) x0 x5 _
  rw [val_main_v36_apply]
  refine Finset.sum_congr rfl fun k _ => congrArg₂ (· * ·) (congrArg x0 ?_) (congrArg x5 ?_) <;> exact ix2_ext rfl rfl

end Cert.InProjPay
-- ==== Proof.InProjRun.lean ====
/-
  The run of the input projection's backward kernel: where each window's block lies in its array, and what the input blocks hold.
-/
module

public import proofs.«01_k».proof.Proof.Gen.Kernel3Ideal.Value
public import proofs.«01_k».proof.Proof.InProjPay
public import proofs.«01_k».proof.Proof.NormPay

@[expose] public section

noncomputable section

namespace Cert.InProjRun

open Cert.Kernel3Ideal Cert.Kernel3Ideal.Gen Cert.Kernel3Ideal.Value Cert.Reference3Ideal.Read Cert.Tools Cert.NormSpec Cert.InProjPay Cert.InProjHost
open Idealize.ShloMosaic Idealize.ShloMosaic.TcCoe Idealize.SL.Sem Idealize.ShloMosaic.ValueIdx

variable (m : (ℓ : Loc nD τ sig) → Buf (Elt Ideal) ℓ)

theorem tlt (t : Fin cfg0.N) : t.val < 16 := t.isLt
theorem tb (t : Fin cfg0.N) : t.val * 512 + 512 ≤ 8192 := by have := tlt t; omega

theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx0 : ∀ t : Fin cfg0.N, win0_0.index t (0 : Fin 2) = t.val ∧ win0_0.index t (1 : Fin 2) = 0 := (by decide +kernel : ∀ t : Fin grid0.N, _)
theorem idx5 : ∀ t : Fin cfg0.N, win0_5.index t (0 : Fin 3) = 0 ∧ win0_5.index t (1 : Fin 3) = 0 ∧ win0_5.index t (2 : Fin 3) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem idx3 : ∀ t : Fin cfg0.N, win0_3.index t (0 : Fin 4) = 0 ∧ win0_3.index t (1 : Fin 4) = t.val / 8 ∧ win0_3.index t (2 : Fin 4) = 0 ∧ win0_3.index t (3 : Fin 4) = 0 := (by decide +kernel : ∀ t : Fin grid0.N, _)
theorem idx7 : ∀ t : Fin cfg0.N, win0_7.index t (0 : Fin 3) = t.val / 8 ∧ win0_7.index t (1 : Fin 3) = 0 ∧ win0_7.index t (2 : Fin 3) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)

/-- A block's index in its array. -/
theorem emb1 (t : Fin cfg0.N) (r : Fin 512) (q : Fin 1024) :
    ((cfg0.win 1).blk t).view.emb (ix2 r q : S512x1024.Idx) = (ix2 ⟨t.val * 512 + r.val, by have := tlt t; omega⟩ q : S8192x1024.Idx) := by
  obtain ⟨e0, e1⟩ := idx1 t
  refine ix2_ext ?_ ?_
  · show win0_1.index t (0 : Fin 2) * 512 + 1 * r.val = t.val * 512 + r.val; omega
  · show win0_1.index t (1 : Fin 2) * 1024 + 1 * q.val = q.val; omega
theorem emb2 (t : Fin cfg0.N) (r : Fin 512) (q : Fin 1024) :
    ((cfg0.win 2).blk t).view.emb (ix2 r q : S512x1024.Idx) = (ix2 ⟨t.val * 512 + r.val, by have := tlt t; omega⟩ q : S8192x1024.Idx) := by
  obtain ⟨e0, e1⟩ := idx2 t
  refine ix2_ext ?_ ?_
  · show win0_2.index t (0 : Fin 2) * 512 + 1 * r.val = t.val * 512 + r.val; omega
  · show win0_2.index t (1 : Fin 2) * 1024 + 1 * q.val = q.val; omega
theorem emb6 (t : Fin cfg0.N) (r : Fin 512) (q : Fin 1024) :
    ((cfg0.win 6).blk t).view.emb (ix2 r q : S512x1024.Idx) = (ix2 ⟨t.val * 512 + r.val, by have := tlt t; omega⟩ q : S8192x1024.Idx) := by
  obtain ⟨e0, e1⟩ := idx6 t
  refine ix2_ext ?_ ?_
  · show win0_6.index t (0 : Fin 2) * 512 + 1 * r.val = t.val * 512 + r.val; omega
  · show win0_6.index t (1 : Fin 2) * 1024 + 1 * q.val = q.val; omega
theorem emb0 (t : Fin cfg0.N) (r : Fin 512) (q : Fin 6144) :
    ((cfg0.win 0).blk t).view.emb (ix2 r q : S512x6144.Idx) = (ix2 ⟨t.val * 512 + r.val, by have := tlt t; omega⟩ q : S8192x6144.Idx) := by
  obtain ⟨e0, e1⟩ := idx0 t
  refine ix2_ext ?_ ?_
  · show win0_0.index t (0 : Fin 2) * 512 + 1 * r.val = t.val * 512 + r.val; omega
  · show win0_0.index t (1 : Fin 2) * 6144 + 1 * q.val = q.val; omega
theorem emb5 (t : Fin cfg0.N) (j : S4x1024x1536.Idx) : ((cfg0.win 5).blk t).view.emb j = j := by
  obtain ⟨e0, e1, e2⟩ := idx5 t
  refine ix3_ext ?_ ?_ ?_
  · show win0_5.index t (0 : Fin 3) * 4 + 1 * (j 0).val = (j 0).val; omega
  · show win0_5.index t (1 : Fin 3) * 1024 + 1 * (j 1).val = (j 1).val; omega
  · show win0_5.index t (2 : Fin 3) * 1536 + 1 * (j 2).val = (j 2).val; omega
theorem emb4 (t : Fin cfg0.N) (q : Fin 1024) :
    ((cfg0.win 4).blk t).view.emb (ix3 0 0 q : S1x1x1024.Idx) = (ix3 0 0 q : S4x1x1024.Idx) := by
  obtain ⟨e0, e1, e2⟩ := idx4 t
  refine ix3_ext ?_ ?_ ?_
  · show win0_4.index t (0 : Fin 3) * 1 + 1 * 0 = 0; omega
  · show win0_4.index t (1 : Fin 3) * 1 + 1 * 0 = 0; omega
  · show win0_4.index t (2 : Fin 3) * 1024 + 1 * q.val = q.val; omega
theorem emb3 (t : Fin cfg0.N) (r : Fin 8) (q : Fin 1024) :
    ((cfg0.win 3).blk t).view.emb (ix4 0 0 r q : S1x1x8x1024.Idx) = (ix4 0 ⟨t.val / 8, by have := tlt t; omega⟩ r q : S4x2x8x1024.Idx) := by
  obtain ⟨e0, e1, e2, e3⟩ := idx3 t
  refine ix4_ext ?_ ?_ ?_ ?_
  · show win0_3.index t (0 : Fin 4) * 1 + 1 * 0 = 0; omega
  · show win0_3.index t (1 : Fin 4) * 1 + 1 * 0 = t.val / 8; omega
  · show win0_3.index t (2 : Fin 4) * 8 + 1 * r.val = r.val; omega
  · show win0_3.index t (3 : Fin 4) * 1024 + 1 * q.val = q.val; omega
theorem emb7 (t : Fin cfg0.N) (r : Fin 8) (q : Fin 1024) :
    ((cfg0.win 7).blk t).view.emb (ix3 0 r q : S1x8x1024.Idx) = (ix3 ⟨t.val / 8, by have := tlt t; omega⟩ r q : S2x8x1024.Idx) := by
  obtain ⟨e0, e1, e2⟩ := idx7 t
  refine ix3_ext ?_ ?_ ?_
  · show win0_7.index t (0 : Fin 3) * 1 + 1 * 0 = t.val / 8; omega
  · show win0_7.index t (1 : Fin 3) * 8 + 1 * r.val = r.val; omega
  · show win0_7.index t (2 : Fin 3) * 1024 + 1 * q.val = q.val; omega
theorem emb8 (t : Fin cfg0.N) (r : Fin 8) (q : Fin 1024) :
    ((cfg0.win 8).blk t).view.emb (ix2 r q : S8x1024.Idx) = (ix2 r q : S8x1024.Idx) := by
  obtain ⟨e0, e1⟩ := idx8 t
  refine ix2_ext ?_ ?_
  · show win0_8.index t (0 : Fin 2) * 8 + 1 * r.val = r.val; omega
  · show win0_8.index t (1 : Fin 2) * 1024 + 1 * q.val = q.val; omega

/-- The input blocks, in the reference's stages. -/
theorem iblk1_eq (c : Dev nD) (t : Fin cfg0.N) : iblk m c 1 t = blk t.val (tb t) (A1 m c) := by
  refine ext2 fun r q => ?_
  show V m c main_arg1 (((cfg0.win 1).blk t).view.emb (ix2 r q)) = _
  rw [emb1, V_main_arg1]; rfl
theorem iblk2_eq (c : Dev nD) (t : Fin cfg0.N) : iblk m c 2 t = blk t.val (tb t) (A2 m c) := by
  refine ext2 fun r q => ?_
  show V m c main_arg2 (((cfg0.win 2).blk t).view.emb (ix2 r q)) = _
  rw [emb2, V_main_arg2]; rfl
theorem iblk0_eq (c : Dev nD) (t : Fin cfg0.N) : iblk m c 0 t = blk t.val (tb t) (A0 m c) := by
  refine ext2 fun r q => ?_
  show V m c main_v1 (((cfg0.win 0).blk t).view.emb (ix2 r q)) = _
  rw [emb0, V_dp]; rfl
theorem iblk3_apply (c : Dev nD) (t : Fin cfg0.N) (r : Fin 8) (q : Fin 1024) (hr : r.val < 6) :
    iblk m c 3 t (ix4 0 0 r q) = A3 m c (ix3 0 ⟨t.val / 8, by have := tlt t; omega⟩ ⟨r.val * 1024 + q.val, by omega⟩) := by
  show V m c main_v3 (((cfg0.win 3).blk t).view.emb (ix4 0 0 r q)) = _
  rw [emb3, V_mod m c _ _ _ _ hr]

theorem hz2 : (![0, 0] : Fin 2 → Nat) = fun _ => 0 := funext fun a => by fin_cases a <;> rfl
theorem hz3 : (![0, 0, 0] : Fin 3 → Nat) = fun _ => 0 := funext fun a => by fin_cases a <;> rfl

/-- One row of the modulation. -/
theorem mrow (k : ℕ) (hk : k < 6) (c : Dev nD) (t : Fin cfg0.N) (inb : ∀ a, (![0, 0, k, 0] : Fin 4 → Nat) a + (![1, 1, 1, 1024] : Fin 4 → Nat) a ≤ S1x1x8x1024.size a) (q : Fin 1024) :
    View.ld (iblk m c 3 t) (Rect.unit ![0, 0, k, 0] ![1, 1, 1, 1024] inb) (ix4 0 0 0 q)
      = A3 m c (ix3 0 ⟨t.val * 512 / 4096, by have := tlt t; omega⟩ ⟨k * 1024 + q.val, by omega⟩) := by
  refine (congrFun (View.ld_unit (S := S1x1x8x1024) _ _ _ inb) _).trans ?_
  refine Eq.trans (congrArg (iblk m c 3 t) (?_ : _ = ix4 0 0 (⟨k, by omega⟩ : Fin 8) q)) ?_
  · refine ix4_ext rfl rfl ?_ ?_
    · show k + 0 = k; omega
    · show 0 + q.val = q.val; omega
  · rw [iblk3_apply m c t ⟨k, by omega⟩ q hk]
    exact congrArg (A3 m c) (ix3_ext rfl (by dsimp; omega) rfl)

/-- The gain. -/
theorem grow (c : Dev nD) (t : Fin cfg0.N) (inb : ∀ a, (![0, 0, 0] : Fin 3 → Nat) a + (![1, 1, 1024] : Fin 3 → Nat) a ≤ S1x1x1024.size a) (q : Fin 1024) :
    View.ld (iblk m c 4 t) (Rect.unit ![0, 0, 0] ![1, 1, 1024] inb) (ix3 0 0 q) = A4 m c (ix2 0 q) := by
  refine (congrFun (View.ld_unit (S := S1x1x1024) _ _ _ inb) _).trans ?_
  refine Eq.trans (congrArg (iblk m c 4 t) (?_ : _ = ix3 0 0 q)) ?_
  · refine ix3_ext rfl rfl ?_
    show 0 + q.val = q.val; omega
  · show V m c main_v4 (((cfg0.win 4).blk t).view.emb (ix3 0 0 q)) = _
    rw [emb4, V_g]

/-- One quarter of the weight. -/
theorem wq (a : ℕ) (ha : a < 4) (c : Dev nD) (t : Fin cfg0.N) (inb : ∀ i, (![a, 0, 0] : Fin 3 → Nat) i + (![1, 1024, 1536] : Fin 3 → Nat) i ≤ S4x1024x1536.size i) (r : Fin 1024) (q : Fin 1536) :
    View.ld (iblk m c 5 t) (Rect.unit ![a, 0, 0] ![1, 1024, 1536] inb) (ix3 0 r q) = A5 m c (ix2 r ⟨a * 1536 + q.val, by omega⟩) := by
  refine (congrFun (View.ld_unit (S := S4x1024x1536) _ _ _ inb) _).trans ?_
  refine Eq.trans (congrArg (iblk m c 5 t) (?_ : _ = ix3 (⟨a, ha⟩ : Fin 4) r q)) ?_
  · refine ix3_ext ?_ ?_ ?_
    · show a + 0 = a; omega
    · show 0 + r.val = r.val; omega
    · show 0 + q.val = q.val; omega
  · show V m c main_v7 (((cfg0.win 5).blk t).view.emb _) = _
    rw [emb5, V_w]

/-- One quarter of the projection's gradient. -/
theorem dq (a o : ℕ) (ha : a < 4) (ho : o = a * 1536) (c : Dev nD) (t : Fin cfg0.N) (inb : ∀ i, (![0, o] : Fin 2 → Nat) i + (![512, 1536] : Fin 2 → Nat) i ≤ S512x6144.size i) :
    View.ld (iblk m c 0 t) (Rect.unit ![0, o] ![512, 1536] inb) = blk t.val (tb t) (colq a ha (A0 m c)) := by
  rw [iblk0_eq]
  refine ext2 fun r q => ?_
  refine (congrFun (View.ld_unit (S := S512x6144) _ _ _ inb) _).trans ?_
  refine congrArg (A0 m c) (ix2_ext ?_ ?_)
  · show t.val * 512 + (0 + r.val) = t.val * 512 + r.val; omega
  · show o + q.val = a * 1536 + q.val; omega

end Cert.InProjRun
-- ==== Proof.InProjOut.lean ====
/-
  The input projection's backward kernel, point by point: what it writes to the window that each point covers whole.
-/
module

public import proofs.«01_k».proof.Proof.InProjRun
public import Idealize.ShloMosaic.Lib.WritesUnit

@[expose] public section

noncomputable section

namespace Cert.InProjOut

open Cert.InProjRun Cert.Kernel3Ideal Cert.Kernel3Ideal.Gen Cert.Kernel3Ideal.Value Cert.Reference3Ideal.Read Cert.Tools Cert.NormSpec Cert.InProjPay Cert.InProjHost
open Idealize.ShloMosaic Idealize.ShloMosaic.TcCoe Idealize.SL.Sem Idealize.ShloMosaic.ValueIdx

section Tail

variable (X H D : Arr S8192x1024) (mod : Arr S4x2x6144) (gam : Arr S4x1024) (t : ℕ) (h : t * 512 + 512 ≤ 8192)

/-- The gradient of the rows. -/
theorem pay12 (v28 : FVec Ideal S512x1024 .f32) (v30 : FVec Ideal S512x1536 .bf16) (v31 : Vec Ideal S1x1024x1536 .bf16) (v35 : Vec Ideal S512x1536 .bf16)
    (v37 : Vec Ideal S1x1024x1536 .bf16) (v41 : Vec Ideal S1x1x1x1024 .f32) (v44 : Vec Ideal S1x1x1024 .f32)
    (hH : k0_pay5 (F := Ideal) v28 v30 v31 v35 v37 = blk t h H)
    (hs : ∀ k : Fin 1024, v41 (ix4 0 0 0 k) = mod (ix3 0 ⟨t * 512 / 4096, by omega⟩ ⟨1 * 1024 + k.val, by omega⟩))
    (hg : ∀ k : Fin 1024, v44 (ix3 0 0 k) = gam (ix2 0 k)) :
    k0_pay12 (F := Ideal) (k0_pay7 (F := Ideal) (blk t h X)) (k0_pay8 (F := Ideal) (blk t h X)) (k0_pay9 (F := Ideal) v28 v30 v31 v35 v37 v41 v44)
        (k0_pay10 (F := Ideal) v28 v30 v31 v35 v37 v41 (blk t h X) v44) (blk t h D)
      = blk t h (dxs X H D mod gam 1024 (by decide)) := by
  have e : k0_pay12 (F := Ideal) (k0_pay7 (F := Ideal) (blk t h X)) (k0_pay8 (F := Ideal) (blk t h X)) (k0_pay9 (F := Ideal) v28 v30 v31 v35 v37 v41 v44)
        (k0_pay10 (F := Ideal) v28 v30 v31 v35 v37 v41 (blk t h X) v44) (blk t h D)
      = NormPay.dxB (blk t h X) (k0_pay5 (F := Ideal) v28 v30 v31 v35 v37) (blk t h D) (k0_pay6 (F := Ideal) v41) v44 := rfl
  rw [e, hH]
  exact NormPay.dxB_eq X H D t h mod gam 1024 (by decide) _ _ (fun k => (NormPay.row4 v41 k).trans (hs k)) hg

/-- The shift's row after a point. -/
theorem pay13 (v : Vec Ideal S1x1x1024 .f32) (q : Fin 1024) : k0_pay13 (F := Ideal) (blk t h H) v (ix3 0 0 q) = v (ix3 0 0 q) + tile H q t := by
  have e : k0_pay13 (F := Ideal) (blk t h H) v
      = shapeCast NormPay.S3 (addf (F := Ideal) (φ := .f32) (shapeCast NormPay.SR v NormPay.cast3) (NormPay.colSum (blk t h H))) NormPay.cast3' := rfl
  rw [e]
  refine (NormPay.addRow v _ q).trans ?_
  rw [NormPay.colSum_tile]

/-- The scale's row after a point. -/
theorem pay14 (v g : Vec Ideal S1x1x1024 .f32) (hg : ∀ k : Fin 1024, g (ix3 0 0 k) = gam (ix2 0 k)) (q : Fin 1024) :
    k0_pay14 (F := Ideal) (blk t h H) (k0_pay8 (F := Ideal) (blk t h X)) v g (ix3 0 0 q) = v (ix3 0 0 q) + gn gam q * tile (hx X H) q t := by
  have e : k0_pay14 (F := Ideal) (blk t h H) (k0_pay8 (F := Ideal) (blk t h X)) v g
      = shapeCast NormPay.S3 (addf (F := Ideal) (φ := .f32) (shapeCast NormPay.SR v NormPay.cast3)
          (mulf (F := Ideal) (φ := .f32) (shapeCast NormPay.SR g NormPay.cast3)
            (NormPay.colSum (mulf (F := Ideal) (φ := .f32) (blk t h H) (NormPay.nrmB (blk t h X)))))) NormPay.cast3' := rfl
  rw [e]
  refine (NormPay.addRow v _ q).trans ?_
  rw [NormPay.nrmB_eq]
  refine congrArg (v (ix3 0 0 q) + ·) (congrArg₂ (· * ·) ((NormPay.row3 g q).trans (hg q)) (NormPay.colSum_hx X H t h q))

/-- The gain's row after a point. -/
theorem pay15 (v41 : Vec Ideal S1x1x1x1024 .f32) (v : Vec Ideal S1x1024 .f32)
    (hs : ∀ k : Fin 1024, v41 (ix4 0 0 0 k) = mod (ix3 0 ⟨t * 512 / 4096, by omega⟩ ⟨1 * 1024 + k.val, by omega⟩)) (q : Fin 1024) :
    k0_pay15 (F := Ideal) (blk t h H) (k0_pay6 (F := Ideal) v41) (k0_pay8 (F := Ideal) (blk t h X)) v (ix2 0 q)
      = v (ix2 0 q) + (1 + modRow mod 1024 (by decide) ⟨t * 512 / 4096, by omega⟩ q) * tile (hx X H) q t := by
  have e : k0_pay15 (F := Ideal) (blk t h H) (k0_pay6 (F := Ideal) v41) (k0_pay8 (F := Ideal) (blk t h X)) v
      = addf (F := Ideal) (φ := .f32) (shapeCast NormPay.SR v NormPay.castSelf) (mulf (F := Ideal) (φ := .f32)
          (addf (F := Ideal) (φ := .f32) (broadcast NormPay.SR (Scalar.ofBits (F := Ideal) .f32 0x3F800000#32)) (shapeCast NormPay.SR v41 NormPay.cast4))
          (NormPay.colSum (mulf (F := Ideal) (φ := .f32) (blk t h H) (NormPay.nrmB (blk t h X))))) := rfl
  rw [e, NormPay.nrmB_eq, shapeCast_self]
  refine congrArg (v (ix2 0 q) + ·) (congrArg₂ (· * ·) ?_ (NormPay.colSum_hx X H t h q))
  exact congrArg₂ (· + ·) Ideal.ofBits_one_f32 ((NormPay.row4 v41 q).trans (hs q))

end Tail

variable (m : (ℓ : Loc nD τ sig) → Buf (Elt Ideal) ℓ)

/-- The stages, in the arguments of a device. -/
abbrev DH' (c : Dev nD) : Arr S8192x1024 := DH (A0 m c) (A5 m c)
abbrev DX' (c : Dev nD) : Arr S8192x1024 := dxs (A2 m c) (DH' m c) (A1 m c) (A3 m c) (A4 m c) 1024 (by decide)

theorem ld2 {e : EltTy} (X : S512x1024.Idx → Elt Ideal e) (inb : ∀ a, (![0, 0] : Fin 2 → Nat) a + (![512, 1024] : Fin 2 → Nat) a ≤ S512x1024.size a) :
    View.ld X (Rect.unit ![0, 0] ![512, 1024] inb) = X := View.ld_unit_zero (S := S512x1024) hz2 _ X

/-- The gradient of the normed rows, as the body of case A holds it. -/
theorem r2_A (c : Dev nD) (t : Fin cfg0.N) :
    kernelRun0_A.sl.r_2 (F := Ideal) c (ms0_0 t) (hs0_0 t) (ms0_5 t) (hs0_5 t) (iblk m c 0 t) (iblk m c 5 t) = blk t.val (tb t) (DH' m c) := by
  unfold kernelRun0_A.sl.r_2 kernelRun0_A.sl.r_1 kernelRun0_A.sl.r
  simp only [View.readAt_eq_ld, (hs0_0 t).read_unread, (hs0_1 t).read_unread, (hs0_2 t).read_unread, (hs0_3 t).read_unread, (hs0_4 t).read_unread, (hs0_5 t).read_unread, ld2]
  rw [dq m 0 0 (by decide) rfl c t, dq m 1 1536 (by decide) rfl c t, dq m 2 3072 (by decide) rfl c t, dq m 3 4608 (by decide) rfl c t]
  exact pay5 (A0 m c) (A5 m c) t.val (tb t) _ _ _ _ (wq m 0 (by decide) c t _) (wq m 1 (by decide) c t _) (wq m 2 (by decide) c t _) (wq m 3 (by decide) c t _)

/-- The normed rows, as the body of case A holds them. -/
theorem r5_A (c : Dev nD) (t : Fin cfg0.N) :
    kernelRun0_A.sl.r_5 (F := Ideal) c (ms0_2 t) (hs0_2 t) (iblk m c 2 t) = k0_pay8 (F := Ideal) (blk t.val (tb t) (A2 m c)) := by
  unfold kernelRun0_A.sl.r_5
  simp only [View.readAt_eq_ld, (hs0_0 t).read_unread, (hs0_1 t).read_unread, (hs0_2 t).read_unread, (hs0_3 t).read_unread, (hs0_4 t).read_unread, (hs0_5 t).read_unread, ld2]
  rw [iblk2_eq m c t]

/-- The gradient of the normed rows, as the body of case B holds it. -/
theorem r2_B (c : Dev nD) (t : Fin cfg0.N) :
    kernelRun0_B.sl.r_2 (F := Ideal) c (ms0_0 t) (hs0_0 t) (ms0_5 t) (hs0_5 t) (iblk m c 0 t) (iblk m c 5 t) = blk t.val (tb t) (DH' m c) := by
  unfold kernelRun0_B.sl.r_2 kernelRun0_B.sl.r_1 kernelRun0_B.sl.r
  simp only [View.readAt_eq_ld, (hs0_0 t).read_unread, (hs0_1 t).read_unread, (hs0_2 t).read_unread, (hs0_3 t).read_unread, (hs0_4 t).read_unread, (hs0_5 t).read_unread, ld2]
  rw [dq m 0 0 (by decide) rfl c t, dq m 1 1536 (by decide) rfl c t, dq m 2 3072 (by decide) rfl c t, dq m 3 4608 (by decide) rfl c t]
  exact pay5 (A0 m c) (A5 m c) t.val (tb t) _ _ _ _ (wq m 0 (by decide) c t _) (wq m 1 (by decide) c t _) (wq m 2 (by decide) c t _) (wq m 3 (by decide) c t _)

/-- The normed rows, as the body of case B holds them. -/
theorem r5_B (c : Dev nD) (t : Fin cfg0.N) :
    kernelRun0_B.sl.r_5 (F := Ideal) c (ms0_2 t) (hs0_2 t) (iblk m c 2 t) = k0_pay8 (F := Ideal) (blk t.val (tb t) (A2 m c)) := by
  unfold kernelRun0_B.sl.r_5
  simp only [View.readAt_eq_ld, (hs0_0 t).read_unread, (hs0_1 t).read_unread, (hs0_2 t).read_unread, (hs0_3 t).read_unread, (hs0_4 t).read_unread, (hs0_5 t).read_unread, ld2]
  rw [iblk2_eq m c t]

/-- The gradient of the normed rows, as the body of case C holds it. -/
theorem r2_C (c : Dev nD) (t : Fin cfg0.N) :
    kernelRun0_C.sl.r_2 (F := Ideal) c (ms0_0 t) (hs0_0 t) (ms0_5 t) (hs0_5 t) (iblk m c 0 t) (iblk m c 5 t) = blk t.val (tb t) (DH' m c) := by
  unfold kernelRun0_C.sl.r_2 kernelRun0_C.sl.r_1 kernelRun0_C.sl.r
  simp only [View.readAt_eq_ld, (hs0_0 t).read_unread, (hs0_1 t).read_unread, (hs0_2 t).read_unread, (hs0_3 t).read_unread, (hs0_4 t).read_unread, (hs0_5 t).read_unread, ld2]
  rw [dq m 0 0 (by decide) rfl c t, dq m 1 1536 (by decide) rfl c t, dq m 2 3072 (by decide) rfl c t, dq m 3 4608 (by decide) rfl c t]
  exact pay5 (A0 m c) (A5 m c) t.val (tb t) _ _ _ _ (wq m 0 (by decide) c t _) (wq m 1 (by decide) c t _) (wq m 2 (by decide) c t _) (wq m 3 (by decide) c t _)

/-- The normed rows, as the body of case C holds them. -/
theorem r5_C (c : Dev nD) (t : Fin cfg0.N) :
    kernelRun0_C.sl.r_5 (F := Ideal) c (ms0_2 t) (hs0_2 t) (iblk m c 2 t) = k0_pay8 (F := Ideal) (blk t.val (tb t) (A2 m c)) := by
  unfold kernelRun0_C.sl.r_5
  simp only [View.readAt_eq_ld, (hs0_0 t).read_unread, (hs0_1 t).read_unread, (hs0_2 t).read_unread, (hs0_3 t).read_unread, (hs0_4 t).read_unread, (hs0_5 t).read_unread, ld2]
  rw [iblk2_eq m c t]

/-- Window 6: what a point writes is its block of rows. -/
theorem flushed6_eq (c : Dev nD) (t : Fin cfg0.N) :
    (dats m 0 c).flushed 6 t = ((cfg0.win 6).blk t).view.read (Elt Ideal) (DX' m c) := by
  have cut : ∀ X : FVec Ideal S512x1024 .f32, X = blk t.val (tb t) (DX' m c) →
      (cfg0.win 6).cut (grid0.coords t) X = ((cfg0.win 6).blk t).view.read (Elt Ideal) (DX' m c) := by
    rintro X rfl
    refine ext2 fun r q => ?_
    show _ = (DX' m c) (((cfg0.win 6).blk t).view.emb (ix2 r q))
    rw [emb6]; rfl
  by_cases h1 : t.val % 8 = 0
  · by_cases h0 : t.val % 16 = 0
    · rw [flushed6_A m c t h0 h1]
      apply cut
      unfold out0_A_6
      rw [View.read_writes_junk_eq_canon]
      unfold kernelRun0_A
      dsimp only
      rw [View.canon_unit_zero hz2]
      have e8 := r2_A m c t
      unfold kernelRun0_A.sl.r_2 at e8
      unfold kernelRun0_A.sl.r_4 kernelRun0_A.sl.r_5 kernelRun0_A.sl.r_6 kernelRun0_A.sl.r_7
      simp only [View.readAt_eq_ld, (hs0_0 t).read_unread, (hs0_1 t).read_unread, (hs0_2 t).read_unread, (hs0_3 t).read_unread, (hs0_4 t).read_unread, (hs0_5 t).read_unread, ld2] at e8 ⊢
      rw [iblk1_eq m c t, iblk2_eq m c t]
      exact pay12 _ _ _ _ _ t.val (tb t) _ _ _ _ _ _ _ e8 (mrow m 1 (by decide) c t _) (grow m c t _)
    · rw [flushed6_C m c t h0 h1]
      apply cut
      unfold out0_C_6
      rw [View.read_writes_junk_eq_canon]
      unfold kernelRun0_C
      dsimp only
      rw [View.canon_unit_zero hz2]
      have e8 := r2_C m c t
      unfold kernelRun0_C.sl.r_2 at e8
      unfold kernelRun0_C.sl.r_4 kernelRun0_C.sl.r_5 kernelRun0_C.sl.r_6 kernelRun0_C.sl.r_7
      simp only [View.readAt_eq_ld, (hs0_0 t).read_unread, (hs0_1 t).read_unread, (hs0_2 t).read_unread, (hs0_3 t).read_unread, (hs0_4 t).read_unread, (hs0_5 t).read_unread, ld2] at e8 ⊢
      rw [iblk1_eq m c t, iblk2_eq m c t]
      exact pay12 _ _ _ _ _ t.val (tb t) _ _ _ _ _ _ _ e8 (mrow m 1 (by decide) c t _) (grow m c t _)
  · have h0 : ¬ t.val % 16 = 0 := by omega
    rw [flushed6_B m c t h0 h1]
    apply cut
    unfold out0_B_6
    rw [View.read_writes_junk_eq_canon]
    unfold kernelRun0_B
    dsimp only
    rw [View.canon_unit_zero hz2]
    have e8 := r2_B m c t
    unfold kernelRun0_B.sl.r_2 at e8
    unfold kernelRun0_B.sl.r_4 kernelRun0_B.sl.r_5 kernelRun0_B.sl.r_6 kernelRun0_B.sl.r_7
    simp only [View.readAt_eq_ld, (hs0_0 t).read_unread, (hs0_1 t).read_unread, (hs0_2 t).read_unread, (hs0_3 t).read_unread, (hs0_4 t).read_unread, (hs0_5 t).read_unread, ld2] at e8 ⊢
    rw [iblk1_eq m c t, iblk2_eq m c t]
    exact pay12 _ _ _ _ _ t.val (tb t) _ _ _ _ _ _ _ e8 (mrow m 1 (by decide) c t _) (grow m c t _)

theorem final6 (c : Dev nD) : (dats m 0 c).arrAt 6 cfg0.N = DX' m c :=
  (dats m 0 c).arrAt_eq_of_cover 6 _ (fun t _ => flushed6_eq m c t) fun i => by
    have hi : (i 0).val < 8192 := (i 0).isLt
    have hj : (i 1).val < 1024 := (i 1).isLt
    have e := (emb6 (⟨(i 0).val / 512, by show _ < 16; omega⟩ : Fin cfg0.N) (⟨(i 0).val % 512, Nat.mod_lt _ (by decide)⟩ : Fin 512) (⟨(i 1).val, hj⟩ : Fin 1024)).trans
      (show (ix2 (⟨(i 0).val / 512 * 512 + (i 0).val % 512, by omega⟩ : Fin 8192) (⟨(i 1).val, hj⟩ : Fin 1024) : S8192x1024.Idx) = i from ix2_ext (by show (i 0).val / 512 * 512 + (i 0).val % 512 = (i 0).val; omega) rfl)
    exact ⟨_, flush0_6 _, e ▸ View.emb_mem_set _ _⟩

end Cert.InProjOut
-- ==== Proof.InProjSum.lean ====
/-
  The input projection's backward kernel, the sums over tokens: the modulation's gradient and the norm weight's gradient.
-/
module

public import proofs.«01_k».proof.Proof.InProjOut
public import Idealize.ShloMosaic.Lib.WritesUnit

@[expose] public section

noncomputable section

namespace Cert.InProjSum

open Cert.InProjRun Cert.InProjOut Cert.Kernel3Ideal Cert.Kernel3Ideal.Gen Cert.Kernel3Ideal.Value Cert.Reference3Ideal.Read Cert.Tools Cert.NormSpec Cert.InProjPay Cert.InProjHost
open Idealize.ShloMosaic Idealize.ShloMosaic.TcCoe Idealize.SL.Sem Idealize.ShloMosaic.ValueIdx

section Rows

variable (v : View sig .tc .vmem S1x8x1024 .f32) (f : v.ty.Contents (Elt Ideal)) (o : ℕ) (i : ∀ a, (![0, o, 0] : Fin 3 → ℕ) a + (![1, 1, 1024] : Fin 3 → ℕ) a ≤ S1x8x1024.size a)
  (w : S1x1x1024.Idx → Elt Ideal .f32) (L : List (View.Piece (Elt Ideal) S1x8x1024 .f32)) (r : Fin 8) (q : Fin 1024)

/-- The row that was written last. -/
theorem hit (h : r.val = o) : v.read (Elt Ideal) (v.writes (Elt Ideal) f (⟨Rect.unit ![0, o, 0] ![1, 1, 1024] i, w⟩ :: L)) (ix3 0 r q) = w (ix3 0 0 q) := by
  refine (View.read_writes_cons_unit_of_mem _ _ _ _ _ _ (ix3 0 0 q) rfl ?_).trans rfl
  intro a
  match a with
  | ⟨0, _⟩ => exact (Nat.zero_add _).symm
  | ⟨1, _⟩ => exact h
  | ⟨2, _⟩ => exact (Nat.zero_add _).symm

/-- Any other row. -/
theorem skip (h : r.val ≠ o) :
    v.read (Elt Ideal) (v.writes (Elt Ideal) f (⟨Rect.unit ![0, o, 0] ![1, 1, 1024] i, w⟩ :: L)) (ix3 0 r q) = v.read (Elt Ideal) (v.writes (Elt Ideal) f L) (ix3 0 r q) := by
  have h' : r.val < o ∨ o + 1 ≤ r.val := by omega
  exact View.read_writes_cons_unit_of_not_mem _ _ _ _ _ _ rfl (1 : Fin 3) h'

/-- A row that a load finds in the writes made so far. -/
theorem cov (ho : o < 8) : v.readCov L (Rect.unit (s := S1x8x1024) ![0, o, 0] ![1, 1, 1024] i).toLoadRect (ix3 0 0 q : S1x1x1024.Idx)
    = VO0_7.read (Elt Ideal) (VO0_7.writes (Elt Ideal) VO0_7.junk L) (ix3 0 ⟨o, ho⟩ q) := by
  rw [View.readCov_eq_canon', View.read_writes_junk_eq_canon]
  exact congrArg (View.canon L) (ix3_ext rfl (by show o + 0 = o; omega) (by show 0 + 1 * q.val = q.val; omega))

/-- A row that a load finds in a buffer. -/
theorem held (ho : o < 8) (X : S1x8x1024.Idx → Elt Ideal .f32) : View.ld X (Rect.unit (s := S1x8x1024) ![0, o, 0] ![1, 1, 1024] i) (ix3 0 0 q : S1x1x1024.Idx) = X (ix3 0 ⟨o, ho⟩ q) := by
  refine (congrFun (View.ld_unit (S := S1x8x1024) X _ _ i) _).trans ?_
  exact congrArg X (ix3_ext rfl (by show o + 0 = o; omega) (by show 0 + q.val = q.val; omega))

/-- The rows start at zero. -/
theorem zero7 (i : ∀ a, (![0, 0, 0] : Fin 3 → ℕ) a + S1x8x1024.size a ≤ S1x8x1024.size a) :
    v.read (Elt Ideal) (v.writes (Elt Ideal) f [⟨Rect.unit ![0, 0, 0] S1x8x1024.size i, k0_pay2 (F := Ideal)⟩]) (ix3 0 r q) = (0 : EReal) := by
  refine (View.read_writes_cons_unit_of_mem _ _ _ _ _ _ (ix3 0 r q) rfl ?_).trans ?_
  · intro a
    match a with
    | ⟨0, _⟩ => exact (Nat.zero_add _).symm
    | ⟨1, _⟩ => exact (Nat.zero_add _).symm
    | ⟨2, _⟩ => exact (Nat.zero_add _).symm
  exact Ideal.ofBits_zero_f32

end Rows

variable (m : (ℓ : Loc nD τ sig) → Buf (Elt Ideal) ℓ)

/-- What tile `t` adds to row `r` of its sequence's modulation gradient. -/
def contrib (c : Dev nD) (r : Fin 8) (q : Fin 1024) (t : ℕ) : EReal :=
  if r.val = 0 then tile (DH' m c) q t
  else if r.val = 1 then gn (A4 m c) q * tile (hx (A2 m c) (DH' m c)) q t else 0

/-- The rows of a sequence after `n` tiles from tile `s`. -/
def part (c : Dev nD) (s n : ℕ) (r : Fin 8) (q : Fin 1024) : EReal := ∑ a ∈ Finset.range n, contrib m c r q (s + a)

/-- What two rows written over others come to, when each adds a tile's contribution. -/
theorem rows (v : View sig .tc .vmem S1x8x1024 .f32) (f : v.ty.Contents (Elt Ideal)) (L : List (View.Piece (Elt Ideal) S1x8x1024 .f32)) (i1 i0)
    (w1 w0 : S1x1x1024.Idx → Elt Ideal .f32) (c : Dev nD) (t : ℕ) (r : Fin 8) (q : Fin 1024) (base : Fin 8 → EReal)
    (h1 : w1 (ix3 0 0 q) = base 1 + gn (A4 m c) q * tile (hx (A2 m c) (DH' m c)) q t)
    (h0 : w0 (ix3 0 0 q) = base 0 + tile (DH' m c) q t)
    (hb : v.read (Elt Ideal) (v.writes (Elt Ideal) f L) (ix3 0 r q) = base r) :
    v.read (Elt Ideal) (v.writes (Elt Ideal) f (⟨Rect.unit ![0, 1, 0] ![1, 1, 1024] i1, w1⟩ :: ⟨Rect.unit ![0, 0, 0] ![1, 1, 1024] i0, w0⟩ :: L)) (ix3 0 r q)
      = base r + contrib m c r q t := by
  unfold contrib
  by_cases r1 : r.val = 1
  · rw [hit _ _ _ _ _ _ r q r1, if_neg (by omega), if_pos r1, h1]
    rw [show r = 1 from Fin.ext r1]
  rw [skip _ _ _ _ _ _ r q r1]
  by_cases r0 : r.val = 0
  · rw [hit _ _ _ _ _ _ r q r0, if_pos r0, h0]
    rw [show r = 0 from Fin.ext r0]
  rw [skip _ _ _ _ _ _ r q r0, if_neg r0, if_neg r1, hb]
  exact (add_zero _).symm

/-- A sequence's first tile. -/
theorem first_A (c : Dev nD) (t : Fin cfg0.N) (h0 : t.val % 16 = 0) (h1 : t.val % 8 = 0) (r : Fin 8) (q : Fin 1024) :
    (outsAt0 m c t.val t.isLt).2.1 (ix3 0 r q : S1x8x1024.Idx) = 0 + contrib m c r q t.val := by
  rw [outsAt0_A m c t h0 h1]
  unfold out0_A_7 kernelRun0_A
  dsimp only
  unfold kernelRun0_A.sl.H7_2 kernelRun0_A.sl.H7_1
  refine rows m _ _ _ _ _ _ _ c t.val r q (fun _ => 0) ?_ ?_ ?_
  · rw [r2_A m c t, r5_A m c t]
    simp only [View.readAt_eq_ld, (hs0_4 t).read_unread]
    refine (pay14 (A2 m c) (DH' m c) (A4 m c) t.val (tb t) _ _ (grow m c t _) q).trans (congrArg (· + _) ?_)
    unfold kernelRun0_A.sl.v85 kernelRun0_A.sl.H7_2 kernelRun0_A.sl.H7_1
    refine (cov _ _ _ _ q (by decide)).trans ?_
    exact (skip _ _ _ _ _ _ _ q (by decide)).trans (zero7 _ _ _ q _)
  · rw [r2_A m c t]
    refine (pay13 (DH' m c) t.val (tb t) _ q).trans (congrArg (· + _) ?_)
    unfold kernelRun0_A.sl.v79 kernelRun0_A.sl.H7_1
    exact (cov _ _ _ _ q (by decide)).trans (zero7 _ _ _ q _)
  · exact zero7 _ _ _ q _

/-- A sequence's first tile. -/
theorem first_C (c : Dev nD) (t : Fin cfg0.N) (h0 : ¬ t.val % 16 = 0) (h1 : t.val % 8 = 0) (r : Fin 8) (q : Fin 1024) :
    (outsAt0 m c t.val t.isLt).2.1 (ix3 0 r q : S1x8x1024.Idx) = 0 + contrib m c r q t.val := by
  rw [outsAt0_C m c t h0 h1]
  unfold out0_C_7 kernelRun0_C
  dsimp only
  unfold kernelRun0_C.sl.H7_2 kernelRun0_C.sl.H7_1
  refine rows m _ _ _ _ _ _ _ c t.val r q (fun _ => 0) ?_ ?_ ?_
  · rw [r2_C m c t, r5_C m c t]
    simp only [View.readAt_eq_ld, (hs0_4 t).read_unread]
    refine (pay14 (A2 m c) (DH' m c) (A4 m c) t.val (tb t) _ _ (grow m c t _) q).trans (congrArg (· + _) ?_)
    unfold kernelRun0_C.sl.v85 kernelRun0_C.sl.H7_2 kernelRun0_C.sl.H7_1
    refine (cov _ _ _ _ q (by decide)).trans ?_
    exact (skip _ _ _ _ _ _ _ q (by decide)).trans (zero7 _ _ _ q _)
  · rw [r2_C m c t]
    refine (pay13 (DH' m c) t.val (tb t) _ q).trans (congrArg (· + _) ?_)
    unfold kernelRun0_C.sl.v79 kernelRun0_C.sl.H7_1
    exact (cov _ _ _ _ q (by decide)).trans (zero7 _ _ _ q _)
  · exact zero7 _ _ _ q _

theorem next_B (c : Dev nD) (t : Fin cfg0.N) (h0 : ¬ t.val % 16 = 0) (h1 : ¬ t.val % 8 = 0) (r : Fin 8) (q : Fin 1024) :
    (outsAt0 m c t.val t.isLt).2.1 (ix3 0 r q : S1x8x1024.Idx)
      = (outsAt0 m c (t.val - 1) (Nat.lt_of_le_of_lt (Nat.sub_le _ _) t.isLt)).2.1 (ix3 0 r q : S1x8x1024.Idx) + contrib m c r q t.val := by
  rw [outsAt0_B m c t h0 h1]
  unfold out0_B_7 kernelRun0_B
  dsimp only
  refine rows m _ _ _ _ _ _ _ c t.val r q (fun r => (outsAt0 m c (t.val - 1) (Nat.lt_of_le_of_lt (Nat.sub_le _ _) t.isLt)).2.1 (ix3 0 r q : S1x8x1024.Idx)) ?_ ?_ ?_
  · rw [r2_B m c t, r5_B m c t]
    simp only [View.readAt_eq_ld, (hs0_4 t).read_unread]
    refine (pay14 (A2 m c) (DH' m c) (A4 m c) t.val (tb t) _ _ (grow m c t _) q).trans (congrArg (· + _) ?_)
    unfold kernelRun0_B.sl.v85
    rw [View.readAt_eq_ld, (hs0_7 t).read_unread]
    exact held _ _ q (by decide) _
  · rw [r2_B m c t]
    simp only [View.readAt_eq_ld, (hs0_7 t).read_unread]
    refine (pay13 (DH' m c) t.val (tb t) _ q).trans (congrArg (· + _) ?_)
    exact held _ _ q (by decide) _
  · rw [View.writes_nil, (hs0_7 t).read_unread]

theorem sofar (c : Dev nD) (b : ℕ) (hb : b < 2) (r : Fin 8) (q : Fin 1024) : ∀ (j : ℕ) (hj : j < 8) (h : b * 8 + j < cfg0.N),
    (outsAt0 m c (b * 8 + j) h).2.1 (ix3 0 r q : S1x8x1024.Idx) = part m c (b * 8) (j + 1) r q
  | 0, _, h => by
    refine Eq.trans ?_ ((zero_add _).trans (Finset.sum_range_one (fun a => contrib m c r q (b * 8 + a))).symm)
    by_cases h0 : b * 8 % 16 = 0
    · exact first_A m c ⟨b * 8, h⟩ h0 (by show b * 8 % 8 = 0; omega) r q
    · exact first_C m c ⟨b * 8, h⟩ h0 (by show b * 8 % 8 = 0; omega) r q
  | j + 1, hj, h => by
    refine (next_B m c ⟨b * 8 + (j + 1), h⟩ (by show ¬ (b * 8 + (j + 1)) % 16 = 0; omega) (by show ¬ (b * 8 + (j + 1)) % 8 = 0; omega) r q).trans ?_
    refine Eq.trans ?_ (Finset.sum_range_succ _ (j + 1)).symm
    exact congrArg (· + _) (sofar c b hb r q j (by omega) (by show _ < 16; omega))

/-- The gradient of the modulation, one sequence: the sums over the sequence's tokens. -/
def modGrad (c : Dev nD) : Arr S2x8x1024 := fun i => ∑ a ∈ Finset.range 8, contrib m c ⟨(i 1).val, (i 1).isLt⟩ ⟨(i 2).val, (i 2).isLt⟩ ((i 0).val * 8 + a)

theorem flushed7_eq (c : Dev nD) (t : Fin cfg0.N) (hf : (cfg0.win 7).flush t = true) :
    (dats m 0 c).flushed 7 t = ((cfg0.win 7).blk t).view.read (Elt Ideal) (modGrad m c) := by
  have h7 := (flush0_7 t).mp hf
  have ht := tlt t
  rw [flushed7]
  funext j
  have hj : j = (ix3 0 (j 1) (j 2) : S1x8x1024.Idx) := ix3_ext (by have h : (j 0).val < 1 := (j 0).isLt; show (j 0).val = 0; omega) rfl rfl
  rw [hj]
  show (outsAt0 m c t.val t.isLt).2.1 (ix3 0 (j 1) (j 2) : S1x8x1024.Idx) = modGrad m c (((cfg0.win 7).blk t).view.emb (ix3 0 (j 1) (j 2) : S1x8x1024.Idx))
  rw [emb7 t (j 1) (j 2)]
  have e := sofar m c (t.val / 8) (by omega) (j 1) (j 2) 7 (by omega) (by show _ < 16; omega)
  have ev : t.val / 8 * 8 + 7 = t.val := by omega
  simp only [ev] at e
  exact e

theorem final7 (c : Dev nD) : (dats m 0 c).arrAt 7 cfg0.N = modGrad m c :=
  (dats m 0 c).arrAt_eq_of_cover 7 _ (fun t hf => flushed7_eq m c t hf) fun i => by
    have hi : (i 0).val < 2 := (i 0).isLt
    have e := (emb7 (⟨(i 0).val * 8 + 7, by show _ < 16; omega⟩ : Fin cfg0.N) (i 1) (i 2)).trans
      (show (ix3 (⟨((i 0).val * 8 + 7) / 8, by omega⟩ : Fin 2) (i 1) (i 2) : S2x8x1024.Idx) = i from
        ix3_ext (by show ((i 0).val * 8 + 7) / 8 = (i 0).val; omega) rfl rfl)
    exact ⟨_, (flush0_7 _).mpr (by show ((i 0).val * 8 + 7) % 8 = 7; omega), e ▸ View.emb_mem_set _ _⟩

section Weight

variable (v : View sig .tc .vmem S8x1024 .f32) (f : v.ty.Contents (Elt Ideal)) (i : ∀ a, (![0, 0] : Fin 2 → ℕ) a + (![1, 1024] : Fin 2 → ℕ) a ≤ S8x1024.size a)
  (w : S1x1024.Idx → Elt Ideal .f32) (L : List (View.Piece (Elt Ideal) S8x1024 .f32)) (r : Fin 8) (q : Fin 1024)

theorem hitW (h : r.val = 0) : v.read (Elt Ideal) (v.writes (Elt Ideal) f (⟨Rect.unit ![0, 0] ![1, 1024] i, w⟩ :: L)) (ix2 r q) = w (ix2 0 q) := by
  refine (View.read_writes_cons_unit_of_mem _ _ _ _ _ _ (ix2 0 q) rfl ?_).trans rfl
  intro a
  match a with
  | ⟨0, _⟩ => exact h
  | ⟨1, _⟩ => exact (Nat.zero_add _).symm

theorem skipW (h : ¬ r.val = 0) :
    v.read (Elt Ideal) (v.writes (Elt Ideal) f (⟨Rect.unit ![0, 0] ![1, 1024] i, w⟩ :: L)) (ix2 r q) = v.read (Elt Ideal) (v.writes (Elt Ideal) f L) (ix2 r q) := by
  have h' : r.val < 0 ∨ 0 + 1 ≤ r.val := by omega
  exact View.read_writes_cons_unit_of_not_mem _ _ _ _ _ _ rfl (0 : Fin 2) h'

theorem covW : v.readCov L (Rect.unit (s := S8x1024) ![0, 0] ![1, 1024] i).toLoadRect (ix2 0 q : S1x1024.Idx)
    = VO0_8.read (Elt Ideal) (VO0_8.writes (Elt Ideal) VO0_8.junk L) (ix2 0 q) := by
  rw [View.readCov_eq_canon', View.read_writes_junk_eq_canon]
  exact congrArg (View.canon L) (ix2_ext rfl (by show 0 + 1 * q.val = q.val; omega))

theorem heldW (X : S8x1024.Idx → Elt Ideal .f32) : View.ld X (Rect.unit (s := S8x1024) ![0, 0] ![1, 1024] i) (ix2 0 q : S1x1024.Idx) = X (ix2 0 q) := by
  refine (congrFun (View.ld_unit (S := S8x1024) X _ _ i) _).trans ?_
  exact congrArg X (ix2_ext rfl (by show 0 + q.val = q.val; omega))

theorem zeroW (i : ∀ a, (![0, 0] : Fin 2 → ℕ) a + S8x1024.size a ≤ S8x1024.size a) :
    v.read (Elt Ideal) (v.writes (Elt Ideal) f [⟨Rect.unit ![0, 0] S8x1024.size i, k0_pay1 (F := Ideal)⟩]) (ix2 r q) = (0 : EReal) := by
  refine (View.read_writes_cons_unit_of_mem _ _ _ _ _ _ (ix2 r q) rfl ?_).trans ?_
  · intro a
    match a with
    | ⟨0, _⟩ => exact (Nat.zero_add _).symm
    | ⟨1, _⟩ => exact (Nat.zero_add _).symm
  exact Ideal.ofBits_zero_f32

end Weight

/-- What tile `t` adds to the norm weight's gradient. -/
def contribW (c : Dev nD) (r : Fin 8) (q : Fin 1024) (t : ℕ) : EReal :=
  if r.val = 0 then (1 + modRow (A3 m c) 1024 (by decide) ⟨t / 8 % 2, Nat.mod_lt _ (by decide)⟩ q) * tile (hx (A2 m c) (DH' m c)) q t else 0

theorem rowW (v : View sig .tc .vmem S8x1024 .f32) (f : v.ty.Contents (Elt Ideal)) (L : List (View.Piece (Elt Ideal) S8x1024 .f32)) (i)
    (w : S1x1024.Idx → Elt Ideal .f32) (c : Dev nD) (t : ℕ) (ht : t < 16) (r : Fin 8) (q : Fin 1024) (base : Fin 8 → EReal)
    (hw : w (ix2 0 q) = base 0 + (1 + modRow (A3 m c) 1024 (by decide) ⟨t * 512 / 4096, by omega⟩ q) * tile (hx (A2 m c) (DH' m c)) q t)
    (hb : v.read (Elt Ideal) (v.writes (Elt Ideal) f L) (ix2 r q) = base r) :
    v.read (Elt Ideal) (v.writes (Elt Ideal) f (⟨Rect.unit ![0, 0] ![1, 1024] i, w⟩ :: L)) (ix2 r q) = base r + contribW m c r q t := by
  unfold contribW
  by_cases r0 : r.val = 0
  · rw [hitW _ _ _ _ _ r q r0, if_pos r0, hw]
    have e : (⟨t * 512 / 4096, by omega⟩ : Fin 2) = ⟨t / 8 % 2, Nat.mod_lt _ (by decide)⟩ := Fin.ext (by show t * 512 / 4096 = t / 8 % 2; omega)
    rw [show r = 0 from Fin.ext r0, e]
  · rw [skipW _ _ _ _ _ r q r0, if_neg r0, hb]
    exact (add_zero _).symm

theorem firstW (c : Dev nD) (t : Fin cfg0.N) (h0 : t.val % 16 = 0) (h1 : t.val % 8 = 0) (r : Fin 8) (q : Fin 1024) :
    (outsAt0 m c t.val t.isLt).2.2 (ix2 r q : S8x1024.Idx) = 0 + contribW m c r q t.val := by
  rw [outsAt0_A m c t h0 h1]
  unfold out0_A_8 kernelRun0_A
  dsimp only
  unfold kernelRun0_A.sl.H8_1
  refine rowW m _ _ _ _ _ c t.val t.isLt r q (fun _ => 0) ?_ ?_
  · unfold kernelRun0_A.sl.r_8 kernelRun0_A.sl.r_3
    rw [r2_A m c t, r5_A m c t]
    simp only [View.readAt_eq_ld, (hs0_3 t).read_unread, (hs0_8 t).read_unread]
    refine (pay15 (A2 m c) (DH' m c) (A3 m c) t.val (tb t) _ _ (mrow m 1 (by decide) c t _) q).trans (congrArg (· + _) ?_)
    unfold kernelRun0_A.sl.v94 kernelRun0_A.sl.H8_1
    exact (covW _ _ _ q).trans (zeroW _ _ _ q _)
  · exact zeroW _ _ _ q _

theorem nextW_B (c : Dev nD) (t : Fin cfg0.N) (h0 : ¬ t.val % 16 = 0) (h1 : ¬ t.val % 8 = 0) (r : Fin 8) (q : Fin 1024) :
    (outsAt0 m c t.val t.isLt).2.2 (ix2 r q : S8x1024.Idx)
      = (outsAt0 m c (t.val - 1) (Nat.lt_of_le_of_lt (Nat.sub_le _ _) t.isLt)).2.2 (ix2 r q : S8x1024.Idx) + contribW m c r q t.val := by
  rw [outsAt0_B m c t h0 h1]
  unfold out0_B_8 kernelRun0_B
  dsimp only
  refine rowW m _ _ _ _ _ c t.val t.isLt r q (fun r => (outsAt0 m c (t.val - 1) (Nat.lt_of_le_of_lt (Nat.sub_le _ _) t.isLt)).2.2 (ix2 r q : S8x1024.Idx)) ?_ ?_
  · unfold kernelRun0_B.sl.r_8 kernelRun0_B.sl.r_3
    rw [r2_B m c t, r5_B m c t]
    simp only [View.readAt_eq_ld, (hs0_3 t).read_unread, (hs0_8 t).read_unread]
    refine (pay15 (A2 m c) (DH' m c) (A3 m c) t.val (tb t) _ _ (mrow m 1 (by decide) c t _) q).trans (congrArg (· + _) ?_)
    exact heldW _ q _
  · rw [View.writes_nil, (hs0_8 t).read_unread]

theorem nextW_C (c : Dev nD) (t : Fin cfg0.N) (h0 : ¬ t.val % 16 = 0) (h1 : t.val % 8 = 0) (r : Fin 8) (q : Fin 1024) :
    (outsAt0 m c t.val t.isLt).2.2 (ix2 r q : S8x1024.Idx)
      = (outsAt0 m c (t.val - 1) (Nat.lt_of_le_of_lt (Nat.sub_le _ _) t.isLt)).2.2 (ix2 r q : S8x1024.Idx) + contribW m c r q t.val := by
  rw [outsAt0_C m c t h0 h1]
  unfold out0_C_8 kernelRun0_C
  dsimp only
  refine rowW m _ _ _ _ _ c t.val t.isLt r q (fun r => (outsAt0 m c (t.val - 1) (Nat.lt_of_le_of_lt (Nat.sub_le _ _) t.isLt)).2.2 (ix2 r q : S8x1024.Idx)) ?_ ?_
  · unfold kernelRun0_C.sl.r_8 kernelRun0_C.sl.r_3
    rw [r2_C m c t, r5_C m c t]
    simp only [View.readAt_eq_ld, (hs0_3 t).read_unread, (hs0_8 t).read_unread]
    refine (pay15 (A2 m c) (DH' m c) (A3 m c) t.val (tb t) _ _ (mrow m 1 (by decide) c t _) q).trans (congrArg (· + _) ?_)
    exact heldW _ q _
  · rw [View.writes_nil, (hs0_8 t).read_unread]

theorem sofarW (c : Dev nD) (r : Fin 8) (q : Fin 1024) : ∀ (j : ℕ) (h : j < cfg0.N),
    (outsAt0 m c j h).2.2 (ix2 r q : S8x1024.Idx) = ∑ a ∈ Finset.range (j + 1), contribW m c r q a
  | 0, h => (firstW m c ⟨0, h⟩ rfl rfl r q).trans ((zero_add _).trans (Finset.sum_range_one _).symm)
  | j + 1, h => by
    have hj : j + 1 < 16 := h
    refine Eq.trans ?_ (Finset.sum_range_succ _ (j + 1)).symm
    refine Eq.trans ?_ (congrArg (· + _) (sofarW c r q j (by show j < 16; omega)))
    by_cases h1 : (j + 1) % 8 = 0
    · exact nextW_C m c ⟨j + 1, h⟩ (by show ¬ (j + 1) % 16 = 0; omega) h1 r q
    · exact nextW_B m c ⟨j + 1, h⟩ (by show ¬ (j + 1) % 16 = 0; omega) h1 r q

/-- The gradient of the norm's weight. -/
def gamGrad (c : Dev nD) : Arr S8x1024 := fun i => ∑ a ∈ Finset.range 16, contribW m c ⟨(i 0).val, (i 0).isLt⟩ ⟨(i 1).val, (i 1).isLt⟩ a

theorem flushed8_eq (c : Dev nD) (t : Fin cfg0.N) (hf : (cfg0.win 8).flush t = true) :
    (dats m 0 c).flushed 8 t = ((cfg0.win 8).blk t).view.read (Elt Ideal) (gamGrad m c) := by
  have h7 := (flush0_8 t).mp hf
  have ht := tlt t
  rw [flushed8]
  refine ext2 fun r q => ?_
  show (outsAt0 m c t.val t.isLt).2.2 (ix2 r q : S8x1024.Idx) = gamGrad m c (((cfg0.win 8).blk t).view.emb (ix2 r q : S8x1024.Idx))
  rw [emb8 t r q]
  have e := sofarW m c r q 15 (by decide)
  have ev : t.val = 15 := by omega
  simp only [← ev] at e
  refine e.trans ?_
  rw [ev]
  rfl

theorem final8 (c : Dev nD) : (dats m 0 c).arrAt 8 cfg0.N = gamGrad m c :=
  (dats m 0 c).arrAt_eq_of_cover 8 _ (fun t hf => flushed8_eq m c t hf) fun i => by
    have e := (emb8 (⟨15, by decide⟩ : Fin cfg0.N) (i 0) (i 1)).trans (show (ix2 (i 0) (i 1) : S8x1024.Idx) = i from ix2_ext rfl rfl)
    exact ⟨_, (flush0_8 _).mpr rfl, e ▸ View.emb_mem_set _ _⟩

end Cert.InProjSum
-- ==== Proof.InProjRef.lean ====
/-
  What the reference of the input projection's backward pass comes to, over the reals.
-/
module

public import proofs.«01_k».proof.Proof.InProjHost
public import proofs.«01_k».proof.Proof.NormSpec
public import Idealize.ShloMosaic.Lib.IdealHost
public import Idealize.ShloMosaic.Lib.KernelVsHost
public import Idealize.ShloMosaic.Lib.Pipeline.ValueKit.Tiles

@[expose] public section

noncomputable section

namespace Cert.InProjRef

open Cert.Reference3Ideal Cert.Reference3Ideal.Gen Cert.Reference3Ideal.Read Cert.Tools Cert.Reals Cert.NormSpec Cert.InProjHost
open Idealize.ShloMosaic Idealize.ShloMosaic.ValueIdx

/-- The token at a place of a sequence. -/
abbrev tok (b : Fin 2) (k : Fin 4096) : Fin 8192 := ⟨b.val * 4096 + k.val, by omega⟩

theorem mulr {a b c : EReal} (h : b = c) : a * b = a * c := congrArg (a * ·) h

theorem ix1_ext {n : ℕ} {x y : (⟨1, ![n]⟩ : Shape).Idx} (h : (x 0).val = (y 0).val) : x = y := by
  funext a
  match a with
  | ⟨0, _⟩ => exact Fin.ext h

theorem tile_re (f : Arr S8192x1024) (q : Fin 1024) (t : ℕ) (hf : ∀ i, Re (f i)) : Re (tile f q t) :=
  re_sum _ _ fun k => by
    unfold term
    split
    · exact hf _
    · exact re_zero

variable (x0 : Arr S8192x6144) (x1 : Arr S8192x1024) (x2 : Arr S8192x1024) (x3 : Arr S4x2x6144) (x4 : Arr S4x1024) (x5 : Arr S1024x6144)

/-- The gradient of the normed rows. -/
abbrev HH : Arr S8192x1024 := val_main_v36 (F := Ideal) x0 x5

theorem x3d (b : Fin 2) (k : Fin 4096) (q : Fin 1024) : val_main_v11 (F := Ideal) x2 (ix3 b k q) = x2 (ix2 (tok b k) q) := by
  rw [val_main_v11_apply]
  exact congrArg (x2) (ix2_ext (by show ((b.val * 4096 + k.val) * 1024 + q.val) / 1024 = b.val * 4096 + k.val; omega)
    (by show ((b.val * 4096 + k.val) * 1024 + q.val) % 1024 = q.val; omega))

theorem h3d (b : Fin 2) (k : Fin 4096) (q : Fin 1024) : val_main_v37 (F := Ideal) x0 x5 (ix3 b k q) = HH x0 x5 (ix2 (tok b k) q) := by
  rw [val_main_v37_apply]
  exact congrArg (HH x0 x5) (ix2_ext (by show ((b.val * 4096 + k.val) * 1024 + q.val) / 1024 = b.val * 4096 + k.val; omega)
    (by show ((b.val * 4096 + k.val) * 1024 + q.val) % 1024 = q.val; omega))

theorem ms (b : Fin 2) (k : Fin 4096) : val_main_v18 (F := Ideal) x2 (ix3 b k 0) = meanSq (row x2 (tok b k)) := by
  rw [val_main_v18_apply, val_main_v16_apply, val_main_v14_apply, val_main_v13_apply, val_main_v15_apply, val_main_v17_apply]
  show Ideal.div (Ideal.ofBits .f32 0x00000000#32 + ∑ j : Fin 1024, _) (Ideal.ofBits .f32 0x44800000#32) + Ideal.ofBits .f32 0x358637BD#32 = _
  unfold meanSq
  rw [Ideal.ofBits_zero_f32, zero_add]
  refine congrArg (fun z => Ideal.div z (Ideal.ofBits .f32 0x44800000#32) + Ideal.ofBits .f32 0x358637BD#32) (Finset.sum_congr rfl fun j _ => ?_)
  have e := x3d x2 b k j
  exact (congrArg (val_main_v12 (F := Ideal) x2) (ix3_ext rfl rfl rfl : _ = ix3 b k j)).trans (congrArg₂ (· * ·) e e)

theorem rs (b : Fin 2) (k : Fin 4096) : val_main_v19 (F := Ideal) x2 (ix3 b k 0) = rms (row x2 (tok b k)) := by
  rw [val_main_v19_apply, ms]
  rfl

theorem rs3 (b : Fin 2) (k : Fin 4096) : val_main_v22 (F := Ideal) x2 (ix3 b k 0) = Ideal.ofBits .f32 0xBF000000#32 * Ideal.div (rms (row x2 (tok b k))) (meanSq (row x2 (tok b k))) := by
  rw [val_main_v22_apply, val_main_v20_apply, rs, ms]
  rfl

/-- The normalised rows. -/
theorem xn (b : Fin 2) (k : Fin 4096) (q : Fin 1024) : val_main_v24 (F := Ideal) x2 (ix3 b k q) = nrm x2 (ix2 (tok b k) q) := by
  rw [val_main_v24_apply, val_main_v23_apply, x3d]
  refine mulr ?_
  exact (congrArg (val_main_v19 (F := Ideal) x2) (ix3_ext rfl rfl rfl : idx_main_v23 (ix3 b k q) = (ix3 b k 0 : S2x4096x1.Idx))).trans (rs x2 b k)

/-- The gain. -/
theorem gain (a b : Fin 1) (q : Fin 1024) : val_main_v25 (F := Ideal) x4 (ix3 a b q) = gn x4 q := by
  rw [val_main_v25_apply, val_main_v10_apply, val_main_v9_apply]
  exact congrArg x4 (ix2_ext rfl (by show q.val % 1024 = q.val; omega))

/-- The scale's row, one added. -/
theorem scale (b : Fin 2) (a : Fin 1) (q : Fin 1024) : val_main_v29 (F := Ideal) x3 (ix3 b a q) = 1 + modRow x3 1024 (by decide) b q := by
  rw [val_main_v29_apply, val_main_v4_apply, val_main_v2_apply, val_main_v1_apply, val_main_v0_apply]
  refine congrArg₂ (· + ·) (Ideal.ofBits_one_f32 : _ = (1 : EReal)) (congrArg x3 (ix3_ext rfl ?_ ?_))
  · show (b.val * 6144 + (1024 + q.val)) / 6144 % 2 = b.val; omega
  · show (b.val * 6144 + (1024 + q.val)) % 6144 = 1024 + q.val; omega

/-- The normed rows before the scale. -/
theorem xg (b : Fin 2) (k : Fin 4096) (q : Fin 1024) : val_main_v27 (F := Ideal) x2 x4 (ix3 b k q) = nrm x2 (ix2 (tok b k) q) * gn x4 q := by
  rw [val_main_v27_apply, val_main_v26_apply, xn]
  refine mulr ?_
  exact (congrArg (val_main_v25 (F := Ideal) x4) (ix3_ext rfl rfl rfl : _ = ix3 0 0 q)).trans (gain x4 0 0 q)

theorem hs (b : Fin 2) (k : Fin 4096) (q : Fin 1024) :
    val_main_v44 (F := Ideal) x0 x3 x5 (ix3 b k q) = HH x0 x5 (ix2 (tok b k) q) * (1 + modRow x3 1024 (by decide) b q) := by
  rw [val_main_v44_apply, val_main_v43_apply, h3d]
  refine mulr ?_
  exact (congrArg (val_main_v29 (F := Ideal) x3) (ix3_ext rfl rfl rfl : _ = ix3 b 0 q)).trans (scale x3 b 0 q)

theorem hsg (b : Fin 2) (k : Fin 4096) (q : Fin 1024) :
    val_main_v49 (F := Ideal) x0 x3 x4 x5 (ix3 b k q) = HH x0 x5 (ix2 (tok b k) q) * (1 + modRow x3 1024 (by decide) b q) * gn x4 q := by
  rw [val_main_v49_apply, val_main_v48_apply, hs]
  refine mulr ?_
  exact (congrArg (val_main_v25 (F := Ideal) x4) (ix3_ext rfl rfl rfl : _ = ix3 0 0 q)).trans (gain x4 0 0 q)

/-- The sum along a row. -/
theorem dot (b : Fin 2) (k : Fin 4096) :
    val_main_v53 (F := Ideal) x0 x2 x3 x4 x5 (ix3 b k 0) = ∑ j, row x2 (tok b k) j * (row (HH x0 x5) (tok b k) j * (1 + modRow x3 1024 (by decide) b j) * gn x4 j) := by
  rw [val_main_v53_apply, val_main_v52_apply]
  refine (congrArg (· + _) (Ideal.ofBits_zero_f32 : _ = (0 : EReal))).trans ((zero_add _).trans ?_)
  refine Finset.sum_congr rfl fun j _ => ?_
  refine (congrArg (val_main_v51 (F := Ideal) x0 x2 x3 x4 x5) (?_ : _ = ix3 b k j)).trans ?_
  · refine ix3_ext ?_ ?_ rfl
    · show ((b.val * 4096 + k.val) * 1 + 0) / 4096 = b.val; omega
    · show ((b.val * 4096 + k.val) * 1 + 0) % 4096 = k.val; omega
  rw [val_main_v51_apply, x3d, hsg]
  rfl

theorem mid (b : Fin 2) (k : Fin 4096) (q : Fin 1024) :
    val_main_v60 (F := Ideal) x0 x2 x3 x4 x5 (ix3 b k q) = Ideal.div ((∑ j, row x2 (tok b k) j * (row (HH x0 x5) (tok b k) j * (1 + modRow x3 1024 (by decide) b j) * gn x4 j))
        * (Ideal.ofBits .f32 0xBF000000#32 * Ideal.div (rms (row x2 (tok b k))) (meanSq (row x2 (tok b k))))) (Ideal.ofBits .f32 0x44800000#32) := by
  rw [val_main_v60_apply, val_main_v59_apply]
  refine (congrArg (· + _) (Ideal.ofBits_zero_f32 : _ = (0 : EReal))).trans ((zero_add _).trans ?_)
  rw [Fin.sum_univ_one]
  refine (congrArg (val_main_v58 (F := Ideal) x0 x2 x3 x4 x5) (ix3_ext rfl rfl rfl : idx_main_v59 (idx_main_v60 (ix3 b k q)) 0 = (ix3 b k 0 : S2x4096x1.Idx))).trans ?_
  rw [val_main_v58_apply, val_main_v56_apply, dot, rs3]
  rfl

/-- The norm's gradient of a row. -/
theorem dn (hX : ∀ i, Re (x2 i)) (hH : ∀ i, Re (HH x0 x5 i)) (hG : ∀ i, Re (x4 i)) (hM : ∀ i, Re (x3 i)) (b : Fin 2) (k : Fin 4096) (q : Fin 1024) :
    val_main_v64 (F := Ideal) x0 x2 x3 x4 x5 (ix3 b k q)
      = dnorm (row x2 (tok b k)) (row (HH x0 x5) (tok b k)) (fun j => gn x4 j * (1 + modRow x3 1024 (by decide) b j)) q := by
  rw [val_main_v64_apply, val_main_v62_apply, val_main_v63_apply, val_main_v61_apply, val_main_v55_apply, val_main_v54_apply, mid, hsg, x3d]
  have e : val_main_v19 (F := Ideal) x2 (ix3 b k 0) = rms (row x2 (tok b k)) := rs x2 b k
  rw [(ix3_ext rfl rfl rfl : idx_main_v54 (ix3 b k q) = ix3 b k 0), e]
  exact dnorm_eq (row x2 (tok b k)) (row (HH x0 x5) (tok b k)) (fun j => gn x4 j) (fun j => modRow x3 1024 (by decide) b j) (fun _ => hX _) (fun _ => hH _)
    (fun _ => hG _) (fun _ => hM _) q

/-- The rows' gradient. -/
theorem ref_dx (hX : ∀ i, Re (x2 i)) (hH : ∀ i, Re (HH x0 x5 i)) (hG : ∀ i, Re (x4 i)) (hM : ∀ i, Re (x3 i)) :
    val_main_v67 (F := Ideal) x0 x1 x2 x3 x4 x5 = dxs x2 (HH x0 x5) x1 x3 x4 1024 (by decide) := by
  refine ext2 fun r q => ?_
  have hr := r.isLt
  rw [val_main_v67_apply]
  refine congrArg₂ (· + ·) ?_ ?_
  · rfl
  · rw [val_main_v65_apply]
    have ei : (idx_main_v65 (ix2 r q) : S2x4096x1024.Idx) = ix3 (⟨r.val / 4096, by omega⟩ : Fin 2) (⟨r.val % 4096, Nat.mod_lt _ (by decide)⟩ : Fin 4096) q := by
      refine ix3_ext ?_ ?_ ?_
      · show (r.val * 1024 + q.val) / 4194304 = r.val / 4096; omega
      · show (r.val * 1024 + q.val) / 1024 % 4096 = r.val % 4096; omega
      · show (r.val * 1024 + q.val) % 1024 = q.val; omega
    rw [ei]
    refine (dn x0 x2 x3 x4 x5 hX hH hG hM _ _ q).trans ?_
    have et : tok (⟨r.val / 4096, by omega⟩ : Fin 2) (⟨r.val % 4096, Nat.mod_lt _ (by decide)⟩ : Fin 4096) = r := Fin.ext (by show r.val / 4096 * 4096 + r.val % 4096 = r.val; omega)
    rw [et]
    rfl

/-- The shift's gradient. -/
theorem sum_sh (b : Fin 2) (q : Fin 1024) : val_main_v39 (F := Ideal) x0 x5 (ix3 b 0 q) = ∑ a ∈ Finset.range 8, tile (HH x0 x5) q (b.val * 8 + a) := by
  rw [val_main_v39_apply, val_main_v38_apply, seq_sum _ q b.val b.isLt]
  refine (congrArg (· + _) (Ideal.ofBits_zero_f32 : _ = (0 : EReal))).trans ((zero_add _).trans ?_)
  refine Finset.sum_congr rfl fun k _ => ?_
  refine (congrArg (val_main_v37 (F := Ideal) x0 x5) (?_ : _ = ix3 b k q)).trans (h3d x0 x5 b k q)
  refine ix3_ext ?_ rfl ?_
  · show ((b.val * 1 + 0) * 1024 + q.val) / 1024 = b.val; omega
  · show ((b.val * 1 + 0) * 1024 + q.val) % 1024 = q.val; omega

theorem nrm_re (hX : ∀ i, Re (x2 i)) (i : S8192x1024.Idx) : Re (nrm x2 i) := re_mul (hX i) (rms_re _ fun _ => hX _)

theorem hx_re (hX : ∀ i, Re (x2 i)) (hH : ∀ i, Re (HH x0 x5 i)) (i : S8192x1024.Idx) : Re (hx x2 (HH x0 x5) i) := re_mul (hH i) (nrm_re x2 hX i)

/-- The scale's gradient. -/
theorem sum_sc (hX : ∀ i, Re (x2 i)) (hH : ∀ i, Re (HH x0 x5 i)) (hG : ∀ i, Re (x4 i)) (b : Fin 2) (q : Fin 1024) :
    val_main_v42 (F := Ideal) x0 x2 x4 x5 (ix3 b 0 q) = ∑ a ∈ Finset.range 8, gn x4 q * tile (hx x2 (HH x0 x5)) q (b.val * 8 + a) := by
  rw [val_main_v42_apply, val_main_v41_apply, ← Reals.mul_sum (Finset.range 8) (gn x4 q) (fun a => tile (hx x2 (HH x0 x5)) q (b.val * 8 + a)) (hG _) (fun a => tile_re _ q _ (hx_re x0 x2 x5 hX hH)), seq_sum _ q b.val b.isLt,
    Reals.mul_sum Finset.univ (gn x4 q) (fun k : Fin 4096 => hx x2 (HH x0 x5) (ix2 ⟨b.val * 4096 + k.val, by omega⟩ q)) (hG _) (fun k => hx_re x0 x2 x5 hX hH _)]
  refine (congrArg (· + _) (Ideal.ofBits_zero_f32 : _ = (0 : EReal))).trans ((zero_add _).trans ?_)
  refine Finset.sum_congr rfl fun k _ => ?_
  refine (congrArg (val_main_v40 (F := Ideal) x0 x2 x4 x5) (?_ : _ = ix3 b k q)).trans ?_
  · refine ix3_ext ?_ rfl ?_
    · show ((b.val * 1 + 0) * 1024 + q.val) / 1024 = b.val; omega
    · show ((b.val * 1 + 0) * 1024 + q.val) % 1024 = q.val; omega
  rw [val_main_v40_apply, xg, h3d]
  show nrm x2 _ * gn x4 q * HH x0 x5 _ = gn x4 q * (HH x0 x5 _ * nrm x2 _)
  rw [mul_comm (nrm x2 _) (gn x4 q), mul_assoc, mul_comm (nrm x2 _)]

/-- The gain's gradient. -/
theorem sum_g (hX : ∀ i, Re (x2 i)) (hH : ∀ i, Re (HH x0 x5 i)) (hM : ∀ i, Re (x3 i)) (q : Fin 1024) :
    val_main_v69 (F := Ideal) x0 x2 x3 x5 (ix2 0 q) = ∑ t ∈ Finset.range 16, (1 + modRow x3 1024 (by decide) ⟨t / 8 % 2, Nat.mod_lt _ (by decide)⟩ q) * tile (hx x2 (HH x0 x5)) q t := by
  rw [all_sum (hx x2 (HH x0 x5)) q (fun b => 1 + modRow x3 1024 (by decide) b q) (fun _ => re_add re_one (hM _)) (fun _ => hx_re x0 x2 x5 hX hH _), val_main_v69_apply]
  refine (congrArg (val_main_v50 (F := Ideal) x0 x2 x3 x5) (ix1_ext rfl : idx_main_v69 (ix2 0 q) = ix1 q)).trans ?_
  unfold val_main_v50
  refine (reduce2 _ _ _ q).trans ?_
  refine (congrArg (· + _) (Ideal.ofBits_zero_f32 : _ = (0 : EReal))).trans ((zero_add _).trans ?_)
  rw [Fin.sum_univ_one, Fin.sum_univ_one, val_main_v47_apply]
  refine (congrArg (val_main_v46 (F := Ideal) x0 x2 x3 x5) (ix1_ext (by show (0 * 1 + 0) * 1024 + q.val = q.val; omega) : _ = ix1 q)).trans ?_
  unfold val_main_v46
  refine (reduce2 _ _ _ q).trans ?_
  refine (congrArg (· + _) (Ideal.ofBits_zero_f32 : _ = (0 : EReal))).trans ((zero_add _).trans ?_)
  refine Finset.sum_congr rfl fun b _ => Finset.sum_congr rfl fun k _ => ?_
  rw [val_main_v45_apply, xn, hs]
  show nrm x2 _ * (HH x0 x5 _ * _) = _ * (HH x0 x5 _ * nrm x2 _)
  rw [← mul_assoc, mul_comm, mul_comm (nrm x2 _)]

/-- A piece of extent one of a concatenation along the middle axis. -/
theorem piece_at (n : ℕ) (f : S2x1x1024.Idx → EReal) (b : Fin 2) (j : Fin n) (q : Fin 1024) (w : EReal) (p : ℕ) (h : j.val = p → f (ix3 b 0 q) = w) :
    PieceAt (t := (⟨3, ![2, n, 1024]⟩ : Shape)) 1 (ix3 b j q) w S2x1x1024 f p := fun hp _ i h0 hb => by
  refine Eq.trans (congrArg f (ix3_ext ?_ ?_ ?_)) (h hp)
  · exact hb (0 : Fin 3) (fun h => absurd (congrArg Fin.val h) (show ¬ (0 : ℕ) = 1 by decide))
  · exact h0
  · exact hb (2 : Fin 3) (fun h => absurd (congrArg Fin.val h) (show ¬ (2 : ℕ) = 1 by decide))

/-- The modulation's gradient. -/
theorem ref_mod (hX : ∀ i, Re (x2 i)) (hH : ∀ i, Re (HH x0 x5 i)) (hG : ∀ i, Re (x4 i)) (b : Fin 2) (r : Fin 8) (q : Fin 1024) :
    val_main_v68 (F := Ideal) x0 x2 x4 x5 (ix3 b r q) = ∑ a ∈ Finset.range 8, (if r.val = 0 then tile (HH x0 x5) q (b.val * 8 + a) else if r.val = 1 then gn x4 q * tile (hx x2 (HH x0 x5)) q (b.val * 8 + a) else 0) := by
  unfold val_main_v68
  by_cases h0 : r.val = 0
  · refine (pad_apply_of_inside _ _ _ _ _ _ _ (ix3 b r q) (ix3 b (0 : Fin 2) q) ?_).trans ?_
    · intro a
      match a with
      | ⟨0, _⟩ => show b.val = 0 + b.val * (0 + 1); omega
      | ⟨1, _⟩ => show r.val = 0 + 0 * (0 + 1); omega
      | ⟨2, _⟩ => show q.val = 0 + q.val * (0 + 1); omega
    unfold val_main_v66
    refine (concatenate_unit_eq (t := S2x2x1024) (1 : Fin 3) _ _ _ (val_main_v39 (F := Ideal) x0 x5 (ix3 b 0 q)) (by rfl) (concatAt_cons _ _ _ _ (piece_at 2 _ b _ q _ 0 (fun h => rfl)) (concatAt_cons _ _ _ _ (piece_at 2 _ b _ q _ 1 (fun h => absurd h (by decide))) (concatAt_nil _ _ _ _)))).trans ?_
    rw [sum_sh x0 x5 b q]
    exact Finset.sum_congr rfl fun a _ => by rw [if_pos h0]
  by_cases h1 : r.val = 1
  · refine (pad_apply_of_inside _ _ _ _ _ _ _ (ix3 b r q) (ix3 b (1 : Fin 2) q) ?_).trans ?_
    · intro a
      match a with
      | ⟨0, _⟩ => show b.val = 0 + b.val * (0 + 1); omega
      | ⟨1, _⟩ => show r.val = 0 + 1 * (0 + 1); omega
      | ⟨2, _⟩ => show q.val = 0 + q.val * (0 + 1); omega
    unfold val_main_v66
    refine (concatenate_unit_eq (t := S2x2x1024) (1 : Fin 3) _ _ _ (val_main_v42 (F := Ideal) x0 x2 x4 x5 (ix3 b 0 q)) (by rfl) (concatAt_cons _ _ _ _ (piece_at 2 _ b _ q _ 0 (fun h => absurd h (by decide))) (concatAt_cons _ _ _ _ (piece_at 2 _ b _ q _ 1 (fun h => rfl)) (concatAt_nil _ _ _ _)))).trans ?_
    rw [sum_sc x0 x2 x4 x5 hX hH hG b q]
    exact Finset.sum_congr rfl fun a _ => by rw [if_neg (by omega), if_pos h1]
  refine (pad_apply_of_not_inside _ _ _ _ _ _ _ (ix3 b r q) (1 : Fin 3) ?_).trans ?_
  · show ¬(0 ≤ r.val ∧ (r.val - 0) % (0 + 1) = 0 ∧ (r.val - 0) / (0 + 1) < 2)
    omega
  · refine (show (((0#32 : BitVec 32).toInt : ℝ) : EReal) = 0 by simp).trans ?_
    refine (Finset.sum_eq_zero fun a _ => ?_).symm
    rw [if_neg h0, if_neg h1]

/-- The gain's gradient, in its padded form. -/
theorem ref_g (hX : ∀ i, Re (x2 i)) (hH : ∀ i, Re (HH x0 x5 i)) (hM : ∀ i, Re (x3 i)) (r : Fin 8) (q : Fin 1024) :
    val_main_v70 (F := Ideal) x0 x2 x3 x5 (ix2 r q) = ∑ t ∈ Finset.range 16,
      (if r.val = 0 then (1 + modRow x3 1024 (by decide) ⟨t / 8 % 2, Nat.mod_lt _ (by decide)⟩ q) * tile (hx x2 (HH x0 x5)) q t else 0) := by
  unfold val_main_v70
  by_cases h0 : r.val = 0
  · refine (pad_apply_of_inside _ _ _ _ _ _ _ (ix2 r q) (ix2 (0 : Fin 1) q) ?_).trans ?_
    · intro a
      match a with
      | ⟨0, _⟩ => show r.val = 0 + 0 * (0 + 1); omega
      | ⟨1, _⟩ => show q.val = 0 + q.val * (0 + 1); omega
    rw [sum_g x0 x2 x3 x5 hX hH hM q]
    exact Finset.sum_congr rfl fun t _ => (if_pos h0).symm
  · refine (pad_apply_of_not_inside _ _ _ _ _ _ _ (ix2 r q) (0 : Fin 2) ?_).trans ?_
    · show ¬(0 ≤ r.val ∧ (r.val - 0) % (0 + 1) = 0 ∧ (r.val - 0) / (0 + 1) < 1)
      omega
    · refine (show (((0#32 : BitVec 32).toInt : ℝ) : EReal) = 0 by simp).trans ?_
      exact (Finset.sum_eq_zero fun t _ => if_neg h0).symm

/-- The gradient of the normed rows is real. -/
theorem h_re (h0 : ∀ i, Re (x0 i)) (h5 : ∀ i, Re (x5 i)) (i : S8192x1024.Idx) : Re (HH x0 x5 i) := by
  show Re (val_main_v36 (F := Ideal) x0 x5 i)
  rw [val_main_v36_apply]
  exact re_sum _ _ fun k => re_mul (h0 _) (h5 _)

end Cert.InProjRef
-- ==== Proof.InProjClaim.lean ====
/-
  The input projection's backward kernel gives the reference's gradients.
-/
module

public import proofs.«01_k».proof.Defs
public import proofs.«01_k».proof.Proof.InProjSum
public import proofs.«01_k».proof.Proof.InProjRef
public import proofs.«01_k».proof.Proof.SideFacts
public import proofs.«01_k».proof.Proof.FfnClaim
import Idealize.ShloMosaic.Lib.ReduceAll

@[expose] public section

noncomputable section

namespace Cert.InProjClaim

open Cert.InProjSum Cert.InProjOut Cert.InProjRun Cert.Kernel3Ideal Cert.Kernel3Ideal.Gen Cert.Kernel3Ideal.Value Cert.Reference3Ideal.Read Cert.Tools Cert.InProjHost Cert.InProjPay Cert.NormSpec Cert.Reals
open Idealize.ShloMosaic Idealize.ShloMosaic.TcCoe Idealize.SL.Sem Idealize.ShloMosaic.ValueIdx

instance : Subsingleton Cert.Pre_finite3.S_.Idx := ⟨fun a b => funext fun k => k.elim0⟩

/-- What the finiteness condition says of each argument. -/
theorem finite_args (x0 : Arr S8192x6144) (x1 x2 : Arr S8192x1024) (x3 : Arr S4x2x6144) (x4 : Arr S4x1024) (x5 : Arr S1024x6144)
    (h : Cert.Pre_finite3.fn (F := Ideal) x0 x1 x2 x3 x4 x5 = fun _ => 1#1) :
    (∀ i, Re (x0 i)) ∧ (∀ i, Re (x1 i)) ∧ (∀ i, Re (x2 i)) ∧ (∀ i, Re (x3 i)) ∧ (∀ i, Re (x4 i)) ∧ (∀ i, Re (x5 i)) := by
  have h0 := congrFun h (fun k => k.elim0)
  obtain ⟨h0, p5⟩ := IntOp.andi_eq_one.1 h0
  obtain ⟨h0, p4⟩ := IntOp.andi_eq_one.1 h0
  obtain ⟨h0, p3⟩ := IntOp.andi_eq_one.1 h0
  obtain ⟨h0, p2⟩ := IntOp.andi_eq_one.1 h0
  obtain ⟨p0, p1⟩ := IntOp.andi_eq_one.1 h0
  exact ⟨fun i => FfnClaim.re_of_cmp _ (Host.reduce_andi_all _ _ _ _ _ p0 i), fun i => FfnClaim.re_of_cmp _ (Host.reduce_andi_all _ _ _ _ _ p1 i),
    fun i => FfnClaim.re_of_cmp _ (Host.reduce_andi_all _ _ _ _ _ p2 i), fun i => FfnClaim.re_of_cmp _ (Host.reduce_andi_all _ _ _ _ _ p3 i),
    fun i => FfnClaim.re_of_cmp _ (Host.reduce_andi_all _ _ _ _ _ p4 i), fun i => FfnClaim.re_of_cmp _ (Host.reduce_andi_all _ _ _ _ _ p5 i)⟩

/-- The scale and shift gradients are the reference's. -/
theorem mod_eq (m : (ℓ : Loc nD τ sig) → Buf (Elt Ideal) ℓ) (c : Dev nD) (hX : ∀ i, Re (A2 m c i)) (hH : ∀ i, Re (DH' m c i))
    (hG : ∀ i, Re (A4 m c i)) :
    val_main_v68 (F := Ideal) (A0 m c) (A2 m c) (A4 m c) (A5 m c) = modGrad m c := by
  funext i
  have hi : i = ix3 (i 0) (i 1) (i 2) := ix3_ext rfl rfl rfl
  exact (congrArg _ hi).trans (Cert.InProjRef.ref_mod _ _ _ _ hX hH hG (i 0) (i 1) (i 2))

/-- The norm gain's gradient is the reference's. -/
theorem gam_eq (m : (ℓ : Loc nD τ sig) → Buf (Elt Ideal) ℓ) (c : Dev nD) (hX : ∀ i, Re (A2 m c i)) (hH : ∀ i, Re (DH' m c i))
    (hM : ∀ i, Re (A3 m c i)) :
    val_main_v70 (F := Ideal) (A0 m c) (A2 m c) (A3 m c) (A5 m c) = gamGrad m c := by
  funext i
  have hi : i = ix2 (i 0) (i 1) := ix2_ext rfl rfl
  exact (congrArg _ hi).trans (Cert.InProjRef.ref_g _ _ _ _ hX hH hM (i 0) (i 1))

/-- The gradient of the normed rows is real. -/
theorem h_re (m : (ℓ : Loc nD τ sig) → Buf (Elt Ideal) ℓ) (c : Dev nD) (h0 : ∀ i, Re (A0 m c i)) (h5 : ∀ i, Re (A5 m c i)) (i : S8192x1024.Idx) : Re (DH' m c i) := by
  show Re (val_main_v36 (F := Ideal) (A0 m c) (A5 m c) i)
  rw [val_main_v36_apply]
  exact re_sum _ _ fun k => re_mul (h0 _) (h5 _)

set_option maxHeartbeats 4000000 in
/-- On finite arguments, what the kernel writes is what the reference gives. -/
theorem claim : Cert.algebraic_Kernel3Ideal_Reference3Ideal_pre_finite3 := by
  intro m g m' g' hpre hag
  refine ⟨fun c => (dats m 0 c).arrAt 6 cfg0.N, fun c => (dats m 0 c).arrAt 7 cfg0.N, fun c => (dats m 0 c).arrAt 8 cfg0.N, ?_, ?_⟩
  · refine (θ_run _ _ _).mono (fun r h c => ?_) (run_blocks m g)
    obtain ⟨h6, h7, h8, ha⟩ := h c
    exact ⟨h6, h7, h8, ha⟩
  · refine (θ_run _ _ _).mono (fun r h c => ?_) (Cert.Reference3Ideal.Value.run m' g')
    obtain ⟨h67, h68, h70, ha⟩ := h c
    obtain ⟨e0, e1, e2, e3, e4, e5⟩ := hag c
    obtain ⟨r0, r1, r2, r3, r4, r5⟩ := finite_args (A0 m c) (A1 m c) (A2 m c) (A3 m c) (A4 m c) (A5 m c) (hpre c)
    have hH := h_re m c r0 r5
    have f67 := h67.trans (val_main_v67_eq m' c)
    have f68 := h68.trans (val_main_v68_eq _ _ _ _)
    have f70 := h70.trans (val_main_v70_eq _ _ _ _)
    rw [e0, e1, e2, e3, e4, e5] at f67
    rw [e0, e2, e4, e5] at f68
    rw [e0, e2, e3, e5] at f70
    exact ⟨(f67.trans (Cert.InProjRef.ref_dx _ _ _ _ _ _ r2 hH r4 r3)).trans (final6 m c).symm,
      (f68.trans (mod_eq m c r2 hH r4)).trans (final7 m c).symm,
      (f70.trans (gam_eq m c r2 hH r3)).trans (final8 m c).symm, ha⟩

end Cert.InProjClaim
-- ==== Proof.GradTools.lean ====
/-
  Products of two tall matrices over their rows, taken a tile of rows at a time: what the calls for the gradients of the
  weights have in common.
-/
module

public import proofs.«01_k».proof.Proof.Tools
public import Idealize.ShloMosaic.Lib.Pipeline.ValueKit.Acc
public import Idealize.ShloMosaic.Lib.KernelVsHost

@[expose] public section

noncomputable section

namespace Cert.GradTools

open Cert.Tools Idealize.ShloMosaic Idealize.ShloMosaic.ValueIdx

/-- A matrix of 8192 rows read at any row number (0 beyond them). -/
def row {w : ℕ} (X : (⟨2, ![8192, w]⟩ : Shape).Idx → EReal) (k : ℕ) (q : Fin w) : EReal := if h : k < 8192 then X (ix2 ⟨k, h⟩ q) else 0

/-- Within the matrix, it is the entry. -/
theorem row_of {w : ℕ} (X : (⟨2, ![8192, w]⟩ : Shape).Idx → EReal) (k : ℕ) (h : k < 8192) (q : Fin w) : row X k q = X (ix2 ⟨k, h⟩ q) := dif_pos h

/-- What tile `t` of 2048 rows adds to the product of two columns. -/
def part {w v : ℕ} (X : (⟨2, ![8192, w]⟩ : Shape).Idx → EReal) (Y : (⟨2, ![8192, v]⟩ : Shape).Idx → EReal) (a : Fin w) (b : Fin v) (t : ℕ) : EReal :=
  ∑ k ∈ Finset.range 2048, row X (t * 2048 + k) a * row Y (t * 2048 + k) b

/-- The product of two columns over all rows. -/
def whole {w v : ℕ} (X : (⟨2, ![8192, w]⟩ : Shape).Idx → EReal) (Y : (⟨2, ![8192, v]⟩ : Shape).Idx → EReal) (a : Fin w) (b : Fin v) : EReal :=
  ∑ k : Fin 8192, X (ix2 k a) * Y (ix2 k b)

/-- Four tiles make the whole. -/
theorem parts {w v : ℕ} (X : (⟨2, ![8192, w]⟩ : Shape).Idx → EReal) (Y : (⟨2, ![8192, v]⟩ : Shape).Idx → EReal) (a : Fin w) (b : Fin v) :
    ∑ s ∈ Finset.range 4, part X Y a b s = whole X Y a b := by
  unfold part whole
  rw [sum_blocks 4 2048 fun k => row X k a * row Y k b, Finset.sum_range]
  refine Finset.sum_congr rfl fun k _ => congrArg₂ (· * ·) (row_of X _ k.isLt a) (row_of Y _ k.isLt b)

/-- A tile's part, from the blocks that hold it. -/
theorem part_eq {w v wb vb : ℕ} (X : (⟨2, ![8192, w]⟩ : Shape).Idx → EReal) (Y : (⟨2, ![8192, v]⟩ : Shape).Idx → EReal) (t : ℕ) (ht : t < 4)
    (x : (⟨2, ![2048, wb]⟩ : Shape).Idx → EReal) (y : (⟨2, ![2048, vb]⟩ : Shape).Idx → EReal) (a : Fin w) (b : Fin v) (r : Fin wb) (q : Fin vb)
    (hx : ∀ k : Fin 2048, x (ix2 k r) = X (ix2 ⟨t * 2048 + k.val, by omega⟩ a))
    (hy : ∀ k : Fin 2048, y (ix2 k q) = Y (ix2 ⟨t * 2048 + k.val, by omega⟩ b)) :
    ∑ k : Fin 2048, x (ix2 k r) * y (ix2 k q) = part X Y a b t := by
  unfold part
  rw [Finset.sum_range]
  refine Finset.sum_congr rfl fun k _ => ?_
  rw [hx, hy]
  exact (congrArg₂ (· * ·) (row_of X _ _ a) (row_of Y _ _ b)).symm

/-- The square of the positive part, of every entry. -/
def relu2 {w : ℕ} (X : (⟨2, ![8192, w]⟩ : Shape).Idx → EReal) : (⟨2, ![8192, w]⟩ : Shape).Idx → EReal := fun i => max (X i) 0 * max (X i) 0

end Cert.GradTools
-- ==== Proof.Grad4.lean ====
/-
  The gradient of the second weight of the feed-forward sub-layer: the call's value and the reference's are the same product over all tokens.
-/
module

public import proofs.«01_k».proof.Proof.Gen.Kernel4Ideal.Value
public import proofs.«01_k».proof.Proof.Gen.Reference4Ideal.Read
public import proofs.«01_k».proof.Proof.GradTools
public import proofs.«01_k».proof.Defs

@[expose] public section

noncomputable section

namespace Cert.Grad4

open Cert.Kernel4Ideal Cert.Kernel4Ideal.Gen Cert.Kernel4Ideal.Value Cert.Reference4Ideal.Read Cert.Tools Cert.GradTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev A0 (c : Dev nD) : Arr S8192x4096 := m ((c : Thread nD τ).loc main_arg0)
abbrev A1 (c : Dev nD) : Arr S8192x1024 := m ((c : Thread nD τ).loc main_arg1)

theorem V_a (c : Dev nD) : (V m c main_v0 : S8192x4096.Idx → EReal) = A0 m c := by
  unfold_abbrev_sides
  after_results
  rfl
theorem V_b (c : Dev nD) : (V m c main_v1 : S8192x1024.Idx → EReal) = A1 m c := by
  unfold_abbrev_sides
  after_results
  rfl

theorem tlt (t : Fin cfg0.N) : t.val < 16 := t.isLt
theorem idx0 : ∀ t : Fin cfg0.N, win0_0.index t (0 : Fin 2) = t.val % 4 ∧ win0_0.index t (1 : Fin 2) = t.val / 4 := (by decide +kernel : ∀ t : Fin grid0.N, _)
theorem idx1 : ∀ t : Fin cfg0.N, win0_1.index t (0 : Fin 2) = t.val % 4 ∧ win0_1.index t (1 : Fin 2) = 0 := (by decide +kernel : ∀ t : Fin grid0.N, _)

/-- The block of the first operand at a point. -/
theorem iblk0 (c : Dev nD) (t : Fin cfg0.N) (k : Fin 2048) (r : Fin 1024) :
    iblk m c 0 t (ix2 k r : S2048x1024.Idx) = A0 m c (ix2 ⟨t.val % 4 * 2048 + k.val, by omega⟩ ⟨t.val / 4 * 1024 + r.val, by have := tlt t; omega⟩) := by
  show V m c main_v0 (((cfg0.win 0).blk t).view.emb (ix2 k r)) = _
  rw [V_a]
  obtain ⟨e0, e1⟩ := idx0 t
  refine congrArg (A0 m c) (ix2_ext ?_ ?_)
  · show win0_0.index t (0 : Fin 2) * 2048 + 1 * k.val = t.val % 4 * 2048 + k.val; omega
  · show win0_0.index t (1 : Fin 2) * 1024 + 1 * r.val = t.val / 4 * 1024 + r.val; omega

/-- The block of the second operand at a point. -/
theorem iblk1 (c : Dev nD) (t : Fin cfg0.N) (k : Fin 2048) (q : Fin 1024) :
    iblk m c 1 t (ix2 k q : S2048x1024.Idx) = A1 m c (ix2 ⟨t.val % 4 * 2048 + k.val, by omega⟩ q) := by
  show V m c main_v1 (((cfg0.win 1).blk t).view.emb (ix2 k q)) = _
  rw [V_b]
  obtain ⟨e0, e1⟩ := idx1 t
  refine congrArg (A1 m c) (ix2_ext ?_ ?_)
  · show win0_1.index t (0 : Fin 2) * 2048 + 1 * k.val = t.val % 4 * 2048 + k.val; omega
  · show win0_1.index t (1 : Fin 2) * 1024 + 1 * q.val = q.val; omega

/-- The product of two blocks over their rows, at an index. -/
theorem mm (a : FVec Ideal S2048x1024 .bf16) (b : FVec Ideal S2048x1024 .bf16) (r : Fin 1024) (q : Fin 1024) :
    matmul (F := Ideal) dot_S2048x1024_S2048x1024_S1024x1024_0_0_1_1_n_n none a b (constant S1024x1024 .f32 0x00000000#32) (ix2 r q)
      = ∑ k : Fin 2048, a (ix2 k r) * b (ix2 k q) := by
  rw [matmul_sum dot_S2048x1024_S2048x1024_S1024x1024_0_0_1_1_n_n 2048 rfl rfl a b _ _ (fun k => ix2 k r) (fun k => ix2 k q)
    (fun q => ix2_ext rfl rfl) (fun q => ix2_ext rfl rfl)]
  rw [constant_apply, Ideal.ofBits_zero_f32, zero_add]

/-- What a point adds to the accumulator. -/
theorem pay2 (c : Dev nD) (t : Fin cfg0.N) (v : Vec Ideal S1024x1024 .f32) (r : Fin 1024) (q : Fin 1024) :
    k0_pay2 (F := Ideal) (iblk m c 0 t) v (iblk m c 1 t) (ix2 r q) = v (ix2 r q) + part (relu2 (A0 m c)) (A1 m c) ⟨t.val / 4 * 1024 + r.val, by have := tlt t; omega⟩ q (t.val % 4) := by
  unfold k0_pay2
  simp only [shapeCast_self]
  refine congrArg (v (ix2 r q) + ·) ((mm _ _ r q).trans ?_)
  refine part_eq (relu2 (A0 m c)) (A1 m c) (t.val % 4) (by omega) _ _ _ _ r q (fun k => ?_) (fun k => iblk1 m c t k q)
  refine (congrArg (fun z : EReal => max z (Ideal.ofBits .f32 0x00000000#32) * max z (Ideal.ofBits .f32 0x00000000#32)) (iblk0 m c t k r)).trans ?_
  simp only [Ideal.ofBits_zero_f32]
  rfl

theorem pay1 (r : Fin 1024) (q : Fin 1024) : k0_pay1 (F := Ideal) (ix2 r q) = 0 := by
  unfold k0_pay1
  rw [shapeCast_self]
  exact Ideal.ofBits_zero_f32

/-- The accumulator after a point: the tiles so far. -/
theorem sofar (c : Dev nD) (t : Fin cfg0.N) (r : Fin 1024) (q : Fin 1024) :
    (outsAt0 m c t.val t.isLt).2 (ix2 r q : S1024x1024.Idx) = ∑ s ∈ Finset.range (t.val % 4 + 1), part (relu2 (A0 m c)) (A1 m c) ⟨t.val / 4 * 1024 + r.val, by have := tlt t; omega⟩ q s := by
  obtain ⟨n, hn⟩ := t
  induction n with
  | zero =>
    rw [outsAt0_A m c ⟨0, hn⟩ (by rfl) (by show ¬ 0 % 4 = 3; omega)]
    frame_out
    refine (pay2 m c ⟨0, hn⟩ _ r q).trans ?_
    rw [pay1]
    simp
  | succ n ih =>
    by_cases h0 : (n + 1) % 4 = 0
    · rw [outsAt0_A m c ⟨n + 1, hn⟩ h0 (by show ¬ (n + 1) % 4 = 3; omega)]
      frame_out
      refine (pay2 m c ⟨n + 1, hn⟩ _ r q).trans ?_
      rw [pay1]
      simp [h0]
    · have hp := ih (Nat.lt_of_succ_lt hn)
      have e : (n + 1) % 4 = n % 4 + 1 := by omega
      have e' : (n + 1) / 4 = n / 4 := by omega
      by_cases h1 : (n + 1) % 4 = 3
      · rw [outsAt0_C m c ⟨n + 1, hn⟩ h0 h1]
        frame_out
        refine (pay2 m c ⟨n + 1, hn⟩ _ r q).trans ?_
        refine Eq.trans ?_ (Finset.sum_range_succ _ _).symm
        refine congrArg₂ (· + ·) ((congrFun (Memref.IsWhole.read_unread _ _) _).trans (hp.trans ?_)) (by rw [e])
        simp only [e, e']
      · rw [outsAt0_B m c ⟨n + 1, hn⟩ h0 h1]
        frame_out
        refine (pay2 m c ⟨n + 1, hn⟩ _ r q).trans ?_
        refine Eq.trans ?_ (Finset.sum_range_succ _ _).symm
        refine congrArg₂ (· + ·) ((congrFun (Memref.IsWhole.read_unread _ _) _).trans (hp.trans ?_)) (by rw [e])
        simp only [e, e']

/-- What the last point of a block writes is its accumulator, laid out. -/
theorem out_last (c : Dev nD) (t : Fin cfg0.N) (h1 : t.val % 4 = 3) : (outsAt0 m c t.val t.isLt).1 = k0_pay3 (F := Ideal) (outsAt0 m c t.val t.isLt).2 := by
  rw [outsAt0_C m c t (by omega) h1]
  frame_out

/-- The array that the call leaves. -/
theorem G_eq (c : Dev nD) (a : Fin 4) (r : Fin 1024) (q : Fin 1024) : G2 m c (ix3 a r q : S4x1024x1024.Idx) = whole (relu2 (A0 m c)) (A1 m c) ⟨a.val * 1024 + r.val, by omega⟩ q := by
  have hp : pt2Of (ix3 a r q : S4x1024x1024.Idx) = 4 * a.val + 3 := by
    show 4 * (1 * (a.val / 1 - 0) + 1 * (r.val / 1024 - 0) + 1 * (q.val / 1024 - 0)) + 3 = 4 * a.val + 3
    omega
  have hl : loc2Of (ix3 a r q : S4x1024x1024.Idx) = (ix3 0 r q : S1x1024x1024.Idx) := ix3_ext (by show a.val % 1 = 0; omega) (by show r.val % 1024 = r.val; omega) (by show q.val % 1024 = q.val; omega)
  have hb : 4 * a.val + 3 < cfg0.N := by show 4 * a.val + 3 < 16; omega
  have hd : (4 * a.val + 3) / 4 = a.val := by omega
  have hm : (4 * a.val + 3) % 4 = 3 := by omega
  unfold G2
  rw [dif_pos (by rw [hp]; exact hb), hl, fold0_congr m c _ _ (4 * a.val + 3) (by show 0 + (4 * a.val + 3) < 16; omega) hp, ← outsAt0_sweep m c (4 * a.val + 3) hb]
  rw [out_last m c ⟨4 * a.val + 3, hb⟩ hm]
  unfold k0_pay3
  refine (shapeCast_apply _ _ _ (ix2 r q) (by
    rw [Shape.rowMajor_val_two, Shape.rowMajor_val_three]; show r.val * 1024 + q.val = (0 * 1024 + r.val) * 1024 + q.val; omega)).trans ?_
  refine (sofar m c ⟨4 * a.val + 3, hb⟩ r q).trans ?_
  simp only [hd, hm]
  exact parts (relu2 (A0 m c)) (A1 m c) _ _

/-- The reference's gradient, at an index. -/
theorem ref_eq (x0 : Arr S8192x4096) (x1 : Arr S8192x1024) (a : Fin 4) (r : Fin 1024) (q : Fin 1024) :
    val_main_v7 (F := Ideal) x0 x1 (ix3 a r q : S4x1024x1024.Idx) = whole (relu2 x0) x1 ⟨a.val * 1024 + r.val, by omega⟩ q := by
  show val_main_v6 (F := Ideal) x0 x1 (ix3 a r q) = _
  rw [val_main_v6_apply, val_main_v5_apply, val_main_v4_apply]
  refine Finset.sum_congr rfl fun k _ => (mul_comm _ _).trans (congrArg₂ (· * ·) ?_ (congrArg x1 (ix2_ext rfl ?_)))
  · rw [val_main_v2_apply, val_main_v1_apply, val_main_call0_v0_apply, val_main_call0_cst_apply]
    have e : ridx_main_v4 (idx_main_v5 (idx_main_v6 (ix3 a r q))) k = (ix2 k ⟨a.val * 1024 + r.val, by omega⟩ : S8192x4096.Idx) :=
      ix2_ext rfl (by show ((a.val * 1024 + r.val) * 1024 + q.val) / 1024 = a.val * 1024 + r.val; omega)
    rw [e]
    show max (x0 _) (Ideal.ofBits .f32 0x00000000#32) * max (x0 _) (Ideal.ofBits .f32 0x00000000#32) = _
    rw [Ideal.ofBits_zero_f32]; rfl
  · show ((a.val * 1024 + r.val) * 1024 + q.val) % 1024 = q.val; omega

set_option maxHeartbeats 4000000 in
/-- What the call leaves is what the reference gives. -/
theorem claim : Cert.algebraic_Kernel4Ideal_Reference4Ideal := by
  intro m g m' g' _ hag
  refine ⟨fun c => G2 m c, ?_, ?_⟩
  · exact (θ_run _ _ _).mono (fun r h c => h c) (Cert.Kernel4Ideal.Value.run m g)
  · refine (θ_run _ _ _).mono (fun r h c => ?_) (Cert.Reference4Ideal.Value.run m' g')
    obtain ⟨hv, ha⟩ := h c
    obtain ⟨e0, e1⟩ := hag c
    refine ⟨(hv.trans (val_main_v7_eq _ _)).trans ?_, ha⟩
    rw [e0, e1]
    funext i
    rw [eq_ix3 i]
    exact (ref_eq (A0 m c) (A1 m c) _ _ _).trans (G_eq m c _ _ _).symm

end Cert.Grad4
-- ==== Proof.Grad5.lean ====
/-
  The gradient of the first weight of the feed-forward sub-layer: the call's value and the reference's are the same product over all tokens.
-/
module

public import proofs.«01_k».proof.Proof.Gen.Kernel5Ideal.Value
public import proofs.«01_k».proof.Proof.Gen.Reference5Ideal.Read
public import proofs.«01_k».proof.Proof.GradTools
public import proofs.«01_k».proof.Defs

@[expose] public section

noncomputable section

namespace Cert.Grad5

open Cert.Kernel5Ideal Cert.Kernel5Ideal.Gen Cert.Kernel5Ideal.Value Cert.Reference5Ideal.Read Cert.Tools Cert.GradTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev A0 (c : Dev nD) : Arr S8192x1024 := m ((c : Thread nD τ).loc main_arg0)
abbrev A1 (c : Dev nD) : Arr S8192x4096 := m ((c : Thread nD τ).loc main_arg1)

theorem V_a (c : Dev nD) : (V m c main_v0 : S8192x1024.Idx → EReal) = A0 m c := by
  unfold_abbrev_sides
  after_results
  rfl
theorem V_b (c : Dev nD) : (V m c main_v1 : S8192x4096.Idx → EReal) = A1 m c := by
  unfold_abbrev_sides
  after_results
  rfl

theorem tlt (t : Fin cfg0.N) : t.val < 16 := t.isLt
theorem idx0 : ∀ t : Fin cfg0.N, win0_0.index t (0 : Fin 2) = t.val % 4 ∧ win0_0.index t (1 : Fin 2) = 0 := (by decide +kernel : ∀ t : Fin grid0.N, _)
theorem idx1 : ∀ t : Fin cfg0.N, win0_1.index t (0 : Fin 2) = t.val % 4 ∧ win0_1.index t (1 : Fin 2) = t.val / 4 := (by decide +kernel : ∀ t : Fin grid0.N, _)

/-- The block of the first operand at a point. -/
theorem iblk0 (c : Dev nD) (t : Fin cfg0.N) (k : Fin 2048) (r : Fin 1024) :
    iblk m c 0 t (ix2 k r : S2048x1024.Idx) = A0 m c (ix2 ⟨t.val % 4 * 2048 + k.val, by omega⟩ r) := by
  show V m c main_v0 (((cfg0.win 0).blk t).view.emb (ix2 k r)) = _
  rw [V_a]
  obtain ⟨e0, e1⟩ := idx0 t
  refine congrArg (A0 m c) (ix2_ext ?_ ?_)
  · show win0_0.index t (0 : Fin 2) * 2048 + 1 * k.val = t.val % 4 * 2048 + k.val; omega
  · show win0_0.index t (1 : Fin 2) * 1024 + 1 * r.val = r.val; omega

/-- The block of the second operand at a point. -/
theorem iblk1 (c : Dev nD) (t : Fin cfg0.N) (k : Fin 2048) (q : Fin 1024) :
    iblk m c 1 t (ix2 k q : S2048x1024.Idx) = A1 m c (ix2 ⟨t.val % 4 * 2048 + k.val, by omega⟩ ⟨t.val / 4 * 1024 + q.val, by have := tlt t; omega⟩) := by
  show V m c main_v1 (((cfg0.win 1).blk t).view.emb (ix2 k q)) = _
  rw [V_b]
  obtain ⟨e0, e1⟩ := idx1 t
  refine congrArg (A1 m c) (ix2_ext ?_ ?_)
  · show win0_1.index t (0 : Fin 2) * 2048 + 1 * k.val = t.val % 4 * 2048 + k.val; omega
  · show win0_1.index t (1 : Fin 2) * 1024 + 1 * q.val = t.val / 4 * 1024 + q.val; omega

/-- The product of two blocks over their rows, at an index. -/
theorem mm (a : FVec Ideal S2048x1024 .bf16) (b : FVec Ideal S2048x1024 .bf16) (r : Fin 1024) (q : Fin 1024) :
    matmul (F := Ideal) dot_S2048x1024_S2048x1024_S1024x1024_0_0_1_1_n_n none a b (constant S1024x1024 .f32 0x00000000#32) (ix2 r q)
      = ∑ k : Fin 2048, a (ix2 k r) * b (ix2 k q) := by
  rw [matmul_sum dot_S2048x1024_S2048x1024_S1024x1024_0_0_1_1_n_n 2048 rfl rfl a b _ _ (fun k => ix2 k r) (fun k => ix2 k q)
    (fun q => ix2_ext rfl rfl) (fun q => ix2_ext rfl rfl)]
  rw [constant_apply, Ideal.ofBits_zero_f32, zero_add]

/-- What a point adds to the accumulator. -/
theorem pay2 (c : Dev nD) (t : Fin cfg0.N) (v : Vec Ideal S1024x1024 .f32) (r : Fin 1024) (q : Fin 1024) :
    k0_pay2 (F := Ideal) (iblk m c 0 t) v (iblk m c 1 t) (ix2 r q) = v (ix2 r q) + part (A0 m c) (A1 m c) r ⟨t.val / 4 * 1024 + q.val, by have := tlt t; omega⟩ (t.val % 4) := by
  unfold k0_pay2
  simp only [shapeCast_self]
  refine congrArg (v (ix2 r q) + ·) ((mm _ _ r q).trans ?_)
  refine part_eq (A0 m c) (A1 m c) (t.val % 4) (by omega) _ _ _ _ r q (fun k => ?_) (fun k => iblk1 m c t k q)
  exact iblk0 m c t k r

theorem pay1 (r : Fin 1024) (q : Fin 1024) : k0_pay1 (F := Ideal) (ix2 r q) = 0 := by
  unfold k0_pay1
  rw [shapeCast_self]
  exact Ideal.ofBits_zero_f32

/-- The accumulator after a point: the tiles so far. -/
theorem sofar (c : Dev nD) (t : Fin cfg0.N) (r : Fin 1024) (q : Fin 1024) :
    (outsAt0 m c t.val t.isLt).2 (ix2 r q : S1024x1024.Idx) = ∑ s ∈ Finset.range (t.val % 4 + 1), part (A0 m c) (A1 m c) r ⟨t.val / 4 * 1024 + q.val, by have := tlt t; omega⟩ s := by
  obtain ⟨n, hn⟩ := t
  induction n with
  | zero =>
    rw [outsAt0_A m c ⟨0, hn⟩ (by rfl) (by show ¬ 0 % 4 = 3; omega)]
    frame_out
    refine (pay2 m c ⟨0, hn⟩ _ r q).trans ?_
    rw [pay1]
    simp
  | succ n ih =>
    by_cases h0 : (n + 1) % 4 = 0
    · rw [outsAt0_A m c ⟨n + 1, hn⟩ h0 (by show ¬ (n + 1) % 4 = 3; omega)]
      frame_out
      refine (pay2 m c ⟨n + 1, hn⟩ _ r q).trans ?_
      rw [pay1]
      simp [h0]
    · have hp := ih (Nat.lt_of_succ_lt hn)
      have e : (n + 1) % 4 = n % 4 + 1 := by omega
      have e' : (n + 1) / 4 = n / 4 := by omega
      by_cases h1 : (n + 1) % 4 = 3
      · rw [outsAt0_C m c ⟨n + 1, hn⟩ h0 h1]
        frame_out
        refine (pay2 m c ⟨n + 1, hn⟩ _ r q).trans ?_
        refine Eq.trans ?_ (Finset.sum_range_succ _ _).symm
        refine congrArg₂ (· + ·) ((congrFun (Memref.IsWhole.read_unread _ _) _).trans (hp.trans ?_)) (by rw [e])
        simp only [e, e']
      · rw [outsAt0_B m c ⟨n + 1, hn⟩ h0 h1]
        frame_out
        refine (pay2 m c ⟨n + 1, hn⟩ _ r q).trans ?_
        refine Eq.trans ?_ (Finset.sum_range_succ _ _).symm
        refine congrArg₂ (· + ·) ((congrFun (Memref.IsWhole.read_unread _ _) _).trans (hp.trans ?_)) (by rw [e])
        simp only [e, e']

/-- What the last point of a block writes is its accumulator, laid out. -/
theorem out_last (c : Dev nD) (t : Fin cfg0.N) (h1 : t.val % 4 = 3) : (outsAt0 m c t.val t.isLt).1 = k0_pay3 (F := Ideal) (outsAt0 m c t.val t.isLt).2 := by
  rw [outsAt0_C m c t (by omega) h1]
  frame_out

/-- The array that the call leaves. -/
theorem G_eq (c : Dev nD) (a : Fin 4) (r : Fin 1024) (q : Fin 1024) : G2 m c (ix3 a r q : S4x1024x1024.Idx) = whole (A0 m c) (A1 m c) r ⟨a.val * 1024 + q.val, by omega⟩ := by
  have hp : pt2Of (ix3 a r q : S4x1024x1024.Idx) = 4 * a.val + 3 := by
    show 4 * (1 * (a.val / 1 - 0) + 1 * (r.val / 1024 - 0) + 1 * (q.val / 1024 - 0)) + 3 = 4 * a.val + 3
    omega
  have hl : loc2Of (ix3 a r q : S4x1024x1024.Idx) = (ix3 0 r q : S1x1024x1024.Idx) := ix3_ext (by show a.val % 1 = 0; omega) (by show r.val % 1024 = r.val; omega) (by show q.val % 1024 = q.val; omega)
  have hb : 4 * a.val + 3 < cfg0.N := by show 4 * a.val + 3 < 16; omega
  have hd : (4 * a.val + 3) / 4 = a.val := by omega
  have hm : (4 * a.val + 3) % 4 = 3 := by omega
  unfold G2
  rw [dif_pos (by rw [hp]; exact hb), hl, fold0_congr m c _ _ (4 * a.val + 3) (by show 0 + (4 * a.val + 3) < 16; omega) hp, ← outsAt0_sweep m c (4 * a.val + 3) hb]
  rw [out_last m c ⟨4 * a.val + 3, hb⟩ hm]
  unfold k0_pay3
  refine (shapeCast_apply _ _ _ (ix2 r q) (by
    rw [Shape.rowMajor_val_two, Shape.rowMajor_val_three]; show r.val * 1024 + q.val = (0 * 1024 + r.val) * 1024 + q.val; omega)).trans ?_
  refine (sofar m c ⟨4 * a.val + 3, hb⟩ r q).trans ?_
  simp only [hd, hm]
  exact parts (A0 m c) (A1 m c) _ _

/-- The reference's gradient, at an index. -/
theorem ref_eq (x0 : Arr S8192x1024) (x1 : Arr S8192x4096) (a : Fin 4) (r : Fin 1024) (q : Fin 1024) :
    val_main_v6 (F := Ideal) x0 x1 (ix3 a r q : S4x1024x1024.Idx) = whole x0 x1 r ⟨a.val * 1024 + q.val, by omega⟩ := by
  show val_main_v5 (F := Ideal) x0 x1 (ix3 a r q) = _
  rw [val_main_v5_apply, val_main_v4_apply, val_main_v3_apply, val_main_v2_apply]
  refine Finset.sum_congr rfl fun k _ => (mul_comm _ _).trans (congrArg₂ (· * ·) (congrArg x0 (ix2_ext rfl ?_)) (congrArg x1 (ix2_ext rfl ?_)))
  · show ((r.val * 4 + a.val) * 1024 + q.val) / 4096 = r.val; omega
  · show ((r.val * 4 + a.val) * 1024 + q.val) % 4096 = a.val * 1024 + q.val; omega

set_option maxHeartbeats 4000000 in
/-- What the call leaves is what the reference gives. -/
theorem claim : Cert.algebraic_Kernel5Ideal_Reference5Ideal := by
  intro m g m' g' _ hag
  refine ⟨fun c => G2 m c, ?_, ?_⟩
  · exact (θ_run _ _ _).mono (fun r h c => h c) (Cert.Kernel5Ideal.Value.run m g)
  · refine (θ_run _ _ _).mono (fun r h c => ?_) (Cert.Reference5Ideal.Value.run m' g')
    obtain ⟨hv, ha⟩ := h c
    obtain ⟨e0, e1⟩ := hag c
    refine ⟨(hv.trans (val_main_v6_eq _ _)).trans ?_, ha⟩
    rw [e0, e1]
    funext i
    rw [eq_ix3 i]
    exact (ref_eq (A0 m c) (A1 m c) _ _ _).trans (G_eq m c _ _ _).symm

end Cert.Grad5
-- ==== Proof.Grad6.lean ====
/-
  The gradient of the input projection: the call's value and the reference's are the same product over all tokens.
-/
module

public import proofs.«01_k».proof.Proof.Gen.Kernel6Ideal.Value
public import proofs.«01_k».proof.Proof.Gen.Reference6Ideal.Read
public import proofs.«01_k».proof.Proof.GradTools
public import proofs.«01_k».proof.Defs

@[expose] public section

noncomputable section

namespace Cert.Grad6

open Cert.Kernel6Ideal Cert.Kernel6Ideal.Gen Cert.Kernel6Ideal.Value Cert.Reference6Ideal.Read Cert.Tools Cert.GradTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev A0 (c : Dev nD) : Arr S8192x1024 := m ((c : Thread nD τ).loc main_arg0)
abbrev A1 (c : Dev nD) : Arr S8192x6144 := m ((c : Thread nD τ).loc main_arg1)

theorem V_a (c : Dev nD) : (V m c main_v0 : S8192x1024.Idx → EReal) = A0 m c := by
  unfold_abbrev_sides
  after_results
  rfl
theorem V_b (c : Dev nD) : (V m c main_v1 : S8192x6144.Idx → EReal) = A1 m c := by
  unfold_abbrev_sides
  after_results
  rfl

theorem tlt (t : Fin cfg0.N) : t.val < 16 := t.isLt
theorem idx0 : ∀ t : Fin cfg0.N, win0_0.index t (0 : Fin 2) = t.val % 4 ∧ win0_0.index t (1 : Fin 2) = 0 := (by decide +kernel : ∀ t : Fin grid0.N, _)
theorem idx1 : ∀ t : Fin cfg0.N, win0_1.index t (0 : Fin 2) = t.val % 4 ∧ win0_1.index t (1 : Fin 2) = t.val / 4 := (by decide +kernel : ∀ t : Fin grid0.N, _)

/-- The block of the first operand at a point. -/
theorem iblk0 (c : Dev nD) (t : Fin cfg0.N) (k : Fin 2048) (r : Fin 1024) :
    iblk m c 0 t (ix2 k r : S2048x1024.Idx) = A0 m c (ix2 ⟨t.val % 4 * 2048 + k.val, by omega⟩ r) := by
  show V m c main_v0 (((cfg0.win 0).blk t).view.emb (ix2 k r)) = _
  rw [V_a]
  obtain ⟨e0, e1⟩ := idx0 t
  refine congrArg (A0 m c) (ix2_ext ?_ ?_)
  · show win0_0.index t (0 : Fin 2) * 2048 + 1 * k.val = t.val % 4 * 2048 + k.val; omega
  · show win0_0.index t (1 : Fin 2) * 1024 + 1 * r.val = r.val; omega

/-- The block of the second operand at a point. -/
theorem iblk1 (c : Dev nD) (t : Fin cfg0.N) (k : Fin 2048) (q : Fin 1536) :
    iblk m c 1 t (ix2 k q : S2048x1536.Idx) = A1 m c (ix2 ⟨t.val % 4 * 2048 + k.val, by omega⟩ ⟨t.val / 4 * 1536 + q.val, by have := tlt t; omega⟩) := by
  show V m c main_v1 (((cfg0.win 1).blk t).view.emb (ix2 k q)) = _
  rw [V_b]
  obtain ⟨e0, e1⟩ := idx1 t
  refine congrArg (A1 m c) (ix2_ext ?_ ?_)
  · show win0_1.index t (0 : Fin 2) * 2048 + 1 * k.val = t.val % 4 * 2048 + k.val; omega
  · show win0_1.index t (1 : Fin 2) * 1536 + 1 * q.val = t.val / 4 * 1536 + q.val; omega

/-- The product of two blocks over their rows, at an index. -/
theorem mm (a : FVec Ideal S2048x1024 .bf16) (b : FVec Ideal S2048x1536 .bf16) (r : Fin 1024) (q : Fin 1536) :
    matmul (F := Ideal) dot_S2048x1024_S2048x1536_S1024x1536_0_0_1_1_n_n none a b (constant S1024x1536 .f32 0x00000000#32) (ix2 r q)
      = ∑ k : Fin 2048, a (ix2 k r) * b (ix2 k q) := by
  rw [matmul_sum dot_S2048x1024_S2048x1536_S1024x1536_0_0_1_1_n_n 2048 rfl rfl a b _ _ (fun k => ix2 k r) (fun k => ix2 k q)
    (fun q => ix2_ext rfl rfl) (fun q => ix2_ext rfl rfl)]
  rw [constant_apply, Ideal.ofBits_zero_f32, zero_add]

/-- What a point adds to the accumulator. -/
theorem pay2 (c : Dev nD) (t : Fin cfg0.N) (v : Vec Ideal S1024x1536 .f32) (r : Fin 1024) (q : Fin 1536) :
    k0_pay2 (F := Ideal) (iblk m c 0 t) v (iblk m c 1 t) (ix2 r q) = v (ix2 r q) + part (A0 m c) (A1 m c) r ⟨t.val / 4 * 1536 + q.val, by have := tlt t; omega⟩ (t.val % 4) := by
  unfold k0_pay2
  simp only [shapeCast_self]
  refine congrArg (v (ix2 r q) + ·) ((mm _ _ r q).trans ?_)
  refine part_eq (A0 m c) (A1 m c) (t.val % 4) (by omega) _ _ _ _ r q (fun k => ?_) (fun k => iblk1 m c t k q)
  exact iblk0 m c t k r

theorem pay1 (r : Fin 1024) (q : Fin 1536) : k0_pay1 (F := Ideal) (ix2 r q) = 0 := by
  unfold k0_pay1
  rw [shapeCast_self]
  exact Ideal.ofBits_zero_f32

/-- The accumulator after a point: the tiles so far. -/
theorem sofar (c : Dev nD) (t : Fin cfg0.N) (r : Fin 1024) (q : Fin 1536) :
    (outsAt0 m c t.val t.isLt).2 (ix2 r q : S1024x1536.Idx) = ∑ s ∈ Finset.range (t.val % 4 + 1), part (A0 m c) (A1 m c) r ⟨t.val / 4 * 1536 + q.val, by have := tlt t; omega⟩ s := by
  obtain ⟨n, hn⟩ := t
  induction n with
  | zero =>
    rw [outsAt0_A m c ⟨0, hn⟩ (by rfl) (by show ¬ 0 % 4 = 3; omega)]
    frame_out
    refine (pay2 m c ⟨0, hn⟩ _ r q).trans ?_
    rw [pay1]
    simp
  | succ n ih =>
    by_cases h0 : (n + 1) % 4 = 0
    · rw [outsAt0_A m c ⟨n + 1, hn⟩ h0 (by show ¬ (n + 1) % 4 = 3; omega)]
      frame_out
      refine (pay2 m c ⟨n + 1, hn⟩ _ r q).trans ?_
      rw [pay1]
      simp [h0]
    · have hp := ih (Nat.lt_of_succ_lt hn)
      have e : (n + 1) % 4 = n % 4 + 1 := by omega
      have e' : (n + 1) / 4 = n / 4 := by omega
      by_cases h1 : (n + 1) % 4 = 3
      · rw [outsAt0_C m c ⟨n + 1, hn⟩ h0 h1]
        frame_out
        refine (pay2 m c ⟨n + 1, hn⟩ _ r q).trans ?_
        refine Eq.trans ?_ (Finset.sum_range_succ _ _).symm
        refine congrArg₂ (· + ·) ((congrFun (Memref.IsWhole.read_unread _ _) _).trans (hp.trans ?_)) (by rw [e])
        simp only [e, e']
      · rw [outsAt0_B m c ⟨n + 1, hn⟩ h0 h1]
        frame_out
        refine (pay2 m c ⟨n + 1, hn⟩ _ r q).trans ?_
        refine Eq.trans ?_ (Finset.sum_range_succ _ _).symm
        refine congrArg₂ (· + ·) ((congrFun (Memref.IsWhole.read_unread _ _) _).trans (hp.trans ?_)) (by rw [e])
        simp only [e, e']

/-- What the last point of a block writes is its accumulator, laid out. -/
theorem out_last (c : Dev nD) (t : Fin cfg0.N) (h1 : t.val % 4 = 3) : (outsAt0 m c t.val t.isLt).1 = k0_pay3 (F := Ideal) (outsAt0 m c t.val t.isLt).2 := by
  rw [outsAt0_C m c t (by omega) h1]
  frame_out

/-- The array that the call leaves. -/
theorem G_eq (c : Dev nD) (a : Fin 4) (r : Fin 1024) (q : Fin 1536) : G2 m c (ix3 a r q : S4x1024x1536.Idx) = whole (A0 m c) (A1 m c) r ⟨a.val * 1536 + q.val, by omega⟩ := by
  have hp : pt2Of (ix3 a r q : S4x1024x1536.Idx) = 4 * a.val + 3 := by
    show 4 * (1 * (a.val / 1 - 0) + 1 * (r.val / 1024 - 0) + 1 * (q.val / 1536 - 0)) + 3 = 4 * a.val + 3
    omega
  have hl : loc2Of (ix3 a r q : S4x1024x1536.Idx) = (ix3 0 r q : S1x1024x1536.Idx) := ix3_ext (by show a.val % 1 = 0; omega) (by show r.val % 1024 = r.val; omega) (by show q.val % 1536 = q.val; omega)
  have hb : 4 * a.val + 3 < cfg0.N := by show 4 * a.val + 3 < 16; omega
  have hd : (4 * a.val + 3) / 4 = a.val := by omega
  have hm : (4 * a.val + 3) % 4 = 3 := by omega
  unfold G2
  rw [dif_pos (by rw [hp]; exact hb), hl, fold0_congr m c _ _ (4 * a.val + 3) (by show 0 + (4 * a.val + 3) < 16; omega) hp, ← outsAt0_sweep m c (4 * a.val + 3) hb]
  rw [out_last m c ⟨4 * a.val + 3, hb⟩ hm]
  unfold k0_pay3
  refine (shapeCast_apply _ _ _ (ix2 r q) (by
    rw [Shape.rowMajor_val_two, Shape.rowMajor_val_three]; show r.val * 1536 + q.val = (0 * 1024 + r.val) * 1536 + q.val; omega)).trans ?_
  refine (sofar m c ⟨4 * a.val + 3, hb⟩ r q).trans ?_
  simp only [hd, hm]
  exact parts (A0 m c) (A1 m c) _ _

/-- The reference's gradient, at an index. -/
theorem ref_eq (x0 : Arr S8192x1024) (x1 : Arr S8192x6144) (a : Fin 4) (r : Fin 1024) (q : Fin 1536) :
    val_main_v6 (F := Ideal) x0 x1 (ix3 a r q : S4x1024x1536.Idx) = whole x0 x1 r ⟨a.val * 1536 + q.val, by omega⟩ := by
  show val_main_v5 (F := Ideal) x0 x1 (ix3 a r q) = _
  rw [val_main_v5_apply, val_main_v4_apply, val_main_v3_apply, val_main_v2_apply]
  refine Finset.sum_congr rfl fun k _ => (mul_comm _ _).trans (congrArg₂ (· * ·) (congrArg x0 (ix2_ext rfl ?_)) (congrArg x1 (ix2_ext rfl ?_)))
  · show ((r.val * 4 + a.val) * 1536 + q.val) / 6144 = r.val; omega
  · show ((r.val * 4 + a.val) * 1536 + q.val) % 6144 = a.val * 1536 + q.val; omega

set_option maxHeartbeats 4000000 in
/-- What the call leaves is what the reference gives. -/
theorem claim : Cert.algebraic_Kernel6Ideal_Reference6Ideal := by
  intro m g m' g' _ hag
  refine ⟨fun c => G2 m c, ?_, ?_⟩
  · exact (θ_run _ _ _).mono (fun r h c => h c) (Cert.Kernel6Ideal.Value.run m g)
  · refine (θ_run _ _ _).mono (fun r h c => ?_) (Cert.Reference6Ideal.Value.run m' g')
    obtain ⟨hv, ha⟩ := h c
    obtain ⟨e0, e1⟩ := hag c
    refine ⟨(hv.trans (val_main_v6_eq _ _)).trans ?_, ha⟩
    rw [e0, e1]
    funext i
    rw [eq_ix3 i]
    exact (ref_eq (A0 m c) (A1 m c) _ _ _).trans (G_eq m c _ _ _).symm

end Cert.Grad6
-- ==== Proof.Grad7.lean ====
/-
  The gradient of an output projection: the call's value and the reference's are the same product over all tokens.
-/
module

public import proofs.«01_k».proof.Proof.Gen.Kernel7Ideal.Value
public import proofs.«01_k».proof.Proof.Gen.Reference7Ideal.Read
public import proofs.«01_k».proof.Proof.GradTools
public import proofs.«01_k».proof.Defs

@[expose] public section

noncomputable section

namespace Cert.Grad7

open Cert.Kernel7Ideal Cert.Kernel7Ideal.Gen Cert.Kernel7Ideal.Value Cert.Reference7Ideal.Read Cert.Tools Cert.GradTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev A0 (c : Dev nD) : Arr S8192x1024 := m ((c : Thread nD τ).loc main_arg0)
abbrev A1 (c : Dev nD) : Arr S8192x1024 := m ((c : Thread nD τ).loc main_arg1)

theorem V_a (c : Dev nD) : (V m c main_v0 : S8192x1024.Idx → EReal) = A0 m c := by
  unfold_abbrev_sides
  after_results
  rfl
theorem V_b (c : Dev nD) : (V m c main_v1 : S8192x1024.Idx → EReal) = A1 m c := by
  unfold_abbrev_sides
  after_results
  rfl

theorem tlt (t : Fin cfg0.N) : t.val < 4 := t.isLt
theorem idx0 : ∀ t : Fin cfg0.N, win0_0.index t (0 : Fin 2) = t.val % 4 ∧ win0_0.index t (1 : Fin 2) = 0 := (by decide +kernel : ∀ t : Fin grid0.N, _)
theorem idx1 : ∀ t : Fin cfg0.N, win0_1.index t (0 : Fin 2) = t.val % 4 ∧ win0_1.index t (1 : Fin 2) = 0 := (by decide +kernel : ∀ t : Fin grid0.N, _)

/-- The block of the first operand at a point. -/
theorem iblk0 (c : Dev nD) (t : Fin cfg0.N) (k : Fin 2048) (r : Fin 1024) :
    iblk m c 0 t (ix2 k r : S2048x1024.Idx) = A0 m c (ix2 ⟨t.val % 4 * 2048 + k.val, by omega⟩ r) := by
  show V m c main_v0 (((cfg0.win 0).blk t).view.emb (ix2 k r)) = _
  rw [V_a]
  obtain ⟨e0, e1⟩ := idx0 t
  refine congrArg (A0 m c) (ix2_ext ?_ ?_)
  · show win0_0.index t (0 : Fin 2) * 2048 + 1 * k.val = t.val % 4 * 2048 + k.val; omega
  · show win0_0.index t (1 : Fin 2) * 1024 + 1 * r.val = r.val; omega

/-- The block of the second operand at a point. -/
theorem iblk1 (c : Dev nD) (t : Fin cfg0.N) (k : Fin 2048) (q : Fin 1024) :
    iblk m c 1 t (ix2 k q : S2048x1024.Idx) = A1 m c (ix2 ⟨t.val % 4 * 2048 + k.val, by omega⟩ q) := by
  show V m c main_v1 (((cfg0.win 1).blk t).view.emb (ix2 k q)) = _
  rw [V_b]
  obtain ⟨e0, e1⟩ := idx1 t
  refine congrArg (A1 m c) (ix2_ext ?_ ?_)
  · show win0_1.index t (0 : Fin 2) * 2048 + 1 * k.val = t.val % 4 * 2048 + k.val; omega
  · show win0_1.index t (1 : Fin 2) * 1024 + 1 * q.val = q.val; omega

/-- The product of two blocks over their rows, at an index. -/
theorem mm (a : FVec Ideal S2048x1024 .bf16) (b : FVec Ideal S2048x1024 .bf16) (r : Fin 1024) (q : Fin 1024) :
    matmul (F := Ideal) dot_S2048x1024_S2048x1024_S1024x1024_0_0_1_1_n_n none a b (constant S1024x1024 .f32 0x00000000#32) (ix2 r q)
      = ∑ k : Fin 2048, a (ix2 k r) * b (ix2 k q) := by
  rw [matmul_sum dot_S2048x1024_S2048x1024_S1024x1024_0_0_1_1_n_n 2048 rfl rfl a b _ _ (fun k => ix2 k r) (fun k => ix2 k q)
    (fun q => ix2_ext rfl rfl) (fun q => ix2_ext rfl rfl)]
  rw [constant_apply, Ideal.ofBits_zero_f32, zero_add]

/-- What a point adds to the accumulator. -/
theorem pay2 (c : Dev nD) (t : Fin cfg0.N) (v : Vec Ideal S1024x1024 .f32) (r : Fin 1024) (q : Fin 1024) :
    k0_pay2 (F := Ideal) (iblk m c 0 t) v (iblk m c 1 t) (ix2 r q) = v (ix2 r q) + part (A0 m c) (A1 m c) r q (t.val % 4) := by
  unfold k0_pay2
  simp only [shapeCast_self]
  refine congrArg (v (ix2 r q) + ·) ((mm _ _ r q).trans ?_)
  refine part_eq (A0 m c) (A1 m c) (t.val % 4) (by omega) _ _ _ _ r q (fun k => ?_) (fun k => iblk1 m c t k q)
  exact iblk0 m c t k r

theorem pay1 (r : Fin 1024) (q : Fin 1024) : k0_pay1 (F := Ideal) (ix2 r q) = 0 := by
  unfold k0_pay1
  rw [shapeCast_self]
  exact Ideal.ofBits_zero_f32

/-- The accumulator after a point: the tiles so far. -/
theorem sofar (c : Dev nD) (t : Fin cfg0.N) (r : Fin 1024) (q : Fin 1024) :
    (outsAt0 m c t.val t.isLt).2 (ix2 r q : S1024x1024.Idx) = ∑ s ∈ Finset.range (t.val % 4 + 1), part (A0 m c) (A1 m c) r q s := by
  obtain ⟨n, hn⟩ := t
  induction n with
  | zero =>
    rw [outsAt0_A m c ⟨0, hn⟩ (by rfl) (by show ¬ 0 % 4 = 3; omega)]
    frame_out
    refine (pay2 m c ⟨0, hn⟩ _ r q).trans ?_
    rw [pay1]
    simp
  | succ n ih =>
    by_cases h0 : (n + 1) % 4 = 0
    · rw [outsAt0_A m c ⟨n + 1, hn⟩ h0 (by show ¬ (n + 1) % 4 = 3; omega)]
      frame_out
      refine (pay2 m c ⟨n + 1, hn⟩ _ r q).trans ?_
      rw [pay1]
      simp [h0]
    · have hp := ih (Nat.lt_of_succ_lt hn)
      have e : (n + 1) % 4 = n % 4 + 1 := by omega
      have e' : (n + 1) / 4 = n / 4 := by omega
      by_cases h1 : (n + 1) % 4 = 3
      · rw [outsAt0_C m c ⟨n + 1, hn⟩ h0 h1]
        frame_out
        refine (pay2 m c ⟨n + 1, hn⟩ _ r q).trans ?_
        refine Eq.trans ?_ (Finset.sum_range_succ _ _).symm
        refine congrArg₂ (· + ·) ((congrFun (Memref.IsWhole.read_unread _ _) _).trans (hp.trans ?_)) (by rw [e])
        simp only [e, e']
      · rw [outsAt0_B m c ⟨n + 1, hn⟩ h0 h1]
        frame_out
        refine (pay2 m c ⟨n + 1, hn⟩ _ r q).trans ?_
        refine Eq.trans ?_ (Finset.sum_range_succ _ _).symm
        refine congrArg₂ (· + ·) ((congrFun (Memref.IsWhole.read_unread _ _) _).trans (hp.trans ?_)) (by rw [e])
        simp only [e, e']

/-- What the last point of a block writes is its accumulator, laid out. -/
theorem out_last (c : Dev nD) (t : Fin cfg0.N) (h1 : t.val % 4 = 3) : (outsAt0 m c t.val t.isLt).1 = k0_pay3 (F := Ideal) (outsAt0 m c t.val t.isLt).2 := by
  rw [outsAt0_C m c t (by omega) h1]
  frame_out

/-- The array that the call leaves. -/
theorem G_eq (c : Dev nD) (a : Fin 4) (r : Fin 256) (q : Fin 1024) : G2 m c (ix3 a r q : S4x256x1024.Idx) = whole (A0 m c) (A1 m c) ⟨a.val * 256 + r.val, by omega⟩ q := by
  have hp : pt2Of (ix3 a r q : S4x256x1024.Idx) = 3 := by
    show 4 * (1 * (a.val / 4 - 0) + 1 * (r.val / 256 - 0) + 1 * (q.val / 1024 - 0)) + 3 = 3
    omega
  have hl : loc2Of (ix3 a r q : S4x256x1024.Idx) = ix3 a r q := ix3_ext (by show a.val % 4 = a.val; omega) (by show r.val % 256 = r.val; omega) (by show q.val % 1024 = q.val; omega)
  obtain ⟨n, hn⟩ : ∃ n, n = 3 := ⟨3, rfl⟩
  have hb : n < cfg0.N := by show n < 4; omega
  have hm : n % 4 = 3 := by omega
  unfold G2
  rw [dif_pos (by rw [hp, ← hn]; exact hb), hl, fold0_congr m c _ _ n (by show 0 + n < 4; omega) (hp.trans hn.symm), ← outsAt0_sweep m c n hb]
  rw [out_last m c ⟨n, hb⟩ hm]
  unfold k0_pay3
  refine (shapeCast_apply _ _ _ (ix2 (⟨a.val * 256 + r.val, by omega⟩ : Fin 1024) q) (by
    rw [Shape.rowMajor_val_two, Shape.rowMajor_val_three]; rfl)).trans ?_
  refine (sofar m c ⟨n, hb⟩ _ q).trans ?_
  simp only [hm]
  exact parts (A0 m c) (A1 m c) ⟨a.val * 256 + r.val, by omega⟩ q

/-- The reference's gradient, at an index. -/
theorem ref_eq (x0 : Arr S8192x1024) (x1 : Arr S8192x1024) (a : Fin 4) (r : Fin 256) (q : Fin 1024) :
    val_main_v5 (F := Ideal) x0 x1 (ix3 a r q : S4x256x1024.Idx) = whole x0 x1 ⟨a.val * 256 + r.val, by omega⟩ q := by
  show val_main_v4 (F := Ideal) x0 x1 (ix3 a r q) = _
  rw [val_main_v4_apply, val_main_v3_apply, val_main_v2_apply]
  refine Finset.sum_congr rfl fun k _ => (mul_comm _ _).trans (congrArg₂ (· * ·) (congrArg x0 (ix2_ext rfl ?_)) (congrArg x1 (ix2_ext rfl ?_)))
  · show ((a.val * 256 + r.val) * 1024 + q.val) / 1024 = a.val * 256 + r.val; omega
  · show ((a.val * 256 + r.val) * 1024 + q.val) % 1024 = q.val; omega

set_option maxHeartbeats 4000000 in
/-- What the call leaves is what the reference gives. -/
theorem claim : Cert.algebraic_Kernel7Ideal_Reference7Ideal := by
  intro m g m' g' _ hag
  refine ⟨fun c => G2 m c, ?_, ?_⟩
  · exact (θ_run _ _ _).mono (fun r h c => h c) (Cert.Kernel7Ideal.Value.run m g)
  · refine (θ_run _ _ _).mono (fun r h c => ?_) (Cert.Reference7Ideal.Value.run m' g')
    obtain ⟨hv, ha⟩ := h c
    obtain ⟨e0, e1⟩ := hag c
    refine ⟨(hv.trans (val_main_v5_eq _ _)).trans ?_, ha⟩
    rw [e0, e1]
    funext i
    rw [eq_ix3 i]
    exact (ref_eq (A0 m c) (A1 m c) _ _ _).trans (G_eq m c _ _ _).symm

end Cert.Grad7
-- ==== Proof.FwdTools.lean ====
/-
  What the three forward calls share: the modulated norm and a plain product as whole-array formulas and on one block of 512
  tokens, four column stores that fill a block, and what the host's packing of the weights and of the modulation reads.
-/
module

public import proofs.«01_k».proof.Proof.NormPay
public import Idealize.ShloMosaic.Lib.KernelVsHost
public import Idealize.ShloMosaic.Lib.Pipeline.ValueKit.Tiles

@[expose] public section

noncomputable section

namespace Cert.FwdTools

open Cert.Tools Cert.Reals Cert.NormSpec Cert.NormPay
open Idealize.ShloMosaic Idealize.ShloMosaic.ValueIdx Idealize.ShloMosaic.StableHlo

/-- A layer's modulation row of a sequence, from column `o`. -/
def modL (mod : M3 4 2 6144) (l : Fin 4) (o : ℕ) (ho : o + 1024 ≤ 6144) (b : Fin 2) (k : Fin 1024) : EReal := mod (ix3 l b ⟨o + k.val, by omega⟩)

/-- A layer's gain. -/
def gnL (gam : M2 4 1024) (l : Fin 4) (k : Fin 1024) : EReal := gam (ix2 l k)

/-- The modulated norm of the rows. -/
def fwd (X : M2 8192 1024) (sc sh : Fin 2 → Fin 1024 → EReal) (g : Fin 1024 → EReal) : M2 8192 1024 := fun i =>
  nrm X i * (g (i 1) * (1 + sc (seqOf (i 0)) (i 1))) + sh (seqOf (i 0)) (i 1)

/-- A plain product. -/
def mm {K w : ℕ} (L : M2 8192 K) (W : M2 K w) : M2 8192 w := fun i => ∑ k : Fin K, L (ix2 (i 0) k) * W (ix2 k (i 1))

/-- The squared positive part. -/
def sqr {w : ℕ} (F : M2 8192 w) : M2 8192 w := fun i => max (F i) (Ideal.ofBits .f32 0x00000000#32) * max (F i) (Ideal.ofBits .f32 0x00000000#32)

/-- The gated residual: the rows plus the gate times what the sub-layer gives. -/
def resid (X O : M2 8192 1024) (gt : Fin 2 → Fin 1024 → EReal) : M2 8192 1024 := fun i => X i + gt (seqOf (i 0)) (i 1) * O i

/-- The modulated norm of a block. -/
def fwdB (X : FVec Ideal SB .f32) (g : Vec Ideal S3 .f32) (s b : Vec Ideal S4 .f32) : FVec Ideal SB .f32 :=
  addf (F := Ideal) (φ := .f32) (gsB (nrmB X) (shapeCast SR s cast4) g) (broadcastTo SB (shapeCast SR b cast4 : FVec Ideal SR .f32) bcRow)

section

variable (X O : M2 8192 1024) (t : ℕ) (h : t * 512 + 512 ≤ 8192)

theorem seq_blk (r : Fin 512) : (⟨t * 512 / 4096, by omega⟩ : Fin 2) = seqOf ⟨t * 512 + r.val, by omega⟩ :=
  Fin.ext (by show t * 512 / 4096 = (t * 512 + r.val) / 4096; omega)

theorem fwdB_eq (sc sh : Fin 2 → Fin 1024 → EReal) (gg : Fin 1024 → EReal) (g : Vec Ideal S3 .f32) (s b : Vec Ideal S4 .f32)
    (hs : ∀ k : Fin 1024, s (ix4 0 0 0 k) = sc ⟨t * 512 / 4096, by omega⟩ k)
    (hb : ∀ k : Fin 1024, b (ix4 0 0 0 k) = sh ⟨t * 512 / 4096, by omega⟩ k)
    (hg : ∀ k : Fin 1024, g (ix3 0 0 k) = gg k) :
    fwdB (blk t h X) g s b = blk t h (fwd X sc sh gg) := by
  refine ext2 fun r c => ?_
  show nrmB (blk t h X) (ix2 r c) * broadcastTo SB _ bcRow (ix2 r c) + broadcastTo SB _ bcRow (ix2 r c) = _
  rw [bcast_row, bcast_row, nrmB_eq, row4, hb, seq_blk t h r]
  show _ * (shapeCast SR g cast3 (ix2 0 c) * (Ideal.ofBits .f32 0x3F800000#32 + shapeCast SR s cast4 (ix2 0 c))) + _ = _
  rw [row3, hg, row4, hs, seq_blk t h r, Ideal.ofBits_one_f32]
  rfl

/-- The gated residual of a block. -/
def residB (X O : FVec Ideal SB .f32) (s : Vec Ideal S4 .f32) : FVec Ideal SB .f32 :=
  addf (F := Ideal) (φ := .f32) X (mulf (F := Ideal) (φ := .f32) (broadcastTo SB (shapeCast SR s cast4 : FVec Ideal SR .f32) bcRow) O)

theorem residB_eq (gt : Fin 2 → Fin 1024 → EReal) (s : Vec Ideal S4 .f32)
    (hs : ∀ k : Fin 1024, s (ix4 0 0 0 k) = gt ⟨t * 512 / 4096, by omega⟩ k) :
    residB (blk t h X) (blk t h O) s = blk t h (resid X O gt) := by
  refine ext2 fun r c => ?_
  show blk t h X (ix2 r c) + broadcastTo SB _ bcRow (ix2 r c) * blk t h O (ix2 r c) = _
  rw [bcast_row, row4, hs, seq_blk t h r]
  rfl

end

/-- A store of columns from `o` on holds what `Y` has there. -/
def Fits {w W : ℕ} {α : Type} (o : ℕ) (p : (⟨2, ![512, w]⟩ : Shape).Idx → α) (Y : (⟨2, ![512, W]⟩ : Shape).Idx → α) : Prop :=
  ∀ (x : (⟨2, ![512, w]⟩ : Shape).Idx) (y : (⟨2, ![512, W]⟩ : Shape).Idx), (y 0).val = (x 0).val → (y 1).val = o + (x 1).val → p x = Y y

/-- Four column stores fill a block. -/
theorem four {w W : ℕ} {e : EltTy} (Y : (⟨2, ![512, W]⟩ : Shape).Idx → Elt Ideal e) (o0 o1 o2 o3 : ℕ)
    (i0 : ∀ a, (![0, o0] : Fin 2 → Nat) a + (![512, w] : Fin 2 → Nat) a ≤ (![512, W] : Fin 2 → Nat) a)
    (i1 : ∀ a, (![0, o1] : Fin 2 → Nat) a + (![512, w] : Fin 2 → Nat) a ≤ (![512, W] : Fin 2 → Nat) a)
    (i2 : ∀ a, (![0, o2] : Fin 2 → Nat) a + (![512, w] : Fin 2 → Nat) a ≤ (![512, W] : Fin 2 → Nat) a)
    (i3 : ∀ a, (![0, o3] : Fin 2 → Nat) a + (![512, w] : Fin 2 → Nat) a ≤ (![512, W] : Fin 2 → Nat) a)
    (p0 p1 p2 p3 : (⟨2, ![512, w]⟩ : Shape).Idx → Elt Ideal e) (f0 : Fits o0 p0 Y) (f1 : Fits o1 p1 Y) (f2 : Fits o2 p2 Y) (f3 : Fits o3 p3 Y)
    (hc : ∀ y, ∃ p ∈ ([⟨Rect.unit ![0, o3] ![512, w] i3, p3⟩, ⟨Rect.unit ![0, o2] ![512, w] i2, p2⟩, ⟨Rect.unit ![0, o1] ![512, w] i1, p1⟩,
      ⟨Rect.unit ![0, o0] ![512, w] i0, p0⟩] : List (View.Piece (Elt Ideal) ⟨2, ![512, W]⟩ e)), y ∈ p.1.set) :
    View.canon ([⟨Rect.unit ![0, o3] ![512, w] i3, p3⟩, ⟨Rect.unit ![0, o2] ![512, w] i2, p2⟩, ⟨Rect.unit ![0, o1] ![512, w] i1, p1⟩,
      ⟨Rect.unit ![0, o0] ![512, w] i0, p0⟩] : List (View.Piece (Elt Ideal) ⟨2, ![512, W]⟩ e)) = Y := by
  have at' : ∀ (o : ℕ) (p : (⟨2, ![512, w]⟩ : Shape).Idx → Elt Ideal e) (_ : Fits o p Y) (y : (⟨2, ![512, W]⟩ : Shape).Idx),
      View.TileAt (S := ⟨2, ![512, W]⟩) y ![0, o] ![512, w] p (Y y) := fun o p f y x hx => f x y ((hx 0).trans (Nat.zero_add _)) (hx 1)
  funext y
  exact View.canon_eq_of_allAt _ y _ (hc y) (View.allAt_cons_unit _ _ _ _ _ (at' _ _ f3 y) (View.allAt_cons_unit _ _ _ _ _ (at' _ _ f2 y)
    (View.allAt_cons_unit _ _ _ _ _ (at' _ _ f1 y) (View.allAt_cons_unit _ _ _ _ _ (at' _ _ f0 y) (View.allAt_nil _ _)))))

/-- Row `r` of the padded modulation of layer `l`, sequence `b`. -/
theorem mod_rows (A : M3 4 2 6144) (z : EReal) (hc : (⟨3, ![4, 2, 6144]⟩ : Shape).ShapeCasts ⟨4, ![4, 2, 6, 1024]⟩)
    (v : (⟨0, ![]⟩ : Shape).Idx → EReal) (hp : (⟨4, ![4, 2, 6, 1024]⟩ : Shape).Pads ![0, 0, 0, 0] ![0, 0, 2, 0] ![0, 0, 0, 0] ⟨4, ![4, 2, 8, 1024]⟩) (h0 : _)
    (l : Fin 4) (b : Fin 2) (r : Fin 8) (q : Fin 1024) (hr : r.val < 6) :
    pad (⟨4, ![4, 2, 8, 1024]⟩ : Shape) ![0, 0, 0, 0] ![0, 0, 2, 0] ![0, 0, 0, 0] (shapeCast (⟨4, ![4, 2, 6, 1024]⟩ : Shape) A hc) v hp h0 (ix4 l b r q)
      = A (ix3 l b ⟨r.val * 1024 + q.val, by omega⟩) := by
  refine (pad_apply_of_inside _ _ _ _ _ _ _ (ix4 l b r q) (ix4 l b (⟨r.val, hr⟩ : Fin 6) q) ?_).trans ?_
  · intro a
    match a with
    | ⟨0, _⟩ => show l.val = 0 + l.val * (0 + 1); omega
    | ⟨1, _⟩ => show b.val = 0 + b.val * (0 + 1); omega
    | ⟨2, _⟩ => show r.val = 0 + r.val * (0 + 1); omega
    | ⟨3, _⟩ => show q.val = 0 + q.val * (0 + 1); omega
  · refine shapeCast_apply _ _ _ (ix3 l b ⟨r.val * 1024 + q.val, by omega⟩) ?_
    rw [Shape.rowMajor_val_four, Shape.rowMajor_val_three]
    show (l.val * 2 + b.val) * 6144 + (r.val * 1024 + q.val) = ((l.val * 2 + b.val) * 6 + r.val) * 1024 + q.val
    omega

/-- Quarter `a` of a weight's columns. -/
theorem col_quarter {w W : ℕ} (hW : W = 4 * w) (A : M2 1024 W) (hc : (⟨2, ![1024, W]⟩ : Shape).ShapeCasts ⟨3, ![1024, 4, w]⟩)
    (ht : (⟨3, ![1024, 4, w]⟩ : Shape).Transposes [1, 0, 2] ⟨3, ![4, 1024, w]⟩) (a : Fin 4) (r : Fin 1024) (q : Fin w) (y : Fin W) (hy : y.val = a.val * w + q.val) :
    transpose (⟨3, ![4, 1024, w]⟩ : Shape) [1, 0, 2] (shapeCast (⟨3, ![1024, 4, w]⟩ : Shape) A hc) ht (ix3 a r q) = A (ix2 r y) := by
  subst hW
  refine (congrArg (shapeCast (⟨3, ![1024, 4, w]⟩ : Shape) A hc) (?_ : _ = ix3 r a q)).trans ?_
  · exact ix3_ext rfl rfl rfl
  · refine shapeCast_apply _ _ _ (ix2 r y) ?_
    rw [Shape.rowMajor_val_two, Shape.rowMajor_val_three]
    show r.val * (4 * w) + y.val = (r.val * 4 + a.val) * w + q.val
    rw [hy]
    ring

/-- Every entry lies in its block of 512 rows. -/
theorem row_split {w : ℕ} (i : (⟨2, ![8192, w]⟩ : Shape).Idx) (hi : (i 0).val < 8192) :
    (ix2 (⟨(i 0).val / 512 * 512 + (i 0).val % 512, by omega⟩ : Fin 8192) (i 1) : (⟨2, ![8192, w]⟩ : Shape).Idx) = i :=
  ix2_ext (by show (i 0).val / 512 * 512 + (i 0).val % 512 = (i 0).val; omega) rfl

/-- The token at a place of a sequence. -/
abbrev tokAt (b : Fin 2) (k : Fin 4096) : Fin 8192 := ⟨b.val * 4096 + k.val, by omega⟩

theorem tokAt_seqOf (n : Fin 8192) : tokAt (seqOf n) ⟨n.val % 4096, Nat.mod_lt _ (by decide)⟩ = n :=
  Fin.ext (by show n.val / 4096 * 4096 + n.val % 4096 = n.val; omega)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `k` of a block of modulation rows. -/
theorem ld_row (x : Vec Ideal ⟨4, ![1, 1, 8, 1024]⟩ .f32) (k : ℕ) (hk : k < 8)
    (inb : ∀ a, (![0, 0, k, 0] : Fin 4 → Nat) a + (![1, 1, 1, 1024] : Fin 4 → Nat) a ≤ (⟨4, ![1, 1, 8, 1024]⟩ : Shape).size a) (q : Fin 1024) :
    View.ld x (Rect.unit ![0, 0, k, 0] ![1, 1, 1, 1024] inb) (ix4 0 0 0 q) = x (ix4 0 0 ⟨k, hk⟩ q) := by
  refine (congrFun (View.ld_unit (S := ⟨4, ![1, 1, 8, 1024]⟩) _ _ _ inb) _).trans (congrArg x (ix4_ext rfl rfl ?_ ?_))
  · show k + 0 = k; omega
  · show 0 + q.val = q.val; omega

/-- One quarter of a block of four. -/
theorem ld_quarter {n w : ℕ} (x : Vec Ideal ⟨3, ![4, n, w]⟩ .bf16) (a : ℕ) (ha : a < 4)
    (inb : ∀ i, (![a, 0, 0] : Fin 3 → Nat) i + (![1, n, w] : Fin 3 → Nat) i ≤ (⟨3, ![4, n, w]⟩ : Shape).size i) (r : Fin n) (q : Fin w) :
    View.ld x (Rect.unit ![a, 0, 0] ![1, n, w] inb) (ix3 0 r q) = x (ix3 ⟨a, ha⟩ r q) := by
  refine (congrFun (View.ld_unit (S := ⟨3, ![4, n, w]⟩) _ _ _ inb) _).trans (congrArg x (ix3_ext ?_ ?_ ?_))
  · show a + 0 = a; omega
  · show 0 + r.val = r.val; omega
  · show 0 + q.val = q.val; omega

end Cert.FwdTools
-- ==== Proof.FwdInRun.lean ====
/-
  The entry of a layer's mixer, run: what the host hands the region, where each window's block lies, what each point writes,
  and the two arrays this leaves.
-/
module

public import proofs.«01_k».proof.Proof.Gen.Kernel8Ideal.Value
public import proofs.«01_k».proof.Proof.FwdTools

@[expose] public section

noncomputable section

namespace Cert.FwdInRun

open Cert.Kernel8Ideal Cert.Kernel8Ideal.Gen Cert.Kernel8Ideal.Value Cert.Tools Cert.NormSpec Cert.NormPay Cert.FwdTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev A0 (c : Dev nD) : Arr S8192x1024 := m ((c : Thread nD τ).loc main_arg0)
abbrev A1 (c : Dev nD) : Arr S4x2x6144 := m ((c : Thread nD τ).loc main_arg1)
abbrev A2 (c : Dev nD) : Arr S4x1024 := m ((c : Thread nD τ).loc main_arg2)
abbrev A3 (c : Dev nD) : Arr S1024x6144 := m ((c : Thread nD τ).loc main_arg3)

theorem V_mod (c : Dev nD) (l : Fin 4) (b : Fin 2) (r : Fin 8) (q : Fin 1024) (hr : r.val < 6) :
    (V m c main_v1 : S4x2x8x1024.Idx → EReal) (ix4 l b r q) = A1 m c (ix3 l b ⟨r.val * 1024 + q.val, by omega⟩) := by
  have e : (V m c main_v1 : S4x2x8x1024.Idx → EReal) = pad S4x2x8x1024 ![0, 0, 0, 0] ![0, 0, 2, 0] ![0, 0, 0, 0]
        (shapeCast S4x2x6x1024 (A1 m c) shapeCasts_S4x2x6144_S4x2x6x1024) (sitofp (F := Ideal) FTy.f32 (constantI S_ 32 0#32))
        pads_S4x2x6x1024_S4x2x8x1024_000_000_020_000 h_S_ := by
    unfold_abbrev_sides
    simp only [List.flatten_cons, List.flatten_nil, List.cons_append, List.nil_append, List.append_nil]
    after_results
    rfl
  rw [e]
  exact mod_rows (A1 m c) 0 _ _ _ _ l b r q hr

theorem V_g (c : Dev nD) (l : Fin 4) (q : Fin 1024) : (V m c main_v2 : S4x1x1024.Idx → EReal) (ix3 l 0 q) = A2 m c (ix2 l q) := by
  have e : (V m c main_v2 : S4x1x1024.Idx → EReal) = broadcastInDim S4x1x1024 ![0, 2] bcast_S4x1024_S4x1x1024_0_2 (A2 m c) := by
    unfold_abbrev_sides
    simp only [List.flatten_cons, List.flatten_nil, List.cons_append, List.nil_append, List.append_nil]
    after_results
  rw [e]
  exact congrArg (A2 m c) (ix2_ext rfl rfl)

theorem V_w (c : Dev nD) (a : Fin 4) (r : Fin 1024) (q : Fin 1536) (y : Fin 6144) (hy : y.val = a.val * 1536 + q.val) :
    (V m c main_v5 : S4x1024x1536.Idx → EReal) (ix3 a r q) = A3 m c (ix2 r y) := by
  have e : (V m c main_v5 : S4x1024x1536.Idx → EReal) = transpose S4x1024x1536 [1, 0, 2] (shapeCast S1024x4x1536 (A3 m c) shapeCasts_S1024x6144_S1024x4x1536)
      transposes_S1024x4x1536_S4x1024x1536_1_0_2 := by
    unfold_abbrev_sides
    simp only [List.flatten_cons, List.flatten_nil, List.cons_append, List.nil_append, List.append_nil]
    after_results
    rfl
  rw [e]
  exact col_quarter rfl (A3 m c) _ _ a r q y hy

theorem tlt (t : Fin cfg0.N) : t.val < 16 := t.isLt
theorem tb (t : Fin cfg0.N) : t.val * 512 + 512 ≤ 8192 := by have := tlt t; omega

theorem idx0 : ∀ t : Fin cfg0.N, win0_0.index t (0 : Fin 2) = t.val ∧ win0_0.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx1 : ∀ t : Fin cfg0.N, win0_1.index t (0 : Fin 4) = 1 ∧ win0_1.index t (1 : Fin 4) = t.val / 8 ∧ win0_1.index t (2 : Fin 4) = 0 ∧ win0_1.index t (3 : Fin 4) = 0 := (by decide +kernel : ∀ t : Fin grid0.N, _)
theorem idx2 : ∀ t : Fin cfg0.N, win0_2.index t (0 : Fin 3) = 1 ∧ win0_2.index t (1 : Fin 3) = 0 ∧ win0_2.index t (2 : Fin 3) = 0 := (by decide +kernel : ∀ t : Fin grid0.N, _)
theorem idx3 : ∀ t : Fin cfg0.N, win0_3.index t (0 : Fin 3) = 0 ∧ win0_3.index t (1 : Fin 3) = 0 ∧ win0_3.index t (2 : Fin 3) = 0 := (by decide +kernel : ∀ t : Fin grid0.N, _)

/-- A block's index in its array. -/
theorem emb0 (t : Fin cfg0.N) (r : Fin 512) (q : Fin 1024) :
    ((cfg0.win 0).blk t).view.emb (ix2 r q : S512x1024.Idx) = (ix2 ⟨t.val * 512 + r.val, by have := tlt t; omega⟩ q : S8192x1024.Idx) := by
  obtain ⟨e0, e1⟩ := idx0 t
  refine ix2_ext ?_ ?_
  · show win0_0.index t (0 : Fin 2) * 512 + 1 * r.val = t.val * 512 + r.val; omega
  · show win0_0.index t (1 : Fin 2) * 1024 + 1 * q.val = q.val; omega
theorem emb4 (t : Fin cfg0.N) (r : Fin 512) (q : Fin 1024) :
    ((cfg0.win 4).blk t).view.emb (ix2 r q : S512x1024.Idx) = (ix2 ⟨t.val * 512 + r.val, by have := tlt t; omega⟩ q : S8192x1024.Idx) := by
  obtain ⟨e0, e1⟩ := idx4 t
  refine ix2_ext ?_ ?_
  · show win0_4.index t (0 : Fin 2) * 512 + 1 * r.val = t.val * 512 + r.val; omega
  · show win0_4.index t (1 : Fin 2) * 1024 + 1 * q.val = q.val; omega
theorem emb5 (t : Fin cfg0.N) (r : Fin 512) (q : Fin 6144) :
    ((cfg0.win 5).blk t).view.emb (ix2 r q : S512x6144.Idx) = (ix2 ⟨t.val * 512 + r.val, by have := tlt t; omega⟩ q : S8192x6144.Idx) := by
  obtain ⟨e0, e1⟩ := idx5 t
  refine ix2_ext ?_ ?_
  · show win0_5.index t (0 : Fin 2) * 512 + 1 * r.val = t.val * 512 + r.val; omega
  · show win0_5.index t (1 : Fin 2) * 6144 + 1 * q.val = q.val; omega

theorem iblk0_eq (c : Dev nD) (t : Fin cfg0.N) : iblk m c 0 t = blk t.val (tb t) (A0 m c) := by
  refine ext2 fun r q => ?_
  show V m c main_arg0 (((cfg0.win 0).blk t).view.emb (ix2 r q)) = _
  rw [emb0, V_main_arg0]; rfl

/-- The modulation rows of a block: those of its sequence. -/
theorem iblk1_apply (c : Dev nD) (t : Fin cfg0.N) (r : Fin 8) (q : Fin 1024) (hr : r.val < 6) :
    iblk m c 1 t (ix4 0 0 r q) = A1 m c (ix3 1 ⟨t.val * 512 / 4096, by have := tlt t; omega⟩ ⟨r.val * 1024 + q.val, by omega⟩) := by
  obtain ⟨e0, e1, e2, e3⟩ := idx1 t
  show V m c main_v1 (((cfg0.win 1).blk t).view.emb (ix4 0 0 r q : S1x1x8x1024.Idx)) = _
  refine (congrArg (V m c main_v1) (ix4_ext ?_ ?_ ?_ ?_ : _ = (ix4 1 ⟨t.val * 512 / 4096, by have := tlt t; omega⟩ r q : S4x2x8x1024.Idx))).trans (V_mod m c _ _ _ _ hr)
  · show win0_1.index t (0 : Fin 4) * 1 + 1 * 0 = 1; omega
  · show win0_1.index t (1 : Fin 4) * 1 + 1 * 0 = t.val * 512 / 4096; omega
  · show win0_1.index t (2 : Fin 4) * 8 + 1 * r.val = r.val; omega
  · show win0_1.index t (3 : Fin 4) * 1024 + 1 * q.val = q.val; omega

/-- The gain of a block. -/
theorem iblk2_apply (c : Dev nD) (t : Fin cfg0.N) (q : Fin 1024) : iblk m c 2 t (ix3 0 0 q) = A2 m c (ix2 1 q) := by
  obtain ⟨e0, e1, e2⟩ := idx2 t
  show V m c main_v2 (((cfg0.win 2).blk t).view.emb (ix3 0 0 q : S1x1x1024.Idx)) = _
  refine (congrArg (V m c main_v2) (ix3_ext ?_ ?_ ?_ : _ = (ix3 1 0 q : S4x1x1024.Idx))).trans (V_g m c _ _)
  · show win0_2.index t (0 : Fin 3) * 1 + 1 * 0 = 1; omega
  · show win0_2.index t (1 : Fin 3) * 1 + 1 * 0 = 0; omega
  · show win0_2.index t (2 : Fin 3) * 1024 + 1 * q.val = q.val; omega

/-- A quarter of the weight. -/
theorem iblk3_apply (c : Dev nD) (t : Fin cfg0.N) (a : Fin 4) (r : Fin 1024) (q : Fin 1536) (y : Fin 6144) (hy : y.val = a.val * 1536 + q.val) :
    iblk m c 3 t (ix3 a r q) = A3 m c (ix2 r y) := by
  obtain ⟨e0, e1, e2⟩ := idx3 t
  show V m c main_v5 (((cfg0.win 3).blk t).view.emb (ix3 a r q : S4x1024x1536.Idx)) = _
  refine (congrArg (V m c main_v5) (ix3_ext ?_ ?_ ?_ : _ = (ix3 a r q : S4x1024x1536.Idx))).trans (V_w m c _ _ _ _ hy)
  · show win0_3.index t (0 : Fin 3) * 4 + 1 * a.val = a.val; omega
  · show win0_3.index t (1 : Fin 3) * 1024 + 1 * r.val = r.val; omega
  · show win0_3.index t (2 : Fin 3) * 1536 + 1 * q.val = q.val; omega

/-- The normed rows and their product with the weight. -/
abbrev H (c : Dev nD) : M2 8192 1024 := fwd (A0 m c) (modL (A1 m c) 1 1024 (by decide)) (modL (A1 m c) 1 0 (by decide)) (gnL (A2 m c) 1)
abbrev P (c : Dev nD) : M2 8192 6144 := mm (H m c) (A3 m c)

/-- The body's normed rows at a point. -/
theorem pay4_eq (c : Dev nD) (t : Fin cfg0.N) :
    k0_pay4 (View.ld (iblk m c 0 t) r0_0) (View.ld (iblk m c 2 t) r0_1) (View.ld (iblk m c 1 t) r0_2) (View.ld (iblk m c 1 t) r0_3) = blk t.val (tb t) (H m c) := by
  rw [iblk0_eq, View.ld_unit_zero (S := S512x1024) hz2 _ _]
  refine (rfl : _ = fwdB (blk t.val (tb t) (A0 m c)) (View.ld (iblk m c 2 t) r0_1) (View.ld (iblk m c 1 t) r0_2) (View.ld (iblk m c 1 t) r0_3)).trans ?_
  refine fwdB_eq (A0 m c) t.val (tb t) _ _ _ _ _ _ ?_ ?_ ?_
  · exact fun k => (ld_row _ 1 (by decide) _ k).trans (iblk1_apply m c t 1 k (by decide))
  · exact fun k => (ld_row _ 0 (by decide) _ k).trans (iblk1_apply m c t 0 k (by decide))
  · intro k
    rw [View.ld_unit_zero (S := S1x1x1024) hz3 _ _]
    exact iblk2_apply m c t k

/-- The body's product at an index. -/
theorem mm_apply (a : FVec Ideal S512x1024 .bf16) (b : FVec Ideal S1024x1536 .bf16) (j : S512x1536.Idx) :
    matmul (F := Ideal) dot_S512x1024_S1024x1536_S512x1536_1_0_0_1_n_n none a b (constant S512x1536 .f32 0x00000000#32) j
      = ∑ k : Fin 1024, a (ix2 (j 0) k) * b (ix2 k (j 1)) := by
  rw [matmul_sum dot_S512x1024_S1024x1536_S512x1536_1_0_0_1_n_n 1024 rfl rfl a b _ j (fun k => ix2 (j 0) k) (fun k => ix2 k (j 1))
    (fun q => ix2_ext rfl rfl) (fun q => ix2_ext rfl rfl)]
  rw [constant_apply, Ideal.ofBits_zero_f32, zero_add]

/-- A column store of the body's product. -/
theorem fits (c : Dev nD) (t : Fin cfg0.N) (a o : ℕ) (ha : a < 4) (ho : o = a * 1536)
    (inb : ∀ i, (![a, 0, 0] : Fin 3 → Nat) i + (![1, 1024, 1536] : Fin 3 → Nat) i ≤ S4x1024x1536.size i)
    (v : FVec Ideal S512x1024 .bf16) (hv : v = blk t.val (tb t) (H m c)) :
    Fits (α := EReal) o (truncf (F := Ideal) .bf16 (matmul (F := Ideal) (φ₂ := .bf16) dot_S512x1024_S1024x1536_S512x1536_1_0_0_1_n_n none v
      (shapeCast S1024x1536 (View.ld (iblk m c 3 t) (Rect.unit (s := S4x1024x1536) ![a, 0, 0] ![1, 1024, 1536] inb)) shapeCasts_S1x1024x1536_S1024x1536)
        (constant S512x1536 .f32 0x00000000#32)) bitsLt_bf16_f32) (blk t.val (tb t) (P m c)) := by
  subst hv
  intro x y h0 h1
  refine (mm_apply _ _ x).trans (Finset.sum_congr (g := fun k : Fin 1024 => H m c (ix2 ⟨t.val * 512 + (y 0).val, _⟩ k) * A3 m c (ix2 k (y 1))) rfl fun k _ => congrArg₂ (· * ·) (congrArg (H m c) (ix2_ext (congrArg (t.val * 512 + ·) h0.symm) rfl)) ?_)
  refine (shapeCast_apply _ _ _ (ix3 0 k (x 1)) ?_).trans ((ld_quarter _ a ha inb k (x 1)).trans (iblk3_apply m c t ⟨a, ha⟩ k (x 1) (y 1) (by rw [h1, ho])))
  rw [Shape.rowMajor_val_three, Shape.rowMajor_val_two]
  show (0 * 1024 + k.val) * 1536 + (x 1).val = k.val * 1536 + (x 1).val
  omega

theorem flushed4_eq (c : Dev nD) (t : Fin cfg0.N) : (dats m 0 c).flushed 4 t = ((cfg0.win 4).blk t).view.read (Elt Ideal) (H m c) := by
  have cut : ∀ X : FVec Ideal S512x1024 .bf16, X = blk t.val (tb t) (H m c) → (cfg0.win 4).cut (grid0.coords t) X = ((cfg0.win 4).blk t).view.read (Elt Ideal) (H m c) := by
    rintro X rfl
    refine ext2 fun r q => ?_
    show _ = H m c (((cfg0.win 4).blk t).view.emb (ix2 r q)); rw [emb4]; rfl
  rw [flushed4]
  apply cut
  unfold out0_4
  rw [View.canon_unit_zero hz2]
  exact pay4_eq m c t

theorem flushed5_eq (c : Dev nD) (t : Fin cfg0.N) : (dats m 0 c).flushed 5 t = ((cfg0.win 5).blk t).view.read (Elt Ideal) (P m c) := by
  have cut : ∀ X : FVec Ideal S512x6144 .bf16, X = blk t.val (tb t) (P m c) → (cfg0.win 5).cut (grid0.coords t) X = ((cfg0.win 5).blk t).view.read (Elt Ideal) (P m c) := by
    rintro X rfl
    refine ext2 fun r q => ?_
    show _ = P m c (((cfg0.win 5).blk t).view.emb (ix2 r q)); rw [emb5]; rfl
  rw [flushed5]
  apply cut
  unfold_out out0_5
  exact four (blk t.val (tb t) (P m c)) 0 1536 3072 4608 _ _ _ _ _ _ _ _ (fits m c t 0 0 (by decide) rfl _ _ (pay4_eq m c t)) (fits m c t 1 1536 (by decide) rfl _ _ (pay4_eq m c t))
    (fits m c t 2 3072 (by decide) rfl _ _ (pay4_eq m c t)) (fits m c t 3 4608 (by decide) rfl _ _ (pay4_eq m c t)) (cover0_5 _ _ _ _)

theorem final4 (c : Dev nD) : (dats m 0 c).arrAt 4 cfg0.N = H m c :=
  (dats m 0 c).arrAt_eq_of_cover 4 _ (fun t _ => flushed4_eq m c t) fun i => by
    have hi : (i 0).val < 8192 := (i 0).isLt
    have e := (emb4 (⟨(i 0).val / 512, by show _ < 16; omega⟩ : Fin cfg0.N) (⟨(i 0).val % 512, Nat.mod_lt _ (by decide)⟩ : Fin 512) (i 1)).trans (row_split i hi)
    exact ⟨_, flush0_4 _, e ▸ View.emb_mem_set _ _⟩

theorem final5 (c : Dev nD) : (dats m 0 c).arrAt 5 cfg0.N = P m c :=
  (dats m 0 c).arrAt_eq_of_cover 5 _ (fun t _ => flushed5_eq m c t) fun i => by
    have hi : (i 0).val < 8192 := (i 0).isLt
    have e := (emb5 (⟨(i 0).val / 512, by show _ < 16; omega⟩ : Fin cfg0.N) (⟨(i 0).val % 512, Nat.mod_lt _ (by decide)⟩ : Fin 512) (i 1)).trans (row_split i hi)
    exact ⟨_, flush0_5 _, e ▸ View.emb_mem_set _ _⟩

end Cert.FwdInRun
-- ==== Proof.FwdInRef.lean ====
/-
  What the reference of the entry of a layer's mixer comes to, over the reals.
-/
module

public import proofs.«01_k».proof.Proof.Gen.Reference8Ideal.Read
public import proofs.«01_k».proof.Proof.FfnRef
public import proofs.«01_k».proof.Proof.FwdTools

@[expose] public section

noncomputable section

namespace Cert.FwdInRef

open Cert.Reference8Ideal Cert.Reference8Ideal.Gen Cert.Reference8Ideal.Read Cert.Tools Cert.NormSpec Cert.FwdTools
open Idealize.ShloMosaic Idealize.ShloMosaic.ValueIdx

abbrev Arr (s : Shape) : Type := (⟨s, .f32⟩ : BufTy).Contents (Elt Ideal)

variable (x0 : Arr S8192x1024) (x1 : Arr S4x2x6144) (x2 : Arr S4x1024) (x3 : Arr S1024x6144)

/-- The normalised rows. -/
theorem xn (b : Fin 2) (k : Fin 4096) (q : Fin 1024) : val_main_v21 (F := Ideal) x0 (ix3 b k q) = nrm x0 (ix2 (FfnRef.tok b k) q) :=
  (congrFun (rfl : val_main_v21 (F := Ideal) x0 = Cert.Reference2Ideal.Read.val_main_v24 (F := Ideal) x0) _).trans (FfnRef.xn x0 b k q)

/-- The gain. -/
theorem gain (a b : Fin 1) (q : Fin 1024) : val_main_v22 (F := Ideal) x2 (ix3 a b q) = gnL x2 1 q := by
  rw [val_main_v22_apply, val_main_v10_apply, val_main_v9_apply]
  exact congrArg x2 (ix2_ext rfl (by show q.val % 1024 = q.val; omega))

/-- The scale's row, one added. -/
theorem scale (b : Fin 2) (a : Fin 1) (q : Fin 1024) : val_main_v26 (F := Ideal) x1 (ix3 b a q) = 1 + modL x1 1 1024 (by decide) b q := by
  rw [val_main_v26_apply, val_main_v4_apply, val_main_v2_apply, val_main_v1_apply, val_main_v0_apply]
  refine congrArg₂ (· + ·) (Ideal.ofBits_one_f32 : _ = (1 : EReal)) (congrArg x1 (ix3_ext rfl ?_ ?_))
  · show (b.val * 6144 + (1024 + q.val)) / 6144 % 2 = b.val; omega
  · show (b.val * 6144 + (1024 + q.val)) % 6144 = 1024 + q.val; omega

/-- The shift's row. -/
theorem shift (b : Fin 2) (a : Fin 1) (q : Fin 1024) : val_main_v3 (F := Ideal) x1 (ix3 b a q) = modL x1 1 0 (by decide) b q := by
  rw [val_main_v3_apply, val_main_v2_apply, val_main_v1_apply, val_main_v0_apply]
  refine congrArg x1 (ix3_ext rfl ?_ ?_)
  · show (b.val * 6144 + q.val) / 6144 % 2 = b.val; omega
  · show (b.val * 6144 + q.val) % 6144 = 0 + q.val; omega

theorem rows3 (b : Fin 2) (k : Fin 4096) (q : Fin 1024) : val_main_v30 (F := Ideal) x0 x1 x2 (ix3 b k q)
    = nrm x0 (ix2 (FfnRef.tok b k) q) * (gnL x2 1 q * (1 + modL x1 1 1024 (by decide) b q)) + modL x1 1 0 (by decide) b q := by
  rw [val_main_v30_apply, val_main_v28_apply, val_main_v24_apply, val_main_v23_apply, val_main_v27_apply, val_main_v29_apply, xn]
  refine congrArg₂ (· + ·) ?_ ?_
  · refine Eq.trans (congrArg₂ (fun y z : EReal => nrm x0 (ix2 (FfnRef.tok b k) q) * y * z) ?_ ?_) (mul_assoc _ _ _)
    · exact (congrArg (val_main_v22 (F := Ideal) x2) (ix3_ext rfl rfl rfl : _ = ix3 0 0 q)).trans (gain x2 0 0 q)
    · exact (congrArg (val_main_v26 (F := Ideal) x1) (ix3_ext rfl rfl rfl : _ = ix3 b 0 q)).trans (scale x1 b 0 q)
  · exact (congrArg (val_main_v3 (F := Ideal) x1) (ix3_ext rfl rfl rfl : _ = ix3 b 0 q)).trans (shift x1 b 0 q)

/-- The normed rows. -/
theorem rows : val_main_v31 (F := Ideal) x0 x1 x2 = fwd x0 (modL x1 1 1024 (by decide)) (modL x1 1 0 (by decide)) (gnL x2 1) := by
  refine ext2 fun n q => ?_
  rw [val_main_v31_apply]
  refine (congrArg (val_main_v30 (F := Ideal) x0 x1 x2) (ix3_ext ?_ ?_ ?_ : _ = ix3 (seqOf n) (⟨n.val % 4096, Nat.mod_lt _ (by decide)⟩ : Fin 4096) q)).trans ?_
  · show (n.val * 1024 + q.val) / 4194304 = n.val / 4096; omega
  · show (n.val * 1024 + q.val) / 1024 % 4096 = n.val % 4096; omega
  · show (n.val * 1024 + q.val) % 1024 = q.val; omega
  · rw [rows3]
    have e : FfnRef.tok (seqOf n) (⟨n.val % 4096, Nat.mod_lt _ (by decide)⟩ : Fin 4096) = n := tokAt_seqOf n
    rw [e]
    rfl

/-- Their product with the weight. -/
theorem prod : val_main_v32 (F := Ideal) x0 x1 x2 x3 = mm (fwd x0 (modL x1 1 1024 (by decide)) (modL x1 1 0 (by decide)) (gnL x2 1)) x3 := by
  refine ext2 fun n q => ?_
  rw [val_main_v32_apply, rows]
  exact Finset.sum_congr rfl fun k _ => congrArg₂ (· * ·) (congrArg _ (ix2_ext rfl rfl)) (congrArg x3 (ix2_ext rfl rfl))

end Cert.FwdInRef
-- ==== Proof.Grad8.lean ====
/-
  A projection into the branches: the call leaves the normed rows and their product that the reference gives.
-/
module

public import proofs.«01_k».proof.Defs
public import proofs.«01_k».proof.Proof.FwdInRun
public import proofs.«01_k».proof.Proof.FwdInRef

@[expose] public section

noncomputable section

namespace Cert.Grad8

open Cert.FwdInRun Cert.Kernel8Ideal Cert.Kernel8Ideal.Gen Cert.Kernel8Ideal.Value Cert.Reference8Ideal.Read
open Idealize.ShloMosaic Idealize.ShloMosaic.TcCoe Idealize.SL.Sem

set_option maxHeartbeats 4000000 in
/-- What the call leaves is what the reference gives. -/
theorem claim : Cert.algebraic_Kernel8Ideal_Reference8Ideal := by
  intro m g m' g' _ hag
  refine ⟨fun c => (dats m 0 c).arrAt 4 cfg0.N, fun c => (dats m 0 c).arrAt 5 cfg0.N, ?_, ?_⟩
  · refine (θ_run _ _ _).mono (fun r h c => ?_) (run_blocks m g)
    obtain ⟨h4, h5, ha⟩ := h c
    exact ⟨h4, h5, ha⟩
  · refine (θ_run _ _ _).mono (fun r h c => ?_) (Cert.Reference8Ideal.Value.run m' g')
    obtain ⟨h4, h5, ha⟩ := h c
    obtain ⟨e0, e1, e2, e3⟩ := hag c
    have f4 := h4.trans (val_main_v33_eq _ _ _)
    have f5 := h5.trans (val_main_v34_eq _ _ _ _)
    rw [e0, e1, e2] at f4
    rw [e0, e1, e2, e3] at f5
    refine ⟨f4.trans (Eq.trans ?_ (final4 m c).symm), f5.trans (Eq.trans ?_ (final5 m c).symm), ha⟩
    · exact Cert.FwdInRef.rows _ _ _
    · exact Cert.FwdInRef.prod _ _ _ _

end Cert.Grad8
-- ==== Proof.FwdMergeSpec.lean ====
/-
  The end of a layer's mixer as whole-array formulas: the two branches projected, gated, summed, projected again and added to
  the residual stream.
-/
module

public import proofs.«01_k».proof.Proof.FwdTools

@[expose] public section

noncomputable section

namespace Cert.FwdMergeSpec

open Cert.Tools Cert.NormSpec Cert.FwdTools
open Idealize.ShloMosaic Idealize.ShloMosaic.ValueIdx

/-- The logistic function, as both programs compute it. -/
def sg (z : EReal) : EReal := Ideal.div (Ideal.ofBits .f32 0x3F800000#32) (Ideal.ofBits .f32 0x3F800000#32 + Ideal.exp (-z))

/-- A branch's gate columns of the projection. -/
def gcol (P : M2 8192 6144) (o : ℕ) (ho : o + 1024 ≤ 6144) : M2 8192 1024 := fun i => P (ix2 (i 0) ⟨o + (i 1).val, by have : (i 1).val < 1024 := (i 1).isLt; omega⟩)

/-- The two branches, each behind its gate, summed. -/
def merged (P : M2 8192 6144) (Ya Yb : M2 8192 1024) : M2 8192 1024 := fun i =>
  sg (gcol P 4096 (by decide) i) * Ya i + sg (gcol P 5120 (by decide) i) * Yb i

end Cert.FwdMergeSpec
-- ==== Proof.FwdMergeRun.lean ====
/-
  The end of a layer's mixer, run: what the host hands the region, where each window's block lies, what each point writes, and
  the five arrays this leaves.
-/
module

public import proofs.«01_k».proof.Proof.Gen.Kernel9Ideal.Value
public import proofs.«01_k».proof.Proof.FwdMergeSpec

@[expose] public section

noncomputable section

namespace Cert.FwdMergeRun

open Cert.Kernel9Ideal Cert.Kernel9Ideal.Gen Cert.Kernel9Ideal.Value Cert.Tools Cert.NormSpec Cert.NormPay Cert.FwdTools Cert.FwdMergeSpec
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev A0 (c : Dev nD) : Arr S8192x1024 := m ((c : Thread nD τ).loc main_arg0)
abbrev A1 (c : Dev nD) : Arr S4x2x6144 := m ((c : Thread nD τ).loc main_arg1)
abbrev A2 (c : Dev nD) : Arr S8192x6144 := m ((c : Thread nD τ).loc main_arg2)
abbrev A3 (c : Dev nD) : Arr S8192x1024 := m ((c : Thread nD τ).loc main_arg3)
abbrev A4 (c : Dev nD) : Arr S8192x1024 := m ((c : Thread nD τ).loc main_arg4)
abbrev A5 (c : Dev nD) : Arr S1024x1024 := m ((c : Thread nD τ).loc main_arg5)
abbrev A6 (c : Dev nD) : Arr S1024x1024 := m ((c : Thread nD τ).loc main_arg6)
abbrev A7 (c : Dev nD) : Arr S1024x1024 := m ((c : Thread nD τ).loc main_arg7)

theorem V_mod (c : Dev nD) (l : Fin 4) (b : Fin 2) (r : Fin 8) (q : Fin 1024) (hr : r.val < 6) :
    (V m c main_v1 : S4x2x8x1024.Idx → EReal) (ix4 l b r q) = A1 m c (ix3 l b ⟨r.val * 1024 + q.val, by omega⟩) := by
  have e : (V m c main_v1 : S4x2x8x1024.Idx → EReal) = pad S4x2x8x1024 ![0, 0, 0, 0] ![0, 0, 2, 0] ![0, 0, 0, 0]
        (shapeCast S4x2x6x1024 (A1 m c) shapeCasts_S4x2x6144_S4x2x6x1024) (sitofp (F := Ideal) FTy.f32 (constantI S_ 32 0#32))
        pads_S4x2x6x1024_S4x2x8x1024_000_000_020_000 h_S_ := by
    unfold_abbrev_sides
    simp only [List.flatten_cons, List.flatten_nil, List.cons_append, List.nil_append, List.append_nil]
    after_results
    rfl
  rw [e]
  exact mod_rows (A1 m c) 0 _ _ _ _ l b r q hr

theorem V_proj (c : Dev nD) : (V m c main_v2 : S8192x6144.Idx → EReal) = A2 m c := by
  unfold_abbrev_sides
  simp only [List.flatten_cons, List.flatten_nil, List.cons_append, List.nil_append, List.append_nil]
  after_results
  rfl

theorem V_sa (c : Dev nD) : (V m c main_v3 : S8192x1024.Idx → EReal) = A3 m c := by
  unfold_abbrev_sides
  simp only [List.flatten_cons, List.flatten_nil, List.cons_append, List.nil_append, List.append_nil]
  after_results
  rfl

theorem V_sb (c : Dev nD) : (V m c main_v4 : S8192x1024.Idx → EReal) = A4 m c := by
  unfold_abbrev_sides
  simp only [List.flatten_cons, List.flatten_nil, List.cons_append, List.nil_append, List.append_nil]
  after_results
  rfl

theorem V_wa (c : Dev nD) : (V m c main_v6 : S4x256x1024.Idx → EReal) = shapeCast S4x256x1024 (A5 m c) shapeCasts_S1024x1024_S4x256x1024 := by
  unfold_abbrev_sides
  simp only [List.flatten_cons, List.flatten_nil, List.cons_append, List.nil_append, List.append_nil]
  after_results
  rfl

theorem V_wb (c : Dev nD) : (V m c main_v8 : S4x256x1024.Idx → EReal) = shapeCast S4x256x1024 (A6 m c) shapeCasts_S1024x1024_S4x256x1024 := by
  unfold_abbrev_sides
  simp only [List.flatten_cons, List.flatten_nil, List.cons_append, List.nil_append, List.append_nil]
  after_results
  rfl

theorem V_wo (c : Dev nD) : (V m c main_v10 : S4x256x1024.Idx → EReal) = shapeCast S4x256x1024 (A7 m c) shapeCasts_S1024x1024_S4x256x1024 := by
  unfold_abbrev_sides
  simp only [List.flatten_cons, List.flatten_nil, List.cons_append, List.nil_append, List.append_nil]
  after_results
  rfl

theorem tlt (t : Fin cfg0.N) : t.val < 16 := t.isLt
theorem tb (t : Fin cfg0.N) : t.val * 512 + 512 ≤ 8192 := by have := tlt t; omega

theorem idx0 : ∀ t : Fin cfg0.N, win0_0.index t (0 : Fin 2) = t.val ∧ win0_0.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)
theorem idx2 : ∀ t : Fin cfg0.N, win0_2.index t (0 : Fin 2) = t.val ∧ win0_2.index t (1 : Fin 2) = 4 := (by decide +kernel : ∀ t : Fin grid0.N, _)
theorem idx3 : ∀ t : Fin cfg0.N, win0_3.index t (0 : Fin 2) = t.val ∧ win0_3.index t (1 : Fin 2) = 5 := (by decide +kernel : ∀ t : Fin grid0.N, _)
theorem idx1 : ∀ t : Fin cfg0.N, win0_1.index t (0 : Fin 4) = 0 ∧ win0_1.index t (1 : Fin 4) = t.val / 8 ∧ win0_1.index t (2 : Fin 4) = 0 ∧ win0_1.index t (3 : Fin 4) = 0 := (by decide +kernel : ∀ t : Fin grid0.N, _)
theorem idx6 : ∀ t : Fin cfg0.N, win0_6.index t (0 : Fin 3) = 0 ∧ win0_6.index t (1 : Fin 3) = 0 ∧ win0_6.index t (2 : Fin 3) = 0 := (by decide +kernel : ∀ t : Fin grid0.N, _)
theorem idx7 : ∀ t : Fin cfg0.N, win0_7.index t (0 : Fin 3) = 0 ∧ win0_7.index t (1 : Fin 3) = 0 ∧ win0_7.index t (2 : Fin 3) = 0 := (by decide +kernel : ∀ t : Fin grid0.N, _)
theorem idx8 : ∀ t : Fin cfg0.N, win0_8.index t (0 : Fin 3) = 0 ∧ win0_8.index t (1 : Fin 3) = 0 ∧ win0_8.index t (2 : Fin 3) = 0 := (by decide +kernel : ∀ t : Fin grid0.N, _)

/-- A block's index in its array. -/
theorem emb0 (t : Fin cfg0.N) (r : Fin 512) (q : Fin 1024) :
    ((cfg0.win 0).blk t).view.emb (ix2 r q : S512x1024.Idx) = (ix2 ⟨t.val * 512 + r.val, by have := tlt t; omega⟩ q : S8192x1024.Idx) := by
  obtain ⟨e0, e1⟩ := idx0 t
  refine ix2_ext ?_ ?_
  · show win0_0.index t (0 : Fin 2) * 512 + 1 * r.val = t.val * 512 + r.val; omega
  · show win0_0.index t (1 : Fin 2) * 1024 + 1 * q.val = q.val; omega
theorem emb4 (t : Fin cfg0.N) (r : Fin 512) (q : Fin 1024) :
    ((cfg0.win 4).blk t).view.emb (ix2 r q : S512x1024.Idx) = (ix2 ⟨t.val * 512 + r.val, by have := tlt t; omega⟩ q : S8192x1024.Idx) := by
  obtain ⟨e0, e1⟩ := idx4 t
  refine ix2_ext ?_ ?_
  · show win0_4.index t (0 : Fin 2) * 512 + 1 * r.val = t.val * 512 + r.val; omega
  · show win0_4.index t (1 : Fin 2) * 1024 + 1 * q.val = q.val; omega
theorem emb5 (t : Fin cfg0.N) (r : Fin 512) (q : Fin 1024) :
    ((cfg0.win 5).blk t).view.emb (ix2 r q : S512x1024.Idx) = (ix2 ⟨t.val * 512 + r.val, by have := tlt t; omega⟩ q : S8192x1024.Idx) := by
  obtain ⟨e0, e1⟩ := idx5 t
  refine ix2_ext ?_ ?_
  · show win0_5.index t (0 : Fin 2) * 512 + 1 * r.val = t.val * 512 + r.val; omega
  · show win0_5.index t (1 : Fin 2) * 1024 + 1 * q.val = q.val; omega
theorem emb9 (t : Fin cfg0.N) (r : Fin 512) (q : Fin 1024) :
    ((cfg0.win 9).blk t).view.emb (ix2 r q : S512x1024.Idx) = (ix2 ⟨t.val * 512 + r.val, by have := tlt t; omega⟩ q : S8192x1024.Idx) := by
  obtain ⟨e0, e1⟩ := idx9 t
  refine ix2_ext ?_ ?_
  · show win0_9.index t (0 : Fin 2) * 512 + 1 * r.val = t.val * 512 + r.val; omega
  · show win0_9.index t (1 : Fin 2) * 1024 + 1 * q.val = q.val; omega
theorem emb10 (t : Fin cfg0.N) (r : Fin 512) (q : Fin 1024) :
    ((cfg0.win 10).blk t).view.emb (ix2 r q : S512x1024.Idx) = (ix2 ⟨t.val * 512 + r.val, by have := tlt t; omega⟩ q : S8192x1024.Idx) := by
  obtain ⟨e0, e1⟩ := idx10 t
  refine ix2_ext ?_ ?_
  · show win0_10.index t (0 : Fin 2) * 512 + 1 * r.val = t.val * 512 + r.val; omega
  · show win0_10.index t (1 : Fin 2) * 1024 + 1 * q.val = q.val; omega
theorem emb11 (t : Fin cfg0.N) (r : Fin 512) (q : Fin 1024) :
    ((cfg0.win 11).blk t).view.emb (ix2 r q : S512x1024.Idx) = (ix2 ⟨t.val * 512 + r.val, by have := tlt t; omega⟩ q : S8192x1024.Idx) := by
  obtain ⟨e0, e1⟩ := idx11 t
  refine ix2_ext ?_ ?_
  · show win0_11.index t (0 : Fin 2) * 512 + 1 * r.val = t.val * 512 + r.val; omega
  · show win0_11.index t (1 : Fin 2) * 1024 + 1 * q.val = q.val; omega
theorem emb12 (t : Fin cfg0.N) (r : Fin 512) (q : Fin 1024) :
    ((cfg0.win 12).blk t).view.emb (ix2 r q : S512x1024.Idx) = (ix2 ⟨t.val * 512 + r.val, by have := tlt t; omega⟩ q : S8192x1024.Idx) := by
  obtain ⟨e0, e1⟩ := idx12 t
  refine ix2_ext ?_ ?_
  · show win0_12.index t (0 : Fin 2) * 512 + 1 * r.val = t.val * 512 + r.val; omega
  · show win0_12.index t (1 : Fin 2) * 1024 + 1 * q.val = q.val; omega
theorem emb13 (t : Fin cfg0.N) (r : Fin 512) (q : Fin 1024) :
    ((cfg0.win 13).blk t).view.emb (ix2 r q : S512x1024.Idx) = (ix2 ⟨t.val * 512 + r.val, by have := tlt t; omega⟩ q : S8192x1024.Idx) := by
  obtain ⟨e0, e1⟩ := idx13 t
  refine ix2_ext ?_ ?_
  · show win0_13.index t (0 : Fin 2) * 512 + 1 * r.val = t.val * 512 + r.val; omega
  · show win0_13.index t (1 : Fin 2) * 1024 + 1 * q.val = q.val; omega
theorem emb2 (t : Fin cfg0.N) (r : Fin 512) (q : Fin 1024) :
    ((cfg0.win 2).blk t).view.emb (ix2 r q : S512x1024.Idx) = (ix2 ⟨t.val * 512 + r.val, by have := tlt t; omega⟩ ⟨4096 + q.val, by omega⟩ : S8192x6144.Idx) := by
  obtain ⟨e0, e1⟩ := idx2 t
  refine ix2_ext ?_ ?_
  · show win0_2.index t (0 : Fin 2) * 512 + 1 * r.val = t.val * 512 + r.val; omega
  · show win0_2.index t (1 : Fin 2) * 1024 + 1 * q.val = 4096 + q.val; omega
theorem emb3 (t : Fin cfg0.N) (r : Fin 512) (q : Fin 1024) :
    ((cfg0.win 3).blk t).view.emb (ix2 r q : S512x1024.Idx) = (ix2 ⟨t.val * 512 + r.val, by have := tlt t; omega⟩ ⟨5120 + q.val, by omega⟩ : S8192x6144.Idx) := by
  obtain ⟨e0, e1⟩ := idx3 t
  refine ix2_ext ?_ ?_
  · show win0_3.index t (0 : Fin 2) * 512 + 1 * r.val = t.val * 512 + r.val; omega
  · show win0_3.index t (1 : Fin 2) * 1024 + 1 * q.val = 5120 + q.val; omega
theorem emb6 (t : Fin cfg0.N) (j : S4x256x1024.Idx) : ((cfg0.win 6).blk t).view.emb j = j := by
  obtain ⟨e0, e1, e2⟩ := idx6 t
  refine ix3_ext ?_ ?_ ?_
  · show win0_6.index t (0 : Fin 3) * 4 + 1 * (j 0).val = (j 0).val; omega
  · show win0_6.index t (1 : Fin 3) * 256 + 1 * (j 1).val = (j 1).val; omega
  · show win0_6.index t (2 : Fin 3) * 1024 + 1 * (j 2).val = (j 2).val; omega
theorem emb7 (t : Fin cfg0.N) (j : S4x256x1024.Idx) : ((cfg0.win 7).blk t).view.emb j = j := by
  obtain ⟨e0, e1, e2⟩ := idx7 t
  refine ix3_ext ?_ ?_ ?_
  · show win0_7.index t (0 : Fin 3) * 4 + 1 * (j 0).val = (j 0).val; omega
  · show win0_7.index t (1 : Fin 3) * 256 + 1 * (j 1).val = (j 1).val; omega
  · show win0_7.index t (2 : Fin 3) * 1024 + 1 * (j 2).val = (j 2).val; omega
theorem emb8 (t : Fin cfg0.N) (j : S4x256x1024.Idx) : ((cfg0.win 8).blk t).view.emb j = j := by
  obtain ⟨e0, e1, e2⟩ := idx8 t
  refine ix3_ext ?_ ?_ ?_
  · show win0_8.index t (0 : Fin 3) * 4 + 1 * (j 0).val = (j 0).val; omega
  · show win0_8.index t (1 : Fin 3) * 256 + 1 * (j 1).val = (j 1).val; omega
  · show win0_8.index t (2 : Fin 3) * 1024 + 1 * (j 2).val = (j 2).val; omega

theorem iblk0_eq (c : Dev nD) (t : Fin cfg0.N) : iblk m c 0 t = blk t.val (tb t) (A0 m c) := by
  refine ext2 fun r q => ?_
  show V m c main_arg0 (((cfg0.win 0).blk t).view.emb (ix2 r q)) = _
  rw [emb0, V_main_arg0]; rfl
theorem iblk2_eq (c : Dev nD) (t : Fin cfg0.N) : iblk m c 2 t = blk t.val (tb t) (gcol (A2 m c) 4096 (by decide)) := by
  refine ext2 fun r q => ?_
  show V m c main_v2 (((cfg0.win 2).blk t).view.emb (ix2 r q)) = _
  rw [emb2, V_proj]; rfl
theorem iblk3_eq (c : Dev nD) (t : Fin cfg0.N) : iblk m c 3 t = blk t.val (tb t) (gcol (A2 m c) 5120 (by decide)) := by
  refine ext2 fun r q => ?_
  show V m c main_v2 (((cfg0.win 3).blk t).view.emb (ix2 r q)) = _
  rw [emb3, V_proj]; rfl
theorem iblk4_eq (c : Dev nD) (t : Fin cfg0.N) : iblk m c 4 t = blk t.val (tb t) (A3 m c) := by
  refine ext2 fun r q => ?_
  show V m c main_v3 (((cfg0.win 4).blk t).view.emb (ix2 r q)) = _
  rw [emb4, V_sa]; rfl
theorem iblk5_eq (c : Dev nD) (t : Fin cfg0.N) : iblk m c 5 t = blk t.val (tb t) (A4 m c) := by
  refine ext2 fun r q => ?_
  show V m c main_v4 (((cfg0.win 5).blk t).view.emb (ix2 r q)) = _
  rw [emb5, V_sb]; rfl
theorem iblk6_eq (c : Dev nD) (t : Fin cfg0.N) : iblk m c 6 t = shapeCast S4x256x1024 (A5 m c) shapeCasts_S1024x1024_S4x256x1024 := by
  refine funext fun j => ?_
  show V m c main_v6 (((cfg0.win 6).blk t).view.emb j) = _
  rw [emb6, V_wa]
theorem iblk7_eq (c : Dev nD) (t : Fin cfg0.N) : iblk m c 7 t = shapeCast S4x256x1024 (A6 m c) shapeCasts_S1024x1024_S4x256x1024 := by
  refine funext fun j => ?_
  show V m c main_v8 (((cfg0.win 7).blk t).view.emb j) = _
  rw [emb7, V_wb]
theorem iblk8_eq (c : Dev nD) (t : Fin cfg0.N) : iblk m c 8 t = shapeCast S4x256x1024 (A7 m c) shapeCasts_S1024x1024_S4x256x1024 := by
  refine funext fun j => ?_
  show V m c main_v10 (((cfg0.win 8).blk t).view.emb j) = _
  rw [emb8, V_wo]

/-- The modulation rows of a block: those of its sequence. -/
theorem iblk1_apply (c : Dev nD) (t : Fin cfg0.N) (r : Fin 8) (q : Fin 1024) (hr : r.val < 6) :
    iblk m c 1 t (ix4 0 0 r q) = A1 m c (ix3 0 ⟨t.val * 512 / 4096, by have := tlt t; omega⟩ ⟨r.val * 1024 + q.val, by omega⟩) := by
  obtain ⟨e0, e1, e2, e3⟩ := idx1 t
  show V m c main_v1 (((cfg0.win 1).blk t).view.emb (ix4 0 0 r q : S1x1x8x1024.Idx)) = _
  refine (congrArg (V m c main_v1) (ix4_ext ?_ ?_ ?_ ?_ : _ = (ix4 0 ⟨t.val * 512 / 4096, by have := tlt t; omega⟩ r q : S4x2x8x1024.Idx))).trans (V_mod m c _ _ _ _ hr)
  · show win0_1.index t (0 : Fin 4) * 1 + 1 * 0 = 0; omega
  · show win0_1.index t (1 : Fin 4) * 1 + 1 * 0 = t.val * 512 / 4096; omega
  · show win0_1.index t (2 : Fin 4) * 8 + 1 * r.val = r.val; omega
  · show win0_1.index t (3 : Fin 4) * 1024 + 1 * q.val = q.val; omega

/-- The five results. -/
abbrev YA (c : Dev nD) : M2 8192 1024 := mm (A3 m c) (A5 m c)
abbrev YB (c : Dev nD) : M2 8192 1024 := mm (A4 m c) (A6 m c)
abbrev MG (c : Dev nD) : M2 8192 1024 := merged (A2 m c) (YA m c) (YB m c)
abbrev OO (c : Dev nD) : M2 8192 1024 := mm (MG m c) (A7 m c)
abbrev RR (c : Dev nD) : M2 8192 1024 := resid (A0 m c) (OO m c) (modL (A1 m c) 0 2048 (by decide))

/-- The body's product at an index. -/
theorem mm_apply (a : FVec Ideal S512x1024 .bf16) (b : FVec Ideal S1024x1024 .bf16) (j : S512x1024.Idx) :
    matmul (F := Ideal) dot_S512x1024_S1024x1024_S512x1024_1_0_0_1_n_n none a b (constant S512x1024 .f32 0x00000000#32) j
      = ∑ k : Fin 1024, a (ix2 (j 0) k) * b (ix2 k (j 1)) := by
  rw [matmul_sum dot_S512x1024_S1024x1024_S512x1024_1_0_0_1_n_n 1024 rfl rfl a b _ j (fun k => ix2 (j 0) k) (fun k => ix2 k (j 1))
    (fun q => ix2_ext rfl rfl) (fun q => ix2_ext rfl rfl)]
  rw [constant_apply, Ideal.ofBits_zero_f32, zero_add]

section

variable (t : ℕ) (h : t * 512 + 512 ≤ 8192) (L Y Z : M2 8192 1024) (W : M2 1024 1024) (P : M2 8192 6144)

/-- A weight, stacked in four and unstacked. -/
theorem pay8_eq : k0_pay8 (F := Ideal) (shapeCast S4x256x1024 W shapeCasts_S1024x1024_S4x256x1024) = W := by
  unfold k0_pay8
  dsimp only
  rw [shapeCast_self, shapeCast_shapeCast]

/-- The product of a block with a weight. -/
theorem mm_blk : matmul (F := Ideal) (φ₁ := .bf16) (φ₂ := .bf16) dot_S512x1024_S1024x1024_S512x1024_1_0_0_1_n_n none (blk t h L : FVec Ideal S512x1024 .bf16)
    (W : FVec Ideal S1024x1024 .bf16) (constant S512x1024 .f32 0x00000000#32) = blk t h (mm L W) := by
  refine ext2 fun r q => ?_
  exact (mm_apply _ _ _).trans (Finset.sum_congr rfl fun k _ => congrArg₂ (· * ·) (congrArg L (ix2_ext rfl rfl)) (congrArg W (ix2_ext rfl rfl)))

theorem pay9_eq : k0_pay9 (F := Ideal) (shapeCast S4x256x1024 W shapeCasts_S1024x1024_S4x256x1024) (blk t h L) = blk t h (mm L W) := by
  unfold k0_pay9
  dsimp only
  rw [shapeCast_self, shapeCast_self, shapeCast_shapeCast]
  exact mm_blk t h L W

theorem pay10_eq : k0_pay10 (F := Ideal) (shapeCast S4x256x1024 W shapeCasts_S1024x1024_S4x256x1024) (blk t h L) = blk t h (mm L W) := pay9_eq t h L W

theorem pay11_eq : k0_pay11 (F := Ideal) (shapeCast S4x256x1024 W shapeCasts_S1024x1024_S4x256x1024) (blk t h L) (blk t h Y) = blk t h (fun i => sg (Y i) * mm L W i) := by
  have e : ∀ v : FVec Ideal S512x1024 .bf16, ∀ j, Ideal.div (Ideal.ofBits .f32 0x3F800000#32) (Ideal.ofBits .f32 0x3F800000#32
      + Ideal.exp (Ideal.ofBits .f32 0x00000000#32 - shapeCast S512x1024 v shapeCasts_S512x1024_S512x1024 j)) = sg (v j) := by
    intro v j
    rw [shapeCast_self, Ideal.ofBits_zero_f32, zero_sub]
    rfl
  refine ext2 fun r q => ?_
  refine (congrArg₂ (· * ·) (e (blk t h Y) (ix2 r q)) (congrFun (pay9_eq t h L W) (ix2 r q)) : _)

theorem pay1_eq : k0_pay1 (F := Ideal) (blk t h Z) (blk t h L) (k0_pay12 (F := Ideal) (blk t h Y)) (Scalar.ofBits .f32 0x3F800000#32) = blk t h (fun i => L i + sg (Y i) * Z i) := by
  have e : ∀ v : FVec Ideal S512x1024 .bf16, ∀ j, Ideal.div (Ideal.ofBits .f32 0x3F800000#32) (Ideal.ofBits .f32 0x3F800000#32
      + Ideal.exp (Ideal.ofBits .f32 0x00000000#32 - shapeCast S512x1024 v shapeCasts_S512x1024_S512x1024 j)) = sg (v j) := by
    intro v j
    rw [shapeCast_self, Ideal.ofBits_zero_f32, zero_sub]
    rfl
  refine ext2 fun r q => ?_
  exact congrArg (fun z : EReal => L (ix2 ⟨t * 512 + r.val, by omega⟩ q) + z * Z (ix2 ⟨t * 512 + r.val, by omega⟩ q)) (e (blk t h Y) (ix2 r q))

end

section

variable (c : Dev nD) (t : Fin cfg0.N)

theorem p9 : k0_pay9 (View.ld (iblk m c 6 t) r0_0) (View.ld (iblk m c 4 t) r0_1) = blk t.val (tb t) (YA m c) := by
  rw [iblk6_eq, iblk4_eq, View.ld_unit_zero (S := S512x1024) hz2 _ _, View.ld_unit_zero (S := S4x256x1024) hz3 _ _]
  exact pay9_eq _ _ _ _

theorem p14 : k0_pay10 (View.ld (iblk m c 7 t) r0_0) (View.ld (iblk m c 5 t) r0_1) = blk t.val (tb t) (YB m c) := by
  rw [iblk7_eq, iblk5_eq, View.ld_unit_zero (S := S512x1024) hz2 _ _, View.ld_unit_zero (S := S4x256x1024) hz3 _ _]
  exact pay10_eq _ _ _ _

theorem p13 : k0_pay8 (View.ld (iblk m c 8 t) r0_0) = A7 m c := by
  rw [iblk8_eq, View.ld_unit_zero (S := S4x256x1024) hz3 _ _]
  exact pay8_eq _

theorem p1 : k0_pay1 (k0_pay10 (View.ld (iblk m c 7 t) r0_0) (View.ld (iblk m c 5 t) r0_1)) (k0_pay11 (View.ld (iblk m c 6 t) r0_0) (View.ld (iblk m c 4 t) r0_1) (View.ld (iblk m c 2 t) r0_1))
    (k0_pay12 (View.ld (iblk m c 3 t) r0_1)) (Scalar.ofBits .f32 0x3F800000#32) = blk t.val (tb t) (MG m c) := by
  rw [p14, iblk6_eq, iblk4_eq, iblk2_eq, iblk3_eq, View.ld_unit_zero (S := S512x1024) hz2 _ _, View.ld_unit_zero (S := S512x1024) hz2 _ _,
    View.ld_unit_zero (S := S512x1024) hz2 _ _, View.ld_unit_zero (S := S4x256x1024) hz3 _ _, pay11_eq]
  exact pay1_eq _ _ _ _ _

theorem p2 : k0_pay2 (k0_pay8 (View.ld (iblk m c 8 t) r0_0)) (k0_pay10 (View.ld (iblk m c 7 t) r0_0) (View.ld (iblk m c 5 t) r0_1))
    (k0_pay11 (View.ld (iblk m c 6 t) r0_0) (View.ld (iblk m c 4 t) r0_1) (View.ld (iblk m c 2 t) r0_1))
    (k0_pay12 (View.ld (iblk m c 3 t) r0_1)) (Scalar.ofBits .f32 0x3F800000#32) = blk t.val (tb t) (OO m c) := by
  unfold k0_pay2
  dsimp only
  rw [p1, p13]
  exact mm_blk t.val (tb t) (MG m c) (A7 m c)

theorem p7 : k0_pay7 (k0_pay8 (View.ld (iblk m c 8 t) r0_0)) (k0_pay10 (View.ld (iblk m c 7 t) r0_0) (View.ld (iblk m c 5 t) r0_1))
    (k0_pay11 (View.ld (iblk m c 6 t) r0_0) (View.ld (iblk m c 4 t) r0_1) (View.ld (iblk m c 2 t) r0_1))
    (k0_pay12 (View.ld (iblk m c 3 t) r0_1)) (Scalar.ofBits .f32 0x3F800000#32) (View.ld (iblk m c 0 t) r0_1) (View.ld (iblk m c 1 t) r0_2) = blk t.val (tb t) (RR m c) := by
  unfold k0_pay7
  dsimp only
  rw [p2, iblk0_eq, View.ld_unit_zero (S := S512x1024) hz2 _ _]
  refine (rfl : _ = residB (blk t.val (tb t) (A0 m c)) (blk t.val (tb t) (OO m c)) (View.ld (iblk m c 1 t) r0_2)).trans (residB_eq _ _ _ _ _ _ ?_)
  exact fun k => (ld_row _ 2 (by decide) _ k).trans (iblk1_apply m c t 2 k (by decide))

end

/-- A block of the result is read back out of it. -/
theorem cut9 (c : Dev nD) (t : Fin cfg0.N) (X : FVec Ideal S512x1024 .bf16) (hX : X = blk t.val (tb t) (YA m c)) :
    (cfg0.win 9).cut (grid0.coords t) X = ((cfg0.win 9).blk t).view.read (Elt Ideal) (YA m c) := by
  subst hX
  refine ext2 fun r q => ?_
  show _ = YA m c (((cfg0.win 9).blk t).view.emb (ix2 r q)); rw [emb9]; rfl

theorem flushed9_eq (c : Dev nD) (t : Fin cfg0.N) : (dats m 0 c).flushed 9 t = ((cfg0.win 9).blk t).view.read (Elt Ideal) (YA m c) := by
  rw [flushed9]
  refine cut9 m c t _ ?_
  unfold_out out0_9
  rw [View.canon_unit_zero hz2]
  exact p9 m c t

/-- A block of the result is read back out of it. -/
theorem cut10 (c : Dev nD) (t : Fin cfg0.N) (X : FVec Ideal S512x1024 .bf16) (hX : X = blk t.val (tb t) (YB m c)) :
    (cfg0.win 10).cut (grid0.coords t) X = ((cfg0.win 10).blk t).view.read (Elt Ideal) (YB m c) := by
  subst hX
  refine ext2 fun r q => ?_
  show _ = YB m c (((cfg0.win 10).blk t).view.emb (ix2 r q)); rw [emb10]; rfl

theorem flushed10_eq (c : Dev nD) (t : Fin cfg0.N) : (dats m 0 c).flushed 10 t = ((cfg0.win 10).blk t).view.read (Elt Ideal) (YB m c) := by
  rw [flushed10]
  refine cut10 m c t _ ?_
  unfold_out out0_10
  rw [View.canon_unit_zero hz2]
  exact p14 m c t

/-- A block of the result is read back out of it. -/
theorem cut11 (c : Dev nD) (t : Fin cfg0.N) (X : FVec Ideal S512x1024 .bf16) (hX : X = blk t.val (tb t) (MG m c)) :
    (cfg0.win 11).cut (grid0.coords t) X = ((cfg0.win 11).blk t).view.read (Elt Ideal) (MG m c) := by
  subst hX
  refine ext2 fun r q => ?_
  show _ = MG m c (((cfg0.win 11).blk t).view.emb (ix2 r q)); rw [emb11]; rfl

theorem flushed11_eq (c : Dev nD) (t : Fin cfg0.N) : (dats m 0 c).flushed 11 t = ((cfg0.win 11).blk t).view.read (Elt Ideal) (MG m c) := by
  rw [flushed11]
  refine cut11 m c t _ ?_
  unfold_out out0_11
  rw [View.canon_unit_zero hz2]
  exact p1 m c t

/-- A block of the result is read back out of it. -/
theorem cut12 (c : Dev nD) (t : Fin cfg0.N) (X : FVec Ideal S512x1024 .bf16) (hX : X = blk t.val (tb t) (OO m c)) :
    (cfg0.win 12).cut (grid0.coords t) X = ((cfg0.win 12).blk t).view.read (Elt Ideal) (OO m c) := by
  subst hX
  refine ext2 fun r q => ?_
  show _ = OO m c (((cfg0.win 12).blk t).view.emb (ix2 r q)); rw [emb12]; rfl

theorem flushed12_eq (c : Dev nD) (t : Fin cfg0.N) : (dats m 0 c).flushed 12 t = ((cfg0.win 12).blk t).view.read (Elt Ideal) (OO m c) := by
  rw [flushed12]
  refine cut12 m c t _ ?_
  unfold_out out0_12
  rw [View.canon_unit_zero hz2]
  exact p2 m c t

/-- A block of the result is read back out of it. -/
theorem cut13 (c : Dev nD) (t : Fin cfg0.N) (X : FVec Ideal S512x1024 .f32) (hX : X = blk t.val (tb t) (RR m c)) :
    (cfg0.win 13).cut (grid0.coords t) X = ((cfg0.win 13).blk t).view.read (Elt Ideal) (RR m c) := by
  subst hX
  refine ext2 fun r q => ?_
  show _ = RR m c (((cfg0.win 13).blk t).view.emb (ix2 r q)); rw [emb13]; rfl

theorem flushed13_eq (c : Dev nD) (t : Fin cfg0.N) : (dats m 0 c).flushed 13 t = ((cfg0.win 13).blk t).view.read (Elt Ideal) (RR m c) := by
  rw [flushed13]
  refine cut13 m c t _ ?_
  unfold_out out0_13
  rw [View.canon_unit_zero hz2]
  exact p7 m c t

theorem final9 (c : Dev nD) : (dats m 0 c).arrAt 9 cfg0.N = YA m c :=
  (dats m 0 c).arrAt_eq_of_cover 9 _ (fun t _ => flushed9_eq m c t) fun i => by
    have hi : (i 0).val < 8192 := (i 0).isLt
    have e := (emb9 (⟨(i 0).val / 512, by show _ < 16; omega⟩ : Fin cfg0.N) (⟨(i 0).val % 512, Nat.mod_lt _ (by decide)⟩ : Fin 512) (i 1)).trans (row_split i hi)
    exact ⟨_, flush0_9 _, e ▸ View.emb_mem_set _ _⟩

theorem final10 (c : Dev nD) : (dats m 0 c).arrAt 10 cfg0.N = YB m c :=
  (dats m 0 c).arrAt_eq_of_cover 10 _ (fun t _ => flushed10_eq m c t) fun i => by
    have hi : (i 0).val < 8192 := (i 0).isLt
    have e := (emb10 (⟨(i 0).val / 512, by show _ < 16; omega⟩ : Fin cfg0.N) (⟨(i 0).val % 512, Nat.mod_lt _ (by decide)⟩ : Fin 512) (i 1)).trans (row_split i hi)
    exact ⟨_, flush0_10 _, e ▸ View.emb_mem_set _ _⟩

theorem final11 (c : Dev nD) : (dats m 0 c).arrAt 11 cfg0.N = MG m c :=
  (dats m 0 c).arrAt_eq_of_cover 11 _ (fun t _ => flushed11_eq m c t) fun i => by
    have hi : (i 0).val < 8192 := (i 0).isLt
    have e := (emb11 (⟨(i 0).val / 512, by show _ < 16; omega⟩ : Fin cfg0.N) (⟨(i 0).val % 512, Nat.mod_lt _ (by decide)⟩ : Fin 512) (i 1)).trans (row_split i hi)
    exact ⟨_, flush0_11 _, e ▸ View.emb_mem_set _ _⟩

theorem final12 (c : Dev nD) : (dats m 0 c).arrAt 12 cfg0.N = OO m c :=
  (dats m 0 c).arrAt_eq_of_cover 12 _ (fun t _ => flushed12_eq m c t) fun i => by
    have hi : (i 0).val < 8192 := (i 0).isLt
    have e := (emb12 (⟨(i 0).val / 512, by show _ < 16; omega⟩ : Fin cfg0.N) (⟨(i 0).val % 512, Nat.mod_lt _ (by decide)⟩ : Fin 512) (i 1)).trans (row_split i hi)
    exact ⟨_, flush0_12 _, e ▸ View.emb_mem_set _ _⟩

theorem final13 (c : Dev nD) : (dats m 0 c).arrAt 13 cfg0.N = RR m c :=
  (dats m 0 c).arrAt_eq_of_cover 13 _ (fun t _ => flushed13_eq m c t) fun i => by
    have hi : (i 0).val < 8192 := (i 0).isLt
    have e := (emb13 (⟨(i 0).val / 512, by show _ < 16; omega⟩ : Fin cfg0.N) (⟨(i 0).val % 512, Nat.mod_lt _ (by decide)⟩ : Fin 512) (i 1)).trans (row_split i hi)
    exact ⟨_, flush0_13 _, e ▸ View.emb_mem_set _ _⟩

end Cert.FwdMergeRun
-- ==== Proof.FwdMergeRef.lean ====
/-
  What the reference of the end of a layer's mixer comes to, over the reals.
-/
module

public import proofs.«01_k».proof.Proof.Gen.Reference9Ideal.Read
public import proofs.«01_k».proof.Proof.FwdMergeSpec
public import Idealize.ShloMosaic.Lib.IdealHost

@[expose] public section

noncomputable section

namespace Cert.FwdMergeRef

open Cert.Reference9Ideal Cert.Reference9Ideal.Gen Cert.Reference9Ideal.Read Cert.Tools Cert.NormSpec Cert.FwdTools Cert.FwdMergeSpec
open Idealize.ShloMosaic Idealize.ShloMosaic.ValueIdx

abbrev Arr (s : Shape) : Type := (⟨s, .f32⟩ : BufTy).Contents (Elt Ideal)

variable (x0 : Arr S8192x1024) (x1 : Arr S4x2x6144) (x2 : Arr S8192x6144) (x3 x4 : Arr S8192x1024) (x5 x6 x7 : Arr S1024x1024)

theorem ya : val_main_v0 (F := Ideal) x3 x5 = mm x3 x5 := by
  refine ext2 fun n q => ?_
  rw [val_main_v0_apply]
  exact Finset.sum_congr rfl fun k _ => congrArg₂ (· * ·) (congrArg x3 (ix2_ext rfl rfl)) (congrArg x5 (ix2_ext rfl rfl))

theorem yb : val_main_v1 (F := Ideal) x4 x6 = mm x4 x6 := by
  refine ext2 fun n q => ?_
  rw [val_main_v1_apply]
  exact Finset.sum_congr rfl fun k _ => congrArg₂ (· * ·) (congrArg x4 (ix2_ext rfl rfl)) (congrArg x6 (ix2_ext rfl rfl))

theorem ga (i : S8192x1024.Idx) : val_main_v9 (F := Ideal) x2 i = sg (gcol x2 4096 (by decide) i) := by
  simp only [val_main_v9_apply, val_main_v8_apply, val_main_v7_apply, val_main_v6_apply, val_main_v5_apply, val_main_v4_apply,
    val_main_v2_apply, val_main_cst_apply, val_main_cst_0_apply]
  exact congrArg (fun j => sg (x2 j)) (ix2_ext rfl rfl)

theorem gb (i : S8192x1024.Idx) : val_main_v16 (F := Ideal) x2 i = sg (gcol x2 5120 (by decide) i) := by
  simp only [val_main_v16_apply, val_main_v15_apply, val_main_v14_apply, val_main_v13_apply, val_main_v12_apply, val_main_v11_apply,
    val_main_v3_apply, val_main_cst_1_apply, val_main_cst_2_apply]
  exact congrArg (fun j => sg (x2 j)) (ix2_ext rfl rfl)

theorem mg : val_main_v18 (F := Ideal) x2 x3 x4 x5 x6 = merged x2 (mm x3 x5) (mm x4 x6) := by
  refine ext2 fun n q => ?_
  rw [val_main_v18_apply, val_main_v10_apply, val_main_v17_apply, ga, gb, ya, yb]
  rfl

theorem oo : val_main_v19 (F := Ideal) x2 x3 x4 x5 x6 x7 = mm (merged x2 (mm x3 x5) (mm x4 x6)) x7 := by
  refine ext2 fun n q => ?_
  rw [val_main_v19_apply, mg]
  exact Finset.sum_congr rfl fun k _ => congrArg₂ (· * ·) (congrArg _ (ix2_ext rfl rfl)) (congrArg x7 (ix2_ext rfl rfl))

/-- The gate's row. -/
theorem gate (b : Fin 2) (a : Fin 1) (q : Fin 1024) : val_main_v29 (F := Ideal) x1 (ix3 b a q) = modL x1 0 2048 (by decide) b q := by
  rw [val_main_v29_apply, val_main_v26_apply, val_main_v25_apply, val_main_v24_apply]
  refine congrArg x1 (ix3_ext rfl ?_ ?_)
  · show (b.val * 6144 + (2048 + q.val)) / 6144 % 2 = b.val; omega
  · show (b.val * 6144 + (2048 + q.val)) % 6144 = 2048 + q.val; omega

/-- The residual stream and the sub-layer's rows, by sequence. -/
theorem x3d (b : Fin 2) (k : Fin 4096) (q : Fin 1024) : val_main_v33 (F := Ideal) x0 (ix3 b k q) = x0 (ix2 (tokAt b k) q) := by
  rw [val_main_v33_apply]
  exact congrArg x0 (ix2_ext (by show ((b.val * 4096 + k.val) * 1024 + q.val) / 1024 = b.val * 4096 + k.val; omega)
    (by show ((b.val * 4096 + k.val) * 1024 + q.val) % 1024 = q.val; omega))

theorem o3d (b : Fin 2) (k : Fin 4096) (q : Fin 1024) : val_main_v34 (F := Ideal) x2 x3 x4 x5 x6 x7 (ix3 b k q)
    = mm (merged x2 (mm x3 x5) (mm x4 x6)) x7 (ix2 (tokAt b k) q) := by
  rw [val_main_v34_apply, oo]
  exact congrArg (mm (merged x2 (mm x3 x5) (mm x4 x6)) x7) (ix2_ext (by show ((b.val * 4096 + k.val) * 1024 + q.val) / 1024 = b.val * 4096 + k.val; omega)
    (by show ((b.val * 4096 + k.val) * 1024 + q.val) % 1024 = q.val; omega))

theorem res3 (b : Fin 2) (k : Fin 4096) (q : Fin 1024) : val_main_v37 (F := Ideal) x0 x1 x2 x3 x4 x5 x6 x7 (ix3 b k q)
    = x0 (ix2 (tokAt b k) q) + modL x1 0 2048 (by decide) b q * mm (merged x2 (mm x3 x5) (mm x4 x6)) x7 (ix2 (tokAt b k) q) := by
  rw [val_main_v37_apply, val_main_v36_apply, val_main_v35_apply, x3d, o3d]
  refine congrArg (fun z : EReal => x0 (ix2 (tokAt b k) q) + z * mm (merged x2 (mm x3 x5) (mm x4 x6)) x7 (ix2 (tokAt b k) q)) ?_
  exact (congrArg (val_main_v29 (F := Ideal) x1) (ix3_ext rfl rfl rfl : _ = ix3 b 0 q)).trans (gate x1 b 0 q)

theorem res : val_main_v38 (F := Ideal) x0 x1 x2 x3 x4 x5 x6 x7
    = resid x0 (mm (merged x2 (mm x3 x5) (mm x4 x6)) x7) (modL x1 0 2048 (by decide)) := by
  refine ext2 fun n q => ?_
  rw [val_main_v38_apply]
  refine (congrArg (val_main_v37 (F := Ideal) x0 x1 x2 x3 x4 x5 x6 x7) (ix3_ext ?_ ?_ ?_ : _ = ix3 (seqOf n) (⟨n.val % 4096, Nat.mod_lt _ (by decide)⟩ : Fin 4096) q)).trans ?_
  · show (n.val * 1024 + q.val) / 4194304 = n.val / 4096; omega
  · show (n.val * 1024 + q.val) / 1024 % 4096 = n.val % 4096; omega
  · show (n.val * 1024 + q.val) % 1024 = q.val; omega
  · rw [res3, tokAt_seqOf]
    rfl

end Cert.FwdMergeRef
-- ==== Proof.Grad9.lean ====
/-
  The merge of the branches and its output projection: the call leaves what the reference gives.
-/
module

public import proofs.«01_k».proof.Defs
public import proofs.«01_k».proof.Proof.FwdMergeRun
public import proofs.«01_k».proof.Proof.FwdMergeRef

@[expose] public section

noncomputable section

namespace Cert.Grad9

open Cert.FwdMergeRun Cert.Kernel9Ideal Cert.Kernel9Ideal.Gen Cert.Kernel9Ideal.Value Cert.Reference9Ideal.Read
open Idealize.ShloMosaic Idealize.ShloMosaic.TcCoe Idealize.SL.Sem

set_option maxHeartbeats 4000000 in
/-- What the call leaves is what the reference gives. -/
theorem claim : Cert.algebraic_Kernel9Ideal_Reference9Ideal := by
  intro m g m' g' _ hag
  refine ⟨fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, ?_, ?_⟩
  · refine (θ_run _ _ _).mono (fun r h c => ?_) (run_blocks m g)
    obtain ⟨h9, h10, h11, h12, h13, ha⟩ := h c
    exact ⟨h9, h10, h11, h12, h13, ha⟩
  · refine (θ_run _ _ _).mono (fun r h c => ?_) (Cert.Reference9Ideal.Value.run m' g')
    obtain ⟨h9, h10, h11, h12, h13, ha⟩ := h c
    obtain ⟨e0, e1, e2, e3, e4, e5, e6, e7⟩ := hag c
    have f9 := h9.trans (val_main_v20_eq _ _)
    have f10 := h10.trans (val_main_v21_eq _ _)
    have f11 := h11.trans (val_main_v22_eq _ _ _ _ _)
    have f12 := h12.trans (val_main_v23_eq _ _ _ _ _ _)
    have f13 := h13.trans (val_main_v38_eq _ _ _ _ _ _ _ _)
    rw [e3, e5] at f9
    rw [e4, e6] at f10
    rw [e2, e3, e4, e5, e6] at f11
    rw [e2, e3, e4, e5, e6, e7] at f12
    rw [e0, e1, e2, e3, e4, e5, e6, e7] at f13
    refine ⟨f9.trans (Eq.trans ?_ (final9 m c).symm), f10.trans (Eq.trans ?_ (final10 m c).symm), f11.trans (Eq.trans ?_ (final11 m c).symm), f12.trans (Eq.trans ?_ (final12 m c).symm), f13.trans (Eq.trans ?_ (final13 m c).symm), ha⟩
    · exact Cert.FwdMergeRef.ya _ _
    · exact Cert.FwdMergeRef.yb _ _
    · exact Cert.FwdMergeRef.mg _ _ _ _ _
    · exact Cert.FwdMergeRef.oo _ _ _ _ _ _
    · exact Cert.FwdMergeRef.res _ _ _ _ _ _ _ _

end Cert.Grad9
-- ==== Proof.FwdFfnRun.lean ====
/-
  The feed-forward, run: what the host hands the region, where each window's block lies, and what the input blocks hold.
-/
module

public import proofs.«01_k».proof.Proof.Gen.Kernel10Ideal.Value
public import proofs.«01_k».proof.Proof.FwdTools

@[expose] public section

noncomputable section

namespace Cert.FwdFfnRun

open Cert.Kernel10Ideal Cert.Kernel10Ideal.Gen Cert.Kernel10Ideal.Value Cert.Tools Cert.NormSpec Cert.NormPay Cert.FwdTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev A0 (c : Dev nD) : Arr S8192x1024 := m ((c : Thread nD τ).loc main_arg0)
abbrev A1 (c : Dev nD) : Arr S4x2x6144 := m ((c : Thread nD τ).loc main_arg1)
abbrev A2 (c : Dev nD) : Arr S4x1024 := m ((c : Thread nD τ).loc main_arg2)
abbrev A3 (c : Dev nD) : Arr S1024x4096 := m ((c : Thread nD τ).loc main_arg3)
abbrev A4 (c : Dev nD) : Arr S4096x1024 := m ((c : Thread nD τ).loc main_arg4)

theorem V_mod (c : Dev nD) (l : Fin 4) (b : Fin 2) (r : Fin 8) (q : Fin 1024) (hr : r.val < 6) :
    (V m c main_v1 : S4x2x8x1024.Idx → EReal) (ix4 l b r q) = A1 m c (ix3 l b ⟨r.val * 1024 + q.val, by omega⟩) := by
  have e : (V m c main_v1 : S4x2x8x1024.Idx → EReal) = pad S4x2x8x1024 ![0, 0, 0, 0] ![0, 0, 2, 0] ![0, 0, 0, 0]
        (shapeCast S4x2x6x1024 (A1 m c) shapeCasts_S4x2x6144_S4x2x6x1024) (sitofp (F := Ideal) FTy.f32 (constantI S_ 32 0#32))
        pads_S4x2x6x1024_S4x2x8x1024_000_000_020_000 h_S_ := by
    unfold_abbrev_sides
    simp only [List.flatten_cons, List.flatten_nil, List.cons_append, List.nil_append, List.append_nil]
    after_results
    rfl
  rw [e]
  exact mod_rows (A1 m c) 0 _ _ _ _ l b r q hr

theorem V_g (c : Dev nD) (l : Fin 4) (q : Fin 1024) : (V m c main_v2 : S4x1x1024.Idx → EReal) (ix3 l 0 q) = A2 m c (ix2 l q) := by
  have e : (V m c main_v2 : S4x1x1024.Idx → EReal) = broadcastInDim S4x1x1024 ![0, 2] bcast_S4x1024_S4x1x1024_0_2 (A2 m c) := by
    unfold_abbrev_sides
    simp only [List.flatten_cons, List.flatten_nil, List.cons_append, List.nil_append, List.append_nil]
    after_results
  rw [e]
  exact congrArg (A2 m c) (ix2_ext rfl rfl)

theorem V_w1 (c : Dev nD) (a : Fin 4) (r : Fin 1024) (q : Fin 1024) (y : Fin 4096) (hy : y.val = a.val * 1024 + q.val) :
    (V m c main_v5 : S4x1024x1024.Idx → EReal) (ix3 a r q) = A3 m c (ix2 r y) := by
  have e : (V m c main_v5 : S4x1024x1024.Idx → EReal) = transpose S4x1024x1024 [1, 0, 2] (shapeCast S1024x4x1024 (A3 m c) shapeCasts_S1024x4096_S1024x4x1024)
      transposes_S1024x4x1024_S4x1024x1024_1_0_2 := by
    unfold_abbrev_sides
    simp only [List.flatten_cons, List.flatten_nil, List.cons_append, List.nil_append, List.append_nil]
    after_results
    rfl
  rw [e]
  exact col_quarter rfl (A3 m c) _ _ a r q y hy

theorem V_w2 (c : Dev nD) (j : S4x1024x1024.Idx) :
    (V m c main_v7 : S4x1024x1024.Idx → EReal) j = shapeCast S4x1024x1024 (A4 m c) shapeCasts_S4096x1024_S4x1024x1024 j := by
  have e : (V m c main_v7 : S4x1024x1024.Idx → EReal) = shapeCast S4x1024x1024 (A4 m c) shapeCasts_S4096x1024_S4x1024x1024 := by
    unfold_abbrev_sides
    simp only [List.flatten_cons, List.flatten_nil, List.cons_append, List.nil_append, List.append_nil]
    after_results
    rfl
  rw [e]

theorem tlt (t : Fin cfg0.N) : t.val < 16 := t.isLt
theorem tb (t : Fin cfg0.N) : t.val * 512 + 512 ≤ 8192 := by have := tlt t; omega

theorem idx0 : ∀ t : Fin cfg0.N, win0_0.index t (0 : Fin 2) = t.val ∧ win0_0.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx1 : ∀ t : Fin cfg0.N, win0_1.index t (0 : Fin 4) = 0 ∧ win0_1.index t (1 : Fin 4) = t.val / 8 ∧ win0_1.index t (2 : Fin 4) = 0 ∧ win0_1.index t (3 : Fin 4) = 0 := (by decide +kernel : ∀ t : Fin grid0.N, _)
theorem idx2 : ∀ t : Fin cfg0.N, win0_2.index t (0 : Fin 3) = 0 ∧ win0_2.index t (1 : Fin 3) = 0 ∧ win0_2.index t (2 : Fin 3) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem idx3 : ∀ t : Fin cfg0.N, win0_3.index t (0 : Fin 3) = 0 ∧ win0_3.index t (1 : Fin 3) = 0 ∧ win0_3.index t (2 : Fin 3) = 0 := (by decide +kernel : ∀ t : Fin grid0.N, _)

/-- A block's index in its array. -/
theorem emb0 (t : Fin cfg0.N) (r : Fin 512) (q : Fin 1024) :
    ((cfg0.win 0).blk t).view.emb (ix2 r q : S512x1024.Idx) = (ix2 ⟨t.val * 512 + r.val, by have := tlt t; omega⟩ q : S8192x1024.Idx) := by
  obtain ⟨e0, e1⟩ := idx0 t
  refine ix2_ext ?_ ?_
  · show win0_0.index t (0 : Fin 2) * 512 + 1 * r.val = t.val * 512 + r.val; omega
  · show win0_0.index t (1 : Fin 2) * 1024 + 1 * q.val = q.val; omega
theorem emb5 (t : Fin cfg0.N) (r : Fin 512) (q : Fin 1024) :
    ((cfg0.win 5).blk t).view.emb (ix2 r q : S512x1024.Idx) = (ix2 ⟨t.val * 512 + r.val, by have := tlt t; omega⟩ q : S8192x1024.Idx) := by
  obtain ⟨e0, e1⟩ := idx5 t
  refine ix2_ext ?_ ?_
  · show win0_5.index t (0 : Fin 2) * 512 + 1 * r.val = t.val * 512 + r.val; omega
  · show win0_5.index t (1 : Fin 2) * 1024 + 1 * q.val = q.val; omega
theorem emb6 (t : Fin cfg0.N) (r : Fin 512) (q : Fin 4096) :
    ((cfg0.win 6).blk t).view.emb (ix2 r q : S512x4096.Idx) = (ix2 ⟨t.val * 512 + r.val, by have := tlt t; omega⟩ q : S8192x4096.Idx) := by
  obtain ⟨e0, e1⟩ := idx6 t
  refine ix2_ext ?_ ?_
  · show win0_6.index t (0 : Fin 2) * 512 + 1 * r.val = t.val * 512 + r.val; omega
  · show win0_6.index t (1 : Fin 2) * 4096 + 1 * q.val = q.val; omega
theorem emb7 (t : Fin cfg0.N) (r : Fin 512) (q : Fin 1024) :
    ((cfg0.win 7).blk t).view.emb (ix2 r q : S512x1024.Idx) = (ix2 ⟨t.val * 512 + r.val, by have := tlt t; omega⟩ q : S8192x1024.Idx) := by
  obtain ⟨e0, e1⟩ := idx7 t
  refine ix2_ext ?_ ?_
  · show win0_7.index t (0 : Fin 2) * 512 + 1 * r.val = t.val * 512 + r.val; omega
  · show win0_7.index t (1 : Fin 2) * 1024 + 1 * q.val = q.val; omega
theorem emb8 (t : Fin cfg0.N) (r : Fin 512) (q : Fin 1024) :
    ((cfg0.win 8).blk t).view.emb (ix2 r q : S512x1024.Idx) = (ix2 ⟨t.val * 512 + r.val, by have := tlt t; omega⟩ q : S8192x1024.Idx) := by
  obtain ⟨e0, e1⟩ := idx8 t
  refine ix2_ext ?_ ?_
  · show win0_8.index t (0 : Fin 2) * 512 + 1 * r.val = t.val * 512 + r.val; omega
  · show win0_8.index t (1 : Fin 2) * 1024 + 1 * q.val = q.val; omega

theorem iblk0_eq (c : Dev nD) (t : Fin cfg0.N) : iblk m c 0 t = blk t.val (tb t) (A0 m c) := by
  refine ext2 fun r q => ?_
  show V m c main_arg0 (((cfg0.win 0).blk t).view.emb (ix2 r q)) = _
  rw [emb0, V_main_arg0]; rfl

/-- The modulation rows of a block: those of its sequence. -/
theorem iblk1_apply (c : Dev nD) (t : Fin cfg0.N) (r : Fin 8) (q : Fin 1024) (hr : r.val < 6) :
    iblk m c 1 t (ix4 0 0 r q) = A1 m c (ix3 0 ⟨t.val * 512 / 4096, by have := tlt t; omega⟩ ⟨r.val * 1024 + q.val, by omega⟩) := by
  obtain ⟨e0, e1, e2, e3⟩ := idx1 t
  show V m c main_v1 (((cfg0.win 1).blk t).view.emb (ix4 0 0 r q : S1x1x8x1024.Idx)) = _
  refine (congrArg (V m c main_v1) (ix4_ext ?_ ?_ ?_ ?_ : _ = (ix4 0 ⟨t.val * 512 / 4096, by have := tlt t; omega⟩ r q : S4x2x8x1024.Idx))).trans (V_mod m c _ _ _ _ hr)
  · show win0_1.index t (0 : Fin 4) * 1 + 1 * 0 = 0; omega
  · show win0_1.index t (1 : Fin 4) * 1 + 1 * 0 = t.val * 512 / 4096; omega
  · show win0_1.index t (2 : Fin 4) * 8 + 1 * r.val = r.val; omega
  · show win0_1.index t (3 : Fin 4) * 1024 + 1 * q.val = q.val; omega

/-- The gain of a block. -/
theorem iblk2_apply (c : Dev nD) (t : Fin cfg0.N) (q : Fin 1024) : iblk m c 2 t (ix3 0 0 q) = A2 m c (ix2 0 q) := by
  obtain ⟨e0, e1, e2⟩ := idx2 t
  show V m c main_v2 (((cfg0.win 2).blk t).view.emb (ix3 0 0 q : S1x1x1024.Idx)) = _
  refine (congrArg (V m c main_v2) (ix3_ext ?_ ?_ ?_ : _ = (ix3 0 0 q : S4x1x1024.Idx))).trans (V_g m c _ _)
  · show win0_2.index t (0 : Fin 3) * 1 + 1 * 0 = 0; omega
  · show win0_2.index t (1 : Fin 3) * 1 + 1 * 0 = 0; omega
  · show win0_2.index t (2 : Fin 3) * 1024 + 1 * q.val = q.val; omega

/-- A quarter of the weight. -/
theorem iblk3_apply (c : Dev nD) (t : Fin cfg0.N) (a : Fin 4) (r : Fin 1024) (q : Fin 1024) (y : Fin 4096) (hy : y.val = a.val * 1024 + q.val) :
    iblk m c 3 t (ix3 a r q) = A3 m c (ix2 r y) := by
  obtain ⟨e0, e1, e2⟩ := idx3 t
  show V m c main_v5 (((cfg0.win 3).blk t).view.emb (ix3 a r q : S4x1024x1024.Idx)) = _
  refine (congrArg (V m c main_v5) (ix3_ext ?_ ?_ ?_ : _ = (ix3 a r q : S4x1024x1024.Idx))).trans (V_w1 m c _ _ _ _ hy)
  · show win0_3.index t (0 : Fin 3) * 4 + 1 * a.val = a.val; omega
  · show win0_3.index t (1 : Fin 3) * 1024 + 1 * r.val = r.val; omega
  · show win0_3.index t (2 : Fin 3) * 1024 + 1 * q.val = q.val; omega

/-- The second weight. -/
theorem iblk4_eq (c : Dev nD) (t : Fin cfg0.N) : iblk m c 4 t = shapeCast S4x1024x1024 (A4 m c) shapeCasts_S4096x1024_S4x1024x1024 := by
  obtain ⟨e0, e1, e2⟩ := idx4 t
  refine funext fun (j : S4x1024x1024.Idx) => ?_
  show V m c main_v7 (((cfg0.win 4).blk t).view.emb j) = _
  refine (congrArg (V m c main_v7) (ix3_ext ?_ ?_ ?_ : _ = j)).trans (V_w2 m c j)
  · show win0_4.index t (0 : Fin 3) * 4 + 1 * (j 0).val = (j 0).val; omega
  · show win0_4.index t (1 : Fin 3) * 1024 + 1 * (j 1).val = (j 1).val; omega
  · show win0_4.index t (2 : Fin 3) * 1024 + 1 * (j 2).val = (j 2).val; omega

/-- The four results. -/
abbrev H (c : Dev nD) : M2 8192 1024 := fwd (A0 m c) (modL (A1 m c) 0 4096 (by decide)) (modL (A1 m c) 0 3072 (by decide)) (gnL (A2 m c) 0)
abbrev FF (c : Dev nD) : M2 8192 4096 := mm (H m c) (A3 m c)
abbrev OO (c : Dev nD) : M2 8192 1024 := mm (sqr (FF m c)) (A4 m c)
abbrev RR (c : Dev nD) : M2 8192 1024 := resid (A0 m c) (OO m c) (modL (A1 m c) 0 5120 (by decide))

end Cert.FwdFfnRun
-- ==== Proof.FwdFfnOut.lean ====
/-
  The feed-forward's outputs: what the body writes at each point, and the four arrays this leaves.
-/
module

public import proofs.«01_k».proof.Proof.FwdFfnRun

@[expose] public section

noncomputable section

namespace Cert.FwdFfnOut

open Cert.Kernel10Ideal Cert.Kernel10Ideal.Gen Cert.Kernel10Ideal.Value Cert.Tools Cert.NormSpec Cert.NormPay Cert.FwdTools Cert.FwdFfnRun
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The two products of the body at an index. -/
theorem mm_apply (a : FVec Ideal S512x1024 .bf16) (b : FVec Ideal S1024x1024 .bf16) (j : S512x1024.Idx) :
    matmul (F := Ideal) dot_S512x1024_S1024x1024_S512x1024_1_0_0_1_n_n none a b (constant S512x1024 .f32 0x00000000#32) j
      = ∑ k : Fin 1024, a (ix2 (j 0) k) * b (ix2 k (j 1)) := by
  rw [matmul_sum dot_S512x1024_S1024x1024_S512x1024_1_0_0_1_n_n 1024 rfl rfl a b _ j (fun k => ix2 (j 0) k) (fun k => ix2 k (j 1))
    (fun q => ix2_ext rfl rfl) (fun q => ix2_ext rfl rfl)]
  rw [constant_apply, Ideal.ofBits_zero_f32, zero_add]

theorem mm4_apply (a : FVec Ideal S512x4096 .bf16) (b : FVec Ideal S4096x1024 .bf16) (j : S512x1024.Idx) :
    matmul (F := Ideal) dot_S512x4096_S4096x1024_S512x1024_1_0_0_1_n_n none a b (constant S512x1024 .f32 0x00000000#32) j
      = ∑ k : Fin 4096, a (ix2 (j 0) k) * b (ix2 k (j 1)) := by
  rw [matmul_sum dot_S512x4096_S4096x1024_S512x1024_1_0_0_1_n_n 4096 rfl rfl a b _ j (fun k => ix2 (j 0) k) (fun k => ix2 k (j 1))
    (fun q => ix2_ext rfl rfl) (fun q => ix2_ext rfl rfl)]
  rw [constant_apply, Ideal.ofBits_zero_f32, zero_add]

/-- Four column stores that fill a block of width 4096. -/
theorem four4 (Y : FVec Ideal S512x4096 .bf16) (i0 i1 i2 i3 : _) (p0 p1 p2 p3 : FVec Ideal S512x1024 .bf16)
    (f0 : Fits (α := EReal) 0 p0 Y) (f1 : Fits (α := EReal) 1024 p1 Y) (f2 : Fits (α := EReal) 2048 p2 Y) (f3 : Fits (α := EReal) 3072 p3 Y) :
    View.canon ([⟨Rect.unit (s := S512x4096) ![0, 3072] ![512, 1024] i3, p3⟩, ⟨Rect.unit (s := S512x4096) ![0, 2048] ![512, 1024] i2, p2⟩,
      ⟨Rect.unit (s := S512x4096) ![0, 1024] ![512, 1024] i1, p1⟩, ⟨Rect.unit (s := S512x4096) ![0, 0] ![512, 1024] i0, p0⟩] : List (View.Piece (Elt Ideal) S512x4096 .bf16)) = Y := by
  refine four (w := 1024) (W := 4096) (e := .bf16) Y 0 1024 2048 3072 i0 i1 i2 i3 p0 p1 p2 p3 f0 f1 f2 f3 ?_
  intro y
  exact View.cover_of_tiledL _ (![512, 1024] : Fin 2 → ℕ) (by sl_kernel_rfl) y

section

variable (c : Dev nD) (t : Fin cfg0.N)

/-- The body's normed rows at a point. -/
theorem pay7_eq (i0 : _) (i1 : _) (i2 : _) (i3 : _) :
    k0_pay7 (View.ld (iblk m c 0 t) (Rect.unit (s := S512x1024) ![0, 0] ![512, 1024] i0)) (View.ld (iblk m c 2 t) (Rect.unit (s := S1x1x1024) ![0, 0, 0] ![1, 1, 1024] i1))
      (View.ld (iblk m c 1 t) (Rect.unit (s := S1x1x8x1024) ![0, 0, 4, 0] ![1, 1, 1, 1024] i2))
      (View.ld (iblk m c 1 t) (Rect.unit (s := S1x1x8x1024) ![0, 0, 3, 0] ![1, 1, 1, 1024] i3)) = blk t.val (tb t) (H m c) := by
  rw [iblk0_eq, View.ld_unit_zero (S := S512x1024) hz2 _ _]
  refine (rfl : _ = fwdB (blk t.val (tb t) (A0 m c)) (View.ld (iblk m c 2 t) (Rect.unit (s := S1x1x1024) ![0, 0, 0] ![1, 1, 1024] i1))
    (View.ld (iblk m c 1 t) (Rect.unit (s := S1x1x8x1024) ![0, 0, 4, 0] ![1, 1, 1, 1024] i2))
    (View.ld (iblk m c 1 t) (Rect.unit (s := S1x1x8x1024) ![0, 0, 3, 0] ![1, 1, 1, 1024] i3))).trans ?_
  refine fwdB_eq (A0 m c) t.val (tb t) _ _ _ _ _ _ ?_ ?_ ?_
  · exact fun k => (ld_row _ 4 (by decide) _ k).trans (iblk1_apply m c t 4 k (by decide))
  · exact fun k => (ld_row _ 3 (by decide) _ k).trans (iblk1_apply m c t 3 k (by decide))
  · intro k
    rw [View.ld_unit_zero (S := S1x1x1024) hz3 _ _]
    exact iblk2_apply m c t k

variable (a o : ℕ) (ha : a < 4) (ho : o = a * 1024)
  (inb : ∀ i, (![a, 0, 0] : Fin 3 → Nat) i + (![1, 1024, 1024] : Fin 3 → Nat) i ≤ S4x1024x1024.size i)
  (v : FVec Ideal S512x1024 .bf16) (hv : v = blk t.val (tb t) (H m c))

include ha ho hv

/-- A quarter of the first product. -/
theorem quarter (x : S512x1024.Idx) (y : S512x4096.Idx) (h0 : (y 0).val = (x 0).val) (h1 : (y 1).val = o + (x 1).val) :
    k0_pay11 v (View.ld (iblk m c 3 t) (Rect.unit (s := S4x1024x1024) ![a, 0, 0] ![1, 1024, 1024] inb)) x = blk t.val (tb t) (FF m c) y := by
  subst hv
  refine (mm_apply _ _ x).trans (Finset.sum_congr (g := fun k : Fin 1024 => H m c (ix2 ⟨t.val * 512 + (y 0).val, _⟩ k) * A3 m c (ix2 k (y 1))) rfl fun k _ =>
    congrArg₂ (· * ·) (congrArg (H m c) (ix2_ext (congrArg (t.val * 512 + ·) h0.symm) rfl)) ?_)
  refine (shapeCast_apply _ _ _ (ix3 0 k (x 1)) ?_).trans ((ld_quarter _ a ha inb k (x 1)).trans (iblk3_apply m c t ⟨a, ha⟩ k (x 1) (y 1) (by rw [h1, ho])))
  rw [Shape.rowMajor_val_three, Shape.rowMajor_val_two]
  show (0 * 1024 + k.val) * 1024 + (x 1).val = k.val * 1024 + (x 1).val
  omega

/-- A column store of the first product. -/
theorem fitsF : Fits (α := EReal) o (k0_pay12 v (View.ld (iblk m c 3 t) (Rect.unit (s := S4x1024x1024) ![a, 0, 0] ![1, 1024, 1024] inb)))
    (blk t.val (tb t) (FF m c)) := fun x y h0 h1 => quarter m c t a o ha ho inb v hv x y h0 h1

/-- A column store of its squared positive part. -/
theorem fitsA : Fits (α := EReal) o (k0_pay13 v (View.ld (iblk m c 3 t) (Rect.unit (s := S4x1024x1024) ![a, 0, 0] ![1, 1024, 1024] inb)))
    (blk t.val (tb t) (sqr (FF m c))) := by
  intro x y h0 h1
  unfold k0_pay13
  dsimp only
  rw [shapeCast_self]
  exact congrArg (fun z : EReal => max z (Ideal.ofBits .f32 0x00000000#32) * max z (Ideal.ofBits .f32 0x00000000#32)) (quarter m c t a o ha ho inb v hv x y h0 h1)

end

section

variable (c : Dev nD) (t : Fin cfg0.N)

/-- The second product of a block. -/
theorem pay4_eq (i : _) : k0_pay4 (blk t.val (tb t) (sqr (FF m c)) : FVec Ideal S512x4096 .bf16)
    (View.ld (iblk m c 4 t) (Rect.unit (s := S4x1024x1024) ![0, 0, 0] ![4, 1024, 1024] i)) = blk t.val (tb t) (OO m c) := by
  rw [iblk4_eq, View.ld_unit_zero (S := S4x1024x1024) hz3 _ _]
  unfold k0_pay4
  dsimp only
  rw [shapeCast_self, shapeCast_shapeCast]
  refine ext2 fun r q => ?_
  exact (mm4_apply _ _ _).trans (Finset.sum_congr rfl fun k _ => congrArg₂ (· * ·) (congrArg (sqr (FF m c)) (ix2_ext rfl rfl)) (congrArg (A4 m c) (ix2_ext rfl rfl)))

/-- Loads through a staging buffer read what the window's block holds. -/
theorem r_eq : kernelRun0_A.sl.r (F := Ideal) c (ms0_0 t) (hs0_0 t) (ms0_1 t) (hs0_1 t) (ms0_2 t) (hs0_2 t) (iblk m c 0 t) (iblk m c 1 t) (iblk m c 2 t)
    = blk t.val (tb t) (H m c) := by
  unfold kernelRun0_A.sl.r
  simp only [View.readAt_eq_ld, (hs0_0 t).read_unread, (hs0_1 t).read_unread, (hs0_2 t).read_unread]
  exact pay7_eq m c t _ _ _ _

/-- The scratch buffer, read back whole. -/
theorem v74_eq : kernelRun0_A.sl.v74 (F := Ideal) c (ms0_0 t) (hs0_0 t) (ms0_1 t) (hs0_1 t) (ms0_2 t) (hs0_2 t) (ms0_3 t) (hs0_3 t) scM0_0
      (iblk m c 0 t) (iblk m c 1 t) (iblk m c 2 t) (iblk m c 3 t) = blk t.val (tb t) (sqr (FF m c)) := by
  unfold kernelRun0_A.sl.v74 kernelRun0_A.sl.HS0_4
  try unfold kernelRun0_A.sl.r_1
  try unfold kernelRun0_A.sl.r_2
  dsimp only
  rw [r_eq, View.readCov_eq_canon']
  simp only [View.readAt_eq_ld, (hs0_0 t).read_unread, (hs0_1 t).read_unread, (hs0_2 t).read_unread, (hs0_3 t).read_unread]
  refine (congrArg (fun (f : S512x4096.Idx → EReal) (j : S512x4096.Idx) => f ((Rect.unit (s := S512x4096) ![0, 0] ![512, 4096] inb_S512x4096_S512x4096_0_0).toLoadRect.idx j))
    (four4 (blk t.val (tb t) (sqr (FF m c))) _ _ _ _ _ _ _ _
      (fitsA m c t 0 0 (by decide) rfl _ _ (pay7_eq m c t _ _ _ _)) (fitsA m c t 1 1024 (by decide) rfl _ _ rfl) (fitsA m c t 2 2048 (by decide) rfl _ _ rfl)
      (fitsA m c t 3 3072 (by decide) rfl _ _ rfl))).trans ?_
  refine ext2 fun r q => ?_
  exact congrArg (blk t.val (tb t) (sqr (FF m c))) (ix2_ext (by show 0 + 1 * r.val = r.val; omega) (by show 0 + 1 * q.val = q.val; omega))

end

/-- A block of a result is read back out of it. -/
theorem cut5 (c : Dev nD) (t : Fin cfg0.N) (X : FVec Ideal S512x1024 .bf16) (hX : X = blk t.val (tb t) (H m c)) :
    (cfg0.win 5).cut (grid0.coords t) X = ((cfg0.win 5).blk t).view.read (Elt Ideal) (H m c) := by
  subst hX
  refine ext2 fun r q => ?_
  show _ = H m c (((cfg0.win 5).blk t).view.emb (ix2 r q)); rw [emb5]; rfl

theorem cut6 (c : Dev nD) (t : Fin cfg0.N) (X : FVec Ideal S512x4096 .bf16) (hX : X = blk t.val (tb t) (FF m c)) :
    (cfg0.win 6).cut (grid0.coords t) X = ((cfg0.win 6).blk t).view.read (Elt Ideal) (FF m c) := by
  subst hX
  refine ext2 fun r q => ?_
  show _ = FF m c (((cfg0.win 6).blk t).view.emb (ix2 r q)); rw [emb6]; rfl

theorem cut7 (c : Dev nD) (t : Fin cfg0.N) (X : FVec Ideal S512x1024 .bf16) (hX : X = blk t.val (tb t) (OO m c)) :
    (cfg0.win 7).cut (grid0.coords t) X = ((cfg0.win 7).blk t).view.read (Elt Ideal) (OO m c) := by
  subst hX
  refine ext2 fun r q => ?_
  show _ = OO m c (((cfg0.win 7).blk t).view.emb (ix2 r q)); rw [emb7]; rfl

theorem cut8 (c : Dev nD) (t : Fin cfg0.N) (X : FVec Ideal S512x1024 .f32) (hX : X = blk t.val (tb t) (RR m c)) :
    (cfg0.win 8).cut (grid0.coords t) X = ((cfg0.win 8).blk t).view.read (Elt Ideal) (RR m c) := by
  subst hX
  refine ext2 fun r q => ?_
  show _ = RR m c (((cfg0.win 8).blk t).view.emb (ix2 r q)); rw [emb8]; rfl

theorem flushed5_eq (c : Dev nD) (t : Fin cfg0.N) : (dats m 0 c).flushed 5 t = ((cfg0.win 5).blk t).view.read (Elt Ideal) (H m c) := by
  rw [flushed5_A]
  refine cut5 m c t _ ?_
  unfold out0_A_5
  rw [View.read_writes_junk_eq_canon]
  unfold kernelRun0_A
  dsimp only
  rw [View.canon_unit_zero hz2]
  exact r_eq m c t

theorem flushed6_eq (c : Dev nD) (t : Fin cfg0.N) : (dats m 0 c).flushed 6 t = ((cfg0.win 6).blk t).view.read (Elt Ideal) (FF m c) := by
  rw [flushed6_A]
  refine cut6 m c t _ ?_
  unfold out0_A_6
  rw [View.read_writes_junk_eq_canon]
  unfold kernelRun0_A
  dsimp only
  try unfold kernelRun0_A.sl.r_2
  rw [r_eq]
  simp only [View.readAt_eq_ld, (hs0_0 t).read_unread, (hs0_1 t).read_unread, (hs0_2 t).read_unread, (hs0_3 t).read_unread]
  exact four4 (blk t.val (tb t) (FF m c)) _ _ _ _ _ _ _ _
    (fitsF m c t 0 0 (by decide) rfl _ _ (pay7_eq m c t _ _ _ _)) (fitsF m c t 1 1024 (by decide) rfl _ _ rfl) (fitsF m c t 2 2048 (by decide) rfl _ _ rfl)
    (fitsF m c t 3 3072 (by decide) rfl _ _ rfl)

theorem flushed7_eq (c : Dev nD) (t : Fin cfg0.N) : (dats m 0 c).flushed 7 t = ((cfg0.win 7).blk t).view.read (Elt Ideal) (OO m c) := by
  rw [flushed7_A]
  refine cut7 m c t _ ?_
  unfold out0_A_7
  rw [View.read_writes_junk_eq_canon]
  unfold kernelRun0_A
  dsimp only
  rw [View.canon_unit_zero hz2, v74_eq]
  simp only [View.readAt_eq_ld, (hs0_4 t).read_unread]
  exact pay4_eq m c t _

theorem flushed8_eq (c : Dev nD) (t : Fin cfg0.N) : (dats m 0 c).flushed 8 t = ((cfg0.win 8).blk t).view.read (Elt Ideal) (RR m c) := by
  rw [flushed8_A]
  refine cut8 m c t _ ?_
  unfold out0_A_8
  rw [View.read_writes_junk_eq_canon]
  unfold kernelRun0_A
  dsimp only
  rw [View.canon_unit_zero hz2, v74_eq]
  unfold kernelRun0_A.sl.v82
  simp only [View.readAt_eq_ld, (hs0_0 t).read_unread, (hs0_1 t).read_unread, (hs0_4 t).read_unread]
  unfold k0_pay6
  dsimp only
  rw [pay4_eq, iblk0_eq, View.ld_unit_zero (S := S512x1024) hz2 _ _]
  refine (rfl : _ = residB (blk t.val (tb t) (A0 m c)) (blk t.val (tb t) (OO m c))
    (View.ld (iblk m c 1 t) (Rect.unit (s := S1x1x8x1024) ![0, 0, 5, 0] ![1, 1, 1, 1024] inb_S1x1x8x1024_S1x1x1x1024_0_0_5_0))).trans (residB_eq _ _ _ _ _ _ ?_)
  exact fun k => (ld_row _ 5 (by decide) _ k).trans (iblk1_apply m c t 5 k (by decide))

theorem final5 (c : Dev nD) : (dats m 0 c).arrAt 5 cfg0.N = H m c :=
  (dats m 0 c).arrAt_eq_of_cover 5 _ (fun t _ => flushed5_eq m c t) fun i => by
    have hi : (i 0).val < 8192 := (i 0).isLt
    have e := (emb5 (⟨(i 0).val / 512, by show _ < 16; omega⟩ : Fin cfg0.N) (⟨(i 0).val % 512, Nat.mod_lt _ (by decide)⟩ : Fin 512) (i 1)).trans (row_split i hi)
    exact ⟨_, flush0_5 _, e ▸ View.emb_mem_set _ _⟩

theorem final6 (c : Dev nD) : (dats m 0 c).arrAt 6 cfg0.N = FF m c :=
  (dats m 0 c).arrAt_eq_of_cover 6 _ (fun t _ => flushed6_eq m c t) fun i => by
    have hi : (i 0).val < 8192 := (i 0).isLt
    have e := (emb6 (⟨(i 0).val / 512, by show _ < 16; omega⟩ : Fin cfg0.N) (⟨(i 0).val % 512, Nat.mod_lt _ (by decide)⟩ : Fin 512) (i 1)).trans (row_split i hi)
    exact ⟨_, flush0_6 _, e ▸ View.emb_mem_set _ _⟩

theorem final7 (c : Dev nD) : (dats m 0 c).arrAt 7 cfg0.N = OO m c :=
  (dats m 0 c).arrAt_eq_of_cover 7 _ (fun t _ => flushed7_eq m c t) fun i => by
    have hi : (i 0).val < 8192 := (i 0).isLt
    have e := (emb7 (⟨(i 0).val / 512, by show _ < 16; omega⟩ : Fin cfg0.N) (⟨(i 0).val % 512, Nat.mod_lt _ (by decide)⟩ : Fin 512) (i 1)).trans (row_split i hi)
    exact ⟨_, flush0_7 _, e ▸ View.emb_mem_set _ _⟩

theorem final8 (c : Dev nD) : (dats m 0 c).arrAt 8 cfg0.N = RR m c :=
  (dats m 0 c).arrAt_eq_of_cover 8 _ (fun t _ => flushed8_eq m c t) fun i => by
    have hi : (i 0).val < 8192 := (i 0).isLt
    have e := (emb8 (⟨(i 0).val / 512, by show _ < 16; omega⟩ : Fin cfg0.N) (⟨(i 0).val % 512, Nat.mod_lt _ (by decide)⟩ : Fin 512) (i 1)).trans (row_split i hi)
    exact ⟨_, flush0_8 _, e ▸ View.emb_mem_set _ _⟩

end Cert.FwdFfnOut
-- ==== Proof.FwdFfnRef.lean ====
/-
  What the reference of the feed-forward comes to, over the reals.
-/
module

public import proofs.«01_k».proof.Proof.Gen.Reference10Ideal.Read
public import proofs.«01_k».proof.Proof.FfnRef
public import proofs.«01_k».proof.Proof.FwdTools

@[expose] public section

noncomputable section

namespace Cert.FwdFfnRef

open Cert.Reference10Ideal Cert.Reference10Ideal.Gen Cert.Reference10Ideal.Read Cert.Tools Cert.NormSpec Cert.FwdTools
open Idealize.ShloMosaic Idealize.ShloMosaic.ValueIdx

abbrev Arr (s : Shape) : Type := (⟨s, .f32⟩ : BufTy).Contents (Elt Ideal)

variable (x0 : Arr S8192x1024) (x1 : Arr S4x2x6144) (x2 : Arr S4x1024) (x3 : Arr S1024x4096) (x4 : Arr S4096x1024)

/-- The normalised rows. -/
theorem xn (b : Fin 2) (k : Fin 4096) (q : Fin 1024) : val_main_v21 (F := Ideal) x0 (ix3 b k q) = nrm x0 (ix2 (FfnRef.tok b k) q) :=
  (congrFun (rfl : val_main_v21 (F := Ideal) x0 = Cert.Reference2Ideal.Read.val_main_v24 (F := Ideal) x0) _).trans (FfnRef.xn x0 b k q)

/-- The gain. -/
theorem gain (a b : Fin 1) (q : Fin 1024) : val_main_v22 (F := Ideal) x2 (ix3 a b q) = gnL x2 0 q := by
  rw [val_main_v22_apply, val_main_v10_apply, val_main_v9_apply]
  exact congrArg x2 (ix2_ext rfl (by show q.val % 1024 = q.val; omega))

/-- The scale's row, one added. -/
theorem scale (b : Fin 2) (a : Fin 1) (q : Fin 1024) : val_main_v26 (F := Ideal) x1 (ix3 b a q) = 1 + modL x1 0 4096 (by decide) b q := by
  rw [val_main_v26_apply, val_main_v7_apply, val_main_v2_apply, val_main_v1_apply, val_main_v0_apply]
  refine congrArg₂ (· + ·) (Ideal.ofBits_one_f32 : _ = (1 : EReal)) (congrArg x1 (ix3_ext rfl ?_ ?_))
  · show (b.val * 6144 + (4096 + q.val)) / 6144 % 2 = b.val; omega
  · show (b.val * 6144 + (4096 + q.val)) % 6144 = 4096 + q.val; omega

/-- The shift's row. -/
theorem shift (b : Fin 2) (a : Fin 1) (q : Fin 1024) : val_main_v6 (F := Ideal) x1 (ix3 b a q) = modL x1 0 3072 (by decide) b q := by
  rw [val_main_v6_apply, val_main_v2_apply, val_main_v1_apply, val_main_v0_apply]
  refine congrArg x1 (ix3_ext rfl ?_ ?_)
  · show (b.val * 6144 + (3072 + q.val)) / 6144 % 2 = b.val; omega
  · show (b.val * 6144 + (3072 + q.val)) % 6144 = 3072 + q.val; omega

theorem rows3 (b : Fin 2) (k : Fin 4096) (q : Fin 1024) : val_main_v30 (F := Ideal) x0 x1 x2 (ix3 b k q)
    = nrm x0 (ix2 (FfnRef.tok b k) q) * (gnL x2 0 q * (1 + modL x1 0 4096 (by decide) b q)) + modL x1 0 3072 (by decide) b q := by
  rw [val_main_v30_apply, val_main_v28_apply, val_main_v24_apply, val_main_v23_apply, val_main_v27_apply, val_main_v29_apply, xn]
  refine congrArg₂ (· + ·) ?_ ?_
  · refine Eq.trans (congrArg₂ (fun y z : EReal => nrm x0 (ix2 (FfnRef.tok b k) q) * y * z) ?_ ?_) (mul_assoc _ _ _)
    · exact (congrArg (val_main_v22 (F := Ideal) x2) (ix3_ext rfl rfl rfl : _ = ix3 0 0 q)).trans (gain x2 0 0 q)
    · exact (congrArg (val_main_v26 (F := Ideal) x1) (ix3_ext rfl rfl rfl : _ = ix3 b 0 q)).trans (scale x1 b 0 q)
  · exact (congrArg (val_main_v6 (F := Ideal) x1) (ix3_ext rfl rfl rfl : _ = ix3 b 0 q)).trans (shift x1 b 0 q)

/-- The normed rows. -/
theorem rows : val_main_v31 (F := Ideal) x0 x1 x2 = fwd x0 (modL x1 0 4096 (by decide)) (modL x1 0 3072 (by decide)) (gnL x2 0) := by
  refine ext2 fun n q => ?_
  rw [val_main_v31_apply]
  refine (congrArg (val_main_v30 (F := Ideal) x0 x1 x2) (ix3_ext ?_ ?_ ?_ : _ = ix3 (seqOf n) (⟨n.val % 4096, Nat.mod_lt _ (by decide)⟩ : Fin 4096) q)).trans ?_
  · show (n.val * 1024 + q.val) / 4194304 = n.val / 4096; omega
  · show (n.val * 1024 + q.val) / 1024 % 4096 = n.val % 4096; omega
  · show (n.val * 1024 + q.val) % 1024 = q.val; omega
  · rw [rows3]
    have e : FfnRef.tok (seqOf n) (⟨n.val % 4096, Nat.mod_lt _ (by decide)⟩ : Fin 4096) = n := tokAt_seqOf n
    rw [e]
    rfl

/-- Their product with the first weight. -/
theorem ff : val_main_v32 (F := Ideal) x0 x1 x2 x3 = mm (fwd x0 (modL x1 0 4096 (by decide)) (modL x1 0 3072 (by decide)) (gnL x2 0)) x3 := by
  refine ext2 fun n q => ?_
  rw [val_main_v32_apply, rows]
  exact Finset.sum_congr rfl fun k _ => congrArg₂ (· * ·) (congrArg _ (ix2_ext rfl rfl)) (congrArg x3 (ix2_ext rfl rfl))

/-- The squared positive part. -/
theorem act : val_main_v34 (F := Ideal) x0 x1 x2 x3 = sqr (mm (fwd x0 (modL x1 0 4096 (by decide)) (modL x1 0 3072 (by decide)) (gnL x2 0)) x3) := by
  refine ext2 fun n q => ?_
  rw [val_main_v34_apply, val_main_v33_apply, ff, val_main_call0_v0_apply, val_main_call0_cst_apply]
  rfl

/-- Its product with the second weight. -/
theorem oo : val_main_v35 (F := Ideal) x0 x1 x2 x3 x4 = mm (sqr (mm (fwd x0 (modL x1 0 4096 (by decide)) (modL x1 0 3072 (by decide)) (gnL x2 0)) x3)) x4 := by
  refine ext2 fun n q => ?_
  rw [val_main_v35_apply, act]
  exact Finset.sum_congr rfl fun k _ => congrArg₂ (· * ·) (congrArg _ (ix2_ext rfl rfl)) (congrArg x4 (ix2_ext rfl rfl))

/-- The gate's row. -/
theorem gate (b : Fin 2) (a : Fin 1) (q : Fin 1024) : val_main_v8 (F := Ideal) x1 (ix3 b a q) = modL x1 0 5120 (by decide) b q := by
  rw [val_main_v8_apply, val_main_v2_apply, val_main_v1_apply, val_main_v0_apply]
  refine congrArg x1 (ix3_ext rfl ?_ ?_)
  · show (b.val * 6144 + (5120 + q.val)) / 6144 % 2 = b.val; omega
  · show (b.val * 6144 + (5120 + q.val)) % 6144 = 5120 + q.val; omega

/-- The residual stream and the sub-layer's rows, by sequence. -/
theorem x3d (b : Fin 2) (k : Fin 4096) (q : Fin 1024) : val_main_v39 (F := Ideal) x0 (ix3 b k q) = x0 (ix2 (tokAt b k) q) := by
  rw [val_main_v39_apply]
  exact congrArg x0 (ix2_ext (by show ((b.val * 4096 + k.val) * 1024 + q.val) / 1024 = b.val * 4096 + k.val; omega)
    (by show ((b.val * 4096 + k.val) * 1024 + q.val) % 1024 = q.val; omega))

theorem o3d (b : Fin 2) (k : Fin 4096) (q : Fin 1024) : val_main_v40 (F := Ideal) x0 x1 x2 x3 x4 (ix3 b k q)
    = mm (sqr (mm (fwd x0 (modL x1 0 4096 (by decide)) (modL x1 0 3072 (by decide)) (gnL x2 0)) x3)) x4 (ix2 (tokAt b k) q) := by
  rw [val_main_v40_apply, oo]
  exact congrArg (mm (sqr (mm (fwd x0 (modL x1 0 4096 (by decide)) (modL x1 0 3072 (by decide)) (gnL x2 0)) x3)) x4) (ix2_ext (by show ((b.val * 4096 + k.val) * 1024 + q.val) / 1024 = b.val * 4096 + k.val; omega)
    (by show ((b.val * 4096 + k.val) * 1024 + q.val) % 1024 = q.val; omega))

theorem res3 (b : Fin 2) (k : Fin 4096) (q : Fin 1024) : val_main_v43 (F := Ideal) x0 x1 x2 x3 x4 (ix3 b k q)
    = x0 (ix2 (tokAt b k) q) + modL x1 0 5120 (by decide) b q * mm (sqr (mm (fwd x0 (modL x1 0 4096 (by decide)) (modL x1 0 3072 (by decide)) (gnL x2 0)) x3)) x4 (ix2 (tokAt b k) q) := by
  rw [val_main_v43_apply, val_main_v42_apply, val_main_v41_apply, x3d, o3d]
  refine congrArg (fun z : EReal => x0 (ix2 (tokAt b k) q) + z * mm (sqr (mm (fwd x0 (modL x1 0 4096 (by decide)) (modL x1 0 3072 (by decide)) (gnL x2 0)) x3)) x4 (ix2 (tokAt b k) q)) ?_
  exact (congrArg (val_main_v8 (F := Ideal) x1) (ix3_ext rfl rfl rfl : _ = ix3 b 0 q)).trans (gate x1 b 0 q)

theorem res : val_main_v44 (F := Ideal) x0 x1 x2 x3 x4
    = resid x0 (mm (sqr (mm (fwd x0 (modL x1 0 4096 (by decide)) (modL x1 0 3072 (by decide)) (gnL x2 0)) x3)) x4) (modL x1 0 5120 (by decide)) := by
  refine ext2 fun n q => ?_
  rw [val_main_v44_apply]
  refine (congrArg (val_main_v43 (F := Ideal) x0 x1 x2 x3 x4) (ix3_ext ?_ ?_ ?_ : _ = ix3 (seqOf n) (⟨n.val % 4096, Nat.mod_lt _ (by decide)⟩ : Fin 4096) q)).trans ?_
  · show (n.val * 1024 + q.val) / 4194304 = n.val / 4096; omega
  · show (n.val * 1024 + q.val) / 1024 % 4096 = n.val % 4096; omega
  · show (n.val * 1024 + q.val) % 1024 = q.val; omega
  · rw [res3, tokAt_seqOf]
    rfl

end Cert.FwdFfnRef
-- ==== Proof.Grad10.lean ====
/-
  The feed-forward layer: the call leaves the normed rows, the two products and the stream that the reference gives.
-/
module

public import proofs.«01_k».proof.Defs
public import proofs.«01_k».proof.Proof.FwdFfnOut
public import proofs.«01_k».proof.Proof.FwdFfnRef

@[expose] public section

noncomputable section

namespace Cert.Grad10

open Cert.FwdFfnRun Cert.FwdFfnOut Cert.Kernel10Ideal Cert.Kernel10Ideal.Gen Cert.Kernel10Ideal.Value Cert.Reference10Ideal.Read
open Idealize.ShloMosaic Idealize.ShloMosaic.TcCoe Idealize.SL.Sem

set_option maxHeartbeats 4000000 in
/-- What the call leaves is what the reference gives. -/
theorem claim : Cert.algebraic_Kernel10Ideal_Reference10Ideal := by
  intro m g m' g' _ hag
  refine ⟨fun c => (dats m 0 c).arrAt 5 cfg0.N, fun c => (dats m 0 c).arrAt 6 cfg0.N, fun c => (dats m 0 c).arrAt 7 cfg0.N, fun c => (dats m 0 c).arrAt 8 cfg0.N, ?_, ?_⟩
  · refine (θ_run _ _ _).mono (fun r h c => ?_) (run_blocks m g)
    obtain ⟨h5, h6, h7, h8, ha⟩ := h c
    exact ⟨h5, h6, h7, h8, ha⟩
  · refine (θ_run _ _ _).mono (fun r h c => ?_) (Cert.Reference10Ideal.Value.run m' g')
    obtain ⟨h5, h6, h7, h8, ha⟩ := h c
    obtain ⟨e0, e1, e2, e3, e4⟩ := hag c
    have f5 := h5.trans (val_main_v36_eq _ _ _)
    have f6 := h6.trans (val_main_v37_eq _ _ _ _)
    have f7 := h7.trans (val_main_v38_eq m' c)
    have f8 := h8.trans (val_main_v44_eq m' c)
    rw [e0, e1, e2] at f5
    rw [e0, e1, e2, e3] at f6
    rw [e0, e1, e2, e3, e4] at f7
    rw [e0, e1, e2, e3, e4] at f8
    refine ⟨f5.trans (Eq.trans ?_ (final5 m c).symm), f6.trans (Eq.trans ?_ (final6 m c).symm), f7.trans (Eq.trans ?_ (final7 m c).symm), f8.trans (Eq.trans ?_ (final8 m c).symm), ha⟩
    · exact Cert.FwdFfnRef.rows _ _ _
    · exact Cert.FwdFfnRef.ff _ _ _ _
    · exact Cert.FwdFfnRef.oo _ _ _ _ _
    · exact Cert.FwdFfnRef.res _ _ _ _ _

end Cert.Grad10
-- ==== Proof.AdamTools.lean ====
/-
  The optimiser's step on one entry, and its step on arrays of any shape.
-/
module

public import proofs.«01_k».proof.Proof.Tools

@[expose] public section

noncomputable section

namespace Cert.AdamTools

open Idealize.ShloMosaic

/-- The first moment after the step. -/
def mom (g m : EReal) : EReal := Ideal.ofBits .f32 0x3F666666#32 * m + Ideal.ofBits .f32 0x3DCCCCCD#32 * g

/-- The second moment after the step. -/
def sqm (g v : EReal) : EReal := Ideal.ofBits .f32 0x3F7FBE77#32 * v + Ideal.ofBits .f32 0x3A83126F#32 * (g * g)

/-- The change of the weight. -/
def delta (w g m v : EReal) : EReal :=
  Ideal.ofBits .f32 0xBA83126F#32 * (Ideal.div (Ideal.div (mom g m) (Ideal.ofBits .f32 0x3F26BD02#32))
    (Ideal.sqrt (Ideal.div (sqm g v) (Ideal.ofBits .f32 0x3C231ACC#32)) + Ideal.ofBits .f32 0x322BCC77#32) + Ideal.ofBits .f32 0x3C23D70A#32 * w)

/-- The step on arrays, entry by entry. -/
def moms {s : Shape} (g m : s.Idx → EReal) : s.Idx → EReal := fun i => mom (g i) (m i)
def sqms {s : Shape} (g v : s.Idx → EReal) : s.Idx → EReal := fun i => sqm (g i) (v i)
def deltas {s : Shape} (w g m v : s.Idx → EReal) : s.Idx → EReal := fun i => delta (w i) (g i) (m i) (v i)

/-- The step commutes with laying the arrays out anew. -/
theorem moms_cast {s t : Shape} (h : s.ShapeCasts t) (g m : s.Idx → EReal) : shapeCast t (moms g m) h = moms (shapeCast t g h) (shapeCast t m h) := rfl
theorem sqms_cast {s t : Shape} (h : s.ShapeCasts t) (g v : s.Idx → EReal) : shapeCast t (sqms g v) h = sqms (shapeCast t g h) (shapeCast t v h) := rfl
theorem deltas_cast {s t : Shape} (h : s.ShapeCasts t) (w g m v : s.Idx → EReal) :
    shapeCast t (deltas w g m v) h = deltas (shapeCast t w h) (shapeCast t g h) (shapeCast t m h) (shapeCast t v h) := rfl

/-- The step of one block of rows is that block of the step, when each of its arrays is. -/
theorem moms_at {s t : Shape} (e : t.Idx → s.Idx) {G M : s.Idx → EReal} {g x : t.Idx → EReal} (hg : ∀ y, g y = G (e y)) (hx : ∀ y, x y = M (e y)) :
    moms g x = fun y => moms G M (e y) := funext fun y => congrArg₂ mom (hg y) (hx y)
theorem sqms_at {s t : Shape} (e : t.Idx → s.Idx) {G S : s.Idx → EReal} {g x : t.Idx → EReal} (hg : ∀ y, g y = G (e y)) (hx : ∀ y, x y = S (e y)) :
    sqms g x = fun y => sqms G S (e y) := funext fun y => congrArg₂ sqm (hg y) (hx y)
theorem deltas_at {s t : Shape} (e : t.Idx → s.Idx) {W G M S : s.Idx → EReal} {w g x v : t.Idx → EReal} (hw : ∀ y, w y = W (e y))
    (hg : ∀ y, g y = G (e y)) (hx : ∀ y, x y = M (e y)) (hv : ∀ y, v y = S (e y)) : deltas w g x v = fun y => deltas W G M S (e y) :=
  funext fun y => by show delta _ _ _ _ = delta _ _ _ _; rw [hw, hg, hx, hv]

/-- The step on a gradient laid out as the weight is, laid out in rows again, is the step on the gradient's rows. -/
theorem moms_rows {s t : Shape} (h : s.ShapeCasts t) (h' : t.ShapeCasts s) (g : t.Idx → EReal) (m : s.Idx → EReal) :
    shapeCast t (moms (shapeCast s g h') m) h = moms g (shapeCast t m h) := by
  rw [moms_cast, shapeCast_shapeCast]
theorem sqms_rows {s t : Shape} (h : s.ShapeCasts t) (h' : t.ShapeCasts s) (g : t.Idx → EReal) (v : s.Idx → EReal) :
    shapeCast t (sqms (shapeCast s g h') v) h = sqms g (shapeCast t v h) := by
  rw [sqms_cast, shapeCast_shapeCast]
theorem deltas_rows {s t : Shape} (h : s.ShapeCasts t) (h' : t.ShapeCasts s) (w : s.Idx → EReal) (g : t.Idx → EReal) (m v : s.Idx → EReal) :
    shapeCast t (deltas w (shapeCast s g h') m v) h = deltas (shapeCast t w h) g (shapeCast t m h) (shapeCast t v h) := by
  rw [deltas_cast, shapeCast_shapeCast]

/-- Every entry lies in one of the blocks of `B` rows. -/
theorem rows_cover {X : Type} {N B R C : ℕ} (hB : 0 < B) (hR : R = N * B) (f : Fin R → Fin C → X) (e : Fin N → Fin B → Fin C → X)
    (h : ∀ (t : Fin N) (a : Fin B) (b : Fin C) (r : Fin R), r.val = t.val * B + a.val → e t a b = f r b) (r : Fin R) (b : Fin C) :
    ∃ (t : Fin N) (a : Fin B), e t a b = f r b :=
  ⟨⟨r.val / B, (Nat.div_lt_iff_lt_mul hB).mpr (hR ▸ r.isLt)⟩, ⟨r.val % B, Nat.mod_lt _ hB⟩, h _ _ _ _ (Nat.div_add_mod' _ _).symm⟩

end Cert.AdamTools
-- ==== Proof.Grad11.lean ====
/-
  The optimiser's step on the input projection's weight: what each point writes, and the four arrays this leaves.
-/
module

public import proofs.«01_k».proof.Defs
public import proofs.«01_k».proof.Proof.Gen.Kernel11Ideal.Value
public import proofs.«01_k».proof.Proof.Gen.Reference11Ideal.Read
public import proofs.«01_k».proof.Proof.AdamTools
public import proofs.«01_k».proof.Proof.FwdTools

@[expose] public section

noncomputable section

namespace Cert.Grad11

open Cert.Kernel11Ideal Cert.Kernel11Ideal.Gen Cert.Kernel11Ideal.Value Cert.Reference11Ideal.Read Cert.Tools Cert.AdamTools Cert.FwdTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

/-- The arguments, the weight and its moments laid out in rows. -/
abbrev W (c : Dev nD) : Arr S4096x1536 := shapeCast S4096x1536 (m ((c : Thread nD τ).loc main_arg0) : Arr S4x1024x1536) shapeCasts_S4x1024x1536_S4096x1536
abbrev M (c : Dev nD) : Arr S4096x1536 := shapeCast S4096x1536 (m ((c : Thread nD τ).loc main_arg1) : Arr S4x1024x1536) shapeCasts_S4x1024x1536_S4096x1536
abbrev S (c : Dev nD) : Arr S4096x1536 := shapeCast S4096x1536 (m ((c : Thread nD τ).loc main_arg2) : Arr S4x1024x1536) shapeCasts_S4x1024x1536_S4096x1536
abbrev G (c : Dev nD) : Arr S4096x1536 := addf (F := Ideal) (φ := .f32) (m ((c : Thread nD τ).loc main_arg3) : Arr S4096x1536) (m ((c : Thread nD τ).loc main_arg4) : Arr S4096x1536)

theorem V_w (c : Dev nD) : (V m c main_v0 : S4096x1536.Idx → EReal) = W m c := by
  unfold_abbrev_sides
  after_results
  rfl
theorem V_m (c : Dev nD) : (V m c main_v1 : S4096x1536.Idx → EReal) = M m c := by
  unfold_abbrev_sides
  after_results
  rfl
theorem V_s (c : Dev nD) : (V m c main_v2 : S4096x1536.Idx → EReal) = S m c := by
  unfold_abbrev_sides
  after_results
  rfl

/-- Every window moves alike: a block of an input lies where the block of the output does. -/
theorem iblk0 (c : Dev nD) (t : Fin cfg0.N) (y : S128x1536.Idx) : iblk m c 0 t y = W m c (((cfg0.win 5).blk t).view.emb y) := by
  show V m c main_v0 (((cfg0.win 0).blk t).view.emb y) = _
  rw [V_w]; rfl
theorem iblk1 (c : Dev nD) (t : Fin cfg0.N) (y : S128x1536.Idx) : iblk m c 1 t y = M m c (((cfg0.win 5).blk t).view.emb y) := by
  show V m c main_v1 (((cfg0.win 1).blk t).view.emb y) = _
  rw [V_m]; rfl
theorem iblk2 (c : Dev nD) (t : Fin cfg0.N) (y : S128x1536.Idx) : iblk m c 2 t y = S m c (((cfg0.win 5).blk t).view.emb y) := by
  show V m c main_v2 (((cfg0.win 2).blk t).view.emb y) = _
  rw [V_s]; rfl

/-- The sum of the two halves of the gradient at a point. -/
theorem grad (c : Dev nD) (t : Fin cfg0.N) (y : S128x1536.Idx) :
    k0_pay2 (F := Ideal) (iblk m c 3 t) (iblk m c 4 t) y = G m c (((cfg0.win 5).blk t).view.emb y) := by
  have e3 : iblk m c 3 t y = (m ((c : Thread nD τ).loc main_arg3) : Arr S4096x1536) (((cfg0.win 5).blk t).view.emb y) := by
    show V m c main_arg3 (((cfg0.win 3).blk t).view.emb y) = _
    rw [V_main_arg3]; rfl
  have e4 : iblk m c 4 t y = (m ((c : Thread nD τ).loc main_arg4) : Arr S4096x1536) (((cfg0.win 5).blk t).view.emb y) := by
    show V m c main_arg4 (((cfg0.win 4).blk t).view.emb y) = _
    rw [V_main_arg4]; rfl
  exact congrArg₂ (fun a b : EReal => a + b) e3 e4

/-- What a point writes of each result. -/
theorem flushed_eq (c : Dev nD) (t : Fin cfg0.N) :
    (dats m 0 c).flushed 5 t = ((cfg0.win 5).blk t).view.read (Elt Ideal) (G m c)
    ∧ (dats m 0 c).flushed 6 t = ((cfg0.win 6).blk t).view.read (Elt Ideal) (deltas (W m c) (G m c) (M m c) (S m c))
    ∧ (dats m 0 c).flushed 7 t = ((cfg0.win 7).blk t).view.read (Elt Ideal) (moms (G m c) (M m c))
    ∧ (dats m 0 c).flushed 8 t = ((cfg0.win 8).blk t).view.read (Elt Ideal) (sqms (G m c) (S m c)) := by
  rw [flushed5, flushed6, flushed7, flushed8]
  unfold out0_5 out0_6 out0_7 out0_8
  rw [View.canon_unit_zero hz2, View.canon_unit_zero hz2, View.canon_unit_zero hz2, View.canon_unit_zero hz2]
  simp only [View.ld_unit_zero (S := S128x1536) hz2]
  unfold k0_pay1 k0_pay5 k0_pay3 k0_pay4 k0_pay6
  dsimp only
  simp only [shapeCast_self]
  exact ⟨funext (grad m c t), deltas_at _ (iblk0 m c t) (grad m c t) (iblk1 m c t) (iblk2 m c t), moms_at _ (grad m c t) (iblk1 m c t), sqms_at _ (grad m c t) (iblk2 m c t)⟩

theorem idx5 : ∀ t : Fin cfg0.N, win0_5.index t (0 : Fin 2) = t.val ∧ win0_5.index t (1 : Fin 2) = 0 := (by decide +kernel : ∀ t : Fin grid0.N, _)

/-- Every entry lies in a point's block. -/
theorem cover (i : S4096x1536.Idx) : ∃ t : Fin cfg0.N, i ∈ ((cfg0.win 5).blk t).view.set := by
  obtain ⟨t, a, e⟩ := rows_cover (N := 32) (B := 128) (R := 4096) (C := 1536) (by decide) (by decide) (fun r b => (ix2 r b : S4096x1536.Idx))
    (fun t a b => ((cfg0.win 5).blk t).view.emb (ix2 a b : S128x1536.Idx)) (fun t a b r hr => by
      obtain ⟨e0, e1⟩ := idx5 t
      refine ix2_ext ?_ ?_
      · show win0_5.index t (0 : Fin 2) * 128 + 1 * a.val = r.val; omega
      · show win0_5.index t (1 : Fin 2) * 1536 + 1 * b.val = b.val; omega) (i 0) (i 1)
  exact ⟨t, (e.trans (eq_ix2 i).symm : _ = i) ▸ View.emb_mem_set _ _⟩

theorem final5 (c : Dev nD) : (dats m 0 c).arrAt 5 cfg0.N = G m c :=
  (dats m 0 c).arrAt_eq_of_cover 5 _ (fun t _ => (flushed_eq m c t).1) fun i => (cover i).imp fun t h => ⟨flush0_5 t, h⟩
theorem final6 (c : Dev nD) : (dats m 0 c).arrAt 6 cfg0.N = deltas (W m c) (G m c) (M m c) (S m c) :=
  (dats m 0 c).arrAt_eq_of_cover 6 _ (fun t _ => (flushed_eq m c t).2.1) fun i => (cover i).imp fun t h => ⟨flush0_6 t, h⟩
theorem final7 (c : Dev nD) : (dats m 0 c).arrAt 7 cfg0.N = moms (G m c) (M m c) :=
  (dats m 0 c).arrAt_eq_of_cover 7 _ (fun t _ => (flushed_eq m c t).2.2.1) fun i => (cover i).imp fun t h => ⟨flush0_7 t, h⟩
theorem final8 (c : Dev nD) : (dats m 0 c).arrAt 8 cfg0.N = sqms (G m c) (S m c) :=
  (dats m 0 c).arrAt_eq_of_cover 8 _ (fun t _ => (flushed_eq m c t).2.2.2) fun i => (cover i).imp fun t h => ⟨flush0_8 t, h⟩

variable (x0 x1 x2 : Arr S4x1024x1536) (x3 x4 : Arr S4096x1536)

/-- The reference's results. -/
theorem gref : val_main_v26 (F := Ideal) x3 x4 = addf (F := Ideal) (φ := .f32) x3 x4 := shapeCast_shapeCast _ _ _

theorem dref : val_main_v27 (F := Ideal) x0 x1 x2 x3 x4 = deltas (shapeCast S4096x1536 x0 shapeCasts_S4x1024x1536_S4096x1536) (addf (F := Ideal) (φ := .f32) x3 x4)
    (shapeCast S4096x1536 x1 shapeCasts_S4x1024x1536_S4096x1536) (shapeCast S4096x1536 x2 shapeCasts_S4x1024x1536_S4096x1536) :=
  deltas_rows _ Cert.Reference11Ideal.Gen.shapeCasts_S4096x1536_S4x1024x1536 _ _ _ _

theorem mref : val_main_v28 (F := Ideal) x1 x3 x4 = moms (addf (F := Ideal) (φ := .f32) x3 x4) (shapeCast S4096x1536 x1 shapeCasts_S4x1024x1536_S4096x1536) :=
  moms_rows _ Cert.Reference11Ideal.Gen.shapeCasts_S4096x1536_S4x1024x1536 _ _

theorem sref : val_main_v29 (F := Ideal) x2 x3 x4 = sqms (addf (F := Ideal) (φ := .f32) x3 x4) (shapeCast S4096x1536 x2 shapeCasts_S4x1024x1536_S4096x1536) :=
  sqms_rows _ Cert.Reference11Ideal.Gen.shapeCasts_S4096x1536_S4x1024x1536 _ _

/-- The value claim. -/
theorem claim : Cert.algebraic_Kernel11Ideal_Reference11Ideal := by
  intro m g m' g' _ hag
  refine ⟨fun c => (dats m 0 c).arrAt 5 cfg0.N, fun c => (dats m 0 c).arrAt 6 cfg0.N, fun c => (dats m 0 c).arrAt 7 cfg0.N, fun c => (dats m 0 c).arrAt 8 cfg0.N, ?_, ?_⟩
  · refine (θ_run _ _ _).mono (fun r h c => ?_) (run_blocks m g)
    obtain ⟨h5, h6, h7, h8, ha⟩ := h c
    exact ⟨h5, h6, h7, h8, ha⟩
  · refine (θ_run _ _ _).mono (fun r h c => ?_) (Cert.Reference11Ideal.Value.run m' g')
    obtain ⟨h5, h6, h7, h8, ha⟩ := h c
    obtain ⟨e0, e1, e2, e3, e4⟩ := hag c
    have f5 := h5.trans (val_main_v26_eq _ _)
    have f6 := h6.trans (val_main_v27_eq _ _ _ _ _)
    have f7 := h7.trans (val_main_v28_eq _ _ _)
    have f8 := h8.trans (val_main_v29_eq _ _ _)
    rw [e3, e4] at f5
    rw [e0, e1, e2, e3, e4] at f6
    rw [e1, e3, e4] at f7
    rw [e2, e3, e4] at f8
    exact ⟨f5.trans ((gref _ _).trans (final5 m c).symm), f6.trans ((dref _ _ _ _ _).trans (final6 m c).symm),
      f7.trans ((mref _ _ _).trans (final7 m c).symm), f8.trans ((sref _ _ _).trans (final8 m c).symm), ha⟩

end Cert.Grad11
-- ==== Proof.Grad12.lean ====
/-
  The optimiser's step on a feed-forward weight: what each point writes, and the four arrays this leaves.
-/
module

public import proofs.«01_k».proof.Defs
public import proofs.«01_k».proof.Proof.Gen.Kernel12Ideal.Value
public import proofs.«01_k».proof.Proof.Gen.Reference12Ideal.Read
public import proofs.«01_k».proof.Proof.AdamTools
public import proofs.«01_k».proof.Proof.FwdTools

@[expose] public section

noncomputable section

namespace Cert.Grad12

open Cert.Kernel12Ideal Cert.Kernel12Ideal.Gen Cert.Kernel12Ideal.Value Cert.Reference12Ideal.Read Cert.Tools Cert.AdamTools Cert.FwdTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)
/-- An array of the weight's shape, laid out in rows. -/
abbrev rows (x : Arr S4x1024x1024) : Arr S4096x1024 := shapeCast S4096x1024 x shapeCasts_S4x1024x1024_S4096x1024

abbrev W (c : Dev nD) : Arr S4096x1024 := rows (m ((c : Thread nD τ).loc main_arg0))
abbrev M (c : Dev nD) : Arr S4096x1024 := rows (m ((c : Thread nD τ).loc main_arg1))
abbrev S (c : Dev nD) : Arr S4096x1024 := rows (m ((c : Thread nD τ).loc main_arg2))
abbrev Ga (c : Dev nD) : Arr S4096x1024 := m ((c : Thread nD τ).loc main_arg3)
abbrev Gb (c : Dev nD) : Arr S4096x1024 := m ((c : Thread nD τ).loc main_arg4)
abbrev G (c : Dev nD) : Arr S4096x1024 := addf (F := Ideal) (φ := .f32) (Ga m c) (Gb m c)

theorem V_w (c : Dev nD) : (V m c main_v0 : S4096x1024.Idx → EReal) = W m c := by unfold_abbrev_sides; after_results; rfl
theorem V_m (c : Dev nD) : (V m c main_v1 : S4096x1024.Idx → EReal) = M m c := by unfold_abbrev_sides; after_results; rfl
theorem V_s (c : Dev nD) : (V m c main_v2 : S4096x1024.Idx → EReal) = S m c := by unfold_abbrev_sides; after_results; rfl

/-- Where a point's block lies, the same for all windows. -/
abbrev pos (t : Fin cfg0.N) : S256x1024.Idx → S4096x1024.Idx := ((cfg0.win 5).blk t).view.emb

theorem blk0 (c : Dev nD) (t : Fin cfg0.N) (y : S256x1024.Idx) : iblk m c 0 t y = W m c (pos t y) := congrFun (V_w m c) _
theorem blk1 (c : Dev nD) (t : Fin cfg0.N) (y : S256x1024.Idx) : iblk m c 1 t y = M m c (pos t y) := congrFun (V_m m c) _
theorem blk2 (c : Dev nD) (t : Fin cfg0.N) (y : S256x1024.Idx) : iblk m c 2 t y = S m c (pos t y) := congrFun (V_s m c) _
theorem blk3 (c : Dev nD) (t : Fin cfg0.N) (y : S256x1024.Idx) : iblk m c 3 t y = Ga m c (pos t y) := congrFun (V_main_arg3 m c) _
theorem blk4 (c : Dev nD) (t : Fin cfg0.N) (y : S256x1024.Idx) : iblk m c 4 t y = Gb m c (pos t y) := congrFun (V_main_arg4 m c) _

/-- The sum of the two halves of the gradient at a point. -/
theorem grad (c : Dev nD) (t : Fin cfg0.N) (y : S256x1024.Idx) : k0_pay2 (F := Ideal) (iblk m c 3 t) (iblk m c 4 t) y = G m c (pos t y) :=
  congrArg₂ (fun a b : EReal => a + b) (blk3 m c t y) (blk4 m c t y)

/-- What a point writes of each result. -/
theorem flushed_eq (c : Dev nD) (t : Fin cfg0.N) :
    (dats m 0 c).flushed 5 t = ((cfg0.win 5).blk t).view.read (Elt Ideal) (G m c)
    ∧ (dats m 0 c).flushed 6 t = ((cfg0.win 6).blk t).view.read (Elt Ideal) (deltas (W m c) (G m c) (M m c) (S m c))
    ∧ (dats m 0 c).flushed 7 t = ((cfg0.win 7).blk t).view.read (Elt Ideal) (moms (G m c) (M m c))
    ∧ (dats m 0 c).flushed 8 t = ((cfg0.win 8).blk t).view.read (Elt Ideal) (sqms (G m c) (S m c)) := by
  rw [flushed5, flushed6, flushed7, flushed8]
  unfold out0_5 out0_6 out0_7 out0_8
  rw [View.canon_unit_zero hz2, View.canon_unit_zero hz2, View.canon_unit_zero hz2, View.canon_unit_zero hz2]
  simp only [View.ld_unit_zero (S := S256x1024) hz2]
  unfold k0_pay1 k0_pay5 k0_pay3 k0_pay4 k0_pay6
  dsimp only
  simp only [shapeCast_self]
  exact ⟨funext (grad m c t), deltas_at _ (blk0 m c t) (grad m c t) (blk1 m c t) (blk2 m c t), moms_at _ (grad m c t) (blk1 m c t), sqms_at _ (grad m c t) (blk2 m c t)⟩

theorem idx5 : ∀ t : Fin cfg0.N, win0_5.index t (0 : Fin 2) = t.val ∧ win0_5.index t (1 : Fin 2) = 0 := (by decide +kernel : ∀ t : Fin grid0.N, _)

/-- Every entry lies in a point's block. -/
theorem cover (i : S4096x1024.Idx) : ∃ t : Fin cfg0.N, i ∈ ((cfg0.win 5).blk t).view.set := by
  obtain ⟨t, a, e⟩ := rows_cover (N := 16) (B := 256) (R := 4096) (C := 1024) (by decide) (by decide) (fun r b => (ix2 r b : S4096x1024.Idx))
    (fun t a b => pos t (ix2 a b)) (fun t a b r hr => by
      obtain ⟨e0, e1⟩ := idx5 t
      refine ix2_ext ?_ ?_
      · show win0_5.index t (0 : Fin 2) * 256 + 1 * a.val = r.val; omega
      · show win0_5.index t (1 : Fin 2) * 1024 + 1 * b.val = b.val; omega) (i 0) (i 1)
  exact ⟨t, (e.trans (eq_ix2 i).symm : _ = i) ▸ View.emb_mem_set _ _⟩

/-- The four arrays that the call leaves. -/
theorem final (c : Dev nD) : (dats m 0 c).arrAt 5 cfg0.N = G m c ∧ (dats m 0 c).arrAt 6 cfg0.N = deltas (W m c) (G m c) (M m c) (S m c)
    ∧ (dats m 0 c).arrAt 7 cfg0.N = moms (G m c) (M m c) ∧ (dats m 0 c).arrAt 8 cfg0.N = sqms (G m c) (S m c) :=
  ⟨(dats m 0 c).arrAt_eq_of_cover 5 _ (fun t _ => (flushed_eq m c t).1) fun i => (cover i).imp fun t h => ⟨flush0_5 t, h⟩,
   (dats m 0 c).arrAt_eq_of_cover 6 _ (fun t _ => (flushed_eq m c t).2.1) fun i => (cover i).imp fun t h => ⟨flush0_6 t, h⟩,
   (dats m 0 c).arrAt_eq_of_cover 7 _ (fun t _ => (flushed_eq m c t).2.2.1) fun i => (cover i).imp fun t h => ⟨flush0_7 t, h⟩,
   (dats m 0 c).arrAt_eq_of_cover 8 _ (fun t _ => (flushed_eq m c t).2.2.2) fun i => (cover i).imp fun t h => ⟨flush0_8 t, h⟩⟩

variable (x0 x1 x2 : Arr S4x1024x1024) (x3 x4 : Arr S4096x1024)

/-- The reference's results. -/
theorem gref : val_main_v26 (F := Ideal) x3 x4 = addf (F := Ideal) (φ := .f32) x3 x4 := shapeCast_shapeCast _ _ _
theorem dref : val_main_v27 (F := Ideal) x0 x1 x2 x3 x4 = deltas (rows x0) (addf (F := Ideal) (φ := .f32) x3 x4) (rows x1) (rows x2) :=
  deltas_rows _ Cert.Reference12Ideal.Gen.shapeCasts_S4096x1024_S4x1024x1024 _ _ _ _
theorem mref : val_main_v28 (F := Ideal) x1 x3 x4 = moms (addf (F := Ideal) (φ := .f32) x3 x4) (rows x1) :=
  moms_rows _ Cert.Reference12Ideal.Gen.shapeCasts_S4096x1024_S4x1024x1024 _ _
theorem sref : val_main_v29 (F := Ideal) x2 x3 x4 = sqms (addf (F := Ideal) (φ := .f32) x3 x4) (rows x2) :=
  sqms_rows _ Cert.Reference12Ideal.Gen.shapeCasts_S4096x1024_S4x1024x1024 _ _

/-- The value claim. -/
theorem claim : Cert.algebraic_Kernel12Ideal_Reference12Ideal := by
  intro m g m' g' _ hag
  refine ⟨fun c => (dats m 0 c).arrAt 5 cfg0.N, fun c => (dats m 0 c).arrAt 6 cfg0.N, fun c => (dats m 0 c).arrAt 7 cfg0.N, fun c => (dats m 0 c).arrAt 8 cfg0.N, ?_, ?_⟩
  · refine (θ_run _ _ _).mono (fun r h c => ?_) (run_blocks m g)
    obtain ⟨h5, h6, h7, h8, ha⟩ := h c
    exact ⟨h5, h6, h7, h8, ha⟩
  · refine (θ_run _ _ _).mono (fun r h c => ?_) (Cert.Reference12Ideal.Value.run m' g')
    obtain ⟨h5, h6, h7, h8, ha⟩ := h c
    obtain ⟨e0, e1, e2, e3, e4⟩ := hag c
    have f5 := h5.trans (val_main_v26_eq _ _)
    have f6 := h6.trans (val_main_v27_eq _ _ _ _ _)
    have f7 := h7.trans (val_main_v28_eq _ _ _)
    have f8 := h8.trans (val_main_v29_eq _ _ _)
    rw [e3, e4] at f5
    rw [e0, e1, e2, e3, e4] at f6
    rw [e1, e3, e4] at f7
    rw [e2, e3, e4] at f8
    obtain ⟨k5, k6, k7, k8⟩ := final m c
    exact ⟨f5.trans ((gref _ _).trans k5.symm), f6.trans ((dref _ _ _ _ _).trans k6.symm), f7.trans ((mref _ _ _).trans k7.symm),
      f8.trans ((sref _ _ _).trans k8.symm), ha⟩

end Cert.Grad12
-- ==== Proof.Grad13.lean ====
/-
  The optimiser's step on a weight of the branches' projections: what each point writes, and the four arrays this leaves.
-/
module

public import proofs.«01_k».proof.Defs
public import proofs.«01_k».proof.Proof.Gen.Kernel13Ideal.Value
public import proofs.«01_k».proof.Proof.Gen.Reference13Ideal.Read
public import proofs.«01_k».proof.Proof.AdamTools
public import proofs.«01_k».proof.Proof.FwdTools

@[expose] public section

noncomputable section

namespace Cert.Grad13

open Cert.Kernel13Ideal Cert.Kernel13Ideal.Gen Cert.Kernel13Ideal.Value Cert.Reference13Ideal.Read Cert.Tools Cert.AdamTools Cert.FwdTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)
/-- An array of the weight's shape, laid out in rows. -/
abbrev rows (x : Arr S4x256x1024) : Arr S1024x1024 := shapeCast S1024x1024 x shapeCasts_S4x256x1024_S1024x1024

abbrev W (c : Dev nD) : Arr S1024x1024 := rows (m ((c : Thread nD τ).loc main_arg0))
abbrev M (c : Dev nD) : Arr S1024x1024 := rows (m ((c : Thread nD τ).loc main_arg1))
abbrev S (c : Dev nD) : Arr S1024x1024 := rows (m ((c : Thread nD τ).loc main_arg2))
abbrev Ga (c : Dev nD) : Arr S1024x1024 := m ((c : Thread nD τ).loc main_arg3)
abbrev Gb (c : Dev nD) : Arr S1024x1024 := m ((c : Thread nD τ).loc main_arg4)
abbrev G (c : Dev nD) : Arr S1024x1024 := addf (F := Ideal) (φ := .f32) (Ga m c) (Gb m c)

theorem V_w (c : Dev nD) : (V m c main_v0 : S1024x1024.Idx → EReal) = W m c := by unfold_abbrev_sides; after_results; rfl
theorem V_m (c : Dev nD) : (V m c main_v1 : S1024x1024.Idx → EReal) = M m c := by unfold_abbrev_sides; after_results; rfl
theorem V_s (c : Dev nD) : (V m c main_v2 : S1024x1024.Idx → EReal) = S m c := by unfold_abbrev_sides; after_results; rfl

/-- Where a point's block lies, the same for all windows. -/
abbrev pos (t : Fin cfg0.N) : S256x1024.Idx → S1024x1024.Idx := ((cfg0.win 5).blk t).view.emb

theorem blk0 (c : Dev nD) (t : Fin cfg0.N) (y : S256x1024.Idx) : iblk m c 0 t y = W m c (pos t y) := congrFun (V_w m c) _
theorem blk1 (c : Dev nD) (t : Fin cfg0.N) (y : S256x1024.Idx) : iblk m c 1 t y = M m c (pos t y) := congrFun (V_m m c) _
theorem blk2 (c : Dev nD) (t : Fin cfg0.N) (y : S256x1024.Idx) : iblk m c 2 t y = S m c (pos t y) := congrFun (V_s m c) _
theorem blk3 (c : Dev nD) (t : Fin cfg0.N) (y : S256x1024.Idx) : iblk m c 3 t y = Ga m c (pos t y) := congrFun (V_main_arg3 m c) _
theorem blk4 (c : Dev nD) (t : Fin cfg0.N) (y : S256x1024.Idx) : iblk m c 4 t y = Gb m c (pos t y) := congrFun (V_main_arg4 m c) _

/-- The sum of the two halves of the gradient at a point. -/
theorem grad (c : Dev nD) (t : Fin cfg0.N) (y : S256x1024.Idx) : k0_pay2 (F := Ideal) (iblk m c 3 t) (iblk m c 4 t) y = G m c (pos t y) :=
  congrArg₂ (fun a b : EReal => a + b) (blk3 m c t y) (blk4 m c t y)

/-- What a point writes of each result. -/
theorem flushed_eq (c : Dev nD) (t : Fin cfg0.N) :
    (dats m 0 c).flushed 5 t = ((cfg0.win 5).blk t).view.read (Elt Ideal) (G m c)
    ∧ (dats m 0 c).flushed 6 t = ((cfg0.win 6).blk t).view.read (Elt Ideal) (deltas (W m c) (G m c) (M m c) (S m c))
    ∧ (dats m 0 c).flushed 7 t = ((cfg0.win 7).blk t).view.read (Elt Ideal) (moms (G m c) (M m c))
    ∧ (dats m 0 c).flushed 8 t = ((cfg0.win 8).blk t).view.read (Elt Ideal) (sqms (G m c) (S m c)) := by
  rw [flushed5, flushed6, flushed7, flushed8]
  unfold out0_5 out0_6 out0_7 out0_8
  rw [View.canon_unit_zero hz2, View.canon_unit_zero hz2, View.canon_unit_zero hz2, View.canon_unit_zero hz2]
  simp only [View.ld_unit_zero (S := S256x1024) hz2]
  unfold k0_pay1 k0_pay5 k0_pay3 k0_pay4 k0_pay6
  dsimp only
  simp only [shapeCast_self]
  exact ⟨funext (grad m c t), deltas_at _ (blk0 m c t) (grad m c t) (blk1 m c t) (blk2 m c t), moms_at _ (grad m c t) (blk1 m c t), sqms_at _ (grad m c t) (blk2 m c t)⟩

theorem idx5 : ∀ t : Fin cfg0.N, win0_5.index t (0 : Fin 2) = t.val ∧ win0_5.index t (1 : Fin 2) = 0 := (by decide +kernel : ∀ t : Fin grid0.N, _)

/-- Every entry lies in a point's block. -/
theorem cover (i : S1024x1024.Idx) : ∃ t : Fin cfg0.N, i ∈ ((cfg0.win 5).blk t).view.set := by
  obtain ⟨t, a, e⟩ := rows_cover (N := 4) (B := 256) (R := 1024) (C := 1024) (by decide) (by decide) (fun r b => (ix2 r b : S1024x1024.Idx))
    (fun t a b => pos t (ix2 a b)) (fun t a b r hr => by
      obtain ⟨e0, e1⟩ := idx5 t
      refine ix2_ext ?_ ?_
      · show win0_5.index t (0 : Fin 2) * 256 + 1 * a.val = r.val; omega
      · show win0_5.index t (1 : Fin 2) * 1024 + 1 * b.val = b.val; omega) (i 0) (i 1)
  exact ⟨t, (e.trans (eq_ix2 i).symm : _ = i) ▸ View.emb_mem_set _ _⟩

/-- The four arrays that the call leaves. -/
theorem final (c : Dev nD) : (dats m 0 c).arrAt 5 cfg0.N = G m c ∧ (dats m 0 c).arrAt 6 cfg0.N = deltas (W m c) (G m c) (M m c) (S m c)
    ∧ (dats m 0 c).arrAt 7 cfg0.N = moms (G m c) (M m c) ∧ (dats m 0 c).arrAt 8 cfg0.N = sqms (G m c) (S m c) :=
  ⟨(dats m 0 c).arrAt_eq_of_cover 5 _ (fun t _ => (flushed_eq m c t).1) fun i => (cover i).imp fun t h => ⟨flush0_5 t, h⟩,
   (dats m 0 c).arrAt_eq_of_cover 6 _ (fun t _ => (flushed_eq m c t).2.1) fun i => (cover i).imp fun t h => ⟨flush0_6 t, h⟩,
   (dats m 0 c).arrAt_eq_of_cover 7 _ (fun t _ => (flushed_eq m c t).2.2.1) fun i => (cover i).imp fun t h => ⟨flush0_7 t, h⟩,
   (dats m 0 c).arrAt_eq_of_cover 8 _ (fun t _ => (flushed_eq m c t).2.2.2) fun i => (cover i).imp fun t h => ⟨flush0_8 t, h⟩⟩

variable (x0 x1 x2 : Arr S4x256x1024) (x3 x4 : Arr S1024x1024)

/-- The reference's results. -/
theorem gref : val_main_v26 (F := Ideal) x3 x4 = addf (F := Ideal) (φ := .f32) x3 x4 := shapeCast_shapeCast _ _ _
theorem dref : val_main_v27 (F := Ideal) x0 x1 x2 x3 x4 = deltas (rows x0) (addf (F := Ideal) (φ := .f32) x3 x4) (rows x1) (rows x2) :=
  deltas_rows _ Cert.Reference13Ideal.Gen.shapeCasts_S1024x1024_S4x256x1024 _ _ _ _
theorem mref : val_main_v28 (F := Ideal) x1 x3 x4 = moms (addf (F := Ideal) (φ := .f32) x3 x4) (rows x1) :=
  moms_rows _ Cert.Reference13Ideal.Gen.shapeCasts_S1024x1024_S4x256x1024 _ _
theorem sref : val_main_v29 (F := Ideal) x2 x3 x4 = sqms (addf (F := Ideal) (φ := .f32) x3 x4) (rows x2) :=
  sqms_rows _ Cert.Reference13Ideal.Gen.shapeCasts_S1024x1024_S4x256x1024 _ _

/-- The value claim. -/
theorem claim : Cert.algebraic_Kernel13Ideal_Reference13Ideal := by
  intro m g m' g' _ hag
  refine ⟨fun c => (dats m 0 c).arrAt 5 cfg0.N, fun c => (dats m 0 c).arrAt 6 cfg0.N, fun c => (dats m 0 c).arrAt 7 cfg0.N, fun c => (dats m 0 c).arrAt 8 cfg0.N, ?_, ?_⟩
  · refine (θ_run _ _ _).mono (fun r h c => ?_) (run_blocks m g)
    obtain ⟨h5, h6, h7, h8, ha⟩ := h c
    exact ⟨h5, h6, h7, h8, ha⟩
  · refine (θ_run _ _ _).mono (fun r h c => ?_) (Cert.Reference13Ideal.Value.run m' g')
    obtain ⟨h5, h6, h7, h8, ha⟩ := h c
    obtain ⟨e0, e1, e2, e3, e4⟩ := hag c
    have f5 := h5.trans (val_main_v26_eq _ _)
    have f6 := h6.trans (val_main_v27_eq _ _ _ _ _)
    have f7 := h7.trans (val_main_v28_eq _ _ _)
    have f8 := h8.trans (val_main_v29_eq _ _ _)
    rw [e3, e4] at f5
    rw [e0, e1, e2, e3, e4] at f6
    rw [e1, e3, e4] at f7
    rw [e2, e3, e4] at f8
    obtain ⟨k5, k6, k7, k8⟩ := final m c
    exact ⟨f5.trans ((gref _ _).trans k5.symm), f6.trans ((dref _ _ _ _ _).trans k6.symm), f7.trans ((mref _ _ _).trans k7.symm),
      f8.trans ((sref _ _ _).trans k8.symm), ha⟩

end Cert.Grad13
-- ==== Proof.Grad14.lean ====
/-
  The optimiser's step on the modulation's weight, whose gradient comes whole: what each point writes, and the four arrays this leaves.
-/
module

public import proofs.«01_k».proof.Defs
public import proofs.«01_k».proof.Proof.Gen.Kernel14Ideal.Value
public import proofs.«01_k».proof.Proof.Gen.Reference14Ideal.Read
public import proofs.«01_k».proof.Proof.AdamTools
public import proofs.«01_k».proof.Proof.FwdTools

@[expose] public section

noncomputable section

namespace Cert.Grad14

open Cert.Kernel14Ideal Cert.Kernel14Ideal.Gen Cert.Kernel14Ideal.Value Cert.Reference14Ideal.Read Cert.Tools Cert.AdamTools Cert.FwdTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)
/-- An array of the weight's shape, laid out in rows. -/
abbrev rows (x : Arr S4x1024x1536) : Arr S4096x1536 := shapeCast S4096x1536 x shapeCasts_S4x1024x1536_S4096x1536

abbrev W (c : Dev nD) : Arr S4096x1536 := rows (m ((c : Thread nD τ).loc main_arg0))
abbrev M (c : Dev nD) : Arr S4096x1536 := rows (m ((c : Thread nD τ).loc main_arg1))
abbrev S (c : Dev nD) : Arr S4096x1536 := rows (m ((c : Thread nD τ).loc main_arg2))
abbrev G (c : Dev nD) : Arr S4096x1536 := rows (m ((c : Thread nD τ).loc main_arg3))

theorem V_w (c : Dev nD) : (V m c main_v0 : S4096x1536.Idx → EReal) = W m c := by unfold_abbrev_sides; after_results; rfl
theorem V_m (c : Dev nD) : (V m c main_v1 : S4096x1536.Idx → EReal) = M m c := by unfold_abbrev_sides; after_results; rfl
theorem V_s (c : Dev nD) : (V m c main_v2 : S4096x1536.Idx → EReal) = S m c := by unfold_abbrev_sides; after_results; rfl
theorem V_g (c : Dev nD) : (V m c main_v3 : S4096x1536.Idx → EReal) = G m c := by unfold_abbrev_sides; after_results; rfl

/-- Where a point's block lies, the same for all windows. -/
abbrev pos (t : Fin cfg0.N) : S128x1536.Idx → S4096x1536.Idx := ((cfg0.win 4).blk t).view.emb

theorem blk0 (c : Dev nD) (t : Fin cfg0.N) (y : S128x1536.Idx) : iblk m c 0 t y = W m c (pos t y) := congrFun (V_w m c) _
theorem blk1 (c : Dev nD) (t : Fin cfg0.N) (y : S128x1536.Idx) : iblk m c 1 t y = M m c (pos t y) := congrFun (V_m m c) _
theorem blk2 (c : Dev nD) (t : Fin cfg0.N) (y : S128x1536.Idx) : iblk m c 2 t y = S m c (pos t y) := congrFun (V_s m c) _
theorem blk3 (c : Dev nD) (t : Fin cfg0.N) (y : S128x1536.Idx) : iblk m c 3 t y = G m c (pos t y) := congrFun (V_g m c) _

/-- What a point writes of each result. -/
theorem flushed_eq (c : Dev nD) (t : Fin cfg0.N) :
    (dats m 0 c).flushed 4 t = ((cfg0.win 4).blk t).view.read (Elt Ideal) (G m c)
    ∧ (dats m 0 c).flushed 5 t = ((cfg0.win 5).blk t).view.read (Elt Ideal) (deltas (W m c) (G m c) (M m c) (S m c))
    ∧ (dats m 0 c).flushed 6 t = ((cfg0.win 6).blk t).view.read (Elt Ideal) (moms (G m c) (M m c))
    ∧ (dats m 0 c).flushed 7 t = ((cfg0.win 7).blk t).view.read (Elt Ideal) (sqms (G m c) (S m c)) := by
  rw [flushed4, flushed5, flushed6, flushed7]
  unfold out0_4 out0_5 out0_6 out0_7
  rw [View.canon_unit_zero hz2, View.canon_unit_zero hz2, View.canon_unit_zero hz2, View.canon_unit_zero hz2]
  simp only [View.ld_unit_zero (S := S128x1536) hz2]
  unfold k0_pay1 k0_pay5 k0_pay3 k0_pay4 k0_pay2
  dsimp only
  simp only [shapeCast_self]
  exact ⟨funext (blk3 m c t), deltas_at _ (blk0 m c t) (blk3 m c t) (blk1 m c t) (blk2 m c t), moms_at _ (blk3 m c t) (blk1 m c t), sqms_at _ (blk3 m c t) (blk2 m c t)⟩

theorem idx4 : ∀ t : Fin cfg0.N, win0_4.index t (0 : Fin 2) = t.val ∧ win0_4.index t (1 : Fin 2) = 0 := (by decide +kernel : ∀ t : Fin grid0.N, _)

/-- Every entry lies in a point's block. -/
theorem cover (i : S4096x1536.Idx) : ∃ t : Fin cfg0.N, i ∈ ((cfg0.win 4).blk t).view.set := by
  obtain ⟨t, a, e⟩ := rows_cover (N := 32) (B := 128) (R := 4096) (C := 1536) (by decide) (by decide) (fun r b => (ix2 r b : S4096x1536.Idx))
    (fun t a b => pos t (ix2 a b)) (fun t a b r hr => by
      obtain ⟨e0, e1⟩ := idx4 t
      refine ix2_ext ?_ ?_
      · show win0_4.index t (0 : Fin 2) * 128 + 1 * a.val = r.val; omega
      · show win0_4.index t (1 : Fin 2) * 1536 + 1 * b.val = b.val; omega) (i 0) (i 1)
  exact ⟨t, (e.trans (eq_ix2 i).symm : _ = i) ▸ View.emb_mem_set _ _⟩

/-- The four arrays that the call leaves. -/
theorem final (c : Dev nD) : (dats m 0 c).arrAt 4 cfg0.N = G m c ∧ (dats m 0 c).arrAt 5 cfg0.N = deltas (W m c) (G m c) (M m c) (S m c)
    ∧ (dats m 0 c).arrAt 6 cfg0.N = moms (G m c) (M m c) ∧ (dats m 0 c).arrAt 7 cfg0.N = sqms (G m c) (S m c) :=
  ⟨(dats m 0 c).arrAt_eq_of_cover 4 _ (fun t _ => (flushed_eq m c t).1) fun i => (cover i).imp fun t h => ⟨flush0_4 t, h⟩,
   (dats m 0 c).arrAt_eq_of_cover 5 _ (fun t _ => (flushed_eq m c t).2.1) fun i => (cover i).imp fun t h => ⟨flush0_5 t, h⟩,
   (dats m 0 c).arrAt_eq_of_cover 6 _ (fun t _ => (flushed_eq m c t).2.2.1) fun i => (cover i).imp fun t h => ⟨flush0_6 t, h⟩,
   (dats m 0 c).arrAt_eq_of_cover 7 _ (fun t _ => (flushed_eq m c t).2.2.2) fun i => (cover i).imp fun t h => ⟨flush0_7 t, h⟩⟩

variable (x0 x1 x2 x3 : Arr S4x1024x1536)

/-- The reference's results. -/
theorem dref : val_main_v25 (F := Ideal) x0 x1 x2 x3 = deltas (rows x0) (rows x3) (rows x1) (rows x2) := deltas_cast _ _ _ _ _
theorem mref : val_main_v26 (F := Ideal) x1 x3 = moms (rows x3) (rows x1) := moms_cast _ _ _
theorem sref : val_main_v27 (F := Ideal) x2 x3 = sqms (rows x3) (rows x2) := sqms_cast _ _ _

/-- The value claim. -/
theorem claim : Cert.algebraic_Kernel14Ideal_Reference14Ideal := by
  intro m g m' g' _ hag
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · refine (θ_run _ _ _).mono (fun r h c => ?_) (run_blocks m g)
    obtain ⟨h4, h5, h6, h7, ha⟩ := h c
    exact ⟨h4, h5, h6, h7, ha⟩
  · refine (θ_run _ _ _).mono (fun r h c => ?_) (Cert.Reference14Ideal.Value.run m' g')
    obtain ⟨h4, h5, h6, h7, ha⟩ := h c
    obtain ⟨e0, e1, e2, e3⟩ := hag c
    have f4 := h4.trans (val_main_v24_eq _)
    have f5 := h5.trans (val_main_v25_eq _ _ _ _)
    have f6 := h6.trans (val_main_v26_eq _ _)
    have f7 := h7.trans (val_main_v27_eq _ _)
    rw [e3] at f4
    rw [e0, e1, e2, e3] at f5
    rw [e1, e3] at f6
    rw [e2, e3] at f7
    obtain ⟨k4, k5, k6, k7⟩ := final m c
    exact ⟨f4.trans k4.symm, f5.trans ((dref _ _ _ _).trans k5.symm), f6.trans ((mref _ _).trans k6.symm), f7.trans ((sref _ _).trans k7.symm), ha⟩

end Cert.Grad14
-- ==== Proof.Grad15.lean ====
/-
  The optimiser's step on the small weights, packed into one array of rows of 128: what each point writes, and the four arrays this leaves.
-/
module

public import proofs.«01_k».proof.Defs
public import proofs.«01_k».proof.Proof.Gen.Kernel15Ideal.Value
public import proofs.«01_k».proof.Proof.Gen.Reference15Ideal.Read
public import proofs.«01_k».proof.Proof.AdamTools
public import proofs.«01_k».proof.Proof.FwdTools

@[expose] public section

noncomputable section

namespace Cert.Grad15

open Cert.Kernel15Ideal Cert.Kernel15Ideal.Gen Cert.Kernel15Ideal.Value Cert.Reference15Ideal.Read Cert.Tools Cert.AdamTools Cert.FwdTools
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev Arr (s : Shape) : Type := (⟨s, .f32⟩ : BufTy).Contents (Elt Ideal)

abbrev W (c : Dev nD) : Arr S4800x128 := m ((c : Thread nD τ).loc main_arg0)
abbrev M (c : Dev nD) : Arr S4800x128 := m ((c : Thread nD τ).loc main_arg1)
abbrev S (c : Dev nD) : Arr S4800x128 := m ((c : Thread nD τ).loc main_arg2)
abbrev G (c : Dev nD) : Arr S4800x128 := m ((c : Thread nD τ).loc main_arg3)

/-- Where a point's block lies, the same for all windows. -/
abbrev pos (t : Fin cfg0.N) : S1600x128.Idx → S4800x128.Idx := ((cfg0.win 4).blk t).view.emb

theorem blk0 (c : Dev nD) (t : Fin cfg0.N) (y : S1600x128.Idx) : iblk m c 0 t y = W m c (pos t y) := congrFun (V_main_arg0 m c) _
theorem blk1 (c : Dev nD) (t : Fin cfg0.N) (y : S1600x128.Idx) : iblk m c 1 t y = M m c (pos t y) := congrFun (V_main_arg1 m c) _
theorem blk2 (c : Dev nD) (t : Fin cfg0.N) (y : S1600x128.Idx) : iblk m c 2 t y = S m c (pos t y) := congrFun (V_main_arg2 m c) _
theorem blk3 (c : Dev nD) (t : Fin cfg0.N) (y : S1600x128.Idx) : iblk m c 3 t y = G m c (pos t y) := congrFun (V_main_arg3 m c) _

/-- What a point writes of each result. -/
theorem flushed_eq (c : Dev nD) (t : Fin cfg0.N) :
    (dats m 0 c).flushed 4 t = ((cfg0.win 4).blk t).view.read (Elt Ideal) (G m c)
    ∧ (dats m 0 c).flushed 5 t = ((cfg0.win 5).blk t).view.read (Elt Ideal) (deltas (W m c) (G m c) (M m c) (S m c))
    ∧ (dats m 0 c).flushed 6 t = ((cfg0.win 6).blk t).view.read (Elt Ideal) (moms (G m c) (M m c))
    ∧ (dats m 0 c).flushed 7 t = ((cfg0.win 7).blk t).view.read (Elt Ideal) (sqms (G m c) (S m c)) := by
  rw [flushed4, flushed5, flushed6, flushed7]
  unfold out0_4 out0_5 out0_6 out0_7
  rw [View.canon_unit_zero hz2, View.canon_unit_zero hz2, View.canon_unit_zero hz2, View.canon_unit_zero hz2]
  simp only [View.ld_unit_zero (S := S1600x128) hz2]
  unfold k0_pay3 k0_pay1 k0_pay2
  exact ⟨funext (blk3 m c t), deltas_at _ (blk0 m c t) (blk3 m c t) (blk1 m c t) (blk2 m c t), moms_at _ (blk3 m c t) (blk1 m c t), sqms_at _ (blk3 m c t) (blk2 m c t)⟩

theorem idx4 : ∀ t : Fin cfg0.N, win0_4.index t (0 : Fin 2) = t.val ∧ win0_4.index t (1 : Fin 2) = 0 := (by decide +kernel : ∀ t : Fin grid0.N, _)

/-- Every entry lies in a point's block. -/
theorem cover (i : S4800x128.Idx) : ∃ t : Fin cfg0.N, i ∈ ((cfg0.win 4).blk t).view.set := by
  obtain ⟨t, a, e⟩ := rows_cover (N := 3) (B := 1600) (R := 4800) (C := 128) (by decide) (by decide) (fun r b => (ix2 r b : S4800x128.Idx))
    (fun t a b => pos t (ix2 a b)) (fun t a b r hr => by
      obtain ⟨e0, e1⟩ := idx4 t
      refine ix2_ext ?_ ?_
      · show win0_4.index t (0 : Fin 2) * 1600 + 1 * a.val = r.val; omega
      · show win0_4.index t (1 : Fin 2) * 128 + 1 * b.val = b.val; omega) (i 0) (i 1)
  exact ⟨t, (e.trans (eq_ix2 i).symm : _ = i) ▸ View.emb_mem_set _ _⟩

/-- The four arrays that the call leaves. -/
theorem final (c : Dev nD) : (dats m 0 c).arrAt 4 cfg0.N = G m c ∧ (dats m 0 c).arrAt 5 cfg0.N = deltas (W m c) (G m c) (M m c) (S m c)
    ∧ (dats m 0 c).arrAt 6 cfg0.N = moms (G m c) (M m c) ∧ (dats m 0 c).arrAt 7 cfg0.N = sqms (G m c) (S m c) :=
  ⟨(dats m 0 c).arrAt_eq_of_cover 4 _ (fun t _ => (flushed_eq m c t).1) fun i => (cover i).imp fun t h => ⟨flush0_4 t, h⟩,
   (dats m 0 c).arrAt_eq_of_cover 5 _ (fun t _ => (flushed_eq m c t).2.1) fun i => (cover i).imp fun t h => ⟨flush0_5 t, h⟩,
   (dats m 0 c).arrAt_eq_of_cover 6 _ (fun t _ => (flushed_eq m c t).2.2.1) fun i => (cover i).imp fun t h => ⟨flush0_6 t, h⟩,
   (dats m 0 c).arrAt_eq_of_cover 7 _ (fun t _ => (flushed_eq m c t).2.2.2) fun i => (cover i).imp fun t h => ⟨flush0_7 t, h⟩⟩

variable (x0 x1 x2 x3 : Arr S4800x128)

/-- The reference's results. -/
theorem dref : val_main_v23 (F := Ideal) x0 x1 x2 x3 = deltas x0 x3 x1 x2 := rfl
theorem mref : val_main_v4 (F := Ideal) x1 x3 = moms x3 x1 := rfl
theorem sref : val_main_v10 (F := Ideal) x2 x3 = sqms x3 x2 := rfl

/-- The value claim. -/
theorem claim : Cert.algebraic_Kernel15Ideal_Reference15Ideal := by
  intro m g m' g' _ hag
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · refine (θ_run _ _ _).mono (fun r h c => ?_) (run_blocks m g)
    obtain ⟨h4, h5, h6, h7, ha⟩ := h c
    exact ⟨h4, h5, h6, h7, ha⟩
  · refine (θ_run _ _ _).mono (fun r h c => ?_) (Cert.Reference15Ideal.Value.run m' g')
    obtain ⟨h4, h5, h6, h7, ha⟩ := h c
    obtain ⟨e0, e1, e2, e3⟩ := hag c
    have f5 := h5.trans (val_main_v23_eq _ _ _ _)
    have f6 := h6.trans (val_main_v4_eq _ _)
    have f7 := h7.trans (val_main_v10_eq _ _)
    rw [e0, e1, e2, e3] at f5
    rw [e1, e3] at f6
    rw [e2, e3] at f7
    obtain ⟨k4, k5, k6, k7⟩ := final m c
    exact ⟨(h4.trans e3).trans k4.symm, f5.trans ((dref _ _ _ _).trans k5.symm), f6.trans ((mref _ _).trans k6.symm), f7.trans ((sref _ _).trans k7.symm), ha⟩

end Cert.Grad15
-- ==== Proof.lean ====
/-
  The claims, put together from the modules under Proof/.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.SideFacts
public import proofs.«01_k».proof.Proof.RefFrames
public import proofs.«01_k».proof.Proof.MergeClaim
public import proofs.«01_k».proof.Proof.FfnClaim
public import proofs.«01_k».proof.Proof.InProjClaim
public import proofs.«01_k».proof.Proof.Grad4
public import proofs.«01_k».proof.Proof.Grad5
public import proofs.«01_k».proof.Proof.Grad6
public import proofs.«01_k».proof.Proof.Grad7
public import proofs.«01_k».proof.Proof.Grad8
public import proofs.«01_k».proof.Proof.Grad9
public import proofs.«01_k».proof.Proof.Grad10
public import proofs.«01_k».proof.Proof.Grad11
public import proofs.«01_k».proof.Proof.Grad12
public import proofs.«01_k».proof.Proof.Grad13
public import proofs.«01_k».proof.Proof.Grad14
public import proofs.«01_k».proof.Proof.Grad15

@[expose] public section

noncomputable section

namespace Cert.Proof

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.SideFacts.finite2Facts,
    Cert.SideFacts.finite3Facts,
    Cert.SideFacts.onFacts,
    fun m ρ _ => Cert.Kernel.Gen.frame m ρ,
    fun m ρ _ => Cert.KernelIdeal.Gen.frame m ρ,
    Cert.RefFrames.frame,
    fun m ρ _ => Cert.Kernel2.Gen.frame m ρ,
    fun m ρ _ => Cert.Kernel2Ideal.Gen.frame m ρ,
    fun m ρ _ => Cert.Kernel2Ideal.Gen.frame m ρ,
    Cert.RefFrames.frame2,
    fun m ρ _ => Cert.RefFrames.frame2 m ρ trivial,
    fun m ρ _ => Cert.Kernel3.Gen.frame m ρ,
    fun m ρ _ => Cert.Kernel3Ideal.Gen.frame m ρ,
    fun m ρ _ => Cert.Kernel3Ideal.Gen.frame m ρ,
    Cert.RefFrames.frame3,
    fun m ρ _ => Cert.RefFrames.frame3 m ρ trivial,
    fun m ρ _ => Cert.Kernel4.Gen.frame m ρ,
    fun m ρ _ => Cert.Kernel4Ideal.Gen.frame m ρ,
    Cert.RefFrames.frame4,
    fun m ρ _ => Cert.Kernel5.Gen.frame m ρ,
    fun m ρ _ => Cert.Kernel5Ideal.Gen.frame m ρ,
    Cert.RefFrames.frame5,
    fun m ρ _ => Cert.Kernel6.Gen.frame m ρ,
    fun m ρ _ => Cert.Kernel6Ideal.Gen.frame m ρ,
    Cert.RefFrames.frame6,
    fun m ρ _ => Cert.Kernel7.Gen.frame m ρ,
    fun m ρ _ => Cert.Kernel7Ideal.Gen.frame m ρ,
    Cert.RefFrames.frame7,
    fun m ρ _ => Cert.Kernel8.Gen.frame m ρ,
    fun m ρ _ => Cert.Kernel8Ideal.Gen.frame m ρ,
    Cert.RefFrames.frame8,
    fun m ρ _ => Cert.Kernel9.Gen.frame m ρ,
    fun m ρ _ => Cert.Kernel9Ideal.Gen.frame m ρ,
    Cert.RefFrames.frame9,
    fun m ρ _ => Cert.Kernel10.Gen.frame m ρ,
    fun m ρ _ => Cert.Kernel10Ideal.Gen.frame m ρ,
    Cert.RefFrames.frame10,
    fun m ρ _ => Cert.Kernel11.Gen.frame m ρ,
    fun m ρ _ => Cert.Kernel11Ideal.Gen.frame m ρ,
    Cert.RefFrames.frame11,
    fun m ρ _ => Cert.Kernel12.Gen.frame m ρ,
    fun m ρ _ => Cert.Kernel12Ideal.Gen.frame m ρ,
    Cert.RefFrames.frame12,
    fun m ρ _ => Cert.Kernel13.Gen.frame m ρ,
    fun m ρ _ => Cert.Kernel13Ideal.Gen.frame m ρ,
    Cert.RefFrames.frame13,
    fun m ρ _ => Cert.Kernel14.Gen.frame m ρ,
    fun m ρ _ => Cert.Kernel14Ideal.Gen.frame m ρ,
    Cert.RefFrames.frame14,
    fun m ρ _ => Cert.Kernel15.Gen.frame m ρ,
    fun m ρ _ => Cert.Kernel15Ideal.Gen.frame m ρ,
    Cert.RefFrames.frame15,
    trivial,
    Cert.MergeClaim.claim,
    trivial,
    Cert.FfnClaim.claim,
    trivial,
    Cert.InProjClaim.claim,
    trivial,
    Cert.Grad4.claim,
    trivial,
    Cert.Grad5.claim,
    trivial,
    Cert.Grad6.claim,
    trivial,
    Cert.Grad7.claim,
    trivial,
    Cert.Grad8.claim,
    trivial,
    Cert.Grad9.claim,
    trivial,
    Cert.Grad10.claim,
    trivial,
    Cert.Grad11.claim,
    trivial,
    Cert.Grad12.claim,
    trivial,
    Cert.Grad13.claim,
    trivial,
    Cert.Grad14.claim,
    trivial,
    Cert.Grad15.claim⟩

end Cert.Proof

end
